-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Lm [hPre_lm_rows : Cert.Pre_lm_rows.Facts] (m : (ℓ : Loc Cert.Lm.nD Cert.Lm.τ Cert.Lm.sig) → Buf (Elt Bits) ℓ) : Prop :=
  ∀ c : Dev Cert.Lm.nD,
    (Cert.Pre_lm_rows.fn (F := Bits) (m ((c.tc : Thread Cert.Lm.nD Cert.Lm.τ).loc Cert.Lm.main_arg0)) (m ((c.tc : Thread Cert.Lm.nD Cert.Lm.τ).loc Cert.Lm.main_arg1)) (m ((c.tc : Thread Cert.Lm.nD Cert.Lm.τ).loc Cert.Lm.main_arg2)) (m ((c.tc : Thread Cert.Lm.nD Cert.Lm.τ).loc Cert.Lm.main_arg3)) (m ((c.tc : Thread Cert.Lm.nD Cert.Lm.τ).loc Cert.Lm.main_arg4)) (m ((c.tc : Thread Cert.Lm.nD Cert.Lm.τ).loc Cert.Lm.main_arg5)) (m ((c.tc : Thread Cert.Lm.nD Cert.Lm.τ).loc Cert.Lm.main_arg6))) = (fun _ => 1#1)

def Pre_LmIdeal [hPre_lm_rows : Cert.Pre_lm_rows.Facts] (m : (ℓ : Loc Cert.LmIdeal.nD Cert.LmIdeal.τ Cert.LmIdeal.sig) → Buf (Elt Ideal) ℓ) : Prop :=
  ∀ c : Dev Cert.LmIdeal.nD,
    (Cert.Pre_lm_rows.fn (F := Ideal) (m ((c.tc : Thread Cert.LmIdeal.nD Cert.LmIdeal.τ).loc Cert.LmIdeal.main_arg0)) (m ((c.tc : Thread Cert.LmIdeal.nD Cert.LmIdeal.τ).loc Cert.LmIdeal.main_arg1)) (m ((c.tc : Thread Cert.LmIdeal.nD Cert.LmIdeal.τ).loc Cert.LmIdeal.main_arg2)) (m ((c.tc : Thread Cert.LmIdeal.nD Cert.LmIdeal.τ).loc Cert.LmIdeal.main_arg3)) (m ((c.tc : Thread Cert.LmIdeal.nD Cert.LmIdeal.τ).loc Cert.LmIdeal.main_arg4)) (m ((c.tc : Thread Cert.LmIdeal.nD Cert.LmIdeal.τ).loc Cert.LmIdeal.main_arg5)) (m ((c.tc : Thread Cert.LmIdeal.nD Cert.LmIdeal.τ).loc Cert.LmIdeal.main_arg6))) = (fun _ => 1#1)

def Pre_LmRefIdeal (m : (ℓ : Loc Cert.LmRefIdeal.nD Cert.LmRefIdeal.τ Cert.LmRefIdeal.sig) → Buf (Elt Ideal) ℓ) : Prop :=
  True

def Pre_LmRefIdeal_lm_rows [hPre_lm_rows : Cert.Pre_lm_rows.Facts] (m : (ℓ : Loc Cert.LmRefIdeal.nD Cert.LmRefIdeal.τ Cert.LmRefIdeal.sig) → Buf (Elt Ideal) ℓ) : Prop :=
  ∀ c : Dev Cert.LmRefIdeal.nD,
    (Cert.Pre_lm_rows.fn (F := Ideal) (m ((c.tc : Thread Cert.LmRefIdeal.nD Cert.LmRefIdeal.τ).loc Cert.LmRefIdeal.main_arg0)) (m ((c.tc : Thread Cert.LmRefIdeal.nD Cert.LmRefIdeal.τ).loc Cert.LmRefIdeal.main_arg1)) (m ((c.tc : Thread Cert.LmRefIdeal.nD Cert.LmRefIdeal.τ).loc Cert.LmRefIdeal.main_arg2)) (m ((c.tc : Thread Cert.LmRefIdeal.nD Cert.LmRefIdeal.τ).loc Cert.LmRefIdeal.main_arg3)) (m ((c.tc : Thread Cert.LmRefIdeal.nD Cert.LmRefIdeal.τ).loc Cert.LmRefIdeal.main_arg4)) (m ((c.tc : Thread Cert.LmRefIdeal.nD Cert.LmRefIdeal.τ).loc Cert.LmRefIdeal.main_arg5)) (m ((c.tc : Thread Cert.LmRefIdeal.nD Cert.LmRefIdeal.τ).loc Cert.LmRefIdeal.main_arg6))) = (fun _ => 1#1)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Lm [hLm : Cert.Lm.Facts] [hPre_lm_rows : Cert.Pre_lm_rows.Facts] : Prop :=
  ∀ (m : (ℓ : Loc Cert.Lm.nD Cert.Lm.τ Cert.Lm.sig) → Buf (Elt Bits) ℓ) (g : Dev Cert.Lm.nD → PrngReg), Pre_Lm m →
    θ_run (Cert.Lm.defs (F := Bits)) (onTc (τ := Cert.Lm.τ) (Cert.Lm.main (F := Bits))) ⟨m, fun _ => 0, g⟩ (fun r => (∀ c : Dev Cert.Lm.nD,
      r.2.mem ((c.tc : Thread Cert.Lm.nD Cert.Lm.τ).loc Cert.Lm.main_arg0) = m ((c.tc : Thread Cert.Lm.nD Cert.Lm.τ).loc Cert.Lm.main_arg0)
      ∧ r.2.mem ((c.tc : Thread Cert.Lm.nD Cert.Lm.τ).loc Cert.Lm.main_arg1) = m ((c.tc : Thread Cert.Lm.nD Cert.Lm.τ).loc Cert.Lm.main_arg1)
      ∧ r.2.mem ((c.tc : Thread Cert.Lm.nD Cert.Lm.τ).loc Cert.Lm.main_arg2) = m ((c.tc : Thread Cert.Lm.nD Cert.Lm.τ).loc Cert.Lm.main_arg2)
      ∧ r.2.mem ((c.tc : Thread Cert.Lm.nD Cert.Lm.τ).loc Cert.Lm.main_arg3) = m ((c.tc : Thread Cert.Lm.nD Cert.Lm.τ).loc Cert.Lm.main_arg3)
      ∧ r.2.mem ((c.tc : Thread Cert.Lm.nD Cert.Lm.τ).loc Cert.Lm.main_arg4) = m ((c.tc : Thread Cert.Lm.nD Cert.Lm.τ).loc Cert.Lm.main_arg4)
      ∧ r.2.mem ((c.tc : Thread Cert.Lm.nD Cert.Lm.τ).loc Cert.Lm.main_arg5) = m ((c.tc : Thread Cert.Lm.nD Cert.Lm.τ).loc Cert.Lm.main_arg5)
      ∧ r.2.mem ((c.tc : Thread Cert.Lm.nD Cert.Lm.τ).loc Cert.Lm.main_arg6) = m ((c.tc : Thread Cert.Lm.nD Cert.Lm.τ).loc Cert.Lm.main_arg6))
      ∧ r.2.sem = fun _ => 0)

def quiescent_LmIdeal [hLmIdeal : Cert.LmIdeal.Facts] [hPre_lm_rows : Cert.Pre_lm_rows.Facts] : Prop :=
  ∀ (m : (ℓ : Loc Cert.LmIdeal.nD Cert.LmIdeal.τ Cert.LmIdeal.sig) → Buf (Elt Ideal) ℓ) (g : Dev Cert.LmIdeal.nD → PrngReg), Pre_LmIdeal m →
    θ_run (Cert.LmIdeal.defs (F := Ideal)) (onTc (τ := Cert.LmIdeal.τ) (Cert.LmIdeal.main (F := Ideal))) ⟨m, fun _ => 0, g⟩ (fun r => (∀ c : Dev Cert.LmIdeal.nD,
      r.2.mem ((c.tc : Thread Cert.LmIdeal.nD Cert.LmIdeal.τ).loc Cert.LmIdeal.main_arg0) = m ((c.tc : Thread Cert.LmIdeal.nD Cert.LmIdeal.τ).loc Cert.LmIdeal.main_arg0)
      ∧ r.2.mem ((c.tc : Thread Cert.LmIdeal.nD Cert.LmIdeal.τ).loc Cert.LmIdeal.main_arg1) = m ((c.tc : Thread Cert.LmIdeal.nD Cert.LmIdeal.τ).loc Cert.LmIdeal.main_arg1)
      ∧ r.2.mem ((c.tc : Thread Cert.LmIdeal.nD Cert.LmIdeal.τ).loc Cert.LmIdeal.main_arg2) = m ((c.tc : Thread Cert.LmIdeal.nD Cert.LmIdeal.τ).loc Cert.LmIdeal.main_arg2)
      ∧ r.2.mem ((c.tc : Thread Cert.LmIdeal.nD Cert.LmIdeal.τ).loc Cert.LmIdeal.main_arg3) = m ((c.tc : Thread Cert.LmIdeal.nD Cert.LmIdeal.τ).loc Cert.LmIdeal.main_arg3)
      ∧ r.2.mem ((c.tc : Thread Cert.LmIdeal.nD Cert.LmIdeal.τ).loc Cert.LmIdeal.main_arg4) = m ((c.tc : Thread Cert.LmIdeal.nD Cert.LmIdeal.τ).loc Cert.LmIdeal.main_arg4)
      ∧ r.2.mem ((c.tc : Thread Cert.LmIdeal.nD Cert.LmIdeal.τ).loc Cert.LmIdeal.main_arg5) = m ((c.tc : Thread Cert.LmIdeal.nD Cert.LmIdeal.τ).loc Cert.LmIdeal.main_arg5)
      ∧ r.2.mem ((c.tc : Thread Cert.LmIdeal.nD Cert.LmIdeal.τ).loc Cert.LmIdeal.main_arg6) = m ((c.tc : Thread Cert.LmIdeal.nD Cert.LmIdeal.τ).loc Cert.LmIdeal.main_arg6))
      ∧ r.2.sem = fun _ => 0)

def quiescent_LmRefIdeal [hLmRefIdeal : Cert.LmRefIdeal.Facts] : Prop :=
  ∀ (m : (ℓ : Loc Cert.LmRefIdeal.nD Cert.LmRefIdeal.τ Cert.LmRefIdeal.sig) → Buf (Elt Ideal) ℓ) (g : Dev Cert.LmRefIdeal.nD → PrngReg), Pre_LmRefIdeal m →
    θ_run (Cert.LmRefIdeal.defs (F := Ideal)) (onTc (τ := Cert.LmRefIdeal.τ) (Cert.LmRefIdeal.main (F := Ideal))) ⟨m, fun _ => 0, g⟩ (fun r => (∀ c : Dev Cert.LmRefIdeal.nD,
      r.2.mem ((c.tc : Thread Cert.LmRefIdeal.nD Cert.LmRefIdeal.τ).loc Cert.LmRefIdeal.main_arg0) = m ((c.tc : Thread Cert.LmRefIdeal.nD Cert.LmRefIdeal.τ).loc Cert.LmRefIdeal.main_arg0)
      ∧ r.2.mem ((c.tc : Thread Cert.LmRefIdeal.nD Cert.LmRefIdeal.τ).loc Cert.LmRefIdeal.main_arg1) = m ((c.tc : Thread Cert.LmRefIdeal.nD Cert.LmRefIdeal.τ).loc Cert.LmRefIdeal.main_arg1)
      ∧ r.2.mem ((c.tc : Thread Cert.LmRefIdeal.nD Cert.LmRefIdeal.τ).loc Cert.LmRefIdeal.main_arg2) = m ((c.tc : Thread Cert.LmRefIdeal.nD Cert.LmRefIdeal.τ).loc Cert.LmRefIdeal.main_arg2)
      ∧ r.2.mem ((c.tc : Thread Cert.LmRefIdeal.nD Cert.LmRefIdeal.τ).loc Cert.LmRefIdeal.main_arg3) = m ((c.tc : Thread Cert.LmRefIdeal.nD Cert.LmRefIdeal.τ).loc Cert.LmRefIdeal.main_arg3)
      ∧ r.2.mem ((c.tc : Thread Cert.LmRefIdeal.nD Cert.LmRefIdeal.τ).loc Cert.LmRefIdeal.main_arg4) = m ((c.tc : Thread Cert.LmRefIdeal.nD Cert.LmRefIdeal.τ).loc Cert.LmRefIdeal.main_arg4)
      ∧ r.2.mem ((c.tc : Thread Cert.LmRefIdeal.nD Cert.LmRefIdeal.τ).loc Cert.LmRefIdeal.main_arg5) = m ((c.tc : Thread Cert.LmRefIdeal.nD Cert.LmRefIdeal.τ).loc Cert.LmRefIdeal.main_arg5)
      ∧ r.2.mem ((c.tc : Thread Cert.LmRefIdeal.nD Cert.LmRefIdeal.τ).loc Cert.LmRefIdeal.main_arg6) = m ((c.tc : Thread Cert.LmRefIdeal.nD Cert.LmRefIdeal.τ).loc Cert.LmRefIdeal.main_arg6))
      ∧ r.2.sem = fun _ => 0)

def quiescent_LmRefIdeal_pre_lm_rows [hLmRefIdeal : Cert.LmRefIdeal.Facts] [hPre_lm_rows : Cert.Pre_lm_rows.Facts] : Prop :=
  ∀ (m : (ℓ : Loc Cert.LmRefIdeal.nD Cert.LmRefIdeal.τ Cert.LmRefIdeal.sig) → Buf (Elt Ideal) ℓ) (g : Dev Cert.LmRefIdeal.nD → PrngReg), Pre_LmRefIdeal_lm_rows m →
    θ_run (Cert.LmRefIdeal.defs (F := Ideal)) (onTc (τ := Cert.LmRefIdeal.τ) (Cert.LmRefIdeal.main (F := Ideal))) ⟨m, fun _ => 0, g⟩ (fun r => (∀ c : Dev Cert.LmRefIdeal.nD,
      r.2.mem ((c.tc : Thread Cert.LmRefIdeal.nD Cert.LmRefIdeal.τ).loc Cert.LmRefIdeal.main_arg0) = m ((c.tc : Thread Cert.LmRefIdeal.nD Cert.LmRefIdeal.τ).loc Cert.LmRefIdeal.main_arg0)
      ∧ r.2.mem ((c.tc : Thread Cert.LmRefIdeal.nD Cert.LmRefIdeal.τ).loc Cert.LmRefIdeal.main_arg1) = m ((c.tc : Thread Cert.LmRefIdeal.nD Cert.LmRefIdeal.τ).loc Cert.LmRefIdeal.main_arg1)
      ∧ r.2.mem ((c.tc : Thread Cert.LmRefIdeal.nD Cert.LmRefIdeal.τ).loc Cert.LmRefIdeal.main_arg2) = m ((c.tc : Thread Cert.LmRefIdeal.nD Cert.LmRefIdeal.τ).loc Cert.LmRefIdeal.main_arg2)
      ∧ r.2.mem ((c.tc : Thread Cert.LmRefIdeal.nD Cert.LmRefIdeal.τ).loc Cert.LmRefIdeal.main_arg3) = m ((c.tc : Thread Cert.LmRefIdeal.nD Cert.LmRefIdeal.τ).loc Cert.LmRefIdeal.main_arg3)
      ∧ r.2.mem ((c.tc : Thread Cert.LmRefIdeal.nD Cert.LmRefIdeal.τ).loc Cert.LmRefIdeal.main_arg4) = m ((c.tc : Thread Cert.LmRefIdeal.nD Cert.LmRefIdeal.τ).loc Cert.LmRefIdeal.main_arg4)
      ∧ r.2.mem ((c.tc : Thread Cert.LmRefIdeal.nD Cert.LmRefIdeal.τ).loc Cert.LmRefIdeal.main_arg5) = m ((c.tc : Thread Cert.LmRefIdeal.nD Cert.LmRefIdeal.τ).loc Cert.LmRefIdeal.main_arg5)
      ∧ r.2.mem ((c.tc : Thread Cert.LmRefIdeal.nD Cert.LmRefIdeal.τ).loc Cert.LmRefIdeal.main_arg6) = m ((c.tc : Thread Cert.LmRefIdeal.nD Cert.LmRefIdeal.τ).loc Cert.LmRefIdeal.main_arg6))
      ∧ r.2.sem = fun _ => 0)

def preserves_GateUp_GateUpIdeal : Prop :=
  IdealRules.named_const.Statement Cert.GateUpIdeal.κ "inv_n" .f32 0x394CCCCD#32 ((1 / 5120 : ℝ) : EReal)

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)) (v2 : (c : Dev Cert.GateUpIdeal.nD) → Buf (Elt Ideal) ((c.tc : Thread Cert.GateUpIdeal.nD Cert.GateUpIdeal.τ).loc Cert.GateUpIdeal.main_v2_2)) (v3 : (c : Dev Cert.GateUpIdeal.nD) → Buf (Elt Ideal) ((c.tc : Thread Cert.GateUpIdeal.nD Cert.GateUpIdeal.τ).loc Cert.GateUpIdeal.main_v2_3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_v2_2) = v2 c
          ∧ r.2.mem ((c.tc : Thread Cert.GateUpIdeal.nD Cert.GateUpIdeal.τ).loc Cert.GateUpIdeal.main_v2_3) = v3 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2_0) = v0 c
          ∧ r.2.mem ((c.tc : Thread Cert.GateUpRefIdeal.nD Cert.GateUpRefIdeal.τ).loc Cert.GateUpRefIdeal.main_v2_1) = v1 c
          ∧ r.2.mem ((c.tc : Thread Cert.GateUpRefIdeal.nD Cert.GateUpRefIdeal.τ).loc Cert.GateUpRefIdeal.main_v2_2) = v2 c
          ∧ r.2.mem ((c.tc : Thread Cert.GateUpRefIdeal.nD Cert.GateUpRefIdeal.τ).loc Cert.GateUpRefIdeal.main_v2_3) = v3 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)) (v3 : (c : Dev Cert.DownIdeal.nD) → Buf (Elt Ideal) ((c.tc : Thread Cert.DownIdeal.nD Cert.DownIdeal.τ).loc Cert.DownIdeal.main_v1_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_v1_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1_0) = v0 c
          ∧ r.2.mem ((c.tc : Thread Cert.DownRefIdeal.nD Cert.DownRefIdeal.τ).loc Cert.DownRefIdeal.main_v1_1) = v1 c
          ∧ r.2.mem ((c.tc : Thread Cert.DownRefIdeal.nD Cert.DownRefIdeal.τ).loc Cert.DownRefIdeal.main_v1_2) = v2 c
          ∧ r.2.mem ((c.tc : Thread Cert.DownRefIdeal.nD Cert.DownRefIdeal.τ).loc Cert.DownRefIdeal.main_v1_3) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v1_0) = v0 c
          ∧ r.2.mem ((c.tc : Thread Cert.OprojRefIdeal.nD Cert.OprojRefIdeal.τ).loc Cert.OprojRefIdeal.main_v1_1) = v1 c
          ∧ r.2.mem ((c.tc : Thread Cert.OprojRefIdeal.nD Cert.OprojRefIdeal.τ).loc Cert.OprojRefIdeal.main_v1_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3))

def preserves_Qkv_QkvIdeal : Prop :=
  IdealRules.named_const.Statement Cert.QkvIdeal.κ "inv_n" .f32 0x394CCCCD#32 ((1 / 5120 : ℝ) : EReal)

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2_0) = v0 c
          ∧ r.2.mem ((c.tc : Thread Cert.QkvRefIdeal.nD Cert.QkvRefIdeal.τ).loc Cert.QkvRefIdeal.main_v2_1) = v1 c
          ∧ r.2.mem ((c.tc : Thread Cert.QkvRefIdeal.nD Cert.QkvRefIdeal.τ).loc Cert.QkvRefIdeal.main_v2_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Lm_LmIdeal : Prop :=
  IdealRules.named_const.Statement Cert.LmIdeal.κ "inv_n" .f32 0x394CCCCD#32 ((1 / 5120 : ℝ) : EReal)
  ∧ IdealRules.named_const.Statement Cert.LmIdeal.κ "mask" .f32 0xFF61B1E6#32 ⊥

def algebraic_LmIdeal_LmRefIdeal [hLmIdeal : Cert.LmIdeal.Facts] [hLmRefIdeal : Cert.LmRefIdeal.Facts] [hPre_lm_rows : Cert.Pre_lm_rows.Facts] : Prop :=
  ∀ (m : (ℓ : Loc Cert.LmIdeal.nD Cert.LmIdeal.τ Cert.LmIdeal.sig) → Buf (Elt Ideal) ℓ) (g : Dev Cert.LmIdeal.nD → PrngReg)
    (m' : (ℓ : Loc Cert.LmRefIdeal.nD Cert.LmRefIdeal.τ Cert.LmRefIdeal.sig) → Buf (Elt Ideal) ℓ) (g' : Dev Cert.LmRefIdeal.nD → PrngReg), Pre_LmIdeal m →
    (∀ c : Dev Cert.LmIdeal.nD,
      m' ((c.tc : Thread Cert.LmRefIdeal.nD Cert.LmRefIdeal.τ).loc Cert.LmRefIdeal.main_arg0) = m ((c.tc : Thread Cert.LmIdeal.nD Cert.LmIdeal.τ).loc Cert.LmIdeal.main_arg0)
      ∧ m' ((c.tc : Thread Cert.LmRefIdeal.nD Cert.LmRefIdeal.τ).loc Cert.LmRefIdeal.main_arg1) = m ((c.tc : Thread Cert.LmIdeal.nD Cert.LmIdeal.τ).loc Cert.LmIdeal.main_arg1)
      ∧ m' ((c.tc : Thread Cert.LmRefIdeal.nD Cert.LmRefIdeal.τ).loc Cert.LmRefIdeal.main_arg2) = m ((c.tc : Thread Cert.LmIdeal.nD Cert.LmIdeal.τ).loc Cert.LmIdeal.main_arg2)
      ∧ m' ((c.tc : Thread Cert.LmRefIdeal.nD Cert.LmRefIdeal.τ).loc Cert.LmRefIdeal.main_arg3) = m ((c.tc : Thread Cert.LmIdeal.nD Cert.LmIdeal.τ).loc Cert.LmIdeal.main_arg3)
      ∧ m' ((c.tc : Thread Cert.LmRefIdeal.nD Cert.LmRefIdeal.τ).loc Cert.LmRefIdeal.main_arg4) = m ((c.tc : Thread Cert.LmIdeal.nD Cert.LmIdeal.τ).loc Cert.LmIdeal.main_arg4)
      ∧ m' ((c.tc : Thread Cert.LmRefIdeal.nD Cert.LmRefIdeal.τ).loc Cert.LmRefIdeal.main_arg5) = m ((c.tc : Thread Cert.LmIdeal.nD Cert.LmIdeal.τ).loc Cert.LmIdeal.main_arg5)
      ∧ m' ((c.tc : Thread Cert.LmRefIdeal.nD Cert.LmRefIdeal.τ).loc Cert.LmRefIdeal.main_arg6) = m ((c.tc : Thread Cert.LmIdeal.nD Cert.LmIdeal.τ).loc Cert.LmIdeal.main_arg6)) →
    ∃ (v0 : (c : Dev Cert.LmIdeal.nD) → Buf (Elt Ideal) ((c.tc : Thread Cert.LmIdeal.nD Cert.LmIdeal.τ).loc Cert.LmIdeal.main_v0_0)) (v1 : (c : Dev Cert.LmIdeal.nD) → Buf (Elt Ideal) ((c.tc : Thread Cert.LmIdeal.nD Cert.LmIdeal.τ).loc Cert.LmIdeal.main_v0_1)) (v2 : (c : Dev Cert.LmIdeal.nD) → Buf (Elt Ideal) ((c.tc : Thread Cert.LmIdeal.nD Cert.LmIdeal.τ).loc Cert.LmIdeal.main_v0_2)),
      θ_run (Cert.LmIdeal.defs (F := Ideal)) (onTc (τ := Cert.LmIdeal.τ) (Cert.LmIdeal.main (F := Ideal))) ⟨m, fun _ => 0, g⟩ (fun r => ∀ c : Dev Cert.LmIdeal.nD,
          r.2.mem ((c.tc : Thread Cert.LmIdeal.nD Cert.LmIdeal.τ).loc Cert.LmIdeal.main_v0_0) = v0 c
          ∧ r.2.mem ((c.tc : Thread Cert.LmIdeal.nD Cert.LmIdeal.τ).loc Cert.LmIdeal.main_v0_1) = v1 c
          ∧ r.2.mem ((c.tc : Thread Cert.LmIdeal.nD Cert.LmIdeal.τ).loc Cert.LmIdeal.main_v0_2) = v2 c
          ∧ r.2.mem ((c.tc : Thread Cert.LmIdeal.nD Cert.LmIdeal.τ).loc Cert.LmIdeal.main_arg0) = m ((c.tc : Thread Cert.LmIdeal.nD Cert.LmIdeal.τ).loc Cert.LmIdeal.main_arg0)
          ∧ r.2.mem ((c.tc : Thread Cert.LmIdeal.nD Cert.LmIdeal.τ).loc Cert.LmIdeal.main_arg1) = m ((c.tc : Thread Cert.LmIdeal.nD Cert.LmIdeal.τ).loc Cert.LmIdeal.main_arg1)
          ∧ r.2.mem ((c.tc : Thread Cert.LmIdeal.nD Cert.LmIdeal.τ).loc Cert.LmIdeal.main_arg2) = m ((c.tc : Thread Cert.LmIdeal.nD Cert.LmIdeal.τ).loc Cert.LmIdeal.main_arg2)
          ∧ r.2.mem ((c.tc : Thread Cert.LmIdeal.nD Cert.LmIdeal.τ).loc Cert.LmIdeal.main_arg3) = m ((c.tc : Thread Cert.LmIdeal.nD Cert.LmIdeal.τ).loc Cert.LmIdeal.main_arg3)
          ∧ r.2.mem ((c.tc : Thread Cert.LmIdeal.nD Cert.LmIdeal.τ).loc Cert.LmIdeal.main_arg4) = m ((c.tc : Thread Cert.LmIdeal.nD Cert.LmIdeal.τ).loc Cert.LmIdeal.main_arg4)
          ∧ r.2.mem ((c.tc : Thread Cert.LmIdeal.nD Cert.LmIdeal.τ).loc Cert.LmIdeal.main_arg5) = m ((c.tc : Thread Cert.LmIdeal.nD Cert.LmIdeal.τ).loc Cert.LmIdeal.main_arg5)
          ∧ r.2.mem ((c.tc : Thread Cert.LmIdeal.nD Cert.LmIdeal.τ).loc Cert.LmIdeal.main_arg6) = m ((c.tc : Thread Cert.LmIdeal.nD Cert.LmIdeal.τ).loc Cert.LmIdeal.main_arg6))
      ∧ θ_run (Cert.LmRefIdeal.defs (F := Ideal)) (onTc (τ := Cert.LmRefIdeal.τ) (Cert.LmRefIdeal.main (F := Ideal))) ⟨m', fun _ => 0, g'⟩ (fun r => ∀ c : Dev Cert.LmRefIdeal.nD,
          r.2.mem ((c.tc : Thread Cert.LmRefIdeal.nD Cert.LmRefIdeal.τ).loc Cert.LmRefIdeal.main_v0_0) = v0 c
          ∧ r.2.mem ((c.tc : Thread Cert.LmRefIdeal.nD Cert.LmRefIdeal.τ).loc Cert.LmRefIdeal.main_v0_1) = v1 c
          ∧ r.2.mem ((c.tc : Thread Cert.LmRefIdeal.nD Cert.LmRefIdeal.τ).loc Cert.LmRefIdeal.main_v0_2) = v2 c
          ∧ r.2.mem ((c.tc : Thread Cert.LmRefIdeal.nD Cert.LmRefIdeal.τ).loc Cert.LmRefIdeal.main_arg0) = m' ((c.tc : Thread Cert.LmRefIdeal.nD Cert.LmRefIdeal.τ).loc Cert.LmRefIdeal.main_arg0)
          ∧ r.2.mem ((c.tc : Thread Cert.LmRefIdeal.nD Cert.LmRefIdeal.τ).loc Cert.LmRefIdeal.main_arg1) = m' ((c.tc : Thread Cert.LmRefIdeal.nD Cert.LmRefIdeal.τ).loc Cert.LmRefIdeal.main_arg1)
          ∧ r.2.mem ((c.tc : Thread Cert.LmRefIdeal.nD Cert.LmRefIdeal.τ).loc Cert.LmRefIdeal.main_arg2) = m' ((c.tc : Thread Cert.LmRefIdeal.nD Cert.LmRefIdeal.τ).loc Cert.LmRefIdeal.main_arg2)
          ∧ r.2.mem ((c.tc : Thread Cert.LmRefIdeal.nD Cert.LmRefIdeal.τ).loc Cert.LmRefIdeal.main_arg3) = m' ((c.tc : Thread Cert.LmRefIdeal.nD Cert.LmRefIdeal.τ).loc Cert.LmRefIdeal.main_arg3)
          ∧ r.2.mem ((c.tc : Thread Cert.LmRefIdeal.nD Cert.LmRefIdeal.τ).loc Cert.LmRefIdeal.main_arg4) = m' ((c.tc : Thread Cert.LmRefIdeal.nD Cert.LmRefIdeal.τ).loc Cert.LmRefIdeal.main_arg4)
          ∧ r.2.mem ((c.tc : Thread Cert.LmRefIdeal.nD Cert.LmRefIdeal.τ).loc Cert.LmRefIdeal.main_arg5) = m' ((c.tc : Thread Cert.LmRefIdeal.nD Cert.LmRefIdeal.τ).loc Cert.LmRefIdeal.main_arg5)
          ∧ r.2.mem ((c.tc : Thread Cert.LmRefIdeal.nD Cert.LmRefIdeal.τ).loc Cert.LmRefIdeal.main_arg6) = m' ((c.tc : Thread Cert.LmRefIdeal.nD Cert.LmRefIdeal.τ).loc Cert.LmRefIdeal.main_arg6))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts) (hLm : Cert.Lm.Facts) (hLmIdeal : Cert.LmIdeal.Facts) (hLmRefIdeal : Cert.LmRefIdeal.Facts) (hPre_lm_rows : Cert.Pre_lm_rows.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Lm (hLm := hLm) (hPre_lm_rows := hPre_lm_rows)
    ∧ quiescent_LmIdeal (hLmIdeal := hLmIdeal) (hPre_lm_rows := hPre_lm_rows)
    ∧ quiescent_LmRefIdeal (hLmRefIdeal := hLmRefIdeal)
    ∧ quiescent_LmRefIdeal_pre_lm_rows (hLmRefIdeal := hLmRefIdeal) (hPre_lm_rows := hPre_lm_rows)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
    ∧ preserves_Lm_LmIdeal
    ∧ algebraic_LmIdeal_LmRefIdeal (hLmIdeal := hLmIdeal) (hLmRefIdeal := hLmRefIdeal) (hPre_lm_rows := hPre_lm_rows)
-- ==== Pre_lm_rows.lean ====
abbrev S224 : Shape := ⟨1, ![224]⟩
abbrev S224x5120 : Shape := ⟨2, ![224, 5120]⟩
abbrev S1x5120 : Shape := ⟨2, ![1, 5120]⟩
abbrev S32064x5120 : Shape := ⟨2, ![32064, 5120]⟩
abbrev S1x32064 : Shape := ⟨2, ![1, 32064]⟩
abbrev S224x128 : Shape := ⟨2, ![224, 128]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : IVec S224 32) (main_arg1 : IVec S224 32) (main_arg2 : FVec F S224x5120 .f32) (main_arg3 : FVec F S1x5120 .f32) (main_arg4 : FVec F S32064x5120 .fp8e4m3) (main_arg5 : FVec F S1x32064 .f32) (main_arg6 : FVec F S224x128 .f32) : IVec S_ 1 :=
  let main_c : IVec S_ 32 := constantI S_ 32 0#32
  let main_v0 : IVec S224 32 := broadcastInDim S224 ![] bcast_S_S224 main_c
  let main_v1 : IVec S224 1 := cmpi .sge main_arg0 main_v0
  let main_c_0 : IVec S_ 32 := constantI S_ 32 224#32
  let main_v2 : IVec S224 32 := broadcastInDim S224 ![] bcast_S_S224 main_c_0
  let main_v3 : IVec S224 1 := cmpi .slt main_arg0 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  let main_c_2 : IVec S_ 32 := constantI S_ 32 0#32
  let main_v6 : IVec S224 32 := broadcastInDim S224 ![] bcast_S_S224 main_c_2
  let main_v7 : IVec S224 1 := cmpi .sge main_arg1 main_v6
  let main_c_3 : IVec S_ 32 := constantI S_ 32 32064#32
  let main_v8 : IVec S224 32 := broadcastInDim S224 ![] bcast_S_S224 main_c_3
  let main_v9 : IVec S224 1 := cmpi .slt main_arg1 main_v8
  let main_v10 : IVec S224 1 := andi main_v7 main_v9
  let main_c_4 : IVec S_ 1 := constantI S_ 1 1#1
  let main_v11 : IVec S_ 1 := (fun x v => Host.reduce IntOp.andi x v reducesTo_S224_S_d0 h_S_) main_v10 main_c_4
  let main_v12 : IVec S_ 1 := andi main_v5 main_v11
  main_v12
-- ==== GateUp.lean ====
abbrev S224x5120 : Shape := ⟨2, ![224, 5120]⟩
abbrev S5120 : Shape := ⟨1, ![5120]⟩
abbrev S5120x35840 : Shape := ⟨2, ![5120, 35840]⟩
abbrev S35840 : Shape := ⟨1, ![35840]⟩
abbrev S1x5120 : Shape := ⟨2, ![1, 5120]⟩
abbrev S1x35840 : Shape := ⟨2, ![1, 35840]⟩
abbrev S224x17920 : Shape := ⟨2, ![224, 17920]⟩
abbrev S224x128 : Shape := ⟨2, ![224, 128]⟩
abbrev S5120x640 : Shape := ⟨2, ![5120, 640]⟩
abbrev S1x640 : Shape := ⟨2, ![1, 640]⟩
abbrev S224x640 : Shape := ⟨2, ![224, 640]⟩
abbrev S224 : Shape := ⟨1, ![224]⟩
abbrev S224x1 : Shape := ⟨2, ![224, 1]⟩

abbrev nBuf : Space → Nat
  | .hbm => 10
  | .vmem => 15
  | .smem => 0
  | _ => 0

abbrev bufTy : (tb : Table) → Fin (tcTables nBuf tb) → BufTy
  | .hbm, ⟨0, _⟩ => ⟨S224x5120, .f32⟩
  | .hbm, ⟨1, _⟩ => ⟨S5120, .f32⟩
  | .hbm, ⟨2, _⟩ => ⟨S5120x35840, .fp8e4m3⟩
  | .hbm, ⟨3, _⟩ => ⟨S35840, .f32⟩
  | .hbm, ⟨4, _⟩ => ⟨S1x5120, .f32⟩
  | .hbm, ⟨5, _⟩ => ⟨S1x35840, .f32⟩
  | .hbm, ⟨6, _⟩ => ⟨S224x17920, .f32⟩
  | .hbm, ⟨7, _⟩ => ⟨S224x5120, .fp8e4m3⟩
  | .hbm, ⟨8, _⟩ => ⟨S224x128, .f32⟩
  | .hbm, ⟨9, _⟩ => ⟨S224x128, .f32⟩
  | .local _ .vmem, ⟨0, _⟩ => ⟨S224x5120, .f32⟩
  | .local _ .vmem, ⟨1, _⟩ => ⟨S1x5120, .f32⟩
  | .local _ .vmem, ⟨2, _⟩ => ⟨S5120x640, .fp8e4m3⟩
  | .local _ .vmem, ⟨3, _⟩ => ⟨S5120x640, .fp8e4m3⟩
  | .local _ .vmem, ⟨4, _⟩ => ⟨S5120x640, .fp8e4m3⟩
  | .local _ .vmem, ⟨5, _⟩ => ⟨S5120x640, .fp8e4m3⟩
  | .local _ .vmem, ⟨6, _⟩ => ⟨S1x640, .f32⟩
  | .local _ .vmem, ⟨7, _⟩ => ⟨S1x640, .f32⟩
  | .local _ .vmem, ⟨8, _⟩ => ⟨S1x640, .f32⟩
  | .local _ .vmem, ⟨9, _⟩ => ⟨S1x640, .f32⟩
  | .local _ .vmem, ⟨10, _⟩ => ⟨S224x640, .f32⟩
  | .local _ .vmem, ⟨11, _⟩ => ⟨S224x640, .f32⟩
  | .local _ .vmem, ⟨12, _⟩ => ⟨S224x5120, .fp8e4m3⟩
  | .local _ .vmem, ⟨13, _⟩ => ⟨S224x128, .f32⟩
  | .local _ .vmem, ⟨14, _⟩ => ⟨S224x128, .f32⟩
  | _, _ => ⟨S224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c28_i32 : BitVec 32 := 28#32
  let v0 : BitVec 32 := Scalar.addi arg0 c28_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x640 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S224x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S224x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S224x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateUpIdeal.lean ====
variable {F : FTy → Type} [FloatOps F] [Named F]
def κ : String → Option EReal := fun
  | "inv_n" => some ((1 / 5120 : ℝ) : EReal)
  | _ => none
-- ==== GateUpRefIdeal.lean ====
abbrev S224x5120 : Shape := ⟨2, ![224, 5120]⟩
abbrev S5120 : Shape := ⟨1, ![5120]⟩
abbrev S5120x35840 : Shape := ⟨2, ![5120, 35840]⟩
abbrev S35840 : Shape := ⟨1, ![35840]⟩
abbrev S1x5120 : Shape := ⟨2, ![1, 5120]⟩
abbrev S1x35840 : Shape := ⟨2, ![1, 35840]⟩
abbrev S224x17920 : Shape := ⟨2, ![224, 17920]⟩
abbrev S224x128 : Shape := ⟨2, ![224, 128]⟩
abbrev S224 : Shape := ⟨1, ![224]⟩
abbrev S224x1 : Shape := ⟨2, ![224, 1]⟩
abbrev S224x35840 : Shape := ⟨2, ![224, 35840]⟩

abbrev nBuf : Space → Nat
  | .hbm => 10
  | .vmem => 8
  | .smem => 0
  | _ => 0

abbrev bufTy : (tb : Table) → Fin (tcTables nBuf tb) → BufTy
  | .hbm, ⟨0, _⟩ => ⟨S224x5120, .f32⟩
  | .hbm, ⟨1, _⟩ => ⟨S5120, .f32⟩
  | .hbm, ⟨2, _⟩ => ⟨S5120x35840, .fp8e4m3⟩
  | .hbm, ⟨3, _⟩ => ⟨S35840, .f32⟩
  | .hbm, ⟨4, _⟩ => ⟨S1x5120, .f32⟩
  | .hbm, ⟨5, _⟩ => ⟨S1x35840, .f32⟩
  | .hbm, ⟨6, _⟩ => ⟨S224x17920, .f32⟩
  | .hbm, ⟨7, _⟩ => ⟨S224x5120, .fp8e4m3⟩
  | .hbm, ⟨8, _⟩ => ⟨S224x128, .f32⟩
  | .hbm, ⟨9, _⟩ => ⟨S224x128, .f32⟩
  | .local _ .vmem, ⟨0, _⟩ => ⟨S224x5120, .f32⟩
  | .local _ .vmem, ⟨1, _⟩ => ⟨S1x5120, .f32⟩
  | .local _ .vmem, ⟨2, _⟩ => ⟨S5120x35840, .fp8e4m3⟩
  | .local _ .vmem, ⟨3, _⟩ => ⟨S1x35840, .f32⟩
  | .local _ .vmem, ⟨4, _⟩ => ⟨S224x17920, .f32⟩
  | .local _ .vmem, ⟨5, _⟩ => ⟨S224x5120, .fp8e4m3⟩
  | .local _ .vmem, ⟨6, _⟩ => ⟨S224x128, .f32⟩
  | .local _ .vmem, ⟨7, _⟩ => ⟨S224x128, .f32⟩
  | _, _ => ⟨S224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S224x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x35840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x35840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x17920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S224x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S224x17920 : Shape := ⟨2, ![224, 17920]⟩
abbrev S224x128 : Shape := ⟨2, ![224, 128]⟩
abbrev S224x5120 : Shape := ⟨2, ![224, 5120]⟩
abbrev S17920x5120 : Shape := ⟨2, ![17920, 5120]⟩
abbrev S5120 : Shape := ⟨1, ![5120]⟩
abbrev S1x5120 : Shape := ⟨2, ![1, 5120]⟩
abbrev S224x1280 : Shape := ⟨2, ![224, 1280]⟩
abbrev S1280x5120 : Shape := ⟨2, ![1280, 5120]⟩
abbrev S224x1 : Shape := ⟨2, ![224, 1]⟩

abbrev nBuf : Space → Nat
  | .hbm => 10
  | .vmem => 12
  | .smem => 0
  | _ => 0

abbrev bufTy : (tb : Table) → Fin (tcTables nBuf tb) → BufTy
  | .hbm, ⟨0, _⟩ => ⟨S224x17920, .f32⟩
  | .hbm, ⟨1, _⟩ => ⟨S224x128, .f32⟩
  | .hbm, ⟨2, _⟩ => ⟨S224x5120, .f32⟩
  | .hbm, ⟨3, _⟩ => ⟨S17920x5120, .fp8e4m3⟩
  | .hbm, ⟨4, _⟩ => ⟨S5120, .f32⟩
  | .hbm, ⟨5, _⟩ => ⟨S1x5120, .f32⟩
  | .hbm, ⟨6, _⟩ => ⟨S224x5120, .f32⟩
  | .hbm, ⟨7, _⟩ => ⟨S224x5120, .bf16⟩
  | .hbm, ⟨8, _⟩ => ⟨S224x17920, .fp8e4m3⟩
  | .hbm, ⟨9, _⟩ => ⟨S224x128, .f32⟩
  | .local _ .vmem, ⟨0, _⟩ => ⟨S224x1280, .f32⟩
  | .local _ .vmem, ⟨1, _⟩ => ⟨S224x1280, .f32⟩
  | .local _ .vmem, ⟨2, _⟩ => ⟨S224x128, .f32⟩
  | .local _ .vmem, ⟨3, _⟩ => ⟨S224x5120, .f32⟩
  | .local _ .vmem, ⟨4, _⟩ => ⟨S1280x5120, .fp8e4m3⟩
  | .local _ .vmem, ⟨5, _⟩ => ⟨S1280x5120, .fp8e4m3⟩
  | .local _ .vmem, ⟨6, _⟩ => ⟨S1x5120, .f32⟩
  | .local _ .vmem, ⟨7, _⟩ => ⟨S224x5120, .f32⟩
  | .local _ .vmem, ⟨8, _⟩ => ⟨S224x5120, .bf16⟩
  | .local _ .vmem, ⟨9, _⟩ => ⟨S224x1280, .fp8e4m3⟩
  | .local _ .vmem, ⟨10, _⟩ => ⟨S224x1280, .fp8e4m3⟩
  | .local _ .vmem, ⟨11, _⟩ => ⟨S224x128, .f32⟩
  | _, _ => ⟨S224x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![14], ![false]⟩

def k0_cond2 (i : grid0.Coords) : BitVec 1 :=
  let arg0 : BitVec 32 := BitVec.ofNat 32 (i 0).val
  let c13_i32 : BitVec 32 := 13#32
  let v109 : BitVec 1 := Scalar.cmpi .eq arg0 c13_i32
  let v110 : BitVec 32 := Scalar.extui v109
  let c0_i32_35 : BitVec 32 := 0#32
  let v111 : BitVec 1 := Scalar.cmpi .ne v110 c0_i32_35
  v111

def k0_cond1 (i : grid0.Coords) : BitVec 1 :=
  let arg0 : BitVec 32 := BitVec.ofNat 32 (i 0).val
  let c0_i32_26 : BitVec 32 := 0#32
  let v100 : BitVec 1 := Scalar.cmpi .eq arg0 c0_i32_26
  let v101 : BitVec 32 := Scalar.extui v100
  let c0_i32_27 : BitVec 32 := 0#32
  let v102 : BitVec 1 := Scalar.cmpi .ne v101 c0_i32_27
  v102

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S224x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S224x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S224x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownRefIdeal.lean ====
abbrev S224x17920 : Shape := ⟨2, ![224, 17920]⟩
abbrev S224x128 : Shape := ⟨2, ![224, 128]⟩
abbrev S224x5120 : Shape := ⟨2, ![224, 5120]⟩
abbrev S17920x5120 : Shape := ⟨2, ![17920, 5120]⟩
abbrev S5120 : Shape := ⟨1, ![5120]⟩
abbrev S1x5120 : Shape := ⟨2, ![1, 5120]⟩
abbrev S224x1 : Shape := ⟨2, ![224, 1]⟩

abbrev nBuf : Space → Nat
  | .hbm => 10
  | .vmem => 9
  | .smem => 0
  | _ => 0

abbrev bufTy : (tb : Table) → Fin (tcTables nBuf tb) → BufTy
  | .hbm, ⟨0, _⟩ => ⟨S224x17920, .f32⟩
  | .hbm, ⟨1, _⟩ => ⟨S224x128, .f32⟩
  | .hbm, ⟨2, _⟩ => ⟨S224x5120, .f32⟩
  | .hbm, ⟨3, _⟩ => ⟨S17920x5120, .fp8e4m3⟩
  | .hbm, ⟨4, _⟩ => ⟨S5120, .f32⟩
  | .hbm, ⟨5, _⟩ => ⟨S1x5120, .f32⟩
  | .hbm, ⟨6, _⟩ => ⟨S224x5120, .f32⟩
  | .hbm, ⟨7, _⟩ => ⟨S224x5120, .bf16⟩
  | .hbm, ⟨8, _⟩ => ⟨S224x17920, .fp8e4m3⟩
  | .hbm, ⟨9, _⟩ => ⟨S224x128, .f32⟩
  | .local _ .vmem, ⟨0, _⟩ => ⟨S224x17920, .f32⟩
  | .local _ .vmem, ⟨1, _⟩ => ⟨S224x128, .f32⟩
  | .local _ .vmem, ⟨2, _⟩ => ⟨S224x5120, .f32⟩
  | .local _ .vmem, ⟨3, _⟩ => ⟨S17920x5120, .fp8e4m3⟩
  | .local _ .vmem, ⟨4, _⟩ => ⟨S1x5120, .f32⟩
  | .local _ .vmem, ⟨5, _⟩ => ⟨S224x5120, .f32⟩
  | .local _ .vmem, ⟨6, _⟩ => ⟨S224x5120, .bf16⟩
  | .local _ .vmem, ⟨7, _⟩ => ⟨S224x17920, .fp8e4m3⟩
  | .local _ .vmem, ⟨8, _⟩ => ⟨S224x128, .f32⟩
  | _, _ => ⟨S224x17920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S224x17920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17920x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S224x17920 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S224x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Oproj.lean ====
abbrev S224x6400 : Shape := ⟨2, ![224, 6400]⟩
abbrev S224x5120 : Shape := ⟨2, ![224, 5120]⟩
abbrev S6400x5120 : Shape := ⟨2, ![6400, 5120]⟩
abbrev S5120 : Shape := ⟨1, ![5120]⟩
abbrev S1x5120 : Shape := ⟨2, ![1, 5120]⟩
abbrev S224x128 : Shape := ⟨2, ![224, 128]⟩
abbrev S224x1024 : Shape := ⟨2, ![224, 1024]⟩
abbrev S6400x1024 : Shape := ⟨2, ![6400, 1024]⟩
abbrev S1x1024 : Shape := ⟨2, ![1, 1024]⟩
abbrev S224 : Shape := ⟨1, ![224]⟩
abbrev S224x1 : Shape := ⟨2, ![224, 1]⟩

abbrev nBuf : Space → Nat
  | .hbm => 8
  | .vmem => 11
  | .smem => 0
  | _ => 0

abbrev bufTy : (tb : Table) → Fin (tcTables nBuf tb) → BufTy
  | .hbm, ⟨0, _⟩ => ⟨S224x6400, .f32⟩
  | .hbm, ⟨1, _⟩ => ⟨S224x5120, .bf16⟩
  | .hbm, ⟨2, _⟩ => ⟨S6400x5120, .fp8e4m3⟩
  | .hbm, ⟨3, _⟩ => ⟨S5120, .f32⟩
  | .hbm, ⟨4, _⟩ => ⟨S1x5120, .f32⟩
  | .hbm, ⟨5, _⟩ => ⟨S224x5120, .f32⟩
  | .hbm, ⟨6, _⟩ => ⟨S224x6400, .fp8e4m3⟩
  | .hbm, ⟨7, _⟩ => ⟨S224x128, .f32⟩
  | .local _ .vmem, ⟨0, _⟩ => ⟨S224x6400, .f32⟩
  | .local _ .vmem, ⟨1, _⟩ => ⟨S224x1024, .bf16⟩
  | .local _ .vmem, ⟨2, _⟩ => ⟨S224x1024, .bf16⟩
  | .local _ .vmem, ⟨3, _⟩ => ⟨S6400x1024, .fp8e4m3⟩
  | .local _ .vmem, ⟨4, _⟩ => ⟨S6400x1024, .fp8e4m3⟩
  | .local _ .vmem, ⟨5, _⟩ => ⟨S1x1024, .f32⟩
  | .local _ .vmem, ⟨6, _⟩ => ⟨S1x1024, .f32⟩
  | .local _ .vmem, ⟨7, _⟩ => ⟨S224x1024, .f32⟩
  | .local _ .vmem, ⟨8, _⟩ => ⟨S224x1024, .f32⟩
  | .local _ .vmem, ⟨9, _⟩ => ⟨S224x6400, .fp8e4m3⟩
  | .local _ .vmem, ⟨10, _⟩ => ⟨S224x128, .f32⟩
  | _, _ => ⟨S224x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S224x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OprojRefIdeal.lean ====
abbrev S224x6400 : Shape := ⟨2, ![224, 6400]⟩
abbrev S224x5120 : Shape := ⟨2, ![224, 5120]⟩
abbrev S6400x5120 : Shape := ⟨2, ![6400, 5120]⟩
abbrev S5120 : Shape := ⟨1, ![5120]⟩
abbrev S1x5120 : Shape := ⟨2, ![1, 5120]⟩
abbrev S224x128 : Shape := ⟨2, ![224, 128]⟩
abbrev S224 : Shape := ⟨1, ![224]⟩
abbrev S224x1 : Shape := ⟨2, ![224, 1]⟩

abbrev nBuf : Space → Nat
  | .hbm => 8
  | .vmem => 7
  | .smem => 0
  | _ => 0

abbrev bufTy : (tb : Table) → Fin (tcTables nBuf tb) → BufTy
  | .hbm, ⟨0, _⟩ => ⟨S224x6400, .f32⟩
  | .hbm, ⟨1, _⟩ => ⟨S224x5120, .bf16⟩
  | .hbm, ⟨2, _⟩ => ⟨S6400x5120, .fp8e4m3⟩
  | .hbm, ⟨3, _⟩ => ⟨S5120, .f32⟩
  | .hbm, ⟨4, _⟩ => ⟨S1x5120, .f32⟩
  | .hbm, ⟨5, _⟩ => ⟨S224x5120, .f32⟩
  | .hbm, ⟨6, _⟩ => ⟨S224x6400, .fp8e4m3⟩
  | .hbm, ⟨7, _⟩ => ⟨S224x128, .f32⟩
  | .local _ .vmem, ⟨0, _⟩ => ⟨S224x6400, .f32⟩
  | .local _ .vmem, ⟨1, _⟩ => ⟨S224x5120, .bf16⟩
  | .local _ .vmem, ⟨2, _⟩ => ⟨S6400x5120, .fp8e4m3⟩
  | .local _ .vmem, ⟨3, _⟩ => ⟨S1x5120, .f32⟩
  | .local _ .vmem, ⟨4, _⟩ => ⟨S224x5120, .f32⟩
  | .local _ .vmem, ⟨5, _⟩ => ⟨S224x6400, .fp8e4m3⟩
  | .local _ .vmem, ⟨6, _⟩ => ⟨S224x128, .f32⟩
  | _, _ => ⟨S224x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S224x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S224x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6400x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x6400 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S224x5120 : Shape := ⟨2, ![224, 5120]⟩
abbrev S5120 : Shape := ⟨1, ![5120]⟩
abbrev S5120x9600 : Shape := ⟨2, ![5120, 9600]⟩
abbrev S9600 : Shape := ⟨1, ![9600]⟩
abbrev S1x5120 : Shape := ⟨2, ![1, 5120]⟩
abbrev S1x9600 : Shape := ⟨2, ![1, 9600]⟩
abbrev S224x9600 : Shape := ⟨2, ![224, 9600]⟩
abbrev S224x128 : Shape := ⟨2, ![224, 128]⟩
abbrev S5120x1280 : Shape := ⟨2, ![5120, 1280]⟩
abbrev S1x1280 : Shape := ⟨2, ![1, 1280]⟩
abbrev S224x1280 : Shape := ⟨2, ![224, 1280]⟩
abbrev S224 : Shape := ⟨1, ![224]⟩
abbrev S224x1 : Shape := ⟨2, ![224, 1]⟩
abbrev S5120x640 : Shape := ⟨2, ![5120, 640]⟩
abbrev S224x640 : Shape := ⟨2, ![224, 640]⟩
abbrev S1x640 : Shape := ⟨2, ![1, 640]⟩

abbrev nBuf : Space → Nat
  | .hbm => 9
  | .vmem => 10
  | .smem => 0
  | _ => 0

abbrev bufTy : (tb : Table) → Fin (tcTables nBuf tb) → BufTy
  | .hbm, ⟨0, _⟩ => ⟨S224x5120, .bf16⟩
  | .hbm, ⟨1, _⟩ => ⟨S5120, .f32⟩
  | .hbm, ⟨2, _⟩ => ⟨S5120x9600, .fp8e4m3⟩
  | .hbm, ⟨3, _⟩ => ⟨S9600, .f32⟩
  | .hbm, ⟨4, _⟩ => ⟨S1x5120, .f32⟩
  | .hbm, ⟨5, _⟩ => ⟨S1x9600, .f32⟩
  | .hbm, ⟨6, _⟩ => ⟨S224x9600, .f32⟩
  | .hbm, ⟨7, _⟩ => ⟨S224x5120, .fp8e4m3⟩
  | .hbm, ⟨8, _⟩ => ⟨S224x128, .f32⟩
  | .local _ .vmem, ⟨0, _⟩ => ⟨S224x5120, .bf16⟩
  | .local _ .vmem, ⟨1, _⟩ => ⟨S1x5120, .f32⟩
  | .local _ .vmem, ⟨2, _⟩ => ⟨S5120x1280, .fp8e4m3⟩
  | .local _ .vmem, ⟨3, _⟩ => ⟨S5120x1280, .fp8e4m3⟩
  | .local _ .vmem, ⟨4, _⟩ => ⟨S1x1280, .f32⟩
  | .local _ .vmem, ⟨5, _⟩ => ⟨S1x1280, .f32⟩
  | .local _ .vmem, ⟨6, _⟩ => ⟨S224x1280, .f32⟩
  | .local _ .vmem, ⟨7, _⟩ => ⟨S224x1280, .f32⟩
  | .local _ .vmem, ⟨8, _⟩ => ⟨S224x5120, .fp8e4m3⟩
  | .local _ .vmem, ⟨9, _⟩ => ⟨S224x128, .f32⟩
  | _, _ => ⟨S224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v3 : BitVec 1 := Scalar.cmpi .eq arg0 c7_i32
  let v_true : BitVec 1 := 1#1
  let v4 : BitVec 1 := Scalar.xori v3 v_true
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c7_i32 : BitVec 32 := 7#32
  let v3 : BitVec 1 := Scalar.cmpi .eq arg0 c7_i32
  let v7 : BitVec 32 := Scalar.extui v3
  let c0_i32_2 : BitVec 32 := 0#32
  let v8 : BitVec 1 := Scalar.cmpi .ne v7 c0_i32_2
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S224x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QkvIdeal.lean ====
variable {F : FTy → Type} [FloatOps F] [Named F]
def κ : String → Option EReal := fun
  | "inv_n" => some ((1 / 5120 : ℝ) : EReal)
  | _ => none
-- ==== QkvRefIdeal.lean ====
abbrev S224x5120 : Shape := ⟨2, ![224, 5120]⟩
abbrev S5120 : Shape := ⟨1, ![5120]⟩
abbrev S5120x9600 : Shape := ⟨2, ![5120, 9600]⟩
abbrev S9600 : Shape := ⟨1, ![9600]⟩
abbrev S1x5120 : Shape := ⟨2, ![1, 5120]⟩
abbrev S1x9600 : Shape := ⟨2, ![1, 9600]⟩
abbrev S224x9600 : Shape := ⟨2, ![224, 9600]⟩
abbrev S224x128 : Shape := ⟨2, ![224, 128]⟩
abbrev S224 : Shape := ⟨1, ![224]⟩
abbrev S224x1 : Shape := ⟨2, ![224, 1]⟩

abbrev nBuf : Space → Nat
  | .hbm => 9
  | .vmem => 7
  | .smem => 0
  | _ => 0

abbrev bufTy : (tb : Table) → Fin (tcTables nBuf tb) → BufTy
  | .hbm, ⟨0, _⟩ => ⟨S224x5120, .bf16⟩
  | .hbm, ⟨1, _⟩ => ⟨S5120, .f32⟩
  | .hbm, ⟨2, _⟩ => ⟨S5120x9600, .fp8e4m3⟩
  | .hbm, ⟨3, _⟩ => ⟨S9600, .f32⟩
  | .hbm, ⟨4, _⟩ => ⟨S1x5120, .f32⟩
  | .hbm, ⟨5, _⟩ => ⟨S1x9600, .f32⟩
  | .hbm, ⟨6, _⟩ => ⟨S224x9600, .f32⟩
  | .hbm, ⟨7, _⟩ => ⟨S224x5120, .fp8e4m3⟩
  | .hbm, ⟨8, _⟩ => ⟨S224x128, .f32⟩
  | .local _ .vmem, ⟨0, _⟩ => ⟨S224x5120, .bf16⟩
  | .local _ .vmem, ⟨1, _⟩ => ⟨S1x5120, .f32⟩
  | .local _ .vmem, ⟨2, _⟩ => ⟨S5120x9600, .fp8e4m3⟩
  | .local _ .vmem, ⟨3, _⟩ => ⟨S1x9600, .f32⟩
  | .local _ .vmem, ⟨4, _⟩ => ⟨S224x9600, .f32⟩
  | .local _ .vmem, ⟨5, _⟩ => ⟨S224x5120, .fp8e4m3⟩
  | .local _ .vmem, ⟨6, _⟩ => ⟨S224x128, .f32⟩
  | _, _ => ⟨S224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S224x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x9600 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x9600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Lm.lean ====
abbrev S224 : Shape := ⟨1, ![224]⟩
abbrev S224x5120 : Shape := ⟨2, ![224, 5120]⟩
abbrev S1x5120 : Shape := ⟨2, ![1, 5120]⟩
abbrev S32064x5120 : Shape := ⟨2, ![32064, 5120]⟩
abbrev S1x32064 : Shape := ⟨2, ![1, 32064]⟩
abbrev S224x128 : Shape := ⟨2, ![224, 128]⟩
abbrev S1280x5120 : Shape := ⟨2, ![1280, 5120]⟩
abbrev S1x1280 : Shape := ⟨2, ![1, 1280]⟩
abbrev S260x224x128 : Shape := ⟨3, ![260, 224, 128]⟩
abbrev S224x1 : Shape := ⟨2, ![224, 1]⟩
abbrev S224x1280 : Shape := ⟨2, ![224, 1280]⟩
abbrev S1x224x128 : Shape := ⟨3, ![1, 224, 128]⟩
abbrev S1x128 : Shape := ⟨2, ![1, 128]⟩
abbrev S1 : Shape := ⟨1, ![1]⟩
abbrev S1x1x128 : Shape := ⟨3, ![1, 1, 128]⟩

abbrev nBuf : Space → Nat
  | .hbm => 10
  | .vmem => 15
  | .smem => 2
  | _ => 0

abbrev bufTy : (tb : Table) → Fin (tcTables nBuf tb) → BufTy
  | .hbm, ⟨0, _⟩ => ⟨S224x5120, .f32⟩
  | .hbm, ⟨1, _⟩ => ⟨S1x5120, .f32⟩
  | .hbm, ⟨2, _⟩ => ⟨S32064x5120, .fp8e4m3⟩
  | .hbm, ⟨3, _⟩ => ⟨S1x32064, .f32⟩
  | .hbm, ⟨4, _⟩ => ⟨S224x128, .f32⟩
  | .hbm, ⟨5, _⟩ => ⟨S224x5120, .fp8e4m3⟩
  | .hbm, ⟨6, _⟩ => ⟨S224x128, .f32⟩
  | .hbm, ⟨7, _⟩ => ⟨S224x128, .f32⟩
  | .hbm, ⟨8, _⟩ => ⟨S224x128, .f32⟩
  | .hbm, ⟨9, _⟩ => ⟨S224x128, .f32⟩
  | .local _ .vmem, ⟨0, _⟩ => ⟨S224x5120, .f32⟩
  | .local _ .vmem, ⟨1, _⟩ => ⟨S1x5120, .f32⟩
  | .local _ .vmem, ⟨2, _⟩ => ⟨S1280x5120, .fp8e4m3⟩
  | .local _ .vmem, ⟨3, _⟩ => ⟨S1280x5120, .fp8e4m3⟩
  | .local _ .vmem, ⟨4, _⟩ => ⟨S1x1280, .f32⟩
  | .local _ .vmem, ⟨5, _⟩ => ⟨S1x1280, .f32⟩
  | .local _ .vmem, ⟨6, _⟩ => ⟨S224x128, .f32⟩
  | .local _ .vmem, ⟨7, _⟩ => ⟨S224x5120, .fp8e4m3⟩
  | .local _ .vmem, ⟨8, _⟩ => ⟨S224x128, .f32⟩
  | .local _ .vmem, ⟨9, _⟩ => ⟨S224x128, .f32⟩
  | .local _ .vmem, ⟨10, _⟩ => ⟨S224x128, .f32⟩
  | .local _ .vmem, ⟨11, _⟩ => ⟨S224x128, .f32⟩
  | .local _ .vmem, ⟨12, _⟩ => ⟨S260x224x128, .f32⟩
  | .local _ .vmem, ⟨13, _⟩ => ⟨S224x128, .f32⟩
  | .local _ .vmem, ⟨14, _⟩ => ⟨S224x128, .f32⟩
  | .local _ .smem, ⟨0, _⟩ => ⟨S224, .i32⟩
  | .local _ .smem, ⟨1, _⟩ => ⟨S224, .i32⟩
  | _, _ => ⟨S224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![26], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32_11 : BitVec 32) : Fin 3 → Nat :=
  let arg0 : BitVec 32 := BitVec.ofNat 32 (i 0).val
  let c10_i32 : BitVec 32 := 10#32
  let v28 : BitVec 32 := Scalar.muli arg0 c10_i32
  let v29 : BitVec 32 := Scalar.addi v28 c0_i32_11
  let v30 : Index := Scalar.indexCast v29
  let c0_12 : Index := 0#32
  let c0_13 : Index := 0#32
  ![v30.toNat, 0, 0]
def k0_cond2 (i : grid0.Coords) : BitVec 1 :=
  let arg0 : BitVec 32 := BitVec.ofNat 32 (i 0).val
  let c25_i32 : BitVec 32 := 25#32
  let v120 : BitVec 1 := Scalar.cmpi .eq arg0 c25_i32
  let v121 : BitVec 32 := Scalar.extui v120
  let c0_i32_51 : BitVec 32 := 0#32
  let v122 : BitVec 1 := Scalar.cmpi .ne v121 c0_i32_51
  v122

@[reducible] def k0_t1_loop : Scf.Loop 32 :=
  let c0_i32_58 : BitVec 32 := 0#32
  let c224_i32 : BitVec 32 := 224#32
  let v129 : BitVec 32 := Scalar.addi c0_i32_58 c224_i32
  let c1_i32_59 : BitVec 32 := 1#32
  ⟨c0_i32_58, v129, c1_i32_59⟩
def k0_off2 (k0_t1 : Fin k0_t1_loop.trips) : Fin 1 → Nat :=
  let c0_i32_58 : BitVec 32 := 0#32
  let c1_i32_59 : BitVec 32 := 1#32
  let arg16 : BitVec 32 := Scf.iv c0_i32_58 c1_i32_59 k0_t1
  let v130 : Index := Scalar.indexCast arg16
  ![v130.toNat]
def k0_off3 (v131 : BitVec 32) (v133 : BitVec 32) : Fin 3 → Nat :=
  let c7_i32_61 : BitVec 32 := 7#32
  let v134 : BitVec 32 := Scalar.shrui v131 c7_i32_61
  let v135 : Index := Scalar.indexCast v134
  let v136 : Index := Scalar.indexCast v133
  let c0_62 : Index := 0#32
  ![v135.toNat, v136.toNat, 0]

def k0_off4 (k0_t1 : Fin k0_t1_loop.trips) : Fin 2 → Nat :=
  let c0_i32_58 : BitVec 32 := 0#32
  let c1_i32_59 : BitVec 32 := 1#32
  let arg16 : BitVec 32 := Scf.iv c0_i32_58 c1_i32_59 k0_t1
  let v144 : Index := Scalar.indexCast arg16
  let c0_64 : Index := 0#32
  ![v144.toNat, 0]
def k0_off5 (v133 : BitVec 32) : Fin 2 → Nat :=
  let v146 : Index := Scalar.indexCast v133
  let c0_65 : Index := 0#32
  ![v146.toNat, 0]

def k0_chk1 (i : grid0.Coords) (v131 : BitVec 32) (v133 : BitVec 32) : Prop :=
  (∀ (k0_h2 : k0_cond2 i = 1#1), ∀ a, (k0_off3 v131 v133) a + S1x1x128.size a ≤ S260x224x128.size a) ∧
  (∀ (k0_h2 : k0_cond2 i = 1#1), ∀ a, (k0_off5 v133) a + S1x128.size a ≤ S224x128.size a)
theorem k0_off3_inb : ∀ (i : grid0.Coords) (v131 : BitVec 32) (v133 : BitVec 32) (k0_hw1 : k0_chk1 i v131 v133), ∀ (k0_h2 : k0_cond2 i = 1#1), ∀ a, (k0_off3 v131 v133) a + S1x1x128.size a ≤ S260x224x128.size a := fun i v131 v133 k0_hw1 k0_h2 => k0_hw1.1 k0_h2
theorem k0_off5_inb : ∀ (i : grid0.Coords) (v131 : BitVec 32) (v133 : BitVec 32) (k0_hw1 : k0_chk1 i v131 v133), ∀ (k0_h2 : k0_cond2 i = 1#1), ∀ a, (k0_off5 v133) a + S1x128.size a ≤ S224x128.size a := fun i v131 v133 k0_hw1 k0_h2 => k0_hw1.2 k0_h2

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S224x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S224x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S224x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LmIdeal.lean ====
variable {F : FTy → Type} [FloatOps F] [Named F]
def κ : String → Option EReal := fun
  | "inv_n" => some ((1 / 5120 : ℝ) : EReal)
  | "mask" => some ⊥
  | _ => none
-- ==== LmRefIdeal.lean ====
abbrev S224 : Shape := ⟨1, ![224]⟩
abbrev S224x5120 : Shape := ⟨2, ![224, 5120]⟩
abbrev S1x5120 : Shape := ⟨2, ![1, 5120]⟩
abbrev S32064x5120 : Shape := ⟨2, ![32064, 5120]⟩
abbrev S1x32064 : Shape := ⟨2, ![1, 32064]⟩
abbrev S224x128 : Shape := ⟨2, ![224, 128]⟩
abbrev S224x1 : Shape := ⟨2, ![224, 1]⟩
abbrev S224x32064 : Shape := ⟨2, ![224, 32064]⟩

abbrev nBuf : Space → Nat
  | .hbm => 10
  | .vmem => 8
  | .smem => 0
  | _ => 0

abbrev bufTy : (tb : Table) → Fin (tcTables nBuf tb) → BufTy
  | .hbm, ⟨0, _⟩ => ⟨S224, .i32⟩
  | .hbm, ⟨1, _⟩ => ⟨S224, .i32⟩
  | .hbm, ⟨2, _⟩ => ⟨S224x5120, .f32⟩
  | .hbm, ⟨3, _⟩ => ⟨S1x5120, .f32⟩
  | .hbm, ⟨4, _⟩ => ⟨S32064x5120, .fp8e4m3⟩
  | .hbm, ⟨5, _⟩ => ⟨S1x32064, .f32⟩
  | .hbm, ⟨6, _⟩ => ⟨S224x128, .f32⟩
  | .hbm, ⟨7, _⟩ => ⟨S224x5120, .fp8e4m3⟩
  | .hbm, ⟨8, _⟩ => ⟨S224x128, .f32⟩
  | .hbm, ⟨9, _⟩ => ⟨S224x128, .f32⟩
  | .local _ .vmem, ⟨0, _⟩ => ⟨S224x5120, .f32⟩
  | .local _ .vmem, ⟨1, _⟩ => ⟨S1x5120, .f32⟩
  | .local _ .vmem, ⟨2, _⟩ => ⟨S32064x5120, .fp8e4m3⟩
  | .local _ .vmem, ⟨3, _⟩ => ⟨S1x32064, .f32⟩
  | .local _ .vmem, ⟨4, _⟩ => ⟨S224x128, .f32⟩
  | .local _ .vmem, ⟨5, _⟩ => ⟨S224x5120, .fp8e4m3⟩
  | .local _ .vmem, ⟨6, _⟩ => ⟨S224x128, .f32⟩
  | .local _ .vmem, ⟨7, _⟩ => ⟨S224x128, .f32⟩
  | _, _ => ⟨S224, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S224x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32064x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32064 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S224x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.GateUpBits.lean ====
/- The run of the program `GateUp` at any instance: what its body leaves in each window at each grid point, and the arrays after the last. -/
module

public import proofs.«01_k».proof.Proof.Gen.GateUp.Frame
public import proofs.«01_k».proof.Proof.Gen.GateUp.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.GateUp.Run

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x640 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x640 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S224x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S224x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S224x128 .f32 := win0_9.stage (cfg0.slots t 9)
abbrev hs0_9 (t : Fin cfg0.N) : (ms0_9 t).IsWhole := hstage0_9 ((cfg0.slots t 9).cast nbuf0_9)

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S5120x640 := Rect.unit (s := S5120x640) ![0, 0] S5120x640.size inb_S5120x640_S5120x640_0_0
abbrev rS : Rect S1x640 := Rect.unit (s := S1x640) ![0, 0] S1x640.size inb_S1x640_S1x640_0_0
abbrev rC : Rect S224x128 := Rect.unit (s := S224x128) ![0, 0] S224x1.size inb_S224x128_S224x1_0_0
abbrev rM : Rect S224x128 := Rect.unit (s := S224x128) ![0, 0] S224x128.size inb_S224x128_S224x128_0_0

/-- The exponent field of the rows' scales after the seventh step of the search. -/
def fld (x0 : Vec F S224x5120 .f32) (x1 : Vec F S1x5120 .f32) : IVec S224x1 32 :=
  k0_pay7 (k0_pay3 (View.ld x0 rX) (View.ld x1 rL)) (k0_pay4 (View.ld x0 rX) (View.ld x1 rL)) (k0_pay5 (View.ld x0 rX) (View.ld x1 rL)) k0_pay6

/-- That field with the last bit set. -/
def fld' (x0 : Vec F S224x5120 .f32) (x1 : Vec F S1x5120 .f32) : IVec S224x1 32 :=
  k0_pay8 (k0_pay3 (View.ld x0 rX) (View.ld x1 rL)) (k0_pay4 (View.ld x0 rX) (View.ld x1 rL)) (k0_pay5 (View.ld x0 rX) (View.ld x1 rL)) k0_pay6

/-- The codes of the normalised rows. -/
def cod (x0 : Vec F S224x5120 .f32) (x1 : Vec F S1x5120 .f32) : Vec F S224x5120 .fp8e4m3 :=
  k0_pay11 (k0_pay2 (View.ld x0 rX) (View.ld x1 rL)) (k0_pay3 (View.ld x0 rX) (View.ld x1 rL)) (fld x0 x1) (fld' x0 x1) k0_pay9

/-- Their scales, one a row along 128 lanes. -/
def scl (x0 : Vec F S224x5120 .f32) (x1 : Vec F S1x5120 .f32) : Vec F S224x128 .f32 :=
  k0_pay12 (k0_pay3 (View.ld x0 rX) (View.ld x1 rL)) (fld x0 x1) (fld' x0 x1) k0_pay9

/-- One block of the gated activations, from the codes, the scales and the blocks of the weights. -/
def act (hc : Vec F S224x5120 .fp8e4m3) (hs : Vec F S224x128 .f32) (x2 x3 : Vec F S5120x640 .fp8e4m3) (x4 x5 : Vec F S1x640 .f32) : Vec F S224x640 .f32 :=
  k0_pay14 (View.ld hs rC) hc (View.ld x2 rW) (View.ld x4 rS) hc (View.ld x3 rW) (View.ld x5 rS)

/-- The running row maximum after that block. -/
def mx (prev : Vec F S224x128 .f32) (hc : Vec F S224x5120 .fp8e4m3) (hs : Vec F S224x128 .f32) (x2 x3 : Vec F S5120x640 .fp8e4m3) (x4 x5 : Vec F S1x640 .f32) : Vec F S224x128 .f32 :=
  k0_pay1 (k0_pay15 prev) (k0_pay16 (View.ld hs rC) hc (View.ld x2 rW) (View.ld x4 rS) hc (View.ld x3 rW) (View.ld x5 rS))

set_option maxHeartbeats 4000000 in
/-- The body's triple in case A: the inputs are left as they were, the outputs at the values named. -/
theorem runA (c : Dev nD) (i : grid0.Coords) (arg1 : Memref sig .tc .vmem S224x5120 .f32) (harg1 : arg1.IsWhole) (arg2 : Memref sig .tc .vmem S1x5120 .f32) (harg2 : arg2.IsWhole) (arg3 : Memref sig .tc .vmem S5120x640 .fp8e4m3) (harg3 : arg3.IsWhole) (arg4 : Memref sig .tc .vmem S5120x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S224x640 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (hc0 : cond0_0 i)
    (x0 : Vec F S224x5120 .f32) (x1 : Vec F S1x5120 .f32) (x2 : Vec F S5120x640 .fp8e4m3) (x3 : Vec F S5120x640 .fp8e4m3) (x4 : Vec F S1x640 .f32) (x5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (act (View.ld (cod x0 x1) rX) (scl x0 x1) x2 x3 x4 x5) ∗ owns (c : Thread nD τ) arg8 fullShare (cod x0 x1) ∗ owns (c : Thread nD τ) arg9 fullShare (scl x0 x1) ∗ owns (c : Thread nD τ) arg10 fullShare (mx (View.ld k0_pay13 rM) (View.ld (cod x0 x1) rX) (scl x0 x1) x2 x3 x4 x5)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K := by
  simp only [cc0_gate_up_eq_skeleton]; unfold cc0_gate_up_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (rd_whole _ _ hz2 _ _ _).trans ?_
    unfold act
    congr 1 <;> first | rfl | exact cov_whole _ hz2 _ _ _ _
  isplitl [H7]
  · iexists _; isplitr
    swap; · iexact H7
    ipureintro
    refine (rd_whole _ _ hz2 _ _ _).trans ?_
    rfl
  isplitl [H8]
  · iexists _; isplitr
    swap; · iexact H8
    ipureintro
    refine (rd_whole _ _ hz2 _ _ _).trans ?_
    rfl
  iexists _; isplitr
  swap; · iexact H9
  ipureintro
  refine (rd_whole _ _ hz2 _ _ _).trans ?_
  unfold mx
  refine congrArg₂ k0_pay1 (congrArg k0_pay15 (cov_whole _ hz2 _ _ _ _)) ?_
  show k0_pay16 _ _ _ _ _ _ _ = _
  congr 1 <;> first | rfl | exact cov_whole _ hz2 _ _ _ _

set_option maxHeartbeats 4000000 in
/-- The body's triple in case B: the inputs are left as they were, the outputs at the values named. -/
theorem runB (c : Dev nD) (i : grid0.Coords) (arg1 : Memref sig .tc .vmem S224x5120 .f32) (harg1 : arg1.IsWhole) (arg2 : Memref sig .tc .vmem S1x5120 .f32) (harg2 : arg2.IsWhole) (arg3 : Memref sig .tc .vmem S5120x640 .fp8e4m3) (harg3 : arg3.IsWhole) (arg4 : Memref sig .tc .vmem S5120x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S224x640 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (hc0 : ¬ cond0_0 i)
    (x0 : Vec F S224x5120 .f32) (x1 : Vec F S1x5120 .f32) (x2 : Vec F S5120x640 .fp8e4m3) (x3 : Vec F S5120x640 .fp8e4m3) (x4 : Vec F S1x640 .f32) (x5 : Vec F S1x640 .f32) (x7 : Vec F S224x5120 .fp8e4m3) (x8 : Vec F S224x128 .f32) (x9 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (act (View.ld x7 rX) x8 x2 x3 x4 x5) ∗ owns (c : Thread nD τ) arg8 fullShare x7 ∗ owns (c : Thread nD τ) arg9 fullShare x8 ∗ owns (c : Thread nD τ) arg10 fullShare (mx (View.ld x9 rM) (View.ld x7 rX) x8 x2 x3 x4 x5)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K := by
  simp only [cc0_gate_up_eq_skeleton]; unfold cc0_gate_up_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (rd_whole _ _ hz2 _ _ _).trans ?_
    rfl
  isplitl [H7]
  · iexists f7; isplitr; · ipureintro; rfl
    iexact H7
  isplitl [H8]
  · iexists f8; isplitr; · ipureintro; rfl
    iexact H8
  iexists _; isplitr
  swap; · iexact H9
  ipureintro
  refine (rd_whole _ _ hz2 _ _ _).trans ?_
  rfl

/-- The running row maximum after each point. -/
def mxAt (c : Dev nD) : (n : Nat) → n < cfg0.N → Vec F S224x128 .f32
  | 0, h => mx k0_pay13 (cod (iblk m c 0 ⟨0, h⟩) (iblk m c 1 ⟨0, h⟩)) (scl (iblk m c 0 ⟨0, h⟩) (iblk m c 1 ⟨0, h⟩)) (iblk m c 2 ⟨0, h⟩) (iblk m c 3 ⟨0, h⟩) (iblk m c 4 ⟨0, h⟩) (iblk m c 5 ⟨0, h⟩)
  | n + 1, h => mx (mxAt c n (Nat.lt_of_succ_lt h)) (cod (iblk m c 0 ⟨0, Nat.zero_lt_of_lt h⟩) (iblk m c 1 ⟨0, Nat.zero_lt_of_lt h⟩)) (scl (iblk m c 0 ⟨0, Nat.zero_lt_of_lt h⟩) (iblk m c 1 ⟨0, Nat.zero_lt_of_lt h⟩)) (iblk m c 2 ⟨n + 1, h⟩) (iblk m c 3 ⟨n + 1, h⟩) (iblk m c 4 ⟨n + 1, h⟩) (iblk m c 5 ⟨n + 1, h⟩)

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)

theorem mxAt_zero (c : Dev nD) (t : Fin cfg0.N) (ht : t.val % 28 = 0) :
    mxAt m c t.val t.isLt = mx k0_pay13 (COD m c) (SCL m c) (iblk m c 2 t) (iblk m c 3 t) (iblk m c 4 t) (iblk m c 5 t) := by
  have hN : t.val < 28 := lt_of_lt_of_eq t.isLt (show cfg0.N = 28 from N_0)
  obtain ⟨n, hn⟩ := t
  obtain rfl : n = 0 := by simp only at ht hN; omega
  rfl

theorem mxAt_succ (c : Dev nD) (t : Fin cfg0.N) (ht : ¬ t.val % 28 = 0) :
    mxAt m c t.val t.isLt = mx (mxAt m c (t.val - 1) (by have := t.isLt; omega)) (COD m c) (SCL m c) (iblk m c 2 t) (iblk m c 3 t) (iblk m c 4 t) (iblk m c 5 t) := by
  obtain ⟨n, hn⟩ := t
  cases n with
  | zero => exact absurd rfl ht
  | succ n => rfl

theorem live0_7 : ∀ t : Fin cfg0.N, t.val % 28 = 0 → cfg0.idle 7 (cfg0.grid.coords t) = false := by decide +kernel
theorem live0_8 : ∀ t : Fin cfg0.N, t.val % 28 = 0 → cfg0.idle 8 (cfg0.grid.coords t) = false := by decide +kernel

theorem ldX {e : EltTy} (X : Vec F S224x5120 e) : View.ld X rX = X := View.ld_unit_zero hz2 _ X
theorem ldM {e : EltTy} (X : Vec F S224x128 e) : View.ld X rM = X := View.ld_unit_zero hz2 _ X
theorem ldL {e : EltTy} (X : Vec F S1x5120 e) : View.ld X rL = X := View.ld_unit_zero hz2 _ X
theorem ldW {e : EltTy} (X : Vec F S5120x640 e) : View.ld X rW = X := View.ld_unit_zero hz2 _ X
theorem ldS {e : EltTy} (X : Vec F S1x640 e) : View.ld X rS = X := View.ld_unit_zero hz2 _ X

/-- The first two windows' blocks are the whole arrays, at every point. -/
theorem iblk0_const (c : Dev nD) (t t' : Fin cfg0.N) : iblk m c 0 t = iblk m c 0 t' := rfl
theorem iblk1_const (c : Dev nD) (t t' : Fin cfg0.N) : iblk m c 1 t = iblk m c 1 t' := rfl
theorem COD_eq (c : Dev nD) (t : Fin cfg0.N) : COD m c = cod (iblk m c 0 t) (iblk m c 1 t) := rfl
theorem SCL_eq (c : Dev nD) (t : Fin cfg0.N) : SCL m c = scl (iblk m c 0 t) (iblk m c 1 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => act (COD m c) (SCL m c) (iblk m c 2 t) (iblk m c 3 t) (iblk m c 4 t) (iblk m c 5 t)
    | ⟨7, _⟩ => COD m c
    | ⟨8, _⟩ => SCL m c
    | ⟨9, _⟩ => mxAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = act (COD m c) (SCL m c) (iblk m c 2 t) (iblk m c 3 t) (iblk m c 4 t) (iblk m c 5 t) := by dsimp only [dats]
theorem after0_7 (c : Dev nD) (t : Fin cfg0.N) : (dats m 0 c).after 7 t = COD m c := by dsimp only [dats]
theorem after0_8 (c : Dev nD) (t : Fin cfg0.N) : (dats m 0 c).after 8 t = SCL m c := by dsimp only [dats]
theorem after0_9 (c : Dev nD) (t : Fin cfg0.N) : (dats m 0 c).after 9 t = mxAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fresh0_7 : ∀ t : Fin cfg0.N, cfg0.fresh 7 t.val = decide (t.val % 28 = 0) := fun t =>
  cfg0.fresh_tab 7 (fun n => decide (n % 28 = 0)) rfl
    (by simp only [Window.flush_eq_flushF]; exact (by decide +kernel : ∀ t : Fin cfg0.N, decide ((t.val + 1) % 28 = 0) = ((cfg0.win 7).flushF t || (cfg0.idle 7 (cfg0.grid.coords t) && decide (t.val % 28 = 0))))) t.val (Nat.le_of_lt t.isLt)

/-- Past the first point of a run, output window 7's buffer holds what the point before left. -/
theorem before0_7 (c : Dev nD) (t : Fin cfg0.N) (ht : ¬ t.val % 28 = 0) (d) :
    (dats m 0 c).before 7 t d = (dats m 0 c).after 7 ⟨t.val - 1, by have := t.isLt; omega⟩ := by
  rw [(dats m 0 c).before_out_traj 7 rfl (fun _ _ => rfl) (fun t ht hidle hfr => by rw [after0_7, after0_7]) t.val t rfl d, fresh0_7,
    if_neg (by simpa using ht)]

theorem fresh0_8 : ∀ t : Fin cfg0.N, cfg0.fresh 8 t.val = decide (t.val % 28 = 0) := fun t =>
  cfg0.fresh_tab 8 (fun n => decide (n % 28 = 0)) rfl
    (by simp only [Window.flush_eq_flushF]; exact (by decide +kernel : ∀ t : Fin cfg0.N, decide ((t.val + 1) % 28 = 0) = ((cfg0.win 8).flushF t || (cfg0.idle 8 (cfg0.grid.coords t) && decide (t.val % 28 = 0))))) t.val (Nat.le_of_lt t.isLt)

/-- Past the first point of a run, output window 8's buffer holds what the point before left. -/
theorem before0_8 (c : Dev nD) (t : Fin cfg0.N) (ht : ¬ t.val % 28 = 0) (d) :
    (dats m 0 c).before 8 t d = (dats m 0 c).after 8 ⟨t.val - 1, by have := t.isLt; omega⟩ := by
  rw [(dats m 0 c).before_out_traj 8 rfl (fun _ _ => rfl) (fun t ht hidle hfr => by rw [after0_8, after0_8]) t.val t rfl d, fresh0_8,
    if_neg (by simpa using ht)]

theorem fresh0_9 : ∀ t : Fin cfg0.N, cfg0.fresh 9 t.val = decide (t.val % 28 = 0) := fun t =>
  cfg0.fresh_tab 9 (fun n => decide (n % 28 = 0)) rfl
    (by simp only [Window.flush_eq_flushF]; exact (by decide +kernel : ∀ t : Fin cfg0.N, decide ((t.val + 1) % 28 = 0) = ((cfg0.win 9).flushF t || (cfg0.idle 9 (cfg0.grid.coords t) && decide (t.val % 28 = 0))))) t.val (Nat.le_of_lt t.isLt)

/-- Past the first point of a run, output window 9's buffer holds what the point before left. -/
theorem before0_9 (c : Dev nD) (t : Fin cfg0.N) (ht : ¬ t.val % 28 = 0) (d) :
    (dats m 0 c).before 9 t d = (dats m 0 c).after 9 ⟨t.val - 1, by have := t.isLt; omega⟩ := by
  rw [(dats m 0 c).before_out_traj 9 rfl (fun _ _ => rfl) (fun t ht hi => absurd hi (by exact Bool.false_ne_true)) t.val t rfl d, fresh0_9,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem carry0_7 (c : Dev nD) (t : Fin cfg0.N) (ht : ¬ t.val % 28 = 0) : (dats m 0 c).after 7 t = (dats m 0 c).after 7 ⟨t.val - 1, by have := t.isLt; omega⟩ := by rw [after0_7, after0_7]
theorem carry0_8 (c : Dev nD) (t : Fin cfg0.N) (ht : ¬ t.val % 28 = 0) : (dats m 0 c).after 8 t = (dats m 0 c).after 8 ⟨t.val - 1, by have := t.isLt; omega⟩ := by rw [after0_8, after0_8]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  rw [show (dats m 0 c).leavesExact 5 t = owns (c : Thread nD τ) (ms0_5 t) fullShare ((dats m 0 c).after 5 t) from by
    unfold Dat.leavesExact; rw [show cfg0.idle 5 (cfg0.grid.coords t) = false from rfl]]
/-- Leaving window 6's buffer at its value is leaving it as the proof data say. -/
theorem leaves0_6 (c : Dev nD) (t : Fin cfg0.N) : owns (c : Thread nD τ) (ms0_6 t) fullShare ((dats m 0 c).after 6 t) ⊢ (dats m 0 c).leavesExact 6 t := by
  rw [show (dats m 0 c).leavesExact 6 t = owns (c : Thread nD τ) (ms0_6 t) fullShare ((dats m 0 c).after 6 t) from by
    unfold Dat.leavesExact; rw [show cfg0.idle 6 (cfg0.grid.coords t) = false from rfl]]
/-- Leaving window 7's buffer at its value is leaving it as the proof data say. -/
theorem leaves0_7 (c : Dev nD) (t : Fin cfg0.N) : owns (c : Thread nD τ) (ms0_7 t) fullShare ((dats m 0 c).after 7 t) ⊢ (dats m 0 c).leavesExact 7 t := by
  cases hi : cfg0.idle 7 (cfg0.grid.coords t)
  · rw [show (dats m 0 c).leavesExact 7 t = owns (c : Thread nD τ) (ms0_7 t) fullShare ((dats m 0 c).after 7 t) from by
      unfold Dat.leavesExact; rw [hi]]
  · cases hf : (cfg0.win 7).flush t
    · rw [(dats m 0 c).leavesExact_idle 7 t hi hf]
      by_cases ht : t.val % 28 = 0
      · exact absurd hi (by rw [live0_7 t ht]; exact Bool.false_ne_true)
      · iintro H
        iexists (Classical.arbitrary _)
        rw [before0_7 m c t ht, ← carry0_7 m c t ht]
        iexact H
    · rw [show (dats m 0 c).leavesExact 7 t = owns (c : Thread nD τ) (ms0_7 t) fullShare ((dats m 0 c).after 7 t) from by
        unfold Dat.leavesExact; rw [hi, hf]]
/-- Leaving window 8's buffer at its value is leaving it as the proof data say. -/
theorem leaves0_8 (c : Dev nD) (t : Fin cfg0.N) : owns (c : Thread nD τ) (ms0_8 t) fullShare ((dats m 0 c).after 8 t) ⊢ (dats m 0 c).leavesExact 8 t := by
  cases hi : cfg0.idle 8 (cfg0.grid.coords t)
  · rw [show (dats m 0 c).leavesExact 8 t = owns (c : Thread nD τ) (ms0_8 t) fullShare ((dats m 0 c).after 8 t) from by
      unfold Dat.leavesExact; rw [hi]]
  · cases hf : (cfg0.win 8).flush t
    · rw [(dats m 0 c).leavesExact_idle 8 t hi hf]
      by_cases ht : t.val % 28 = 0
      · exact absurd hi (by rw [live0_8 t ht]; exact Bool.false_ne_true)
      · iintro H
        iexists (Classical.arbitrary _)
        rw [before0_8 m c t ht, ← carry0_8 m c t ht]
        iexact H
    · rw [show (dats m 0 c).leavesExact 8 t = owns (c : Thread nD τ) (ms0_8 t) fullShare ((dats m 0 c).after 8 t) from by
        unfold Dat.leavesExact; rw [hi, hf]]
/-- Leaving window 9's buffer at its value is leaving it as the proof data say. -/
theorem leaves0_9 (c : Dev nD) (t : Fin cfg0.N) : owns (c : Thread nD τ) (ms0_9 t) fullShare ((dats m 0 c).after 9 t) ⊢ (dats m 0 c).leavesExact 9 t := by
  rw [show (dats m 0 c).leavesExact 9 t = owns (c : Thread nD τ) (ms0_9 t) fullShare ((dats m 0 c).after 9 t) from by
    unfold Dat.leavesExact; rw [show cfg0.idle 9 (cfg0.grid.coords t) = false from rfl]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 28 := lt_of_lt_of_eq t.isLt (show cfg0.N = 28 from N_0)
  by_cases h0 : t.val % 28 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); rw [after0_5]; iexact H5
    isplitl [H6]; · iapply (leaves0_6 m c t); simp only [after0_6, COD_eq m c t, SCL_eq m c t, ldX]; iexact H6
    isplitl [H7]; · iapply (leaves0_7 m c t); rw [after0_7, COD_eq m c t]; iexact H7
    isplitl [H8]; · iapply (leaves0_8 m c t); rw [after0_8, SCL_eq m c t]; iexact H8
    iapply (leaves0_9 m c t); simp only [ldX, ldM]; rw [after0_9, mxAt_zero m c t h0, COD_eq m c t, SCL_eq m c t]; iexact H9
  · skip
    simp only [before0_7 m c t h0, before0_8 m c t h0, before0_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) ((dats m 0 c).after 7 ⟨t.val - 1, by have := t.isLt; omega⟩) ((dats m 0 c).after 8 ⟨t.val - 1, by have := t.isLt; omega⟩) ((dats m 0 c).after 9 ⟨t.val - 1, by have := t.isLt; omega⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); rw [after0_5]; iexact H5
    isplitl [H6]; · iapply (leaves0_6 m c t); simp only [after0_6, after0_7, after0_8, ldX]; iexact H6
    isplitl [H7]; · iapply (leaves0_7 m c t); simp only [after0_7]; iexact H7
    isplitl [H8]; · iapply (leaves0_8 m c t); simp only [after0_8]; iexact H8
    iapply (leaves0_9 m c t); simp only [after0_7, after0_8, after0_9, ldX, ldM]; rw [mxAt_succ m c t h0]; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.GateUp.Run

end
-- ==== Proof.GateUpRun.lean ====
/- The run of the program `GateUpIdeal`: what its body leaves in each window at each grid point, and the arrays after the last. -/
module

public import proofs.«01_k».proof.Proof.Gen.GateUpIdeal.Frame
public import proofs.«01_k».proof.Proof.Gen.GateUpIdeal.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x5120 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x640 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x640 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S224x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S224x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S224x128 .f32 := win0_9.stage (cfg0.slots t 9)
abbrev hs0_9 (t : Fin cfg0.N) : (ms0_9 t).IsWhole := hstage0_9 ((cfg0.slots t 9).cast nbuf0_9)

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S5120x640 := Rect.unit (s := S5120x640) ![0, 0] S5120x640.size inb_S5120x640_S5120x640_0_0
abbrev rS : Rect S1x640 := Rect.unit (s := S1x640) ![0, 0] S1x640.size inb_S1x640_S1x640_0_0
abbrev rC : Rect S224x128 := Rect.unit (s := S224x128) ![0, 0] S224x1.size inb_S224x128_S224x1_0_0
abbrev rM : Rect S224x128 := Rect.unit (s := S224x128) ![0, 0] S224x128.size inb_S224x128_S224x128_0_0

/-- The exponent field of the rows' scales after the seventh step of the search. -/
def fld (x0 : Vec F S224x5120 .f32) (x1 : Vec F S1x5120 .f32) : IVec S224x1 32 :=
  k0_pay7 (k0_pay3 (View.ld x0 rX) (View.ld x1 rL)) (k0_pay4 (View.ld x0 rX) (View.ld x1 rL)) (k0_pay5 (View.ld x0 rX) (View.ld x1 rL)) k0_pay6

/-- That field with the last bit set. -/
def fld' (x0 : Vec F S224x5120 .f32) (x1 : Vec F S1x5120 .f32) : IVec S224x1 32 :=
  k0_pay8 (k0_pay3 (View.ld x0 rX) (View.ld x1 rL)) (k0_pay4 (View.ld x0 rX) (View.ld x1 rL)) (k0_pay5 (View.ld x0 rX) (View.ld x1 rL)) k0_pay6

/-- The codes of the normalised rows. -/
def cod (x0 : Vec F S224x5120 .f32) (x1 : Vec F S1x5120 .f32) : Vec F S224x5120 .fp8e4m3 :=
  k0_pay11 (k0_pay2 (View.ld x0 rX) (View.ld x1 rL)) (k0_pay3 (View.ld x0 rX) (View.ld x1 rL)) (fld x0 x1) (fld' x0 x1) k0_pay9

/-- Their scales, one a row along 128 lanes. -/
def scl (x0 : Vec F S224x5120 .f32) (x1 : Vec F S1x5120 .f32) : Vec F S224x128 .f32 :=
  k0_pay12 (k0_pay3 (View.ld x0 rX) (View.ld x1 rL)) (fld x0 x1) (fld' x0 x1) k0_pay9

/-- One block of the gated activations, from the codes, the scales and the blocks of the weights. -/
def act (hc : Vec F S224x5120 .fp8e4m3) (hs : Vec F S224x128 .f32) (x2 x3 : Vec F S5120x640 .fp8e4m3) (x4 x5 : Vec F S1x640 .f32) : Vec F S224x640 .f32 :=
  k0_pay14 (View.ld hs rC) hc (View.ld x2 rW) (View.ld x4 rS) hc (View.ld x3 rW) (View.ld x5 rS)

/-- The running row maximum after that block. -/
def mx (prev : Vec F S224x128 .f32) (hc : Vec F S224x5120 .fp8e4m3) (hs : Vec F S224x128 .f32) (x2 x3 : Vec F S5120x640 .fp8e4m3) (x4 x5 : Vec F S1x640 .f32) : Vec F S224x128 .f32 :=
  k0_pay1 (k0_pay15 prev) (k0_pay16 (View.ld hs rC) hc (View.ld x2 rW) (View.ld x4 rS) hc (View.ld x3 rW) (View.ld x5 rS))

set_option maxHeartbeats 4000000 in
/-- The body's triple in case A: the inputs are left as they were, the outputs at the values named. -/
theorem runA (c : Dev nD) (i : grid0.Coords) (arg1 : Memref sig .tc .vmem S224x5120 .f32) (harg1 : arg1.IsWhole) (arg2 : Memref sig .tc .vmem S1x5120 .f32) (harg2 : arg2.IsWhole) (arg3 : Memref sig .tc .vmem S5120x640 .fp8e4m3) (harg3 : arg3.IsWhole) (arg4 : Memref sig .tc .vmem S5120x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S224x640 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (hc0 : cond0_0 i)
    (x0 : Vec F S224x5120 .f32) (x1 : Vec F S1x5120 .f32) (x2 : Vec F S5120x640 .fp8e4m3) (x3 : Vec F S5120x640 .fp8e4m3) (x4 : Vec F S1x640 .f32) (x5 : Vec F S1x640 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (act (View.ld (cod x0 x1) rX) (scl x0 x1) x2 x3 x4 x5) ∗ owns (c : Thread nD τ) arg8 fullShare (cod x0 x1) ∗ owns (c : Thread nD τ) arg9 fullShare (scl x0 x1) ∗ owns (c : Thread nD τ) arg10 fullShare (mx (View.ld k0_pay13 rM) (View.ld (cod x0 x1) rX) (scl x0 x1) x2 x3 x4 x5)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K := by
  simp only [cc0_gate_up_eq_skeleton]; unfold cc0_gate_up_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (rd_whole _ _ hz2 _ _ _).trans ?_
    unfold act
    congr 1 <;> first | rfl | exact cov_whole _ hz2 _ _ _ _
  isplitl [H7]
  · iexists _; isplitr
    swap; · iexact H7
    ipureintro
    refine (rd_whole _ _ hz2 _ _ _).trans ?_
    rfl
  isplitl [H8]
  · iexists _; isplitr
    swap; · iexact H8
    ipureintro
    refine (rd_whole _ _ hz2 _ _ _).trans ?_
    rfl
  iexists _; isplitr
  swap; · iexact H9
  ipureintro
  refine (rd_whole _ _ hz2 _ _ _).trans ?_
  unfold mx
  refine congrArg₂ k0_pay1 (congrArg k0_pay15 (cov_whole _ hz2 _ _ _ _)) ?_
  show k0_pay16 _ _ _ _ _ _ _ = _
  congr 1 <;> first | rfl | exact cov_whole _ hz2 _ _ _ _

set_option maxHeartbeats 4000000 in
/-- The body's triple in case B: the inputs are left as they were, the outputs at the values named. -/
theorem runB (c : Dev nD) (i : grid0.Coords) (arg1 : Memref sig .tc .vmem S224x5120 .f32) (harg1 : arg1.IsWhole) (arg2 : Memref sig .tc .vmem S1x5120 .f32) (harg2 : arg2.IsWhole) (arg3 : Memref sig .tc .vmem S5120x640 .fp8e4m3) (harg3 : arg3.IsWhole) (arg4 : Memref sig .tc .vmem S5120x640 .fp8e4m3) (harg4 : arg4.IsWhole) (arg5 : Memref sig .tc .vmem S1x640 .f32) (harg5 : arg5.IsWhole) (arg6 : Memref sig .tc .vmem S1x640 .f32) (harg6 : arg6.IsWhole) (arg7 : Memref sig .tc .vmem S224x640 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (hc0 : ¬ cond0_0 i)
    (x0 : Vec F S224x5120 .f32) (x1 : Vec F S1x5120 .f32) (x2 : Vec F S5120x640 .fp8e4m3) (x3 : Vec F S5120x640 .fp8e4m3) (x4 : Vec F S1x640 .f32) (x5 : Vec F S1x640 .f32) (x7 : Vec F S224x5120 .fp8e4m3) (x8 : Vec F S224x128 .f32) (x9 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare x8 ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (act (View.ld x7 rX) x8 x2 x3 x4 x5) ∗ owns (c : Thread nD τ) arg8 fullShare x7 ∗ owns (c : Thread nD τ) arg9 fullShare x8 ∗ owns (c : Thread nD τ) arg10 fullShare (mx (View.ld x9 rM) (View.ld x7 rX) x8 x2 x3 x4 x5)) -∗ K ⟨⟩))
      ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K := by
  simp only [cc0_gate_up_eq_skeleton]; unfold cc0_gate_up_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf0 hf1 hf2 hf3 hf4 hf5 hf7 hf8 hf9
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (rd_whole _ _ hz2 _ _ _).trans ?_
    rfl
  isplitl [H7]
  · iexists f7; isplitr; · ipureintro; rfl
    iexact H7
  isplitl [H8]
  · iexists f8; isplitr; · ipureintro; rfl
    iexact H8
  iexists _; isplitr
  swap; · iexact H9
  ipureintro
  refine (rd_whole _ _ hz2 _ _ _).trans ?_
  rfl

/-- The running row maximum after each point. -/
def mxAt (c : Dev nD) : (n : Nat) → n < cfg0.N → Vec F S224x128 .f32
  | 0, h => mx k0_pay13 (cod (iblk m c 0 ⟨0, h⟩) (iblk m c 1 ⟨0, h⟩)) (scl (iblk m c 0 ⟨0, h⟩) (iblk m c 1 ⟨0, h⟩)) (iblk m c 2 ⟨0, h⟩) (iblk m c 3 ⟨0, h⟩) (iblk m c 4 ⟨0, h⟩) (iblk m c 5 ⟨0, h⟩)
  | n + 1, h => mx (mxAt c n (Nat.lt_of_succ_lt h)) (cod (iblk m c 0 ⟨0, Nat.zero_lt_of_lt h⟩) (iblk m c 1 ⟨0, Nat.zero_lt_of_lt h⟩)) (scl (iblk m c 0 ⟨0, Nat.zero_lt_of_lt h⟩) (iblk m c 1 ⟨0, Nat.zero_lt_of_lt h⟩)) (iblk m c 2 ⟨n + 1, h⟩) (iblk m c 3 ⟨n + 1, h⟩) (iblk m c 4 ⟨n + 1, h⟩) (iblk m c 5 ⟨n + 1, h⟩)

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)

theorem mxAt_zero (c : Dev nD) (t : Fin cfg0.N) (ht : t.val % 28 = 0) :
    mxAt m c t.val t.isLt = mx k0_pay13 (COD m c) (SCL m c) (iblk m c 2 t) (iblk m c 3 t) (iblk m c 4 t) (iblk m c 5 t) := by
  have hN : t.val < 28 := lt_of_lt_of_eq t.isLt (show cfg0.N = 28 from N_0)
  obtain ⟨n, hn⟩ := t
  obtain rfl : n = 0 := by simp only at ht hN; omega
  rfl

theorem mxAt_succ (c : Dev nD) (t : Fin cfg0.N) (ht : ¬ t.val % 28 = 0) :
    mxAt m c t.val t.isLt = mx (mxAt m c (t.val - 1) (by have := t.isLt; omega)) (COD m c) (SCL m c) (iblk m c 2 t) (iblk m c 3 t) (iblk m c 4 t) (iblk m c 5 t) := by
  obtain ⟨n, hn⟩ := t
  cases n with
  | zero => exact absurd rfl ht
  | succ n => rfl

theorem live0_7 : ∀ t : Fin cfg0.N, t.val % 28 = 0 → cfg0.idle 7 (cfg0.grid.coords t) = false := by decide +kernel
theorem live0_8 : ∀ t : Fin cfg0.N, t.val % 28 = 0 → cfg0.idle 8 (cfg0.grid.coords t) = false := by decide +kernel

theorem ldX {e : EltTy} (X : Vec F S224x5120 e) : View.ld X rX = X := View.ld_unit_zero hz2 _ X
theorem ldM {e : EltTy} (X : Vec F S224x128 e) : View.ld X rM = X := View.ld_unit_zero hz2 _ X
theorem ldL {e : EltTy} (X : Vec F S1x5120 e) : View.ld X rL = X := View.ld_unit_zero hz2 _ X
theorem ldW {e : EltTy} (X : Vec F S5120x640 e) : View.ld X rW = X := View.ld_unit_zero hz2 _ X
theorem ldS {e : EltTy} (X : Vec F S1x640 e) : View.ld X rS = X := View.ld_unit_zero hz2 _ X

/-- The first two windows' blocks are the whole arrays, at every point. -/
theorem iblk0_const (c : Dev nD) (t t' : Fin cfg0.N) : iblk m c 0 t = iblk m c 0 t' := rfl
theorem iblk1_const (c : Dev nD) (t t' : Fin cfg0.N) : iblk m c 1 t = iblk m c 1 t' := rfl
theorem COD_eq (c : Dev nD) (t : Fin cfg0.N) : COD m c = cod (iblk m c 0 t) (iblk m c 1 t) := rfl
theorem SCL_eq (c : Dev nD) (t : Fin cfg0.N) : SCL m c = scl (iblk m c 0 t) (iblk m c 1 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => act (COD m c) (SCL m c) (iblk m c 2 t) (iblk m c 3 t) (iblk m c 4 t) (iblk m c 5 t)
    | ⟨7, _⟩ => COD m c
    | ⟨8, _⟩ => SCL m c
    | ⟨9, _⟩ => mxAt m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = act (COD m c) (SCL m c) (iblk m c 2 t) (iblk m c 3 t) (iblk m c 4 t) (iblk m c 5 t) := by dsimp only [dats]
theorem after0_7 (c : Dev nD) (t : Fin cfg0.N) : (dats m 0 c).after 7 t = COD m c := by dsimp only [dats]
theorem after0_8 (c : Dev nD) (t : Fin cfg0.N) : (dats m 0 c).after 8 t = SCL m c := by dsimp only [dats]
theorem after0_9 (c : Dev nD) (t : Fin cfg0.N) : (dats m 0 c).after 9 t = mxAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem fresh0_7 : ∀ t : Fin cfg0.N, cfg0.fresh 7 t.val = decide (t.val % 28 = 0) := fun t =>
  cfg0.fresh_tab 7 (fun n => decide (n % 28 = 0)) rfl
    (by simp only [Window.flush_eq_flushF]; exact (by decide +kernel : ∀ t : Fin cfg0.N, decide ((t.val + 1) % 28 = 0) = ((cfg0.win 7).flushF t || (cfg0.idle 7 (cfg0.grid.coords t) && decide (t.val % 28 = 0))))) t.val (Nat.le_of_lt t.isLt)

/-- Past the first point of a run, output window 7's buffer holds what the point before left. -/
theorem before0_7 (c : Dev nD) (t : Fin cfg0.N) (ht : ¬ t.val % 28 = 0) (d) :
    (dats m 0 c).before 7 t d = (dats m 0 c).after 7 ⟨t.val - 1, by have := t.isLt; omega⟩ := by
  rw [(dats m 0 c).before_out_traj 7 rfl (fun _ _ => rfl) (fun t ht hidle hfr => by rw [after0_7, after0_7]) t.val t rfl d, fresh0_7,
    if_neg (by simpa using ht)]

theorem fresh0_8 : ∀ t : Fin cfg0.N, cfg0.fresh 8 t.val = decide (t.val % 28 = 0) := fun t =>
  cfg0.fresh_tab 8 (fun n => decide (n % 28 = 0)) rfl
    (by simp only [Window.flush_eq_flushF]; exact (by decide +kernel : ∀ t : Fin cfg0.N, decide ((t.val + 1) % 28 = 0) = ((cfg0.win 8).flushF t || (cfg0.idle 8 (cfg0.grid.coords t) && decide (t.val % 28 = 0))))) t.val (Nat.le_of_lt t.isLt)

/-- Past the first point of a run, output window 8's buffer holds what the point before left. -/
theorem before0_8 (c : Dev nD) (t : Fin cfg0.N) (ht : ¬ t.val % 28 = 0) (d) :
    (dats m 0 c).before 8 t d = (dats m 0 c).after 8 ⟨t.val - 1, by have := t.isLt; omega⟩ := by
  rw [(dats m 0 c).before_out_traj 8 rfl (fun _ _ => rfl) (fun t ht hidle hfr => by rw [after0_8, after0_8]) t.val t rfl d, fresh0_8,
    if_neg (by simpa using ht)]

theorem fresh0_9 : ∀ t : Fin cfg0.N, cfg0.fresh 9 t.val = decide (t.val % 28 = 0) := fun t =>
  cfg0.fresh_tab 9 (fun n => decide (n % 28 = 0)) rfl
    (by simp only [Window.flush_eq_flushF]; exact (by decide +kernel : ∀ t : Fin cfg0.N, decide ((t.val + 1) % 28 = 0) = ((cfg0.win 9).flushF t || (cfg0.idle 9 (cfg0.grid.coords t) && decide (t.val % 28 = 0))))) t.val (Nat.le_of_lt t.isLt)

/-- Past the first point of a run, output window 9's buffer holds what the point before left. -/
theorem before0_9 (c : Dev nD) (t : Fin cfg0.N) (ht : ¬ t.val % 28 = 0) (d) :
    (dats m 0 c).before 9 t d = (dats m 0 c).after 9 ⟨t.val - 1, by have := t.isLt; omega⟩ := by
  rw [(dats m 0 c).before_out_traj 9 rfl (fun _ _ => rfl) (fun t ht hi => absurd hi (by exact Bool.false_ne_true)) t.val t rfl d, fresh0_9,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem carry0_7 (c : Dev nD) (t : Fin cfg0.N) (ht : ¬ t.val % 28 = 0) : (dats m 0 c).after 7 t = (dats m 0 c).after 7 ⟨t.val - 1, by have := t.isLt; omega⟩ := by rw [after0_7, after0_7]
theorem carry0_8 (c : Dev nD) (t : Fin cfg0.N) (ht : ¬ t.val % 28 = 0) : (dats m 0 c).after 8 t = (dats m 0 c).after 8 ⟨t.val - 1, by have := t.isLt; omega⟩ := by rw [after0_8, after0_8]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  rw [show (dats m 0 c).leavesExact 5 t = owns (c : Thread nD τ) (ms0_5 t) fullShare ((dats m 0 c).after 5 t) from by
    unfold Dat.leavesExact; rw [show cfg0.idle 5 (cfg0.grid.coords t) = false from rfl]]
/-- Leaving window 6's buffer at its value is leaving it as the proof data say. -/
theorem leaves0_6 (c : Dev nD) (t : Fin cfg0.N) : owns (c : Thread nD τ) (ms0_6 t) fullShare ((dats m 0 c).after 6 t) ⊢ (dats m 0 c).leavesExact 6 t := by
  rw [show (dats m 0 c).leavesExact 6 t = owns (c : Thread nD τ) (ms0_6 t) fullShare ((dats m 0 c).after 6 t) from by
    unfold Dat.leavesExact; rw [show cfg0.idle 6 (cfg0.grid.coords t) = false from rfl]]
/-- Leaving window 7's buffer at its value is leaving it as the proof data say. -/
theorem leaves0_7 (c : Dev nD) (t : Fin cfg0.N) : owns (c : Thread nD τ) (ms0_7 t) fullShare ((dats m 0 c).after 7 t) ⊢ (dats m 0 c).leavesExact 7 t := by
  cases hi : cfg0.idle 7 (cfg0.grid.coords t)
  · rw [show (dats m 0 c).leavesExact 7 t = owns (c : Thread nD τ) (ms0_7 t) fullShare ((dats m 0 c).after 7 t) from by
      unfold Dat.leavesExact; rw [hi]]
  · cases hf : (cfg0.win 7).flush t
    · rw [(dats m 0 c).leavesExact_idle 7 t hi hf]
      by_cases ht : t.val % 28 = 0
      · exact absurd hi (by rw [live0_7 t ht]; exact Bool.false_ne_true)
      · iintro H
        iexists (Classical.arbitrary _)
        rw [before0_7 m c t ht, ← carry0_7 m c t ht]
        iexact H
    · rw [show (dats m 0 c).leavesExact 7 t = owns (c : Thread nD τ) (ms0_7 t) fullShare ((dats m 0 c).after 7 t) from by
        unfold Dat.leavesExact; rw [hi, hf]]
/-- Leaving window 8's buffer at its value is leaving it as the proof data say. -/
theorem leaves0_8 (c : Dev nD) (t : Fin cfg0.N) : owns (c : Thread nD τ) (ms0_8 t) fullShare ((dats m 0 c).after 8 t) ⊢ (dats m 0 c).leavesExact 8 t := by
  cases hi : cfg0.idle 8 (cfg0.grid.coords t)
  · rw [show (dats m 0 c).leavesExact 8 t = owns (c : Thread nD τ) (ms0_8 t) fullShare ((dats m 0 c).after 8 t) from by
      unfold Dat.leavesExact; rw [hi]]
  · cases hf : (cfg0.win 8).flush t
    · rw [(dats m 0 c).leavesExact_idle 8 t hi hf]
      by_cases ht : t.val % 28 = 0
      · exact absurd hi (by rw [live0_8 t ht]; exact Bool.false_ne_true)
      · iintro H
        iexists (Classical.arbitrary _)
        rw [before0_8 m c t ht, ← carry0_8 m c t ht]
        iexact H
    · rw [show (dats m 0 c).leavesExact 8 t = owns (c : Thread nD τ) (ms0_8 t) fullShare ((dats m 0 c).after 8 t) from by
        unfold Dat.leavesExact; rw [hi, hf]]
/-- Leaving window 9's buffer at its value is leaving it as the proof data say. -/
theorem leaves0_9 (c : Dev nD) (t : Fin cfg0.N) : owns (c : Thread nD τ) (ms0_9 t) fullShare ((dats m 0 c).after 9 t) ⊢ (dats m 0 c).leavesExact 9 t := by
  rw [show (dats m 0 c).leavesExact 9 t = owns (c : Thread nD τ) (ms0_9 t) fullShare ((dats m 0 c).after 9 t) from by
    unfold Dat.leavesExact; rw [show cfg0.idle 9 (cfg0.grid.coords t) = false from rfl]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  have hN : t.val < 28 := lt_of_lt_of_eq t.isLt (show cfg0.N = 28 from N_0)
  by_cases h0 : t.val % 28 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); rw [after0_5]; iexact H5
    isplitl [H6]; · iapply (leaves0_6 m c t); simp only [after0_6, COD_eq m c t, SCL_eq m c t, ldX]; iexact H6
    isplitl [H7]; · iapply (leaves0_7 m c t); rw [after0_7, COD_eq m c t]; iexact H7
    isplitl [H8]; · iapply (leaves0_8 m c t); rw [after0_8, SCL_eq m c t]; iexact H8
    iapply (leaves0_9 m c t); simp only [ldX, ldM]; rw [after0_9, mxAt_zero m c t h0, COD_eq m c t, SCL_eq m c t]; iexact H9
  · skip
    simp only [before0_7 m c t h0, before0_8 m c t h0, before0_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) ((dats m 0 c).after 7 ⟨t.val - 1, by have := t.isLt; omega⟩) ((dats m 0 c).after 8 ⟨t.val - 1, by have := t.isLt; omega⟩) ((dats m 0 c).after 9 ⟨t.val - 1, by have := t.isLt; omega⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); rw [after0_5]; iexact H5
    isplitl [H6]; · iapply (leaves0_6 m c t); simp only [after0_6, after0_7, after0_8, ldX]; iexact H6
    isplitl [H7]; · iapply (leaves0_7 m c t); simp only [after0_7]; iexact H7
    isplitl [H8]; · iapply (leaves0_8 m c t); simp only [after0_8]; iexact H8
    iapply (leaves0_9 m c t); simp only [after0_7, after0_8, after0_9, ldX, ldM]; rw [mxAt_succ m c t h0]; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

end Cert.GateUpIdeal.Run

end
-- ==== Proof.Exponent.lean ====
/- The exponent of a row's scale: the kernel's binary search among the powers of two against the logarithm, over the extended reals. -/
module

public import Idealize.ShloMosaic.PureOps.Ideal.Laws
public import Idealize.ShloMosaic.PureOps.IdealRules
public import Mathlib.Analysis.SpecialFunctions.Log.Basic

@[expose] public section

noncomputable section

namespace Cert.Exponent

open Idealize.ShloMosaic

/-- The float whose pattern is the integer shifted into the exponent field. -/
def pat (n : BitVec 32) : EReal := Ideal.ofBits .f32 (IntOp.shli .vector n 23#32)

/-- What that pattern denotes. -/
def patN (n : ℕ) : EReal := if n = 0 then 0 else if n = 255 then ⊤ else (((2 : ℝ) ^ ((n : ℤ) - 127) : ℝ) : EReal)

theorem shl_fields : ∀ n : Fin 256, ((BitVec.ofNat 32 n.val <<< 23#32).extractLsb' 23 8).toNat = n.val
    ∧ ((BitVec.ofNat 32 n.val <<< 23#32).extractLsb' 0 23).toNat = 0 ∧ ((BitVec.ofNat 32 n.val <<< 23#32).extractLsb' 31 1 == 1#1) = false := by
  decide +kernel

theorem pat_ofNat (n : ℕ) (h : n < 256) : pat (BitVec.ofNat 32 n) = patN n := by
  obtain ⟨h1, h2, h3⟩ := shl_fields ⟨n, h⟩
  have hs : IntOp.shli .vector (BitVec.ofNat 32 n) 23#32 = BitVec.ofNat 32 n <<< 23#32 := by
    have hlt : (23#32).toNat < 32 := by decide
    simp only [IntOp.shli, hlt, if_true]
  have hsub : (2 : ℝ) ^ ((n : ℤ) - 127 - ((23 : ℕ) : ℤ)) * (2 : ℝ) ^ ((23 : ℕ) : ℤ) = 2 ^ ((n : ℤ) - 127) := by
    rw [← zpow_add₀ (by norm_num), sub_add_cancel]
  unfold pat patN
  rw [hs]
  simp only [Ideal.ofBits, Ideal.ieee]
  dsimp only at h1 h2 h3
  rw [h1, h2, h3]
  by_cases h0 : n = 0
  · subst h0; simp
  by_cases h255 : n = 255
  · subst h255; simp
  · rw [if_neg (by omega), if_neg h0, if_neg h0, if_neg h255]
    rw [← hsub]
    have h23 : (2 : ℝ) ^ ((23 : ℕ) : ℤ) = 8388608 := by rw [zpow_natCast]; norm_num
    rw [h23]
    refine congrArg _ ?_
    norm_num
    ring

/-- One step of the search. -/
def step (t : EReal) (f b : BitVec 32) : BitVec 32 := Scalar.select (Ideal.cmp .oge t (pat (f + b))) (f + b) f

/-- The exponent field of `t`, by eight steps. -/
def field (t : EReal) : BitVec 32 :=
  step t (step t (step t (step t (step t (step t (step t (step t 0#32 128#32) 64#32) 32#32) 16#32) 8#32) 4#32) 2#32) 1#32

/-- The exponent of the scale, from the field. -/
def expo (f : BitVec 32) : BitVec 32 :=
  Scalar.select (IntOp.cmpi .eq (IntOp.minsi f 246#32) 0#32) 0#32 (IntOp.minsi f 246#32 - 126#32)

/-- The scale and its inverse, as the kernel makes them. -/
def kscale (t : EReal) : EReal := pat (expo (field t) + 127#32)
def kinv (t : EReal) : EReal := pat (0#32 - expo (field t) + 127#32)

/-- The exponent by the logarithm. -/
def rexp (t : EReal) : EReal :=
  Scalar.select (Ideal.cmp .olt t (Ideal.ofBits .f32 0x00800000#32)) (Ideal.ofBits .f32 0x00000000#32)
    (min (Ideal.liftRound Int.floor (Ideal.div (Ideal.log t) ((Real.log 2 : ℝ) : EReal)) + Ideal.ofBits .f32 0x3F800000#32) (Ideal.ofBits .f32 0x42F00000#32))

def stepN (t : EReal) (f b : ℕ) : ℕ := if patN (f + b) ≤ t then f + b else f

theorem step_ofNat (t : EReal) (f b : ℕ) (h : f + b < 256) : step t (BitVec.ofNat 32 f) (BitVec.ofNat 32 b) = BitVec.ofNat 32 (stepN t f b) := by
  unfold step stepN
  rw [← BitVec.ofNat_add, pat_ofNat _ h]
  by_cases hc : patN (f + b) ≤ t
  · rw [if_pos hc]; simp [Scalar.select, Ideal.cmp, hc]
  · rw [if_neg hc]; simp [Scalar.select, Ideal.cmp, hc]

/-- What the search keeps: the field found so far is at or below `t`, the field `w` further above it. -/
def Inv (t : EReal) (f w : ℕ) : Prop := patN f ≤ t ∧ f + w ≤ 256 ∧ (f + w = 256 ∨ t < patN (f + w))

theorem inv_step {t : EReal} {f : ℕ} (b : ℕ) (h : Inv t f (2 * b)) : Inv t (stepN t f b) b := by
  obtain ⟨h1, h2, h3⟩ := h
  unfold stepN
  by_cases hc : patN (f + b) ≤ t
  · rw [if_pos hc]; exact ⟨hc, by omega, by rwa [show f + b + b = f + 2 * b by ring]⟩
  · rw [if_neg hc]; exact ⟨h1, by omega, .inr (not_le.mp hc)⟩

theorem field_spec (t : EReal) (ht : 0 ≤ t) : ∃ f : ℕ, field t = BitVec.ofNat 32 f ∧ Inv t f 1 := by
  have i0 : Inv t 0 (2 * 128) := ⟨by simpa [patN] using ht, by omega, .inl (by omega)⟩
  have i1 := inv_step 128 i0
  have i2 := inv_step 64 i1
  have i3 := inv_step 32 i2
  have i4 := inv_step 16 i3
  have i5 := inv_step 8 i4
  have i6 := inv_step 4 i5
  have i7 := inv_step 2 i6
  have i8 := inv_step 1 i7
  refine ⟨_, ?_, i8⟩
  have k1 := i1.2.1; have k2 := i2.2.1; have k3 := i3.2.1; have k4 := i4.2.1; have k5 := i5.2.1; have k6 := i6.2.1; have k7 := i7.2.1
  unfold field
  rw [step_ofNat t 0 128 (by omega), step_ofNat t _ 64 (by omega), step_ofNat t _ 32 (by omega), step_ofNat t _ 16 (by omega),
    step_ofNat t _ 8 (by omega), step_ofNat t _ 4 (by omega), step_ofNat t _ 2 (by omega), step_ofNat t _ 1 (by omega)]

theorem expo_words : ∀ f : Fin 256,
    expo (BitVec.ofNat 32 f.val) + 127#32 = BitVec.ofNat 32 (if f.val = 0 then 127 else min f.val 246 + 1)
    ∧ 0#32 - expo (BitVec.ofNat 32 f.val) + 127#32 = BitVec.ofNat 32 (if f.val = 0 then 127 else 253 - min f.val 246) := by
  decide +kernel

/-- The exponent as an integer, from the field. -/
def expZ (f : ℕ) : ℤ := if f = 0 then 0 else min (f : ℤ) 246 - 126

theorem patN_mid (n : ℕ) (h0 : n ≠ 0) (h1 : n ≠ 255) : patN n = (((2 : ℝ) ^ ((n : ℤ) - 127) : ℝ) : EReal) := by
  unfold patN; rw [if_neg h0, if_neg h1]

theorem kscale_eq {t : EReal} {f : ℕ} (hf : f < 256) (h : field t = BitVec.ofNat 32 f) :
    kscale t = (((2 : ℝ) ^ expZ f : ℝ) : EReal) ∧ kinv t = (((2 : ℝ) ^ (-expZ f) : ℝ) : EReal) := by
  obtain ⟨e1, e2⟩ := expo_words ⟨f, hf⟩
  unfold kscale kinv
  rw [h]
  dsimp only at e1 e2
  rw [e1, e2]
  unfold expZ
  by_cases h0 : f = 0
  · subst h0
    simp only [if_true]
    rw [pat_ofNat 127 (by omega), patN_mid 127 (by omega) (by omega)]
    norm_num
  · simp only [if_neg h0]
    rw [pat_ofNat _ (by omega), pat_ofNat _ (by omega), patN_mid _ (by omega) (by omega), patN_mid _ (by omega) (by omega)]
    constructor
    · congr 2; omega
    · congr 2; omega

theorem lit_one : Ideal.ofBits .f32 0x3F800000#32 = ((1 : ℝ) : EReal) := by
  simp [Ideal.ofBits, Ideal.ieee, -EReal.coe_mul]; norm_num
theorem lit_120 : Ideal.ofBits .f32 0x42F00000#32 = ((120 : ℝ) : EReal) := by
  simp [Ideal.ofBits, Ideal.ieee, -EReal.coe_mul]; norm_num
theorem lit_tiny : Ideal.ofBits .f32 0x00800000#32 = patN 1 := by
  rw [← pat_ofNat 1 (by omega)]
  unfold pat
  congr 1
theorem lit_zero : Ideal.ofBits .f32 0x00000000#32 = 0 := Ideal.ofBits_zero_f32

theorem rexp_eq {t : EReal} {f : ℕ} (hi : Inv t f 1) : rexp t = ((expZ f : ℝ) : EReal) := by
  obtain ⟨h1, h2, h3⟩ := hi
  unfold rexp
  rw [lit_tiny, lit_zero, lit_one, lit_120]
  by_cases ht : t < patN 1
  · have hf : f = 0 := by
      by_contra h0
      refine absurd (lt_of_le_of_lt h1 ht) (not_lt.mpr ?_)
      by_cases h255 : f = 255
      · subst h255; simp [patN]
      · rw [patN_mid 1 (by omega) (by omega), patN_mid f h0 h255]
        exact EReal.coe_le_coe_iff.mpr (zpow_le_zpow_right₀ (by norm_num) (by omega))
    subst hf
    simp [Scalar.select, Ideal.cmp, ht, expZ]
  · have hge : patN 1 ≤ t := not_lt.mp ht
    have hf : f ≠ 0 := by
      rintro rfl
      rcases h3 with h | h
      · omega
      · exact ht h
    have hsel : Scalar.select (Ideal.cmp .olt t (patN 1)) (0 : EReal) = fun x => x := by
      funext x; simp [Scalar.select, Ideal.cmp, ht]
    have hl2 : (0 : ℝ) < Real.log 2 := Real.log_pos (by norm_num)
    rw [hsel, Ideal.div_coe hl2.ne']
    unfold expZ
    rw [if_neg hf]
    induction t using EReal.rec with
    | bot =>
      rw [patN_mid 1 (by omega) (by omega)] at hge
      exact absurd hge (not_le.mpr (EReal.bot_lt_coe _))
    | top =>
      have hf255 : f = 255 := by
        rcases h3 with h | h
        · omega
        · exact absurd h (not_lt.mpr le_top)
      subst hf255
      rw [Ideal.log_top, EReal.top_mul_coe_of_pos (by positivity), Ideal.liftRound_top, EReal.top_add_coe, min_eq_right le_top]
      norm_num
    | coe r =>
      have h255 : f ≠ 255 := by
        rintro rfl
        simp [patN] at h1
      rw [patN_mid f hf h255] at h1
      have h1' : (2 : ℝ) ^ ((f : ℤ) - 127) ≤ r := EReal.coe_le_coe_iff.mp h1
      have hr : 0 < r := lt_of_lt_of_le (by positivity) h1'
      rw [Ideal.log_coe, if_neg (not_le.mpr hr), ← EReal.coe_mul, Ideal.liftRound_coe, ← EReal.coe_add]
      rw [mul_one_div]
      have lo : (f : ℤ) - 127 ≤ ⌊Real.log r / Real.log 2⌋ := by
        rw [Int.le_floor, le_div_iff₀ hl2, ← Real.log_zpow]
        exact Real.log_le_log (by positivity) h1'
      have up : f < 254 → ⌊Real.log r / Real.log 2⌋ < (f : ℤ) - 126 := fun hlt => by
        rcases h3 with h | h
        · omega
        · rw [patN_mid (f + 1) (by omega) (by omega)] at h
          have h' : r < (2 : ℝ) ^ (((f + 1 : ℕ) : ℤ) - 127) := EReal.coe_lt_coe_iff.mp h
          have he : (f : ℤ) - 126 = ((f + 1 : ℕ) : ℤ) - 127 := by push_cast; ring
          rw [Int.floor_lt, div_lt_iff₀ hl2, ← Real.log_zpow, he]
          exact Real.log_lt_log hr h'
      have hm : min (((⌊Real.log r / Real.log 2⌋ : ℝ) + 1 : ℝ) : EReal) ((120 : ℝ) : EReal) = ((min ((⌊Real.log r / Real.log 2⌋ : ℝ) + 1) 120 : ℝ) : EReal) :=
        (EReal.coe_strictMono.monotone.map_min).symm
      rw [hm]
      have hz : min (⌊Real.log r / Real.log 2⌋ + 1) 120 = min (f : ℤ) 246 - 126 := by
        by_cases hlt : f < 254
        · have := up hlt; omega
        · omega
      rw [← hz]
      push_cast
      rfl

theorem exp2_int (z : ℤ) : Ideal.exp2 ((z : ℝ) : EReal) = (((2 : ℝ) ^ z : ℝ) : EReal) := by
  rw [Ideal.exp2_coe]; congr 1; exact Real.rpow_intCast 2 z

theorem patN_nonneg (n : ℕ) : 0 ≤ patN n := by
  unfold patN
  split
  · exact le_rfl
  · split
    · exact le_top
    · exact EReal.coe_nonneg.mpr (by positivity)

theorem step_neg {t : EReal} (ht : t < 0) (b : ℕ) (hb : b < 256) : step t (BitVec.ofNat 32 0) (BitVec.ofNat 32 b) = BitVec.ofNat 32 0 := by
  rw [step_ofNat t 0 b (by omega)]
  unfold stepN
  rw [if_neg (not_le.mpr (ht.trans_le (patN_nonneg _)))]

/-- Below zero the search finds nothing. -/
theorem field_neg {t : EReal} (ht : t < 0) : field t = BitVec.ofNat 32 0 := by
  unfold field
  rw [show (0#32 : BitVec 32) = BitVec.ofNat 32 0 from rfl, step_neg ht 128 (by omega), step_neg ht 64 (by omega), step_neg ht 32 (by omega), step_neg ht 16 (by omega),
    step_neg ht 8 (by omega), step_neg ht 4 (by omega), step_neg ht 2 (by omega), step_neg ht 1 (by omega)]

theorem rexp_neg {t : EReal} (ht : t < 0) : rexp t = ((expZ 0 : ℝ) : EReal) := by
  unfold rexp
  rw [lit_tiny, lit_zero]
  have h1 : t < patN 1 := ht.trans_le (patN_nonneg 1)
  simp [Scalar.select, Ideal.cmp, h1, expZ]

theorem exponents (t : EReal) : ∃ f : ℕ, f < 256 ∧ field t = BitVec.ofNat 32 f ∧ rexp t = ((expZ f : ℝ) : EReal) := by
  rcases lt_or_ge t 0 with ht | ht
  · exact ⟨0, by omega, field_neg ht, rexp_neg ht⟩
  · obtain ⟨f, hf, hi⟩ := field_spec t ht
    exact ⟨f, by have := hi.2.1; omega, hf, rexp_eq hi⟩

/-- The kernel's scale is the power of two of the exponent by the logarithm, and its inverse the power of the negated exponent. -/
theorem kscale_exp2 (t : EReal) : kscale t = Ideal.exp2 (rexp t) := by
  obtain ⟨f, hl, hf, hi⟩ := exponents t
  rw [(kscale_eq hl hf).1, hi, exp2_int]

theorem kinv_exp2 (t : EReal) : kinv t = Ideal.exp2 (0 - rexp t) := by
  obtain ⟨f, hl, hf, hi⟩ := exponents t
  rw [(kscale_eq hl hf).2, hi, zero_sub, ← EReal.coe_neg, ← Int.cast_neg, exp2_int]

end Cert.Exponent

end

end
-- ==== Proof.Rows.lean ====
/- Rows of extended reals: normalising, quantising, products with a weight matrix, row maxima; and the vector operations read at an index. -/
module

public import proofs.«01_k».proof.Proof.Exponent
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Rows

open Idealize.ShloMosaic Idealize.ShloMosaic.ValueIdx Cert.Exponent
open scoped BigOperators

/-! ## The vector operations read at an index -/

variable {M K N : ℕ} {φ : FTy}

/-- The greatest of a row, from minus infinity. -/
def rmax (f : Fin K → EReal) : EReal := (Finset.univ : Finset (Fin K)).fold max ⊥ f

/-- An index of a matrix is a row and a column. -/
theorem ex2 (j : (⟨2, ![M, N]⟩ : Shape).Idx) : ∃ (r : Fin M) (k : Fin N), j = ix2 r k := ⟨j 0, j 1, eq_ix2 j⟩

theorem lit_bot : Ideal.ofBits .f32 0xFF800000#32 = ⊥ := by
  simp [Ideal.ofBits, Ideal.ieee]

theorem reduce_max (src : FVec Ideal ⟨2, ![M, K]⟩ .f32) (h : Shape.Reduces ⟨2, ![M, K]⟩ [1] ⟨1, ![M]⟩) (hφ : FKind.Formats .f32)
    (hacc : (0xFF800000#32 : BitVec 32) = FKind.maximumf.neutral .f32 hφ) (r : Fin M) :
    multiReduction .maximumf [1] ⟨1, ![M]⟩ src 0xFF800000#32 h hφ hacc (ix1 r) = rmax fun k : Fin K => src (ix2 r k) := by
  rw [Ideal.multiReduction_maximumf_single]
  show Finset.fold max (Ideal.ofBits .f32 0xFF800000#32) _ _ = _
  rw [lit_bot]
  unfold rmax
  refine congrArg (fun g => Finset.fold max ⊥ g Finset.univ) (funext fun k => ?_)
  show src (h.lift (ix1 r) k) = src (ix2 r k)
  congr 1
  funext a
  match a with
  | ⟨0, _⟩ => rfl
  | ⟨1, _⟩ => rfl

theorem reduce_add (src : FVec Ideal ⟨2, ![M, K]⟩ .f32) (h : Shape.Reduces ⟨2, ![M, K]⟩ [1] ⟨1, ![M]⟩) (hφ : FKind.Formats .f32)
    (hacc : (0x00000000#32 : BitVec 32) = FKind.add.neutral .f32 hφ) (r : Fin M) :
    multiReduction .add [1] ⟨1, ![M]⟩ src 0x00000000#32 h hφ hacc (ix1 r) = ∑ k : Fin K, src (ix2 r k) := by
  rw [Ideal.multiReduction_add_single]
  refine Finset.sum_congr rfl fun k _ => ?_
  congr 1
  funext a
  match a with
  | ⟨0, _⟩ => rfl
  | ⟨1, _⟩ => rfl

theorem bcast_col {α : Type} (v : (⟨2, ![M, 1]⟩ : Shape).Idx → α) (h : (⟨2, ![M, 1]⟩ : Shape).Broadcasts ⟨2, ![M, N]⟩) (r : Fin M) (c : Fin N) :
    broadcastTo ⟨2, ![M, N]⟩ v h (ix2 r c) = v (ix2 r 0) := by
  refine broadcastTo_apply v h _ _ fun a => ?_
  match a with
  | ⟨0, _⟩ =>
    by_cases hM : M = 1
    · subst hM; simp [ix2]
    · simp [ix2, hM]
  | ⟨1, _⟩ => simp [ix2]

theorem bcast_row {α : Type} (v : (⟨2, ![1, N]⟩ : Shape).Idx → α) (h : (⟨2, ![1, N]⟩ : Shape).Broadcasts ⟨2, ![M, N]⟩) (r : Fin M) (c : Fin N) :
    broadcastTo ⟨2, ![M, N]⟩ v h (ix2 r c) = v (ix2 0 c) := broadcastTo_1b_ab_apply v h r c

theorem cast_col {α : Type} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) := shapeCast_a_a1_apply x h r 0

theorem mm {φ₁ φ₂ : FTy} (d : DotDims ⟨2, ![M, K]⟩ ⟨2, ![K, N]⟩ ⟨2, ![M, N]⟩) (hd : d = DotDims.plain M K N) (prec : Option ContractPrecision)
    (lhs : FVec Ideal ⟨2, ![M, K]⟩ φ₁) (rhs : FVec Ideal ⟨2, ![K, N]⟩ φ₂) (r : Fin M) (n : Fin N) :
    matmul d prec lhs rhs (constant ⟨2, ![M, N]⟩ .f32 0x00000000#32) (ix2 r n) = ∑ k : Fin K, lhs (ix2 r k) * rhs (ix2 k n) := by
  subst hd
  refine (Ideal.matmul_plain_apply _ _ _ _ _ _).trans ?_
  rw [constant_apply]
  refine (congrArg (fun z : EReal => z + _) (Ideal.ofBits_zero_f32)).trans (zero_add _)

/-! Stated for arbitrary operands, so that a rewrite by them never opens an operand. -/

theorem mul_at {s : Shape} (a b : FVec Ideal s φ) (i : s.Idx) : mulf a b i = ((a i : EReal) * (b i : EReal) : EReal) := (rfl)
theorem bcast_at {s : Shape} {α : Type} (a : α) (i : s.Idx) : broadcast s a i = a := (rfl)
theorem exp2_at {s : Shape} (a : FVec Ideal s φ) (i : s.Idx) : exp2 a i = Ideal.exp2 (a i) := (rfl)
theorem sub_at {s : Shape} (a b : FVec Ideal s φ) (i : s.Idx) : subf a b i = ((a i : EReal) - (b i : EReal) : EReal) := (rfl)
theorem add_at {s : Shape} (a b : FVec Ideal s φ) (i : s.Idx) : addf a b i = ((a i : EReal) + (b i : EReal) : EReal) := (rfl)
theorem div_at {s : Shape} (a b : FVec Ideal s φ) (i : s.Idx) : divf a b i = Ideal.div (a i) (b i) := (rfl)
theorem max_at {s : Shape} (a b : FVec Ideal s φ) (i : s.Idx) : maximumf a b i = max (a i : EReal) (b i) := (rfl)
theorem min_at {s : Shape} (a b : FVec Ideal s φ) (i : s.Idx) : minimumf a b i = min (a i : EReal) (b i) := (rfl)
theorem abs_at {s : Shape} (a : FVec Ideal s φ) (i : s.Idx) : absf a i = max (a i : EReal) (-(a i : EReal)) := (rfl)
theorem rsqrt_at {s : Shape} (a : FVec Ideal s φ) (i : s.Idx) : rsqrt a i = Ideal.rsqrt (a i) := (rfl)
theorem trunc_at {s : Shape} {ψ : FTy} (a : FVec Ideal s φ) (h) (i : s.Idx) : truncf ψ a h i = a i := (rfl)

theorem ext_at {s : Shape} {ψ : FTy} (a : FVec Ideal s φ) (h) (i : s.Idx) : extf ψ a h i = a i := (rfl)
theorem tofl_at {s : Shape} (a : IVec s 32) (i : s.Idx) : bitcastToFloat (F := Ideal) .f32 a i = Ideal.ofBits .f32 (a i) := (rfl)

/-- The exponent as the references write it: the logarithm over that of two, its floor, and one, at most 120, and zero below the normal numbers. -/
theorem rexp_at {s : Shape} (t : FVec Ideal s .f32) (l : EReal) (hl : l = ((Real.log 2 : ℝ) : EReal)) (i : s.Idx) :
    select (cmpf .olt t (broadcast s (Scalar.ofBits (F := Ideal) .f32 0x00800000#32))) (broadcast s (Scalar.ofBits (F := Ideal) .f32 0x00000000#32))
      (minimumf (addf (floor (divf (log t) (broadcast s (l : Ideal .f32)))) (broadcast s (Scalar.ofBits (F := Ideal) .f32 0x3F800000#32)))
        (broadcast s (Scalar.ofBits (F := Ideal) .f32 0x42F00000#32))) i = rexp (t i) := by
  subst hl
  rfl

theorem absf_apply (x : FVec Ideal ⟨2, ![M, K]⟩ φ) (i) : absf x i = max (x i) (-(x i)) := rfl
theorem rsqrt_apply (x : FVec Ideal ⟨2, ![M, K]⟩ φ) (i) : rsqrt x i = Ideal.rsqrt (x i) := rfl
theorem logistic_apply (x : FVec Ideal ⟨2, ![M, K]⟩ φ) (i) : logistic x i = Ideal.logistic (x i) := rfl

/-! ## What the rows are -/

/-- A row's root-mean-square normalisation, times the gain. -/
def nrm (x : Fin M → Fin K → EReal) (w : Fin K → EReal) (n : ℝ) (r : Fin M) (k : Fin K) : EReal :=
  x r k * Ideal.rsqrt ((∑ j, x r j * x r j) * ((1 / n : ℝ) : EReal) + Ideal.ofBits .f32 0x358637BD#32) * w k

/-- A matrix by its row and column. -/
abbrev mat {M K : ℕ} (x : (⟨2, ![M, K]⟩ : Shape).Idx → EReal) (r : Fin M) (k : Fin K) : EReal := x (ix2 r k)

/-- One step of the search for the exponent, as the kernel writes it. -/
theorem srch {s : Shape} (v : FVec Ideal s .f32) (a : IVec s 32) (b : BitVec 32) (i : s.Idx) :
    select (cmpf .oge v (bitcastToFloat (F := Ideal) .f32 (shli (addi a (broadcast s b)) (broadcast s 23#32)))) (addi a (broadcast s b)) a i
      = step (v i) (a i) b := rfl

/-- A row's greatest magnitude. -/
def amax (y : Fin M → Fin K → EReal) (r : Fin M) : EReal := rmax fun k => max (y r k) (-(y r k))

/-- Its quotient by 448. -/
def top (y : Fin M → Fin K → EReal) (r : Fin M) : EReal := amax y r * Ideal.ofBits .f32 0x3B124925#32

/-- The codes of rows whose greatest magnitudes are `a`: the row over its scale, clipped to the format's range. -/
def codesBy (y : Fin M → Fin K → EReal) (a : Fin M → EReal) (r : Fin M) (k : Fin K) : EReal :=
  min (Ideal.ofBits .f32 0x43E00000#32) (max (Ideal.ofBits .f32 0xC3E00000#32) (y r k * Ideal.exp2 (0 - rexp (a r * Ideal.ofBits .f32 0x3B124925#32))))

/-- The scales of rows whose greatest magnitudes are `a`. -/
def scaleBy (a : Fin M → EReal) (r : Fin M) : EReal := Ideal.exp2 (rexp (a r * Ideal.ofBits .f32 0x3B124925#32))

/-- The row's codes, by its own greatest magnitude. -/
def codes (y : Fin M → Fin K → EReal) (r : Fin M) (k : Fin K) : EReal :=
  min (Ideal.ofBits .f32 0x43E00000#32) (max (Ideal.ofBits .f32 0xC3E00000#32) (y r k * Ideal.exp2 (0 - rexp (top y r))))

/-- The row's scale. -/
def scale (y : Fin M → Fin K → EReal) (r : Fin M) : EReal := Ideal.exp2 (rexp (top y r))

/-- The product of the codes with a weight matrix, both scaled back. -/
def lin (c : Fin M → Fin K → EReal) (s : Fin M → EReal) (w : Fin K → Fin N → EReal) (ws : Fin N → EReal) (r : Fin M) (n : Fin N) : EReal :=
  (∑ k, c r k * w k n) * s r * ws n

theorem abs_nonneg (a : EReal) : 0 ≤ max a (-a) := by
  rcases le_total 0 a with h | h
  · exact le_max_of_le_left h
  · exact le_max_of_le_right (EReal.neg_nonneg.mpr h)

theorem lit_5120 : Ideal.ofBits .f32 0x45A00000#32 = ((5120 : ℝ) : EReal) := by
  simp [Ideal.ofBits, Ideal.ieee, -EReal.coe_mul]; norm_num

end Cert.Rows

end

end
-- ==== Proof.GateUpPay.lean ====
/- The payloads of the program `GateUpIdeal`, read at an index over the extended reals. -/
module

public import proofs.«01_k».proof.Proof.GateUpRun
public import proofs.«01_k».proof.Proof.Rows

@[expose] public section

set_option maxRecDepth 16384

noncomputable section

namespace Cert.GateUpIdeal.Value

open Cert.GateUpIdeal Cert.GateUpIdeal.Gen Cert.GateUpIdeal.Run Cert.Rows Cert.Exponent
open Idealize.ShloMosaic Idealize.ShloMosaic.ValueIdx
open scoped BigOperators

theorem ld_X (x : Vec Ideal S224x5120 .f32) : View.ld x rX = x := View.ld_unit_zero hz2 _ x
theorem ld_L (x : Vec Ideal S1x5120 .f32) : View.ld x rL = x := View.ld_unit_zero hz2 _ x
theorem ld_W (x : Vec Ideal S5120x640 .fp8e4m3) : View.ld x rW = x := View.ld_unit_zero hz2 _ x
theorem ld_S (x : Vec Ideal S1x640 .f32) : View.ld x rS = x := View.ld_unit_zero hz2 _ x

/-- The normalised rows. -/
theorem pay2 (x : Vec Ideal S224x5120 .f32) (l : Vec Ideal S1x5120 .f32) (r : Fin 224) (k : Fin 5120) :
    k0_pay2 x l (ix2 r k) = nrm (mat x) (mat l 0) 5120 r k := by
  simp only [k0_pay2, mulf_apply, bcast_col, bcast_row, shapeCast_self, rsqrt_apply, addf_apply, broadcast_apply, cast_col]
  rw [reduce_add (mulf x x) reduces_S224x5120_S224 (.inl rfl) rfl r]
  rfl

/-- The rows' greatest magnitudes over 448. -/
theorem pay3 (x : Vec Ideal S224x5120 .f32) (l : Vec Ideal S1x5120 .f32) (r : Fin 224) :
    k0_pay3 x l (ix2 r 0) = top (nrm (mat x) (mat l 0) 5120) r := by
  simp only [k0_pay3, mul_at, bcast_at, cast_col]
  rw [reduce_max (absf (k0_pay2 x l)) reduces_S224x5120_S224 (.inl rfl) rfl r]
  simp only [abs_at, pay2]
  rfl

/-- The first two steps of the search. -/
theorem pay4 (x : Vec Ideal S224x5120 .f32) (l : Vec Ideal S1x5120 .f32) (i : S224x1.Idx) :
    k0_pay4 x l i = step (k0_pay3 x l i) (step (k0_pay3 x l i) 0#32 128#32) 64#32 := by
  unfold k0_pay4
  refine (srch _ _ _ _).trans ?_
  exact congrArg (fun f => step _ f 64#32) (srch _ _ _ _)

/-- The next five. -/
theorem pay7 (v : FVec Ideal S224x1 .f32) (a : IVec S224x1 32) (i : S224x1.Idx) :
    k0_pay7 v a (addi a (broadcast S224x1 32#32)) k0_pay6 i
      = step (v i) (step (v i) (step (v i) (step (v i) (step (v i) (a i) 32#32) 16#32) 8#32) 4#32) 2#32 := by
  unfold k0_pay7 k0_pay6
  refine (srch _ _ _ _).trans (congrArg (fun f => step _ f 2#32) ?_)
  refine (srch _ _ _ _).trans (congrArg (fun f => step _ f 4#32) ?_)
  refine (srch _ _ _ _).trans (congrArg (fun f => step _ f 8#32) ?_)
  refine (srch _ _ _ _).trans (congrArg (fun f => step _ f 16#32) ?_)
  exact srch _ _ _ _

/-- The last, and the exponent from the field. -/
theorem pay10' (v : FVec Ideal S224x1 .f32) (a : IVec S224x1 32) (i : S224x1.Idx) :
    k0_pay10 v a (addi a (broadcast S224x1 1#32)) k0_pay9 i = expo (step (v i) (a i) 1#32) := by
  unfold k0_pay10 k0_pay9
  refine Eq.trans ?_ (congrArg expo (srch v a 1#32 i))
  rfl

/-- The exponents. -/
theorem pay10 (x : Vec Ideal S224x5120 .f32) (l : Vec Ideal S1x5120 .f32) (r : Fin 224) :
    k0_pay10 (k0_pay3 x l) (fld x l) (fld' x l) k0_pay9 (ix2 r 0) = expo (field (k0_pay3 x l (ix2 r 0))) := by
  unfold fld fld'
  rw [ld_X, ld_L]
  refine (pay10' _ _ _).trans ?_
  refine congrArg (fun f => expo (step _ f 1#32)) ?_
  refine (pay7 _ _ _).trans ?_
  rw [pay4]

theorem cod_apply (x : Vec Ideal S224x5120 .f32) (l : Vec Ideal S1x5120 .f32) (r : Fin 224) (k : Fin 5120) :
    cod x l (ix2 r k) = codes (nrm (mat x) (mat l 0) 5120) r k := by
  have h := kinv_exp2 (top (nrm (mat x) (mat l 0) 5120) r)
  rw [← pay3] at h
  unfold cod
  rw [ld_X, ld_L]
  simp only [k0_pay11, truncf_apply, minimumf_apply, maximumf_apply, mulf_apply, bcast_col, broadcast_apply, pay2]
  unfold codes
  rw [← pay3, ← h]
  unfold kinv
  rw [← pay10]
  rfl

theorem scl_apply (x : Vec Ideal S224x5120 .f32) (l : Vec Ideal S1x5120 .f32) (r : Fin 224) (k : Fin 128) :
    scl x l (ix2 r k) = scale (nrm (mat x) (mat l 0) 5120) r := by
  have h := kscale_exp2 (top (nrm (mat x) (mat l 0) 5120) r)
  rw [← pay3] at h
  unfold scl
  rw [ld_X, ld_L]
  simp only [k0_pay12, bcast_col, shapeCast_self]
  unfold scale
  rw [← pay3, ← h]
  unfold kscale
  rw [← pay10]
  rfl

/-- The gated activation of a gate and an up projection. -/
def gated (g u : EReal) : EReal := g * Ideal.logistic g * u

theorem act_apply (hc : Vec Ideal S224x5120 .fp8e4m3) (hs : Vec Ideal S224x128 .f32) (x2 x3 : Vec Ideal S5120x640 .fp8e4m3) (x4 x5 : Vec Ideal S1x640 .f32)
    (r : Fin 224) (n : Fin 640) :
    act hc hs x2 x3 x4 x5 (ix2 r n)
      = gated (lin (mat hc) (fun r => mat hs r 0) (mat x2) (mat x4 0) r n) (lin (mat hc) (fun r => mat hs r 0) (mat x3) (mat x5 0) r n) := by
  unfold act
  rw [ld_W, ld_W, ld_S, ld_S]
  have hC : View.ld hs rC (ix2 r 0) = mat hs r 0 := congrArg hs (by funext a; match a with | ⟨0, _⟩ => exact Fin.ext (by simp [ix2, Rect.unit]) | ⟨1, _⟩ => rfl)
  simp only [k0_pay14, mulf_apply, logistic_apply, bcast_col, bcast_row, shapeCast_self, hC]
  rw [mm dot_S224x5120_S5120x640_S224x640_1_0_0_1_n_n rfl, mm dot_S224x5120_S5120x640_S224x640_1_0_0_1_n_n rfl]
  rfl

theorem mx_apply (p : Vec Ideal S224x128 .f32) (hc : Vec Ideal S224x5120 .fp8e4m3) (hs : Vec Ideal S224x128 .f32) (x2 x3 : Vec Ideal S5120x640 .fp8e4m3)
    (x4 x5 : Vec Ideal S1x640 .f32) (r : Fin 224) (k : Fin 128) :
    mx p hc hs x2 x3 x4 x5 (ix2 r k) = max (p (ix2 r k)) (amax (mat (act hc hs x2 x3 x4 x5)) r) := by
  unfold mx
  simp only [k0_pay1, k0_pay15, k0_pay16, maximumf_apply, bcast_col, shapeCast_self, cast_col]
  rw [reduce_max (absf (k0_pay14 (View.ld hs rC) hc (View.ld x2 rW) (View.ld x4 rS) hc (View.ld x3 rW) (View.ld x5 rS))) reduces_S224x640_S224 (.inl rfl) rfl r]
  simp only [absf_apply]
  rfl

end Cert.GateUpIdeal.Value

end

end
-- ==== Proof.GateUpValue.lean ====
/- The result arrays of the program `GateUpIdeal` after its run, as functions of its arguments. -/
module

public import proofs.«01_k».proof.Proof.GateUpPay
public import Idealize.ShloMosaic.Lib.Pipeline.ValueKit

@[expose] public section

set_option maxRecDepth 16384

noncomputable section

namespace Cert.GateUpIdeal.Value

open Cert.GateUpIdeal Cert.GateUpIdeal.Gen Cert.GateUpIdeal.Run Cert.Rows Cert.Exponent
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## What the results are -/

/-- The normalised rows. -/
def Y (X : Vec Ideal S224x5120 .f32) (L : Vec Ideal S5120 .f32) : Fin 224 → Fin 5120 → EReal := nrm (mat X) (fun k => L (ix1 k)) 5120

/-- The projections of their codes. -/
def P (X : Vec Ideal S224x5120 .f32) (L : Vec Ideal S5120 .f32) (W : Vec Ideal S5120x35840 .fp8e4m3) (S : Vec Ideal S35840 .f32) : Fin 224 → Fin 35840 → EReal :=
  lin (codes (Y X L)) (scale (Y X L)) (mat W) fun n => S (ix1 n)

/-- The gated activations. -/
def A (X : Vec Ideal S224x5120 .f32) (L : Vec Ideal S5120 .f32) (W : Vec Ideal S5120x35840 .fp8e4m3) (S : Vec Ideal S35840 .f32) (r : Fin 224) (n : Fin 17920) : EReal :=
  gated (P X L W S r ⟨n.val, by omega⟩) (P X L W S r ⟨17920 + n.val, by omega⟩)

variable (m : (ℓ : Loc nD τ sig) → Buf (Elt Ideal) ℓ) (ρ : Dev nD → PrngReg)

abbrev aX (c : Dev nD) : Vec Ideal S224x5120 .f32 := m ((c : Thread nD τ).loc main_arg0)
abbrev aL (c : Dev nD) : Vec Ideal S5120 .f32 := m ((c : Thread nD τ).loc main_arg1)
abbrev aW (c : Dev nD) : Vec Ideal S5120x35840 .fp8e4m3 := m ((c : Thread nD τ).loc main_arg2)
abbrev aS (c : Dev nD) : Vec Ideal S35840 .f32 := m ((c : Thread nD τ).loc main_arg3)

/-! ## The input blocks, at an index -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val + 28] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val + 28] := (by decide +kernel : ∀ t : Fin grid0.N, _)
theorem idx6 : ∀ t : Fin cfg0.N, win0_6.index t = ![0, t.val] := (by decide +kernel : ∀ t : Fin grid0.N, _)

theorem lt28 (t : Fin cfg0.N) : t.val < 28 := Nat.lt_of_lt_of_eq t.isLt N_0

/-- The gain and the scales as a row, as the host lays them. -/
theorem V0 (c : Dev nD) (k : Fin 5120) : V m c main_v0 (ix2 0 k) = aL m c (ix1 k) := by
  entry_read
  pointwise
  rfl

theorem V1 (c : Dev nD) (k : Fin 35840) : V m c main_v1 (ix2 0 k) = aS m c (ix1 k) := by
  entry_read
  pointwise
  rfl

theorem b0 (c : Dev nD) (t : Fin cfg0.N) (r : Fin 224) (k : Fin 5120) : iblk m c 0 t (ix2 r k) = aX m c (ix2 r k) := by
  blk_simp [iblk]
  rw [V_main_arg0]
  congr 1
  blk_ext [idx0]

theorem b1 (c : Dev nD) (t : Fin cfg0.N) (k : Fin 5120) : iblk m c 1 t (ix2 0 k) = aL m c (ix1 k) := by
  rw [← V0]
  blk_simp [iblk]
  congr 1
  blk_ext [idx1]

theorem b2 (c : Dev nD) (t : Fin cfg0.N) (k : Fin 5120) (n : Fin 640) :
    iblk m c 2 t (ix2 k n) = aW m c (ix2 k ⟨t.val * 640 + n.val, by have := lt28 t; omega⟩) := by
  blk_simp [iblk]
  rw [V_main_arg2]
  congr 1
  blk_ext [idx2]

theorem b3 (c : Dev nD) (t : Fin cfg0.N) (k : Fin 5120) (n : Fin 640) :
    iblk m c 3 t (ix2 k n) = aW m c (ix2 k ⟨17920 + (t.val * 640 + n.val), by have := lt28 t; omega⟩) := by
  blk_simp [iblk]
  rw [V_main_arg2]
  congr 1
  blk_ext [idx3]
  show (t.val + 28) * 640 + n.val = 17920 + (t.val * 640 + n.val)
  omega

theorem b4 (c : Dev nD) (t : Fin cfg0.N) (n : Fin 640) :
    iblk m c 4 t (ix2 0 n) = aS m c (ix1 ⟨t.val * 640 + n.val, by have := lt28 t; omega⟩) := by
  rw [← V1]
  blk_simp [iblk]
  congr 1
  blk_ext [idx4]

theorem b5 (c : Dev nD) (t : Fin cfg0.N) (n : Fin 640) :
    iblk m c 5 t (ix2 0 n) = aS m c (ix1 ⟨17920 + (t.val * 640 + n.val), by have := lt28 t; omega⟩) := by
  rw [← V1]
  blk_simp [iblk]
  congr 1
  blk_ext [idx5]
  show (t.val + 28) * 640 + n.val = 17920 + (t.val * 640 + n.val)
  omega

/-! ## What the body leaves, at an index -/

theorem Y_eq (c : Dev nD) (t : Fin cfg0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = fun k => aL m c (ix1 k) from funext fun k => b1 m c t k]

theorem COD_apply (c : Dev nD) (r : Fin 224) (k : Fin 5120) : COD m c (ix2 r k) = codes (Y (aX m c) (aL m c)) r k := by
  unfold COD
  rw [cod_apply, Y_eq]

theorem SCL_apply (c : Dev nD) (r : Fin 224) (k : Fin 128) : SCL m c (ix2 r k) = scale (Y (aX m c) (aL m c)) r := by
  unfold SCL
  rw [scl_apply, Y_eq]

theorem ACT_apply (c : Dev nD) (t : Fin cfg0.N) (r : Fin 224) (n : Fin 640) :
    act (COD m c) (SCL m c) (iblk m c 2 t) (iblk m c 3 t) (iblk m c 4 t) (iblk m c 5 t) (ix2 r n)
      = A (aX m c) (aL m c) (aW m c) (aS m c) r ⟨t.val * 640 + n.val, by have := lt28 t; omega⟩ := by
  rw [act_apply]
  have hc : mat (COD m c) = codes (Y (aX m c) (aL m c)) := funext fun r => funext fun k => COD_apply m c r k
  have hs : (fun r => mat (SCL m c) r 0) = scale (Y (aX m c) (aL m c)) := funext fun r => SCL_apply m c r 0
  rw [hc, hs]
  unfold A P lin
  simp only [b2, b3, b4, b5]

/-- The row maxima over the first columns. -/
def part (f : Fin 17920 → EReal) (b : ℕ) : EReal := (Finset.univ.filter fun n : Fin 17920 => n.val < b).fold max 0 f

theorem part_zero (f : Fin 17920 → EReal) : part f 0 = 0 := by
  unfold part
  rw [show (Finset.univ.filter fun n : Fin 17920 => n.val < 0) = ∅ from by ext; simp]
  rfl

theorem part_le (f : Fin 17920 → EReal) (b : ℕ) (z : EReal) : part f b ≤ z ↔ 0 ≤ z ∧ ∀ n : Fin 17920, n.val < b → f n ≤ z := by
  unfold part
  rw [Finset.fold_max_le]
  simp

theorem part_step (f : Fin 17920 → EReal) (t : ℕ) (ht : t < 28) :
    max (part f (t * 640)) (rmax fun n : Fin 640 => f ⟨t * 640 + n.val, by omega⟩) = part f ((t + 1) * 640) := by
  refine eq_of_forall_ge_iff fun z => ?_
  rw [max_le_iff, part_le, part_le]
  unfold rmax
  rw [Finset.fold_max_le]
  constructor
  · rintro ⟨⟨h0, h1⟩, -, h2⟩
    refine ⟨h0, fun n hn => ?_⟩
    by_cases h : n.val < t * 640
    · exact h1 n h
    · have := h2 ⟨n.val - t * 640, by omega⟩ (Finset.mem_univ _)
      have e : (⟨t * 640 + (n.val - t * 640), by omega⟩ : Fin 17920) = n := Fin.ext (by show t * 640 + (n.val - t * 640) = n.val; omega)
      rwa [e] at this
  · rintro ⟨h0, h1⟩
    exact ⟨⟨h0, fun n hn => h1 n (by omega)⟩, bot_le, fun n _ => h1 _ (by show t * 640 + n.val < _; omega)⟩

theorem part_all (f : Fin 17920 → EReal) (hf : ∀ n, 0 ≤ f n) : part f 17920 = rmax f := by
  refine eq_of_forall_ge_iff fun z => ?_
  rw [part_le]
  unfold rmax
  rw [Finset.fold_max_le]
  exact ⟨fun h => ⟨bot_le, fun n _ => h.2 n n.isLt⟩, fun h => ⟨(hf 0).trans (h.2 0 (Finset.mem_univ _)), fun n _ => h.2 n (Finset.mem_univ _)⟩⟩

theorem MX_apply (c : Dev nD) (r : Fin 224) (k : Fin 128) : ∀ (n : ℕ) (h : n < cfg0.N),
    mxAt m c n h (ix2 r k) = part (fun j => max (A (aX m c) (aL m c) (aW m c) (aS m c) r j) (-(A (aX m c) (aL m c) (aW m c) (aS m c) r j))) ((n + 1) * 640)
  | 0, h => by
    rw [← part_step _ 0 (by omega)]
    refine (congrFun (mxAt_zero m c ⟨0, h⟩ rfl) (ix2 r k)).trans ((mx_apply _ _ _ _ _ _ _ r k).trans (congrArg₂ max ?_ ?_))
    · rw [Nat.zero_mul, part_zero]
      exact Ideal.ofBits_zero_f32
    · unfold amax
      exact congrArg rmax (funext fun j => by unfold mat; rw [ACT_apply m c ⟨0, h⟩ r j])
  | n + 1, h => by
    have hn : n + 1 < 28 := Nat.lt_of_lt_of_eq h N_0
    rw [← part_step _ (n + 1) hn]
    refine (congrFun (mxAt_succ m c ⟨n + 1, h⟩ (by show ¬ (n + 1) % 28 = 0; omega)) (ix2 r k)).trans ((mx_apply _ _ _ _ _ _ _ r k).trans (congrArg₂ max ?_ ?_))
    · exact MX_apply c r k n _
    · unfold amax
      exact congrArg rmax (funext fun j => by unfold mat; rw [ACT_apply m c ⟨n + 1, h⟩ r j])

/-! ## The arrays after the run -/

/-- The last point. -/
def t27 : Fin cfg0.N := ⟨27, by decide⟩

theorem ACT_at (c : Dev nD) (t : Fin cfg0.N) (y : S224x640.Idx) (i : S224x17920.Idx) (h0 : (i 0).val = (y 0).val) (h1 : (i 1).val = t.val * 640 + (y 1).val) :
    act (COD m c) (SCL m c) (iblk m c 2 t) (iblk m c 3 t) (iblk m c 4 t) (iblk m c 5 t) y = A (aX m c) (aL m c) (aW m c) (aS m c) (i 0) (i 1) := by
  obtain ⟨r, n, rfl⟩ := ex2 y
  refine (ACT_apply m c t r n).trans ?_
  exact congrArg₂ (A (aX m c) (aL m c) (aW m c) (aS m c)) (Fin.ext h0.symm) (Fin.ext h1.symm)

theorem COD_at (c : Dev nD) (j : S224x5120.Idx) : COD m c j = codes (Y (aX m c) (aL m c)) (j 0) (j 1) := by
  obtain ⟨r, k, rfl⟩ := ex2 j
  exact COD_apply m c r k

theorem SCL_at (c : Dev nD) (j : S224x128.Idx) : SCL m c j = scale (Y (aX m c) (aL m c)) (j 0) := by
  obtain ⟨r, k, rfl⟩ := ex2 j
  exact SCL_apply m c r k

theorem MX_at (c : Dev nD) (t : Fin cfg0.N) (ht : t.val = 27) (j : S224x128.Idx) : mxAt m c t.val t.isLt j = amax (A (aX m c) (aL m c) (aW m c) (aS m c)) (j 0) := by
  obtain ⟨r, k, rfl⟩ := ex2 j
  refine (MX_apply m c r k t.val t.isLt).trans ?_
  rw [ht]
  exact part_all _ fun _ => abs_nonneg _

theorem cov6 : (cfg0.win 6).Covers := by decide +kernel
theorem whole7 : (cfg0.win 7).WholeAt t27 := by decide +kernel
theorem whole8 : (cfg0.win 8).WholeAt t27 := by decide +kernel
theorem whole9 : (cfg0.win 9).WholeAt t27 := by decide +kernel

theorem final6 (c : Dev nD) : (dats m 0 c).arrAt 6 cfg0.N = fun i => A (aX m c) (aL m c) (aW m c) (aS m c) (i 0) (i 1) := by
  refine (dats m 0 c).arrAt_eq_of_covers 6 _ cov6 fun t hf y => ?_
  blk_simp
  rw [after0_6]
  exact ACT_at m c t y _ (by blk_simp [idx6]) (by blk_simp [idx6])

theorem last7 {c : Dev nD} (d : Dat τ (Elt Ideal) Unit ℕ (UR sig nD τ) ℕ cfg0 c) (G) (h : d.after 7 t27 = G) : d.arrAt 7 cfg0.N = G := by
  refine d.arrAt_eq_of_after_last 7 t27 whole7 _ fun j => ?_
  blk_simp
  rw [h]

theorem final7 (c : Dev nD) : (dats m 0 c).arrAt 7 cfg0.N = fun i => codes (Y (aX m c) (aL m c)) (i 0) (i 1) :=
  (last7 _ _ (after0_7 m c t27)).trans (funext (COD_at m c))

theorem last8 {c : Dev nD} (d : Dat τ (Elt Ideal) Unit ℕ (UR sig nD τ) ℕ cfg0 c) (G) (h : d.after 8 t27 = G) : d.arrAt 8 cfg0.N = G := by
  refine d.arrAt_eq_of_after_last 8 t27 whole8 _ fun j => ?_
  blk_simp
  rw [h]

theorem final8 (c : Dev nD) : (dats m 0 c).arrAt 8 cfg0.N = fun i => scale (Y (aX m c) (aL m c)) (i 0) :=
  (last8 _ _ (after0_8 m c t27)).trans (funext (SCL_at m c))

theorem last9 {c : Dev nD} (d : Dat τ (Elt Ideal) Unit ℕ (UR sig nD τ) ℕ cfg0 c) (G) (h : d.after 9 t27 = G) : d.arrAt 9 cfg0.N = G := by
  refine d.arrAt_eq_of_after_last 9 t27 whole9 _ fun j => ?_
  blk_simp
  rw [h]

theorem final9 (c : Dev nD) : (dats m 0 c).arrAt 9 cfg0.N = fun i => amax (A (aX m c) (aL m c) (aW m c) (aS m c)) (i 0) :=
  (last9 _ _ (after0_9 m c t27)).trans (funext (MX_at m c t27 rfl))

/-- The run, its results named. -/
theorem run : θ_run defs (onTc (τ := τ) (main (F := Ideal))) ⟨m, fun _ => 0, ρ⟩ fun r => ∀ c : Dev nD,
      r.2.mem ((c : Thread nD τ).loc main_v2_0) = (fun i => A (aX m c) (aL m c) (aW m c) (aS m c) (i 0) (i 1))
      ∧ r.2.mem ((c : Thread nD τ).loc main_v2_1) = (fun i => codes (Y (aX m c) (aL m c)) (i 0) (i 1))
      ∧ r.2.mem ((c : Thread nD τ).loc main_v2_2) = (fun i => scale (Y (aX m c) (aL m c)) (i 0))
      ∧ r.2.mem ((c : Thread nD τ).loc main_v2_3) = (fun i => amax (A (aX m c) (aL m c) (aW m c) (aS m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have h := (θ_run defs (onTc (τ := τ) (main (F := Ideal))) (s₀ m ρ)).mono (fun _ h => h.1) (run_main_quiescent m ρ)
  refine (θ_run defs _ _).mono (fun r h c => ⟨(h.1 c).1 6 |>.trans (final6 m c), (h.1 c).1 7 |>.trans (final7 m c), (h.1 c).1 8 |>.trans (final8 m c),
    (h.1 c).1 9 |>.trans (final9 m c), h.2 c⟩) (θ_run_and h (frame_of m ρ (dats m) (A_eq m) h))

end Cert.GateUpIdeal.Value

end

end
-- ==== Proof.GateUpRefValue.lean ====
/- The result arrays of the program `GateUpRefIdeal` after its run, as functions of its arguments. -/
module

public import proofs.«01_k».proof.Proof.Gen.GateUpRefIdeal.Frame
public import proofs.«01_k».proof.Proof.GateUpValue

@[expose] public section

set_option maxRecDepth 16384

noncomputable section

namespace Cert.GateUpRefIdeal.Run

open Cert.GateUpRefIdeal Cert.GateUpRefIdeal.Gen Cert.Rows Cert.Exponent
open Cert.GateUpIdeal.Value (gated Y P A)
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

theorem hz2 : (![0, 0] : Fin 2 → Nat) = fun _ => 0 := by
  funext a; fin_cases a <;> rfl

/-- The normalised rows. -/
theorem pay4 (x : Vec Ideal S224x5120 .f32) (l : Vec Ideal S1x5120 .f32) (r : Fin 224) (k : Fin 5120) :
    k0_pay4 x l (ix2 r k) = nrm (mat x) (mat l 0) 5120 r k := by
  simp only [k0_pay4, mul_at, bcast_col, bcast_row, shapeCast_self, rsqrt_at, add_at, div_at, bcast_at, cast_col]
  rw [reduce_add (mulf x x) reduces_S224x5120_S224 (.inl rfl) rfl r]
  simp only [mul_at]
  unfold nrm
  rw [show (Scalar.ofBits (F := Ideal) .f32 0x45A00000#32 : EReal) = ((5120 : ℝ) : EReal) from lit_5120, Ideal.div_coe (by norm_num : (5120 : ℝ) ≠ 0)]
  rfl

/-- The exponents of the rows' scales. -/
theorem pay5 (x : Vec Ideal S224x5120 .f32) (l : Vec Ideal S1x5120 .f32) (r : Fin 224) :
    k0_pay5 x l (ix2 r 0) = rexp (top (nrm (mat x) (mat l 0) 5120) r) := by
  unfold k0_pay5
  refine (rexp_at _ _ (IdealRules.named_const.ideal_named_scalar _ _ _ _ rfl) _).trans (congrArg rexp ?_)
  simp only [mul_at, bcast_at, cast_col]
  rw [reduce_max (absf (k0_pay4 x l)) reduces_S224x5120_S224 (.inl rfl) rfl r]
  simp only [abs_at, pay4]
  rfl

/-- The codes. -/
theorem pay6 (x : Vec Ideal S224x5120 .f32) (l : Vec Ideal S1x5120 .f32) (r : Fin 224) (k : Fin 5120) :
    k0_pay6 x l (ix2 r k) = codes (nrm (mat x) (mat l 0) 5120) r k := by
  simp only [k0_pay6, trunc_at, min_at, max_at, mul_at, bcast_col, bcast_at, exp2_at, sub_at, pay5, pay4]
  unfold codes
  rw [show (Scalar.ofBits (F := Ideal) .f32 0x00000000#32 : EReal) = 0 from lit_zero]
  rfl

/-- The scales. -/
theorem pay7 (x : Vec Ideal S224x5120 .f32) (l : Vec Ideal S1x5120 .f32) (r : Fin 224) :
    k0_pay7 x l (ix2 r 0) = scale (nrm (mat x) (mat l 0) 5120) r := by
  simp only [k0_pay7, exp2_at, pay5]
  rfl

theorem pay2 (s : FVec Ideal S224x1 .f32) (r : Fin 224) (k : Fin 128) : k0_pay2 s (ix2 r k) = s (ix2 r 0) := by
  simp only [k0_pay2, bcast_col, shapeCast_self]

/-- The gated activations. -/
theorem pay1 (c : FVec Ideal S224x5120 .fp8e4m3) (s : FVec Ideal S224x1 .f32) (w : Vec Ideal S5120x35840 .fp8e4m3) (ws : Vec Ideal S1x35840 .f32)
    (r : Fin 224) (n : Fin 17920) :
    k0_pay1 c s w ws (ix2 r n)
      = gated (lin (mat c) (fun r => mat s r 0) (mat w) (mat ws 0) r ⟨n.val, by omega⟩)
          (lin (mat c) (fun r => mat s r 0) (mat w) (mat ws 0) r ⟨17920 + n.val, by omega⟩) := by
  have h0 (z : FVec Ideal S224x35840 .f32) : extractStridedSlice S224x17920 ![0, 0] z slices_S224x35840_o0_0_S224x17920 (ix2 r n) = z (ix2 r ⟨n.val, by omega⟩) :=
    congrArg z (by funext a; match a with | ⟨0, _⟩ => exact Fin.ext (Nat.zero_add _) | ⟨1, _⟩ => exact Fin.ext (Nat.zero_add _))
  have h1 (z : FVec Ideal S224x35840 .f32) : extractStridedSlice S224x17920 ![0, 17920] z slices_S224x35840_o0_17920_S224x17920 (ix2 r n) = z (ix2 r ⟨17920 + n.val, by omega⟩) :=
    congrArg z (by funext a; match a with | ⟨0, _⟩ => exact Fin.ext (Nat.zero_add _) | ⟨1, _⟩ => rfl)
  simp only [k0_pay1, mul_at, logistic_apply, h0, h1, bcast_col, bcast_row, shapeCast_self]
  rw [mm dot_S224x5120_S5120x35840_S224x35840_1_0_0_1_n_n rfl, mm dot_S224x5120_S5120x35840_S224x35840_1_0_0_1_n_n rfl]
  rfl

/-- Their rows' greatest magnitudes. -/
theorem pay3 (c : FVec Ideal S224x5120 .fp8e4m3) (s : FVec Ideal S224x1 .f32) (w : Vec Ideal S5120x35840 .fp8e4m3) (ws : Vec Ideal S1x35840 .f32)
    (r : Fin 224) (k : Fin 128) :
    k0_pay3 c s w ws (ix2 r k) = amax (mat (k0_pay1 c s w ws)) r := by
  simp only [k0_pay3, bcast_col, shapeCast_self, cast_col]
  rw [reduce_max (absf (k0_pay1 c s w ws)) reduces_S224x17920_S224 (.inl rfl) rfl r]
  simp only [abs_at]
  rfl

variable (m : (ℓ : Loc nD τ sig) → Buf (Elt Ideal) ℓ) (ρ : Dev nD → PrngReg)

abbrev aX (c : Dev nD) : Vec Ideal S224x5120 .f32 := m ((c : Thread nD τ).loc main_arg0)
abbrev aL (c : Dev nD) : Vec Ideal S5120 .f32 := m ((c : Thread nD τ).loc main_arg1)
abbrev aW (c : Dev nD) : Vec Ideal S5120x35840 .fp8e4m3 := m ((c : Thread nD τ).loc main_arg2)
abbrev aS (c : Dev nD) : Vec Ideal S35840 .f32 := m ((c : Thread nD τ).loc main_arg3)

/-! ## The input blocks, at an index -/

theorem V0 (c : Dev nD) (k : Fin 5120) : V m c main_v0 (ix2 0 k) = aL m c (ix1 k) := by
  entry_read
  pointwise
  rfl

theorem V1 (c : Dev nD) (k : Fin 35840) : V m c main_v1 (ix2 0 k) = aS m c (ix1 k) := by
  entry_read
  pointwise
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem b0 (c : Dev nD) (t : Fin cfg0.N) (r : Fin 224) (k : Fin 5120) : iblk m c 0 t (ix2 r k) = aX m c (ix2 r k) := by
  blk_simp [iblk]
  rw [V_main_arg0]
  congr 1
  blk_ext [idx0]

theorem b1 (c : Dev nD) (t : Fin cfg0.N) (k : Fin 5120) : iblk m c 1 t (ix2 0 k) = aL m c (ix1 k) := by
  rw [← V0]
  blk_simp [iblk]
  congr 1
  blk_ext [idx1]

theorem b2 (c : Dev nD) (t : Fin cfg0.N) (k : Fin 5120) (n : Fin 35840) : iblk m c 2 t (ix2 k n) = aW m c (ix2 k n) := by
  blk_simp [iblk]
  rw [V_main_arg2]
  congr 1
  blk_ext [idx2]

theorem b3 (c : Dev nD) (t : Fin cfg0.N) (n : Fin 35840) : iblk m c 3 t (ix2 0 n) = aS m c (ix1 n) := by
  rw [← V1]
  blk_simp [iblk]
  congr 1
  blk_ext [idx3]

theorem Y_eq (c : Dev nD) (t : Fin cfg0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = fun k => aL m c (ix1 k) from funext fun k => b1 m c t k]

theorem W_eq (c : Dev nD) (t : Fin cfg0.N) : mat (iblk m c 2 t) = mat (aW m c) := funext fun k => funext fun n => b2 m c t k n
theorem S_eq (c : Dev nD) (t : Fin cfg0.N) : mat (iblk m c 3 t) 0 = fun n => aS m c (ix1 n) := funext fun n => b3 m c t n

theorem cod_eq (c : Dev nD) (t : Fin cfg0.N) : mat (k0_pay6 (iblk m c 0 t) (iblk m c 1 t)) = codes (Y (aX m c) (aL m c)) := by
  rw [← Y_eq m c t]
  exact funext fun r => funext fun k => pay6 _ _ r k

theorem scl_eq (c : Dev nD) (t : Fin cfg0.N) : (fun r => mat (k0_pay7 (iblk m c 0 t) (iblk m c 1 t)) r 0) = scale (Y (aX m c) (aL m c)) := by
  rw [← Y_eq m c t]
  exact funext fun r => pay7 _ _ r

theorem act_eq (c : Dev nD) (t : Fin cfg0.N) :
    mat (k0_pay1 (k0_pay6 (iblk m c 0 t) (iblk m c 1 t)) (k0_pay7 (iblk m c 0 t) (iblk m c 1 t)) (iblk m c 2 t) (iblk m c 3 t))
      = A (aX m c) (aL m c) (aW m c) (aS m c) := by
  refine funext fun r => funext fun n => (pay1 _ _ _ _ r n).trans ?_
  rw [cod_eq, scl_eq, W_eq, S_eq]
  rfl

/-! ## What the one point leaves -/

variable (x0 : Vec Ideal S224x5120 .f32) (x1 : Vec Ideal S1x5120 .f32) (x2 : Vec Ideal S5120x35840 .fp8e4m3) (x3 : Vec Ideal S1x35840 .f32)

theorem pay8 : k0_pay8 x0 x1 x2 x3 = k0_pay6 x0 x1 := by
  unfold k0_pay8
  rw [View.ld_unit_zero hz2, View.ld_unit_zero hz2]
theorem pay9 : k0_pay9 x0 x1 x2 x3 = k0_pay7 x0 x1 := by
  unfold k0_pay9
  rw [View.ld_unit_zero hz2, View.ld_unit_zero hz2]
theorem out4 : out0_4 x0 x1 x2 x3 = k0_pay1 (k0_pay6 x0 x1) (k0_pay7 x0 x1) x2 x3 := by
  unfold out0_4
  rw [View.canon_unit_zero hz2, View.ld_unit_zero hz2, View.ld_unit_zero hz2, pay8, pay9]
theorem out5 : out0_5 x0 x1 x2 x3 = k0_pay6 x0 x1 := by
  unfold out0_5
  rw [View.canon_unit_zero hz2, pay8]
theorem out6 : out0_6 x0 x1 x2 x3 = k0_pay2 (k0_pay7 x0 x1) := by
  unfold out0_6
  rw [View.canon_unit_zero hz2, pay9]
theorem out7 : out0_7 x0 x1 x2 x3 = k0_pay3 (k0_pay6 x0 x1) (k0_pay7 x0 x1) x2 x3 := by
  unfold out0_7
  rw [View.canon_unit_zero hz2, View.ld_unit_zero hz2, View.ld_unit_zero hz2, pay8, pay9]

/-! ## The arrays after the run -/

/-- The only point. -/
def t0 : Fin cfg0.N := ⟨0, by decide⟩

theorem whole4 : (cfg0.win 4).WholeAt t0 := by decide +kernel
theorem whole5 : (cfg0.win 5).WholeAt t0 := by decide +kernel
theorem whole6 : (cfg0.win 6).WholeAt t0 := by decide +kernel
theorem whole7 : (cfg0.win 7).WholeAt t0 := by decide +kernel

section
variable {c : Dev nD} (d : Dat τ (Elt Ideal) Unit ℕ (UR sig nD τ) ℕ cfg0 c)
theorem last4 (G) (h : d.after 4 t0 = G) : d.arrAt 4 cfg0.N = G := by
  refine d.arrAt_eq_of_after_last 4 t0 whole4 _ fun j => ?_
  blk_simp
  rw [h]
theorem last5 (G) (h : d.after 5 t0 = G) : d.arrAt 5 cfg0.N = G := by
  refine d.arrAt_eq_of_after_last 5 t0 whole5 _ fun j => ?_
  blk_simp
  rw [h]
theorem last6 (G) (h : d.after 6 t0 = G) : d.arrAt 6 cfg0.N = G := by
  refine d.arrAt_eq_of_after_last 6 t0 whole6 _ fun j => ?_
  blk_simp
  rw [h]
theorem last7 (G) (h : d.after 7 t0 = G) : d.arrAt 7 cfg0.N = G := by
  refine d.arrAt_eq_of_after_last 7 t0 whole7 _ fun j => ?_
  blk_simp
  rw [h]
end

theorem at4 (c : Dev nD) (t : Fin cfg0.N) : out0_4 (iblk m c 0 t) (iblk m c 1 t) (iblk m c 2 t) (iblk m c 3 t)
    = fun i : S224x17920.Idx => A (aX m c) (aL m c) (aW m c) (aS m c) (i 0) (i 1) := by
  rw [out4]
  funext i
  obtain ⟨r, n, rfl⟩ := ex2 i
  exact congrFun (congrFun (act_eq m c t) r) n

theorem at5 (c : Dev nD) (t : Fin cfg0.N) : out0_5 (iblk m c 0 t) (iblk m c 1 t) (iblk m c 2 t) (iblk m c 3 t)
    = fun i : S224x5120.Idx => codes (Y (aX m c) (aL m c)) (i 0) (i 1) := by
  rw [out5]
  funext i
  obtain ⟨r, k, rfl⟩ := ex2 i
  exact congrFun (congrFun (cod_eq m c t) r) k

theorem at6 (c : Dev nD) (t : Fin cfg0.N) : out0_6 (iblk m c 0 t) (iblk m c 1 t) (iblk m c 2 t) (iblk m c 3 t)
    = fun i : S224x128.Idx => scale (Y (aX m c) (aL m c)) (i 0) := by
  rw [out6]
  funext i
  obtain ⟨r, k, rfl⟩ := ex2 i
  exact (pay2 _ r k).trans (congrFun (scl_eq m c t) r)

theorem at7 (c : Dev nD) (t : Fin cfg0.N) : out0_7 (iblk m c 0 t) (iblk m c 1 t) (iblk m c 2 t) (iblk m c 3 t)
    = fun i : S224x128.Idx => amax (A (aX m c) (aL m c) (aW m c) (aS m c)) (i 0) := by
  rw [out7]
  funext i
  obtain ⟨r, k, rfl⟩ := ex2 i
  refine (pay3 _ _ _ _ r k).trans ?_
  rw [act_eq]

/-- The run, its results named. -/
theorem run : θ_run defs (onTc (τ := τ) (main (F := Ideal))) ⟨m, fun _ => 0, ρ⟩ fun r => ∀ c : Dev nD,
      r.2.mem ((c : Thread nD τ).loc main_v2_0) = (fun i => A (aX m c) (aL m c) (aW m c) (aS m c) (i 0) (i 1))
      ∧ r.2.mem ((c : Thread nD τ).loc main_v2_1) = (fun i => codes (Y (aX m c) (aL m c)) (i 0) (i 1))
      ∧ r.2.mem ((c : Thread nD τ).loc main_v2_2) = (fun i => scale (Y (aX m c) (aL m c)) (i 0))
      ∧ r.2.mem ((c : Thread nD τ).loc main_v2_3) = (fun i => amax (A (aX m c) (aL m c) (aW m c) (aS m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (last4 _ _ ((after0_4 m c t0).trans (at4 m c t0))),
    ((h.1 c).1 5).trans (last5 _ _ ((after0_5 m c t0).trans (at5 m c t0))),
    ((h.1 c).1 6).trans (last6 _ _ ((after0_6 m c t0).trans (at6 m c t0))),
    ((h.1 c).1 7).trans (last7 _ _ ((after0_7 m c t0).trans (at7 m c t0))), h.2 c⟩) (θ_run_and (run_main m ρ) (unchanged m ρ))

end Cert.GateUpRefIdeal.Run

end

end
-- ==== Proof.GateUpClaim.lean ====
/- The claims about the gate and up projections: the frame of the ideal program, and the same results as the reference. -/
module

public import proofs.«01_k».proof.Defs
public import proofs.«01_k».proof.Proof.GateUpBits
public import proofs.«01_k».proof.Proof.GateUpValue
public import proofs.«01_k».proof.Proof.GateUpRefValue

@[expose] public section

noncomputable section

namespace Cert.GateUpIdeal.Value

open Idealize.ShloMosaic Idealize.ShloMosaic.TcCoe Idealize.SL.Sem
open Cert.GateUpIdeal Cert.GateUpIdeal.Gen Cert.GateUpIdeal.Run

attribute [local instance] Cert.GateUp.Gen.facts Cert.GateUpIdeal.Gen.facts Cert.GateUpRefIdeal.Gen.facts

/-- The constant is the one named. -/
theorem named : Cert.preserves_GateUp_GateUpIdeal :=
  IdealRules.named_const.statement Cert.GateUpIdeal.κ "inv_n" .f32 0x394CCCCD#32 ((1 / 5120 : ℝ) : EReal) rfl

/-- The program leaves its arguments as they were and every semaphore at zero. -/
theorem frame : Cert.quiescent_GateUp := fun m g _ =>
  have h := (θ_run Cert.GateUp.defs (onTc (τ := Cert.GateUp.τ) (Cert.GateUp.main (F := Bits))) ⟨m, fun _ => 0, g⟩).mono (fun _ h => h.1) (Cert.GateUp.Run.run_main_quiescent m g)
  (θ_run _ _ _).mono (fun _ h => ⟨h.1, h.2.2⟩) (θ_run_and (Cert.GateUp.Gen.frame_of m g (Cert.GateUp.Run.dats m) (Cert.GateUp.Run.A_eq m) h) (Cert.GateUp.Run.run_main_quiescent m g))

/-- The ideal program leaves its arguments as they were and every semaphore at zero. -/
theorem quiet (m) (g) : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2.2⟩) (θ_run_and (run m g) (run_main_quiescent m g))

/-- The ideal program and the reference give the same four results. -/
theorem same : Cert.algebraic_GateUpIdeal_GateUpRefIdeal := by
  intro m g m' g' _ h
  have e0 (c : Dev nD) : Cert.GateUpRefIdeal.Run.aX m' c = aX m c := (h c).1
  have e1 (c : Dev nD) : Cert.GateUpRefIdeal.Run.aL m' c = aL m c := (h c).2.1
  have e2 (c : Dev nD) : Cert.GateUpRefIdeal.Run.aW m' c = aW m c := (h c).2.2.1
  have e3 (c : Dev nD) : Cert.GateUpRefIdeal.Run.aS m' c = aS m c := (h c).2.2.2
  refine ⟨_, _, _, _, run m g, (θ_run _ _ _).mono (fun r H c => ?_) (Cert.GateUpRefIdeal.Run.run m' g')⟩
  have H := H c
  rw [e0 c, e1 c, e2 c, e3 c] at H
  exact H

end Cert.GateUpIdeal.Value

end
-- ==== Proof.DownBits.lean ====
/- The run of the program `Down`: what its body leaves in each window at each grid point, and the arrays after the last. -/
module

public import proofs.«01_k».proof.Proof.Gen.Down.Frame
public import proofs.«01_k».proof.Proof.Gen.Down.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.Down.Run

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S224x1280 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S224x128 .f32 := win0_8.stage (cfg0.slots t 8)
abbrev hs0_8 (t : Fin cfg0.N) : (ms0_8 t).IsWhole := hstage0_8 ((cfg0.slots t 8).cast nbuf0_8)

/-! ## What the body computes -/

abbrev rA : Rect S224x1280 := Rect.unit (s := S224x1280) ![0, 0] S224x1280.size inb_S224x1280_S224x1280_0_0
abbrev rY : Rect S224x5120 := Rect.unit (s := S224x5120) ![0, 0] S224x5120.size inb_S224x5120_S224x5120_0_0
abbrev rW : Rect S1280x5120 := Rect.unit (s := S1280x5120) ![0, 0] S1280x5120.size inb_S1280x5120_S1280x5120_0_0
abbrev rS : Rect S1x5120 := Rect.unit (s := S1x5120) ![0, 0] S1x5120.size inb_S1x5120_S1x5120_0_0
abbrev rC : Rect S224x128 := Rect.unit (s := S224x128) ![0, 0] S224x1.size inb_S224x128_S224x1_0_0

/-- The exponents of the rows' scales. -/
def ex (x1 : Vec F S224x128 .f32) : IVec S224x1 32 := k0_pay10 (k0_pay7 (View.ld x1 rC)) (k0_pay8 (View.ld x1 rC)) (k0_pay9 (View.ld x1 rC))

/-- The codes of one block of the rows. -/
def cod (x0 : Vec F S224x1280 .f32) (x1 : Vec F S224x128 .f32) : Vec F S224x1280 .fp8e4m3 := k0_pay1 (ex x1) (View.ld x0 rA)

/-- The scales, one a row along 128 lanes. -/
def scl (x1 : Vec F S224x128 .f32) : Vec F S224x128 .f32 := k0_pay2 (F := F) (ex x1)

/-- The accumulator after one more block. -/
def acc (y : Vec F S224x5120 .f32) (x0 : Vec F S224x1280 .f32) (x1 : Vec F S224x128 .f32) (x3 : Vec F S1280x5120 .fp8e4m3) : Vec F S224x5120 .f32 :=
  k0_pay4 (ex x1) (View.ld x0 rA) y (View.ld x3 rW)

/-- The sum with the residual after the last block, from the finished accumulator. -/
def fin (y : Vec F S224x5120 .f32) (x1 : Vec F S224x128 .f32) (x2 : Vec F S224x5120 .f32) (x4 : Vec F S1x5120 .f32) : Vec F S224x5120 .f32 :=
  k0_pay5 (ex x1) (View.ld x2 rY) y (View.ld x4 rS)

/-- The same in the narrow type. -/
def nar (y : Vec F S224x5120 .f32) (x1 : Vec F S224x128 .f32) (x2 : Vec F S224x5120 .f32) (x4 : Vec F S1x5120 .f32) : Vec F S224x5120 .bf16 :=
  k0_pay6 (ex x1) (View.ld x2 rY) y (View.ld x4 rS)

set_option maxHeartbeats 4000000 in
/-- The body's triple in case A: the inputs are left as they were, the outputs at the values named. -/
theorem runA (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : cond0_0 i) (hc1 : ¬ cond0_1 i)
    (x0 : Vec F S224x1280 .f32) (x1 : Vec F S224x128 .f32) (x2 : Vec F S224x5120 .f32) (x3 : Vec F S1280x5120 .fp8e4m3) (x4 : Vec F S1x5120 .f32) (x6 : Vec F S224x5120 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (acc (View.ld k0_pay3 rY) x0 x1 x3) ∗ owns (c : Thread nD τ) arg7 fullShare x6 ∗ owns (c : Thread nD τ) arg8 fullShare (cod x0 x1) ∗ owns (c : Thread nD τ) arg9 fullShare (scl x1)) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0 hf1 hf2 hf3 hf4 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    unfold acc
    congr 1 <;> first | rfl | exact cov_whole _ hz2 _ _ _ _
  isplitl [H6]
  · iexists f6; isplitr; · ipureintro; rfl
    iexact H6
  isplitl [H7]
  · iexists _; isplitr
    swap; · iexact H7
    ipureintro
    refine (rd_whole _ _ hz2 _ _ _).trans ?_
    rfl
  iexists _; isplitr
  swap; · iexact H8
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : ¬ cond0_0 i) (hc1 : ¬ cond0_1 i)
    (x0 : Vec F S224x1280 .f32) (x1 : Vec F S224x128 .f32) (x2 : Vec F S224x5120 .f32) (x3 : Vec F S1280x5120 .fp8e4m3) (x4 : Vec F S1x5120 .f32) (x5 : Vec F S224x5120 .f32) (x6 : Vec F S224x5120 .bf16) (x8 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (acc (View.ld x5 rY) x0 x1 x3) ∗ owns (c : Thread nD τ) arg7 fullShare x6 ∗ owns (c : Thread nD τ) arg8 fullShare (cod x0 x1) ∗ owns (c : Thread nD τ) arg9 fullShare x8) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    rfl
  isplitl [H6]
  · iexists f6; isplitr; · ipureintro; rfl
    iexact H6
  isplitl [H7]
  · iexists _; isplitr
    swap; · iexact H7
    ipureintro
    refine (rd_whole _ _ hz2 _ _ _).trans ?_
    rfl
  iexists f8; isplitr; · ipureintro; rfl
  iexact H8

set_option maxHeartbeats 4000000 in
/-- The body's triple in case C: the inputs are left as they were, the outputs at the values named. -/
theorem runC (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : ¬ cond0_0 i) (hc1 : cond0_1 i)
    (x0 : Vec F S224x1280 .f32) (x1 : Vec F S224x128 .f32) (x2 : Vec F S224x5120 .f32) (x3 : Vec F S1280x5120 .fp8e4m3) (x4 : Vec F S1x5120 .f32) (x5 : Vec F S224x5120 .f32) (x8 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fin (View.ld (acc (View.ld x5 rY) x0 x1 x3) rY) x1 x2 x4) ∗ owns (c : Thread nD τ) arg7 fullShare (nar (View.ld (acc (View.ld x5 rY) x0 x1 x3) rY) x1 x2 x4) ∗ owns (c : Thread nD τ) arg8 fullShare (cod x0 x1) ∗ owns (c : Thread nD τ) arg9 fullShare x8) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    unfold fin
    congr 1 <;> first | rfl | exact cov_whole _ hz2 _ _ _ _
  isplitl [H6]
  · iexists _; isplitr
    swap; · iexact H6
    ipureintro
    refine (rd_whole _ _ hz2 _ _ _).trans ?_
    unfold nar
    congr 1 <;> first | rfl | exact cov_whole _ hz2 _ _ _ _
  isplitl [H7]
  · iexists _; isplitr
    swap; · iexact H7
    ipureintro
    refine (rd_whole _ _ hz2 _ _ _).trans ?_
    rfl
  iexists f8; isplitr; · ipureintro; rfl
  iexact H8

/-- The accumulator after each point. -/
def accAt (c : Dev nD) : (n : Nat) → n < cfg0.N → Vec F S224x5120 .f32
  | 0, h => acc k0_pay3 (iblk m c 0 ⟨0, h⟩) (iblk m c 1 ⟨0, h⟩) (iblk m c 3 ⟨0, h⟩)
  | n + 1, h => acc (accAt c n (Nat.lt_of_succ_lt h)) (iblk m c 0 ⟨n + 1, h⟩) (iblk m c 1 ⟨n + 1, h⟩) (iblk m c 3 ⟨n + 1, h⟩)

/-- The scales, of the first point's block. -/
def SCL (c : Dev nD) : Vec F S224x128 .f32 := scl (iblk m c 1 ⟨0, by decide⟩)
theorem SCL_eq (c : Dev nD) (t : Fin cfg0.N) : SCL m c = scl (iblk m c 1 t) := rfl

/-- The finished accumulator. -/
def ACC (c : Dev nD) : Vec F S224x5120 .f32 := accAt m c 13 (by decide)

/-- The two results of the last point. -/
def FIN (c : Dev nD) : Vec F S224x5120 .f32 := fin (ACC m c) (iblk m c 1 ⟨0, by decide⟩) (iblk m c 2 ⟨0, by decide⟩) (iblk m c 4 ⟨0, by decide⟩)
def NAR (c : Dev nD) : Vec F S224x5120 .bf16 := nar (ACC m c) (iblk m c 1 ⟨0, by decide⟩) (iblk m c 2 ⟨0, by decide⟩) (iblk m c 4 ⟨0, by decide⟩)
theorem FIN_eq (c : Dev nD) (t : Fin cfg0.N) : FIN m c = fin (ACC m c) (iblk m c 1 t) (iblk m c 2 t) (iblk m c 4 t) := rfl
theorem NAR_eq (c : Dev nD) (t : Fin cfg0.N) : NAR m c = nar (ACC m c) (iblk m c 1 t) (iblk m c 2 t) (iblk m c 4 t) := rfl

/-- What the accumulating window holds after each point: the last one turns it into the result. -/
def yAt (c : Dev nD) (t : Fin cfg0.N) : Vec F S224x5120 .f32 := if t.val % 14 = 13 then FIN m c else accAt m c t.val t.isLt

theorem accAt_zero (c : Dev nD) (t : Fin cfg0.N) (ht : t.val % 14 = 0) :
    accAt m c t.val t.isLt = acc k0_pay3 (iblk m c 0 t) (iblk m c 1 t) (iblk m c 3 t) := by
  have hN : t.val < 14 := lt_of_lt_of_eq t.isLt (show cfg0.N = 14 from N_0)
  obtain ⟨n, hn⟩ := t
  obtain rfl : n = 0 := by simp only at ht hN; omega
  rfl

theorem accAt_succ (c : Dev nD) (t : Fin cfg0.N) (ht : ¬ t.val % 14 = 0) :
    accAt m c t.val t.isLt = acc (accAt m c (t.val - 1) (by have := t.isLt; omega)) (iblk m c 0 t) (iblk m c 1 t) (iblk m c 3 t) := by
  obtain ⟨n, hn⟩ := t
  cases n with
  | zero => exact absurd rfl ht
  | succ n => rfl

theorem ACC_eq (c : Dev nD) (t : Fin cfg0.N) (ht : t.val % 14 = 13) : ACC m c = accAt m c t.val t.isLt := by
  have hN : t.val < 14 := lt_of_lt_of_eq t.isLt (show cfg0.N = 14 from N_0)
  obtain ⟨n, hn⟩ := t
  obtain rfl : n = 13 := by simp only at ht hN; omega
  rfl

theorem yAt_first (c : Dev nD) (t : Fin cfg0.N) (ht : t.val % 14 = 0) :
    yAt m c t = acc k0_pay3 (iblk m c 0 t) (iblk m c 1 t) (iblk m c 3 t) := by
  rw [yAt, if_neg (by omega), accAt_zero m c t ht]

theorem yAt_pred (c : Dev nD) (t : Fin cfg0.N) (ht : ¬ t.val % 14 = 0) :
    yAt m c ⟨t.val - 1, by have := t.isLt; omega⟩ = accAt m c (t.val - 1) (by have := t.isLt; omega) := by
  have hN : t.val < 14 := lt_of_lt_of_eq t.isLt (show cfg0.N = 14 from N_0)
  rw [yAt, if_neg (by simp only; omega)]

theorem yAt_mid (c : Dev nD) (t : Fin cfg0.N) (ht : ¬ t.val % 14 = 0) (hl : ¬ t.val % 14 = 13) :
    yAt m c t = acc (yAt m c ⟨t.val - 1, by have := t.isLt; omega⟩) (iblk m c 0 t) (iblk m c 1 t) (iblk m c 3 t) := by
  rw [yAt_pred m c t ht, yAt, if_neg hl, accAt_succ m c t ht]

theorem yAt_last (c : Dev nD) (t : Fin cfg0.N) (ht : ¬ t.val % 14 = 0) (hl : t.val % 14 = 13) :
    yAt m c t = fin (acc (yAt m c ⟨t.val - 1, by have := t.isLt; omega⟩) (iblk m c 0 t) (iblk m c 1 t) (iblk m c 3 t)) (iblk m c 1 t) (iblk m c 2 t) (iblk m c 4 t) := by
  rw [yAt_pred m c t ht, yAt, if_pos hl, FIN_eq m c t, ACC_eq m c t hl, accAt_succ m c t ht]

theorem NAR_last (c : Dev nD) (t : Fin cfg0.N) (ht : ¬ t.val % 14 = 0) (hl : t.val % 14 = 13) :
    NAR m c = nar (acc (yAt m c ⟨t.val - 1, by have := t.isLt; omega⟩) (iblk m c 0 t) (iblk m c 1 t) (iblk m c 3 t)) (iblk m c 1 t) (iblk m c 2 t) (iblk m c 4 t) := by
  rw [yAt_pred m c t ht, NAR_eq m c t, ACC_eq m c t hl, accAt_succ m c t ht]

theorem live0_8 : ∀ t : Fin cfg0.N, t.val % 14 = 0 → cfg0.idle 8 (cfg0.grid.coords t) = false := by decide +kernel
theorem live0_6 : ∀ t : Fin cfg0.N, t.val % 14 = 13 → cfg0.idle 6 (cfg0.grid.coords t) = false := by decide +kernel
theorem idle0_6 : ∀ t : Fin cfg0.N, ¬ t.val % 14 = 13 → cfg0.idle 6 (cfg0.grid.coords t) = true := by decide +kernel
theorem nofl0_6 (t : Fin cfg0.N) (h : ¬ t.val % 14 = 13) : (cfg0.win 6).flush t = false := by
  rw [Window.flush_eq_flushF]
  exact (by decide +kernel : ∀ t : Fin cfg0.N, ¬ t.val % 14 = 13 → (cfg0.win 6).flushF t = false) t h

theorem ldA {e : EltTy} (X : Vec F S224x1280 e) : View.ld X rA = X := View.ld_unit_zero hz2 _ X
theorem ldY {e : EltTy} (X : Vec F S224x5120 e) : View.ld X rY = X := View.ld_unit_zero hz2 _ X
theorem ldW {e : EltTy} (X : Vec F S1280x5120 e) : View.ld X rW = X := View.ld_unit_zero hz2 _ X
theorem ldS {e : EltTy} (X : Vec F S1x5120 e) : View.ld X rS = X := View.ld_unit_zero hz2 _ X

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => NAR m c
    | ⟨7, _⟩ => cod (iblk m c 0 t) (iblk m c 1 t)
    | ⟨8, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = NAR m c := by dsimp only [dats]
theorem after0_7 (c : Dev nD) (t : Fin cfg0.N) : (dats m 0 c).after 7 t = cod (iblk m c 0 t) (iblk m c 1 t) := by dsimp only [dats]
theorem after0_8 (c : Dev nD) (t : Fin cfg0.N) : (dats m 0 c).after 8 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fresh0_5 : ∀ t : Fin cfg0.N, cfg0.fresh 5 t.val = decide (t.val % 14 = 0) := fun t =>
  cfg0.fresh_tab 5 (fun n => decide (n % 14 = 0)) rfl
    (by simp only [Window.flush_eq_flushF]; exact (by decide +kernel : ∀ t : Fin cfg0.N, decide ((t.val + 1) % 14 = 0) = ((cfg0.win 5).flushF t || (cfg0.idle 5 (cfg0.grid.coords t) && decide (t.val % 14 = 0))))) t.val (Nat.le_of_lt t.isLt)

/-- Past the first point of a run, output window 5's buffer holds what the point before left. -/
theorem before0_5 (c : Dev nD) (t : Fin cfg0.N) (ht : ¬ t.val % 14 = 0) (d) :
    (dats m 0 c).before 5 t d = (dats m 0 c).after 5 ⟨t.val - 1, by have := t.isLt; omega⟩ := by
  rw [(dats m 0 c).before_out_traj 5 rfl (fun _ _ => rfl) (fun t ht hi => absurd hi (by exact Bool.false_ne_true)) t.val t rfl d, fresh0_5,
    if_neg (by simpa using ht)]

theorem fresh0_8 : ∀ t : Fin cfg0.N, cfg0.fresh 8 t.val = decide (t.val % 14 = 0) := fun t =>
  cfg0.fresh_tab 8 (fun n => decide (n % 14 = 0)) rfl
    (by simp only [Window.flush_eq_flushF]; exact (by decide +kernel : ∀ t : Fin cfg0.N, decide ((t.val + 1) % 14 = 0) = ((cfg0.win 8).flushF t || (cfg0.idle 8 (cfg0.grid.coords t) && decide (t.val % 14 = 0))))) t.val (Nat.le_of_lt t.isLt)

/-- Past the first point of a run, output window 8's buffer holds what the point before left. -/
theorem before0_8 (c : Dev nD) (t : Fin cfg0.N) (ht : ¬ t.val % 14 = 0) (d) :
    (dats m 0 c).before 8 t d = (dats m 0 c).after 8 ⟨t.val - 1, by have := t.isLt; omega⟩ := by
  rw [(dats m 0 c).before_out_traj 8 rfl (fun _ _ => rfl) (fun t ht hidle hfr => by rw [after0_8, after0_8]) t.val t rfl d, fresh0_8,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem carry0_8 (c : Dev nD) (t : Fin cfg0.N) (ht : ¬ t.val % 14 = 0) : (dats m 0 c).after 8 t = (dats m 0 c).after 8 ⟨t.val - 1, by have := t.isLt; omega⟩ := by rw [after0_8, after0_8]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  rw [show (dats m 0 c).leavesExact 5 t = owns (c : Thread nD τ) (ms0_5 t) fullShare ((dats m 0 c).after 5 t) from by
    unfold Dat.leavesExact; rw [show cfg0.idle 5 (cfg0.grid.coords t) = false from rfl]]
/-- At the last point, leaving window 6's buffer at its value is leaving it as the proof data say. -/
theorem leaves0_6 (c : Dev nD) (t : Fin cfg0.N) (ht : t.val % 14 = 13) : owns (c : Thread nD τ) (ms0_6 t) fullShare ((dats m 0 c).after 6 t) ⊢ (dats m 0 c).leavesExact 6 t := by
  rw [show (dats m 0 c).leavesExact 6 t = owns (c : Thread nD τ) (ms0_6 t) fullShare ((dats m 0 c).after 6 t) from by
    unfold Dat.leavesExact; rw [live0_6 t ht]]
/-- Leaving window 7's buffer at its value is leaving it as the proof data say. -/
theorem leaves0_7 (c : Dev nD) (t : Fin cfg0.N) : owns (c : Thread nD τ) (ms0_7 t) fullShare ((dats m 0 c).after 7 t) ⊢ (dats m 0 c).leavesExact 7 t := by
  rw [show (dats m 0 c).leavesExact 7 t = owns (c : Thread nD τ) (ms0_7 t) fullShare ((dats m 0 c).after 7 t) from by
    unfold Dat.leavesExact; rw [show cfg0.idle 7 (cfg0.grid.coords t) = false from rfl]]
/-- Leaving window 8's buffer at its value is leaving it as the proof data say. -/
theorem leaves0_8 (c : Dev nD) (t : Fin cfg0.N) : owns (c : Thread nD τ) (ms0_8 t) fullShare ((dats m 0 c).after 8 t) ⊢ (dats m 0 c).leavesExact 8 t := by
  cases hi : cfg0.idle 8 (cfg0.grid.coords t)
  · rw [show (dats m 0 c).leavesExact 8 t = owns (c : Thread nD τ) (ms0_8 t) fullShare ((dats m 0 c).after 8 t) from by
      unfold Dat.leavesExact; rw [hi]]
  · cases hf : (cfg0.win 8).flush t
    · rw [(dats m 0 c).leavesExact_idle 8 t hi hf]
      by_cases ht : t.val % 14 = 0
      · exact absurd hi (by rw [live0_8 t ht]; exact Bool.false_ne_true)
      · iintro H
        iexists (Classical.arbitrary _)
        rw [before0_8 m c t ht, ← carry0_8 m c t ht]
        iexact H
    · rw [show (dats m 0 c).leavesExact 8 t = owns (c : Thread nD τ) (ms0_8 t) fullShare ((dats m 0 c).after 8 t) from by
        unfold Dat.leavesExact; rw [hi, hf]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 14 := lt_of_lt_of_eq t.isLt (show cfg0.N = 14 from N_0)
  by_cases h0 : t.val % 14 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); simp only [ldY]; rw [after0_5, yAt_first m c t h0]; iexact H5
    isplitl [H6]; · rw [(dats m 0 c).leavesExact_idle 6 t (idle0_6 t (by omega)) (nofl0_6 t (by omega))]; iexists d6; iexact H6
    isplitl [H7]; · iapply (leaves0_7 m c t); rw [after0_7]; iexact H7
    iapply (leaves0_8 m c t); rw [after0_8, SCL_eq m c t]; iexact H8
  · skip
    by_cases h1 : ¬ t.val % 14 = 13
    · simp only [before0_5 m c t h0, before0_8 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) ((dats m 0 c).after 5 ⟨t.val - 1, by have := t.isLt; omega⟩) ((dats m 0 c).before 6 t d6) ((dats m 0 c).after 8 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t); rw [after0_2]; iexact H2
      isplitl [H3]; · iapply (leaves0_3 m c t); rw [after0_3]; iexact H3
      isplitl [H4]; · iapply (leaves0_4 m c t); rw [after0_4]; iexact H4
      isplitl [H5]; · iapply (leaves0_5 m c t); simp only [after0_5, ldY]; rw [yAt_mid m c t h0 h1]; iexact H5
      isplitl [H6]; · rw [(dats m 0 c).leavesExact_idle 6 t (idle0_6 t h1) (nofl0_6 t h1)]; iexists d6; iexact H6
      isplitl [H7]; · iapply (leaves0_7 m c t); rw [after0_7]; iexact H7
      iapply (leaves0_8 m c t); simp only [after0_8]; iexact H8
    · skip
      simp only [before0_5 m c t h0, before0_8 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) _ _ _ _ _ _ _ _ _ _ _ _ _ _ _ _ _ _ (fun h => h0 ((hcond0_0 t).mp h)) ((hcond0_1 t).mpr (by omega)) (iblk m c 0 t) (iblk m c 1 t) (iblk m c 2 t) (iblk m c 3 t) (iblk m c 4 t) ((dats m 0 c).after 5 ⟨t.val - 1, by have := t.isLt; omega⟩) ((dats m 0 c).after 8 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t); rw [after0_2]; iexact H2
      isplitl [H3]; · iapply (leaves0_3 m c t); rw [after0_3]; iexact H3
      isplitl [H4]; · iapply (leaves0_4 m c t); rw [after0_4]; iexact H4
      isplitl [H5]; · iapply (leaves0_5 m c t); simp only [after0_5, ldY]; rw [yAt_last m c t h0 (by omega)]; iexact H5
      isplitl [H6]; · iapply (leaves0_6 m c t (by omega)); simp only [after0_5, after0_6, ldY]; rw [NAR_last m c t h0 (by omega)]; iexact H6
      isplitl [H7]; · iapply (leaves0_7 m c t); rw [after0_7]; iexact H7
      iapply (leaves0_8 m c t); simp only [after0_8]; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Down.Run

end
-- ==== Proof.DownRun.lean ====
/- The run of the program `DownIdeal`: what its body leaves in each window at each grid point, and the arrays after the last. -/
module

public import proofs.«01_k».proof.Proof.Gen.DownIdeal.Frame
public import proofs.«01_k».proof.Proof.Gen.DownIdeal.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.DownIdeal.Run

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S224x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x5120 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S224x1280 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S224x128 .f32 := win0_8.stage (cfg0.slots t 8)
abbrev hs0_8 (t : Fin cfg0.N) : (ms0_8 t).IsWhole := hstage0_8 ((cfg0.slots t 8).cast nbuf0_8)

/-! ## What the body computes -/

abbrev rA : Rect S224x1280 := Rect.unit (s := S224x1280) ![0, 0] S224x1280.size inb_S224x1280_S224x1280_0_0
abbrev rY : Rect S224x5120 := Rect.unit (s := S224x5120) ![0, 0] S224x5120.size inb_S224x5120_S224x5120_0_0
abbrev rW : Rect S1280x5120 := Rect.unit (s := S1280x5120) ![0, 0] S1280x5120.size inb_S1280x5120_S1280x5120_0_0
abbrev rS : Rect S1x5120 := Rect.unit (s := S1x5120) ![0, 0] S1x5120.size inb_S1x5120_S1x5120_0_0
abbrev rC : Rect S224x128 := Rect.unit (s := S224x128) ![0, 0] S224x1.size inb_S224x128_S224x1_0_0

/-- The exponents of the rows' scales. -/
def ex (x1 : Vec F S224x128 .f32) : IVec S224x1 32 := k0_pay10 (k0_pay7 (View.ld x1 rC)) (k0_pay8 (View.ld x1 rC)) (k0_pay9 (View.ld x1 rC))

/-- The codes of one block of the rows. -/
def cod (x0 : Vec F S224x1280 .f32) (x1 : Vec F S224x128 .f32) : Vec F S224x1280 .fp8e4m3 := k0_pay1 (ex x1) (View.ld x0 rA)

/-- The scales, one a row along 128 lanes. -/
def scl (x1 : Vec F S224x128 .f32) : Vec F S224x128 .f32 := k0_pay2 (F := F) (ex x1)

/-- The accumulator after one more block. -/
def acc (y : Vec F S224x5120 .f32) (x0 : Vec F S224x1280 .f32) (x1 : Vec F S224x128 .f32) (x3 : Vec F S1280x5120 .fp8e4m3) : Vec F S224x5120 .f32 :=
  k0_pay4 (ex x1) (View.ld x0 rA) y (View.ld x3 rW)

/-- The sum with the residual after the last block, from the finished accumulator. -/
def fin (y : Vec F S224x5120 .f32) (x1 : Vec F S224x128 .f32) (x2 : Vec F S224x5120 .f32) (x4 : Vec F S1x5120 .f32) : Vec F S224x5120 .f32 :=
  k0_pay5 (ex x1) (View.ld x2 rY) y (View.ld x4 rS)

/-- The same in the narrow type. -/
def nar (y : Vec F S224x5120 .f32) (x1 : Vec F S224x128 .f32) (x2 : Vec F S224x5120 .f32) (x4 : Vec F S1x5120 .f32) : Vec F S224x5120 .bf16 :=
  k0_pay6 (ex x1) (View.ld x2 rY) y (View.ld x4 rS)

set_option maxHeartbeats 4000000 in
/-- The body's triple in case A: the inputs are left as they were, the outputs at the values named. -/
theorem runA (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : cond0_0 i) (hc1 : ¬ cond0_1 i)
    (x0 : Vec F S224x1280 .f32) (x1 : Vec F S224x128 .f32) (x2 : Vec F S224x5120 .f32) (x3 : Vec F S1280x5120 .fp8e4m3) (x4 : Vec F S1x5120 .f32) (x6 : Vec F S224x5120 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (acc (View.ld k0_pay3 rY) x0 x1 x3) ∗ owns (c : Thread nD τ) arg7 fullShare x6 ∗ owns (c : Thread nD τ) arg8 fullShare (cod x0 x1) ∗ owns (c : Thread nD τ) arg9 fullShare (scl x1)) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  subst hf0 hf1 hf2 hf3 hf4 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    unfold acc
    congr 1 <;> first | rfl | exact cov_whole _ hz2 _ _ _ _
  isplitl [H6]
  · iexists f6; isplitr; · ipureintro; rfl
    iexact H6
  isplitl [H7]
  · iexists _; isplitr
    swap; · iexact H7
    ipureintro
    refine (rd_whole _ _ hz2 _ _ _).trans ?_
    rfl
  iexists _; isplitr
  swap; · iexact H8
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : ¬ cond0_0 i) (hc1 : ¬ cond0_1 i)
    (x0 : Vec F S224x1280 .f32) (x1 : Vec F S224x128 .f32) (x2 : Vec F S224x5120 .f32) (x3 : Vec F S1280x5120 .fp8e4m3) (x4 : Vec F S1x5120 .f32) (x5 : Vec F S224x5120 .f32) (x6 : Vec F S224x5120 .bf16) (x8 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (acc (View.ld x5 rY) x0 x1 x3) ∗ owns (c : Thread nD τ) arg7 fullShare x6 ∗ owns (c : Thread nD τ) arg8 fullShare (cod x0 x1) ∗ owns (c : Thread nD τ) arg9 fullShare x8) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf0 hf1 hf2 hf3 hf4 hf5 hf6 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    rfl
  isplitl [H6]
  · iexists f6; isplitr; · ipureintro; rfl
    iexact H6
  isplitl [H7]
  · iexists _; isplitr
    swap; · iexact H7
    ipureintro
    refine (rd_whole _ _ hz2 _ _ _).trans ?_
    rfl
  iexists f8; isplitr; · ipureintro; rfl
  iexact H8

set_option maxHeartbeats 4000000 in
/-- The body's triple in case C: the inputs are left as they were, the outputs at the values named. -/
theorem runC (c : Dev nD) (i : grid0.Coords) (arg1 : Memref sig .tc .vmem S224x1280 .f32) (harg1 : arg1.IsWhole) (arg2 : Memref sig .tc .vmem S224x128 .f32) (harg2 : arg2.IsWhole) (arg3 : Memref sig .tc .vmem S224x5120 .f32) (harg3 : arg3.IsWhole) (arg4 : Memref sig .tc .vmem S1280x5120 .fp8e4m3) (harg4 : arg4.IsWhole) (arg5 : Memref sig .tc .vmem S1x5120 .f32) (harg5 : arg5.IsWhole) (arg6 : Memref sig .tc .vmem S224x5120 .f32) (harg6 : arg6.IsWhole) (arg7 : Memref sig .tc .vmem S224x5120 .bf16) (harg7 : arg7.IsWhole) (arg8 : Memref sig .tc .vmem S224x1280 .fp8e4m3) (harg8 : arg8.IsWhole) (arg9 : Memref sig .tc .vmem S224x128 .f32) (harg9 : arg9.IsWhole) (hc0 : ¬ cond0_0 i) (hc1 : cond0_1 i)
    (x0 : Vec F S224x1280 .f32) (x1 : Vec F S224x128 .f32) (x2 : Vec F S224x5120 .f32) (x3 : Vec F S1280x5120 .fp8e4m3) (x4 : Vec F S1x5120 .f32) (x5 : Vec F S224x5120 .f32) (x8 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fin (View.ld (acc (View.ld x5 rY) x0 x1 x3) rY) x1 x2 x4) ∗ owns (c : Thread nD τ) arg7 fullShare (nar (View.ld (acc (View.ld x5 rY) x0 x1 x3) rY) x1 x2 x4) ∗ owns (c : Thread nD τ) arg8 fullShare (cod x0 x1) ∗ owns (c : Thread nD τ) arg9 fullShare x8) -∗ K ⟨⟩))
      ⊢ wp frame (wpE (defs₀ (F := F)) Variants.none c none) E (cc0_down i arg1 harg1 arg2 harg2 arg3 harg3 arg4 harg4 arg5 harg5 arg6 harg6 arg7 harg7 arg8 harg8 arg9 harg9) K := by
  simp only [cc0_down_eq_skeleton]; unfold cc0_down_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (rd_whole _ _ hz2 _ _ _).trans ?_
    unfold fin
    congr 1 <;> first | rfl | exact cov_whole _ hz2 _ _ _ _
  isplitl [H6]
  · iexists _; isplitr
    swap; · iexact H6
    ipureintro
    refine (rd_whole _ _ hz2 _ _ _).trans ?_
    unfold nar
    congr 1 <;> first | rfl | exact cov_whole _ hz2 _ _ _ _
  isplitl [H7]
  · iexists _; isplitr
    swap; · iexact H7
    ipureintro
    refine (rd_whole _ _ hz2 _ _ _).trans ?_
    rfl
  iexists f8; isplitr; · ipureintro; rfl
  iexact H8

/-- The accumulator after each point. -/
def accAt (c : Dev nD) : (n : Nat) → n < cfg0.N → Vec F S224x5120 .f32
  | 0, h => acc k0_pay3 (iblk m c 0 ⟨0, h⟩) (iblk m c 1 ⟨0, h⟩) (iblk m c 3 ⟨0, h⟩)
  | n + 1, h => acc (accAt c n (Nat.lt_of_succ_lt h)) (iblk m c 0 ⟨n + 1, h⟩) (iblk m c 1 ⟨n + 1, h⟩) (iblk m c 3 ⟨n + 1, h⟩)

/-- The scales, of the first point's block. -/
def SCL (c : Dev nD) : Vec F S224x128 .f32 := scl (iblk m c 1 ⟨0, by decide⟩)
theorem SCL_eq (c : Dev nD) (t : Fin cfg0.N) : SCL m c = scl (iblk m c 1 t) := rfl

/-- The finished accumulator. -/
def ACC (c : Dev nD) : Vec F S224x5120 .f32 := accAt m c 13 (by decide)

/-- The two results of the last point. -/
def FIN (c : Dev nD) : Vec F S224x5120 .f32 := fin (ACC m c) (iblk m c 1 ⟨0, by decide⟩) (iblk m c 2 ⟨0, by decide⟩) (iblk m c 4 ⟨0, by decide⟩)
def NAR (c : Dev nD) : Vec F S224x5120 .bf16 := nar (ACC m c) (iblk m c 1 ⟨0, by decide⟩) (iblk m c 2 ⟨0, by decide⟩) (iblk m c 4 ⟨0, by decide⟩)
theorem FIN_eq (c : Dev nD) (t : Fin cfg0.N) : FIN m c = fin (ACC m c) (iblk m c 1 t) (iblk m c 2 t) (iblk m c 4 t) := rfl
theorem NAR_eq (c : Dev nD) (t : Fin cfg0.N) : NAR m c = nar (ACC m c) (iblk m c 1 t) (iblk m c 2 t) (iblk m c 4 t) := rfl

/-- What the accumulating window holds after each point: the last one turns it into the result. -/
def yAt (c : Dev nD) (t : Fin cfg0.N) : Vec F S224x5120 .f32 := if t.val % 14 = 13 then FIN m c else accAt m c t.val t.isLt

theorem accAt_zero (c : Dev nD) (t : Fin cfg0.N) (ht : t.val % 14 = 0) :
    accAt m c t.val t.isLt = acc k0_pay3 (iblk m c 0 t) (iblk m c 1 t) (iblk m c 3 t) := by
  have hN : t.val < 14 := lt_of_lt_of_eq t.isLt (show cfg0.N = 14 from N_0)
  obtain ⟨n, hn⟩ := t
  obtain rfl : n = 0 := by simp only at ht hN; omega
  rfl

theorem accAt_succ (c : Dev nD) (t : Fin cfg0.N) (ht : ¬ t.val % 14 = 0) :
    accAt m c t.val t.isLt = acc (accAt m c (t.val - 1) (by have := t.isLt; omega)) (iblk m c 0 t) (iblk m c 1 t) (iblk m c 3 t) := by
  obtain ⟨n, hn⟩ := t
  cases n with
  | zero => exact absurd rfl ht
  | succ n => rfl

theorem ACC_eq (c : Dev nD) (t : Fin cfg0.N) (ht : t.val % 14 = 13) : ACC m c = accAt m c t.val t.isLt := by
  have hN : t.val < 14 := lt_of_lt_of_eq t.isLt (show cfg0.N = 14 from N_0)
  obtain ⟨n, hn⟩ := t
  obtain rfl : n = 13 := by simp only at ht hN; omega
  rfl

theorem yAt_first (c : Dev nD) (t : Fin cfg0.N) (ht : t.val % 14 = 0) :
    yAt m c t = acc k0_pay3 (iblk m c 0 t) (iblk m c 1 t) (iblk m c 3 t) := by
  rw [yAt, if_neg (by omega), accAt_zero m c t ht]

theorem yAt_pred (c : Dev nD) (t : Fin cfg0.N) (ht : ¬ t.val % 14 = 0) :
    yAt m c ⟨t.val - 1, by have := t.isLt; omega⟩ = accAt m c (t.val - 1) (by have := t.isLt; omega) := by
  have hN : t.val < 14 := lt_of_lt_of_eq t.isLt (show cfg0.N = 14 from N_0)
  rw [yAt, if_neg (by simp only; omega)]

theorem yAt_mid (c : Dev nD) (t : Fin cfg0.N) (ht : ¬ t.val % 14 = 0) (hl : ¬ t.val % 14 = 13) :
    yAt m c t = acc (yAt m c ⟨t.val - 1, by have := t.isLt; omega⟩) (iblk m c 0 t) (iblk m c 1 t) (iblk m c 3 t) := by
  rw [yAt_pred m c t ht, yAt, if_neg hl, accAt_succ m c t ht]

theorem yAt_last (c : Dev nD) (t : Fin cfg0.N) (ht : ¬ t.val % 14 = 0) (hl : t.val % 14 = 13) :
    yAt m c t = fin (acc (yAt m c ⟨t.val - 1, by have := t.isLt; omega⟩) (iblk m c 0 t) (iblk m c 1 t) (iblk m c 3 t)) (iblk m c 1 t) (iblk m c 2 t) (iblk m c 4 t) := by
  rw [yAt_pred m c t ht, yAt, if_pos hl, FIN_eq m c t, ACC_eq m c t hl, accAt_succ m c t ht]

theorem NAR_last (c : Dev nD) (t : Fin cfg0.N) (ht : ¬ t.val % 14 = 0) (hl : t.val % 14 = 13) :
    NAR m c = nar (acc (yAt m c ⟨t.val - 1, by have := t.isLt; omega⟩) (iblk m c 0 t) (iblk m c 1 t) (iblk m c 3 t)) (iblk m c 1 t) (iblk m c 2 t) (iblk m c 4 t) := by
  rw [yAt_pred m c t ht, NAR_eq m c t, ACC_eq m c t hl, accAt_succ m c t ht]

theorem live0_8 : ∀ t : Fin cfg0.N, t.val % 14 = 0 → cfg0.idle 8 (cfg0.grid.coords t) = false := by decide +kernel
theorem live0_6 : ∀ t : Fin cfg0.N, t.val % 14 = 13 → cfg0.idle 6 (cfg0.grid.coords t) = false := by decide +kernel
theorem idle0_6 : ∀ t : Fin cfg0.N, ¬ t.val % 14 = 13 → cfg0.idle 6 (cfg0.grid.coords t) = true := by decide +kernel
theorem nofl0_6 (t : Fin cfg0.N) (h : ¬ t.val % 14 = 13) : (cfg0.win 6).flush t = false := by
  rw [Window.flush_eq_flushF]
  exact (by decide +kernel : ∀ t : Fin cfg0.N, ¬ t.val % 14 = 13 → (cfg0.win 6).flushF t = false) t h

theorem ldA {e : EltTy} (X : Vec F S224x1280 e) : View.ld X rA = X := View.ld_unit_zero hz2 _ X
theorem ldY {e : EltTy} (X : Vec F S224x5120 e) : View.ld X rY = X := View.ld_unit_zero hz2 _ X
theorem ldW {e : EltTy} (X : Vec F S1280x5120 e) : View.ld X rW = X := View.ld_unit_zero hz2 _ X
theorem ldS {e : EltTy} (X : Vec F S1x5120 e) : View.ld X rS = X := View.ld_unit_zero hz2 _ X

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => NAR m c
    | ⟨7, _⟩ => cod (iblk m c 0 t) (iblk m c 1 t)
    | ⟨8, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = NAR m c := by dsimp only [dats]
theorem after0_7 (c : Dev nD) (t : Fin cfg0.N) : (dats m 0 c).after 7 t = cod (iblk m c 0 t) (iblk m c 1 t) := by dsimp only [dats]
theorem after0_8 (c : Dev nD) (t : Fin cfg0.N) : (dats m 0 c).after 8 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem fresh0_5 : ∀ t : Fin cfg0.N, cfg0.fresh 5 t.val = decide (t.val % 14 = 0) := fun t =>
  cfg0.fresh_tab 5 (fun n => decide (n % 14 = 0)) rfl
    (by simp only [Window.flush_eq_flushF]; exact (by decide +kernel : ∀ t : Fin cfg0.N, decide ((t.val + 1) % 14 = 0) = ((cfg0.win 5).flushF t || (cfg0.idle 5 (cfg0.grid.coords t) && decide (t.val % 14 = 0))))) t.val (Nat.le_of_lt t.isLt)

/-- Past the first point of a run, output window 5's buffer holds what the point before left. -/
theorem before0_5 (c : Dev nD) (t : Fin cfg0.N) (ht : ¬ t.val % 14 = 0) (d) :
    (dats m 0 c).before 5 t d = (dats m 0 c).after 5 ⟨t.val - 1, by have := t.isLt; omega⟩ := by
  rw [(dats m 0 c).before_out_traj 5 rfl (fun _ _ => rfl) (fun t ht hi => absurd hi (by exact Bool.false_ne_true)) t.val t rfl d, fresh0_5,
    if_neg (by simpa using ht)]

theorem fresh0_8 : ∀ t : Fin cfg0.N, cfg0.fresh 8 t.val = decide (t.val % 14 = 0) := fun t =>
  cfg0.fresh_tab 8 (fun n => decide (n % 14 = 0)) rfl
    (by simp only [Window.flush_eq_flushF]; exact (by decide +kernel : ∀ t : Fin cfg0.N, decide ((t.val + 1) % 14 = 0) = ((cfg0.win 8).flushF t || (cfg0.idle 8 (cfg0.grid.coords t) && decide (t.val % 14 = 0))))) t.val (Nat.le_of_lt t.isLt)

/-- Past the first point of a run, output window 8's buffer holds what the point before left. -/
theorem before0_8 (c : Dev nD) (t : Fin cfg0.N) (ht : ¬ t.val % 14 = 0) (d) :
    (dats m 0 c).before 8 t d = (dats m 0 c).after 8 ⟨t.val - 1, by have := t.isLt; omega⟩ := by
  rw [(dats m 0 c).before_out_traj 8 rfl (fun _ _ => rfl) (fun t ht hidle hfr => by rw [after0_8, after0_8]) t.val t rfl d, fresh0_8,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem carry0_8 (c : Dev nD) (t : Fin cfg0.N) (ht : ¬ t.val % 14 = 0) : (dats m 0 c).after 8 t = (dats m 0 c).after 8 ⟨t.val - 1, by have := t.isLt; omega⟩ := by rw [after0_8, after0_8]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  rw [show (dats m 0 c).leavesExact 5 t = owns (c : Thread nD τ) (ms0_5 t) fullShare ((dats m 0 c).after 5 t) from by
    unfold Dat.leavesExact; rw [show cfg0.idle 5 (cfg0.grid.coords t) = false from rfl]]
/-- At the last point, leaving window 6's buffer at its value is leaving it as the proof data say. -/
theorem leaves0_6 (c : Dev nD) (t : Fin cfg0.N) (ht : t.val % 14 = 13) : owns (c : Thread nD τ) (ms0_6 t) fullShare ((dats m 0 c).after 6 t) ⊢ (dats m 0 c).leavesExact 6 t := by
  rw [show (dats m 0 c).leavesExact 6 t = owns (c : Thread nD τ) (ms0_6 t) fullShare ((dats m 0 c).after 6 t) from by
    unfold Dat.leavesExact; rw [live0_6 t ht]]
/-- Leaving window 7's buffer at its value is leaving it as the proof data say. -/
theorem leaves0_7 (c : Dev nD) (t : Fin cfg0.N) : owns (c : Thread nD τ) (ms0_7 t) fullShare ((dats m 0 c).after 7 t) ⊢ (dats m 0 c).leavesExact 7 t := by
  rw [show (dats m 0 c).leavesExact 7 t = owns (c : Thread nD τ) (ms0_7 t) fullShare ((dats m 0 c).after 7 t) from by
    unfold Dat.leavesExact; rw [show cfg0.idle 7 (cfg0.grid.coords t) = false from rfl]]
/-- Leaving window 8's buffer at its value is leaving it as the proof data say. -/
theorem leaves0_8 (c : Dev nD) (t : Fin cfg0.N) : owns (c : Thread nD τ) (ms0_8 t) fullShare ((dats m 0 c).after 8 t) ⊢ (dats m 0 c).leavesExact 8 t := by
  cases hi : cfg0.idle 8 (cfg0.grid.coords t)
  · rw [show (dats m 0 c).leavesExact 8 t = owns (c : Thread nD τ) (ms0_8 t) fullShare ((dats m 0 c).after 8 t) from by
      unfold Dat.leavesExact; rw [hi]]
  · cases hf : (cfg0.win 8).flush t
    · rw [(dats m 0 c).leavesExact_idle 8 t hi hf]
      by_cases ht : t.val % 14 = 0
      · exact absurd hi (by rw [live0_8 t ht]; exact Bool.false_ne_true)
      · iintro H
        iexists (Classical.arbitrary _)
        rw [before0_8 m c t ht, ← carry0_8 m c t ht]
        iexact H
    · rw [show (dats m 0 c).leavesExact 8 t = owns (c : Thread nD τ) (ms0_8 t) fullShare ((dats m 0 c).after 8 t) from by
        unfold Dat.leavesExact; rw [hi, hf]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 14 := lt_of_lt_of_eq t.isLt (show cfg0.N = 14 from N_0)
  by_cases h0 : t.val % 14 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ ((hcond0_0 t).mpr h0) (fun h => by have := (hcond0_1 t).mp h; omega) (iblk m c 0 t) (iblk m c 1 t) (iblk m c 2 t) (iblk m c 3 t) (iblk m c 4 t) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); rw [after0_4]; iexact H4
    isplitl [H5]; · iapply (leaves0_5 m c t); simp only [ldY]; rw [after0_5, yAt_first m c t h0]; iexact H5
    isplitl [H6]; · rw [(dats m 0 c).leavesExact_idle 6 t (idle0_6 t (by omega)) (nofl0_6 t (by omega))]; iexists d6; iexact H6
    isplitl [H7]; · iapply (leaves0_7 m c t); rw [after0_7]; iexact H7
    iapply (leaves0_8 m c t); rw [after0_8, SCL_eq m c t]; iexact H8
  · skip
    by_cases h1 : ¬ t.val % 14 = 13
    · simp only [before0_5 m c t h0, before0_8 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) ((dats m 0 c).after 5 ⟨t.val - 1, by have := t.isLt; omega⟩) ((dats m 0 c).before 6 t d6) ((dats m 0 c).after 8 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t); rw [after0_2]; iexact H2
      isplitl [H3]; · iapply (leaves0_3 m c t); rw [after0_3]; iexact H3
      isplitl [H4]; · iapply (leaves0_4 m c t); rw [after0_4]; iexact H4
      isplitl [H5]; · iapply (leaves0_5 m c t); simp only [after0_5, ldY]; rw [yAt_mid m c t h0 h1]; iexact H5
      isplitl [H6]; · rw [(dats m 0 c).leavesExact_idle 6 t (idle0_6 t h1) (nofl0_6 t h1)]; iexists d6; iexact H6
      isplitl [H7]; · iapply (leaves0_7 m c t); rw [after0_7]; iexact H7
      iapply (leaves0_8 m c t); simp only [after0_8]; iexact H8
    · skip
      simp only [before0_5 m c t h0, before0_8 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid0.coords t) _ _ _ _ _ _ _ _ _ _ _ _ _ _ _ _ _ _ (fun h => h0 ((hcond0_0 t).mp h)) ((hcond0_1 t).mpr (by omega)) (iblk m c 0 t) (iblk m c 1 t) (iblk m c 2 t) (iblk m c 3 t) (iblk m c 4 t) ((dats m 0 c).after 5 ⟨t.val - 1, by have := t.isLt; omega⟩) ((dats m 0 c).after 8 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, H6, H7, H8⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t); rw [after0_2]; iexact H2
      isplitl [H3]; · iapply (leaves0_3 m c t); rw [after0_3]; iexact H3
      isplitl [H4]; · iapply (leaves0_4 m c t); rw [after0_4]; iexact H4
      isplitl [H5]; · iapply (leaves0_5 m c t); simp only [after0_5, ldY]; rw [yAt_last m c t h0 (by omega)]; iexact H5
      isplitl [H6]; · iapply (leaves0_6 m c t (by omega)); simp only [after0_5, after0_6, ldY]; rw [NAR_last m c t h0 (by omega)]; iexact H6
      isplitl [H7]; · iapply (leaves0_7 m c t); rw [after0_7]; iexact H7
      iapply (leaves0_8 m c t); simp only [after0_8]; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.DownIdeal.Run

end
-- ==== Proof.DownValue.lean ====
/- The result arrays of the program `DownIdeal` after its run, as functions of its arguments. -/
module

public import proofs.«01_k».proof.Proof.DownRun
public import proofs.«01_k».proof.Proof.Rows
public import Idealize.ShloMosaic.Lib.Pipeline.ValueKit

@[expose] public section

set_option maxRecDepth 16384

noncomputable section

namespace Cert.DownIdeal.Value

open Cert.DownIdeal Cert.DownIdeal.Gen Cert.DownIdeal.Run Cert.Rows Cert.Exponent
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

/-- The first column of the rows' greatest magnitudes. -/
def col (a : Vec Ideal S224x128 .f32) (r : Fin 224) : EReal := mat a r 0

theorem ld_col (a : Vec Ideal S224x128 .f32) (r : Fin 224) : View.ld a rC (ix2 r 0) = col a r :=
  congrArg a (by funext a; match a with | ⟨0, _⟩ => exact Fin.ext (by simp [ix2, Rect.unit]) | ⟨1, _⟩ => rfl)

theorem pay7 (v : Vec Ideal S224x1 .f32) (i : S224x1.Idx) : k0_pay7 v i = v i * Ideal.ofBits .f32 0x3B124925#32 := by
  simp only [k0_pay7, mul_at, bcast_at]
  rfl

/-- The first four steps of the search. -/
theorem pay8 (v : Vec Ideal S224x1 .f32) (i : S224x1.Idx) :
    k0_pay8 v i = step (k0_pay7 v i) (step (k0_pay7 v i) (step (k0_pay7 v i) (step (k0_pay7 v i) 0#32 128#32) 64#32) 32#32) 16#32 := by
  unfold k0_pay8
  refine (srch _ _ _ _).trans (congrArg (fun f => step _ f 16#32) ?_)
  refine (srch _ _ _ _).trans (congrArg (fun f => step _ f 32#32) ?_)
  refine (srch _ _ _ _).trans (congrArg (fun f => step _ f 64#32) ?_)
  exact srch _ _ _ _

/-- The other four, and the exponent from the field. -/
theorem pay10 (v : FVec Ideal S224x1 .f32) (a : IVec S224x1 32) (i : S224x1.Idx) :
    k0_pay10 v a (addi a (broadcast S224x1 8#32)) i = expo (step (v i) (step (v i) (step (v i) (step (v i) (a i) 8#32) 4#32) 2#32) 1#32) := by
  unfold k0_pay10
  refine Eq.trans ?_ (congrArg expo ((srch v _ 1#32 i).trans (congrArg (fun f => step _ f 1#32) ((srch v _ 2#32 i).trans (congrArg (fun f => step _ f 2#32)
    ((srch v _ 4#32 i).trans (congrArg (fun f => step _ f 4#32) (srch v a 8#32 i))))))))
  rfl

theorem ex_apply (a : Vec Ideal S224x128 .f32) (r : Fin 224) : ex a (ix2 r 0) = expo (field (col a r * Ideal.ofBits .f32 0x3B124925#32)) := by
  unfold ex k0_pay9
  refine (pay10 _ _ _).trans ?_
  rw [pay8, pay7, ld_col]
  rfl

theorem cod_apply (x : Vec Ideal S224x1280 .f32) (a : Vec Ideal S224x128 .f32) (r : Fin 224) (k : Fin 1280) :
    cod x a (ix2 r k) = codesBy (mat x) (col a) r k := by
  have h := kinv_exp2 (col a r * Ideal.ofBits .f32 0x3B124925#32)
  unfold cod
  rw [ldA]
  simp only [k0_pay1, trunc_at, min_at, max_at, mul_at, bcast_col, bcast_at]
  unfold codesBy
  rw [← h]
  unfold kinv
  rw [← ex_apply]
  rfl

theorem scl_apply (a : Vec Ideal S224x128 .f32) (r : Fin 224) (k : Fin 128) : scl a (ix2 r k) = scaleBy (col a) r := by
  have h := kscale_exp2 (col a r * Ideal.ofBits .f32 0x3B124925#32)
  unfold scl
  simp only [k0_pay2, bcast_col, shapeCast_self]
  unfold scaleBy
  rw [← h]
  unfold kscale
  rw [← ex_apply]
  rfl

/-- One more block of the product. -/
theorem acc_apply (y : Vec Ideal S224x5120 .f32) (x : Vec Ideal S224x1280 .f32) (a : Vec Ideal S224x128 .f32) (w : Vec Ideal S1280x5120 .fp8e4m3)
    (r : Fin 224) (n : Fin 5120) :
    acc y x a w (ix2 r n) = y (ix2 r n) + ∑ k : Fin 1280, codesBy (mat x) (col a) r k * mat w k n := by
  have hc (k : Fin 1280) : k0_pay1 (ex a) (View.ld x rA) (ix2 r k) = codesBy (mat x) (col a) r k := cod_apply x a r k
  unfold acc
  rw [ldW]
  simp only [k0_pay4, add_at, shapeCast_self]
  rw [mm dot_S224x1280_S1280x5120_S224x5120_1_0_0_1_n_n rfl]
  simp only [hc]

theorem zero_apply (i : S224x5120.Idx) : k0_pay3 (F := Ideal) i = 0 := by
  simp only [k0_pay3, bcast_at]
  exact Ideal.ofBits_zero_f32

theorem fin_apply (y : Vec Ideal S224x5120 .f32) (a : Vec Ideal S224x128 .f32) (h1 : Vec Ideal S224x5120 .f32) (ws : Vec Ideal S1x5120 .f32)
    (r : Fin 224) (n : Fin 5120) :
    fin y a h1 ws (ix2 r n) = h1 (ix2 r n) + y (ix2 r n) * scaleBy (col a) r * ws (ix2 0 n) := by
  have h := kscale_exp2 (col a r * Ideal.ofBits .f32 0x3B124925#32)
  unfold fin
  rw [ldY, ldS]
  simp only [k0_pay5, add_at, mul_at, bcast_col, bcast_row, shapeCast_self]
  unfold scaleBy
  rw [← h]
  unfold kscale
  rw [← ex_apply]
  rfl

theorem nar_apply (y : Vec Ideal S224x5120 .f32) (a : Vec Ideal S224x128 .f32) (h1 : Vec Ideal S224x5120 .f32) (ws : Vec Ideal S1x5120 .f32)
    (i : S224x5120.Idx) : nar y a h1 ws i = fin y a h1 ws i := by
  unfold nar fin
  simp only [k0_pay6, trunc_at]

/-! ## What the results are -/

/-- The residual and the projection of the codes. -/
def Y (X : Vec Ideal S224x17920 .f32) (A : Vec Ideal S224x128 .f32) (R : Vec Ideal S224x5120 .f32) (W : Vec Ideal S17920x5120 .fp8e4m3) (S : Vec Ideal S5120 .f32)
    (r : Fin 224) (n : Fin 5120) : EReal :=
  mat R r n + lin (codesBy (mat X) (col A)) (scaleBy (col A)) (mat W) (fun n => S (ix1 n)) r n

/-- The sum of the first terms of a finite sequence. -/
def psum {K : ℕ} (f : Fin K → EReal) (b : ℕ) : EReal := ∑ k ∈ Finset.range b, if h : k < K then f ⟨k, h⟩ else 0

theorem psum_all {K : ℕ} (f : Fin K → EReal) : psum f K = ∑ k, f k := by
  unfold psum
  rw [Finset.sum_range]
  exact Finset.sum_congr rfl fun k _ => by rw [dif_pos k.isLt]

theorem psum_add {K : ℕ} (f : Fin K → EReal) (b n : ℕ) (h : b + n ≤ K) :
    psum f (b + n) = psum f b + ∑ k : Fin n, f ⟨b + k.val, by have := k.isLt; omega⟩ := by
  unfold psum
  rw [Finset.sum_range_add, Finset.sum_range (n := n)]
  refine congrArg₂ _ rfl (Finset.sum_congr rfl fun k _ => ?_)
  rw [dif_pos]

variable (m : (ℓ : Loc nD τ sig) → Buf (Elt Ideal) ℓ) (ρ : Dev nD → PrngReg)

abbrev aX (c : Dev nD) : Vec Ideal S224x17920 .f32 := m ((c : Thread nD τ).loc main_arg0)
abbrev aM (c : Dev nD) : Vec Ideal S224x128 .f32 := m ((c : Thread nD τ).loc main_arg1)
abbrev aR (c : Dev nD) : Vec Ideal S224x5120 .f32 := m ((c : Thread nD τ).loc main_arg2)
abbrev aW (c : Dev nD) : Vec Ideal S17920x5120 .fp8e4m3 := m ((c : Thread nD τ).loc main_arg3)
abbrev aS (c : Dev nD) : Vec Ideal S5120 .f32 := m ((c : Thread nD τ).loc main_arg4)

/-! ## The input blocks, at an index -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx7 : ∀ t : Fin cfg0.N, win0_7.index t = ![0, t.val] := (by decide +kernel : ∀ t : Fin grid0.N, _)

theorem lt14 (t : Fin cfg0.N) : t.val < 14 := Nat.lt_of_lt_of_eq t.isLt N_0

/-- The scales as a row, as the host lays them. -/
theorem V0 (c : Dev nD) (k : Fin 5120) : V m c main_v0 (ix2 0 k) = aS m c (ix1 k) := by
  entry_read
  pointwise
  rfl

theorem b0 (c : Dev nD) (t : Fin cfg0.N) (r : Fin 224) (k : Fin 1280) : iblk m c 0 t (ix2 r k) = aX m c (ix2 r ⟨t.val * 1280 + k.val, by have := lt14 t; omega⟩) := by
  blk_simp [iblk]
  rw [V_main_arg0]
  congr 1
  blk_ext [idx0]

theorem b1 (c : Dev nD) (t : Fin cfg0.N) (r : Fin 224) (k : Fin 128) : iblk m c 1 t (ix2 r k) = aM m c (ix2 r k) := by
  blk_simp [iblk]
  rw [V_main_arg1]
  congr 1
  blk_ext [idx1]

theorem b2 (c : Dev nD) (t : Fin cfg0.N) (r : Fin 224) (n : Fin 5120) : iblk m c 2 t (ix2 r n) = aR m c (ix2 r n) := by
  blk_simp [iblk]
  rw [V_main_arg2]
  congr 1
  blk_ext [idx2]

theorem b3 (c : Dev nD) (t : Fin cfg0.N) (k : Fin 1280) (n : Fin 5120) : iblk m c 3 t (ix2 k n) = aW m c (ix2 ⟨t.val * 1280 + k.val, by have := lt14 t; omega⟩ n) := by
  blk_simp [iblk]
  rw [V_main_arg3]
  congr 1
  blk_ext [idx3]

theorem b4 (c : Dev nD) (t : Fin cfg0.N) (n : Fin 5120) : iblk m c 4 t (ix2 0 n) = aS m c (ix1 n) := by
  rw [← V0]
  blk_simp [iblk]
  congr 1
  blk_ext [idx4]

/-! ## What the body leaves, at an index -/

theorem M_eq (c : Dev nD) (t : Fin cfg0.N) : col (iblk m c 1 t) = col (aM m c) := funext fun r => b1 m c t r 0

/-- The codes of a block are the whole row's codes there. -/
theorem COD_apply (c : Dev nD) (t : Fin cfg0.N) (r : Fin 224) (k : Fin 1280) :
    codesBy (mat (iblk m c 0 t)) (col (iblk m c 1 t)) r k = codesBy (mat (aX m c)) (col (aM m c)) r ⟨t.val * 1280 + k.val, by have := lt14 t; omega⟩ := by
  rw [M_eq]
  unfold codesBy
  simp only [mat, b0]

/-- A term of the whole product. -/
def term (c : Dev nD) (r : Fin 224) (n : Fin 5120) (k : Fin 17920) : EReal := codesBy (mat (aX m c)) (col (aM m c)) r k * mat (aW m c) k n

/-- One block's terms are the whole product's terms there. -/
theorem terms (c : Dev nD) (t : Fin cfg0.N) (r : Fin 224) (n : Fin 5120) :
    (∑ k : Fin 1280, codesBy (mat (iblk m c 0 t)) (col (iblk m c 1 t)) r k * mat (iblk m c 3 t) k n)
      = ∑ k : Fin 1280, term m c r n ⟨t.val * 1280 + k.val, by have := lt14 t; omega⟩ :=
  Finset.sum_congr rfl fun k _ => congrArg₂ _ (COD_apply m c t r k) (b3 m c t k n)

/-- After each point the accumulator holds the sum of the terms so far. -/
theorem accAt_apply (c : Dev nD) (r : Fin 224) (n : Fin 5120) : ∀ (t : ℕ) (h : t < cfg0.N), accAt m c t h (ix2 r n) = psum (term m c r n) ((t + 1) * 1280)
  | 0, h => by
    refine (acc_apply _ _ _ _ r n).trans ?_
    rw [terms, zero_apply, show (0 + 1) * 1280 = 0 * 1280 + 1280 from rfl, psum_add _ _ _ (by norm_num)]
    rfl
  | t + 1, h => by
    have ht : t + 1 < 14 := Nat.lt_of_lt_of_eq h N_0
    refine (acc_apply _ _ _ _ r n).trans ?_
    rw [terms, accAt_apply c r n t, show (t + 1 + 1) * 1280 = (t + 1) * 1280 + 1280 by ring, psum_add _ _ _ (by omega)]

theorem ACC_apply (c : Dev nD) (r : Fin 224) (n : Fin 5120) : ACC m c (ix2 r n) = ∑ k, term m c r n k :=
  (accAt_apply m c r n 13 (by decide)).trans (psum_all _)

theorem FIN_apply (c : Dev nD) (r : Fin 224) (n : Fin 5120) : FIN m c (ix2 r n) = Y (aX m c) (aM m c) (aR m c) (aW m c) (aS m c) r n := by
  unfold FIN
  refine (fin_apply _ _ _ _ r n).trans ?_
  rw [ACC_apply, M_eq, b2, b4]
  rfl

/-! ## The arrays after the run -/

/-- The last point. -/
def t13 : Fin cfg0.N := ⟨13, by decide⟩

theorem FIN_at (c : Dev nD) (j : S224x5120.Idx) : FIN m c j = Y (aX m c) (aM m c) (aR m c) (aW m c) (aS m c) (j 0) (j 1) := by
  obtain ⟨r, n, rfl⟩ := ex2 j
  exact FIN_apply m c r n

theorem NAR_at (c : Dev nD) (j : S224x5120.Idx) : NAR m c j = Y (aX m c) (aM m c) (aR m c) (aW m c) (aS m c) (j 0) (j 1) :=
  (nar_apply _ _ _ _ j).trans (FIN_at m c j)

theorem COD_at (c : Dev nD) (t : Fin cfg0.N) (y : S224x1280.Idx) (i : S224x17920.Idx) (h0 : (i 0).val = (y 0).val) (h1 : (i 1).val = t.val * 1280 + (y 1).val) :
    cod (iblk m c 0 t) (iblk m c 1 t) y = codesBy (mat (aX m c)) (col (aM m c)) (i 0) (i 1) := by
  obtain ⟨r, k, rfl⟩ := ex2 y
  refine (cod_apply _ _ r k).trans ((COD_apply m c t r k).trans ?_)
  exact congrArg₂ (codesBy (mat (aX m c)) (col (aM m c))) (Fin.ext h0.symm) (Fin.ext h1.symm)

theorem SCL_at (c : Dev nD) (j : S224x128.Idx) : SCL m c j = scaleBy (col (aM m c)) (j 0) := by
  obtain ⟨r, k, rfl⟩ := ex2 j
  unfold SCL
  rw [scl_apply, M_eq]

theorem whole5 : (cfg0.win 5).WholeAt t13 := by decide +kernel
theorem whole6 : (cfg0.win 6).WholeAt t13 := by decide +kernel
theorem cov7 : (cfg0.win 7).Covers := by decide +kernel
theorem whole8 : (cfg0.win 8).WholeAt t13 := by decide +kernel

theorem final7 (c : Dev nD) : (dats m 0 c).arrAt 7 cfg0.N = fun i => codesBy (mat (aX m c)) (col (aM m c)) (i 0) (i 1) := by
  refine (dats m 0 c).arrAt_eq_of_covers 7 _ cov7 fun t hf y => ?_
  blk_simp
  rw [after0_7]
  exact COD_at m c t y _ (by blk_simp [idx7]) (by blk_simp [idx7])

theorem last5 {c : Dev nD} (d : Dat τ (Elt Ideal) Unit ℕ (UR sig nD τ) ℕ cfg0 c) (G) (h : d.after 5 t13 = G) : d.arrAt 5 cfg0.N = G := by
  refine d.arrAt_eq_of_after_last 5 t13 whole5 _ fun j => ?_
  blk_simp
  rw [h]

theorem last6 {c : Dev nD} (d : Dat τ (Elt Ideal) Unit ℕ (UR sig nD τ) ℕ cfg0 c) (G) (h : d.after 6 t13 = G) : d.arrAt 6 cfg0.N = G := by
  refine d.arrAt_eq_of_after_last 6 t13 whole6 _ fun j => ?_
  blk_simp
  rw [h]

theorem last8 {c : Dev nD} (d : Dat τ (Elt Ideal) Unit ℕ (UR sig nD τ) ℕ cfg0 c) (G) (h : d.after 8 t13 = G) : d.arrAt 8 cfg0.N = G := by
  refine d.arrAt_eq_of_after_last 8 t13 whole8 _ fun j => ?_
  blk_simp
  rw [h]

theorem final5 (c : Dev nD) : (dats m 0 c).arrAt 5 cfg0.N = fun i => Y (aX m c) (aM m c) (aR m c) (aW m c) (aS m c) (i 0) (i 1) :=
  (last5 _ _ ((after0_5 m c t13).trans (if_pos rfl))).trans (funext (FIN_at m c))

theorem final6 (c : Dev nD) : (dats m 0 c).arrAt 6 cfg0.N = fun i => Y (aX m c) (aM m c) (aR m c) (aW m c) (aS m c) (i 0) (i 1) :=
  (last6 _ _ (after0_6 m c t13)).trans (funext (NAR_at m c))

theorem final8 (c : Dev nD) : (dats m 0 c).arrAt 8 cfg0.N = fun i => scaleBy (col (aM m c)) (i 0) :=
  (last8 _ _ (after0_8 m c t13)).trans (funext (SCL_at m c))

/-- The run, its results named. -/
theorem run : θ_run defs (onTc (τ := τ) (main (F := Ideal))) ⟨m, fun _ => 0, ρ⟩ fun r => ∀ c : Dev nD,
      r.2.mem ((c : Thread nD τ).loc main_v1_0) = (fun i => Y (aX m c) (aM m c) (aR m c) (aW m c) (aS m c) (i 0) (i 1))
      ∧ r.2.mem ((c : Thread nD τ).loc main_v1_1) = (fun i => Y (aX m c) (aM m c) (aR m c) (aW m c) (aS m c) (i 0) (i 1))
      ∧ r.2.mem ((c : Thread nD τ).loc main_v1_2) = (fun i => codesBy (mat (aX m c)) (col (aM m c)) (i 0) (i 1))
      ∧ r.2.mem ((c : Thread nD τ).loc main_v1_3) = (fun i => scaleBy (col (aM m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have h := (θ_run defs (onTc (τ := τ) (main (F := Ideal))) (s₀ m ρ)).mono (fun _ h => h.1) (run_main_quiescent m ρ)
  exact (θ_run defs _ _).mono (fun r h c => ⟨(h.1 c).1 5 |>.trans (final5 m c), (h.1 c).1 6 |>.trans (final6 m c), (h.1 c).1 7 |>.trans (final7 m c), (h.1 c).1 8 |>.trans (final8 m c), h.2 c⟩)
    (θ_run_and h (frame_of m ρ (dats m) (A_eq m) h))

end Cert.DownIdeal.Value

end

end
-- ==== Proof.DownRefValue.lean ====
/- The result arrays of the program `DownRefIdeal` after its run, as functions of its arguments. -/
module

public import proofs.«01_k».proof.Proof.Gen.DownRefIdeal.Frame
public import proofs.«01_k».proof.Proof.DownValue

@[expose] public section

set_option maxRecDepth 16384

noncomputable section

namespace Cert.DownRefIdeal.Run

open Cert.DownRefIdeal Cert.DownRefIdeal.Gen Cert.Rows Cert.Exponent
open Cert.DownIdeal.Value (Y col)
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

theorem hz2 : (![0, 0] : Fin 2 → Nat) = fun _ => 0 := by
  funext a; fin_cases a <;> rfl

/-! ## The payloads, at an index -/

/-- A column by its row. -/
def cl (v : Vec Ideal S224x1 .f32) (r : Fin 224) : EReal := v (ix2 r 0)

theorem ld_col (a : Vec Ideal S224x128 .f32) : cl (View.ld a r0_1) = col a :=
  funext fun r => congrArg a (by funext a; match a with | ⟨0, _⟩ => exact Fin.ext (by simp [ix2, Rect.unit]) | ⟨1, _⟩ => rfl)

/-- The exponents of the rows' scales. -/
theorem pay3 (v : Vec Ideal S224x1 .f32) (r : Fin 224) : k0_pay3 v (ix2 r 0) = rexp (cl v r * Ideal.ofBits .f32 0x3B124925#32) := by
  unfold k0_pay3
  refine (rexp_at _ _ (IdealRules.named_const.ideal_named_scalar _ _ _ _ rfl) _).trans (congrArg rexp ?_)
  simp only [mul_at, bcast_at]
  rfl

/-- The codes. -/
theorem pay4 (x : Vec Ideal S224x17920 .f32) (v : Vec Ideal S224x1 .f32) (r : Fin 224) (k : Fin 17920) :
    k0_pay4 x v (ix2 r k) = codesBy (mat x) (cl v) r k := by
  simp only [k0_pay4, trunc_at, min_at, max_at, mul_at, bcast_col, bcast_at, exp2_at, sub_at, pay3]
  unfold codesBy
  rw [show (Scalar.ofBits (F := Ideal) .f32 0x00000000#32 : EReal) = 0 from lit_zero]
  rfl

/-- The scales. -/
theorem pay5 (v : Vec Ideal S224x1 .f32) (r : Fin 224) : k0_pay5 v (ix2 r 0) = scaleBy (cl v) r := by
  simp only [k0_pay5, exp2_at, pay3]
  rfl

theorem pay2 (s : FVec Ideal S224x1 .f32) (r : Fin 224) (k : Fin 128) : k0_pay2 s (ix2 r k) = s (ix2 r 0) := by
  simp only [k0_pay2, bcast_col, shapeCast_self]

theorem pay1 (s : FVec Ideal S224x5120 .f32) (i : S224x5120.Idx) : k0_pay1 s i = s i := by
  simp only [k0_pay1, trunc_at]

/-- The residual and the projection. -/
theorem pay6 (x : Vec Ideal S224x17920 .f32) (v : Vec Ideal S224x1 .f32) (h1 : Vec Ideal S224x5120 .f32) (w : Vec Ideal S17920x5120 .fp8e4m3)
    (ws : Vec Ideal S1x5120 .f32) (r : Fin 224) (n : Fin 5120) :
    k0_pay6 x v h1 w ws (ix2 r n) = mat h1 r n + lin (codesBy (mat x) (cl v)) (scaleBy (cl v)) (mat w) (mat ws 0) r n := by
  simp only [k0_pay6, add_at, mul_at, bcast_col, bcast_row, shapeCast_self, pay5]
  rw [mm dot_S224x17920_S17920x5120_S224x5120_1_0_0_1_n_n rfl]
  simp only [pay4]
  rfl

variable (m : (ℓ : Loc nD τ sig) → Buf (Elt Ideal) ℓ) (ρ : Dev nD → PrngReg)

abbrev aX (c : Dev nD) : Vec Ideal S224x17920 .f32 := m ((c : Thread nD τ).loc main_arg0)
abbrev aM (c : Dev nD) : Vec Ideal S224x128 .f32 := m ((c : Thread nD τ).loc main_arg1)
abbrev aR (c : Dev nD) : Vec Ideal S224x5120 .f32 := m ((c : Thread nD τ).loc main_arg2)
abbrev aW (c : Dev nD) : Vec Ideal S17920x5120 .fp8e4m3 := m ((c : Thread nD τ).loc main_arg3)
abbrev aS (c : Dev nD) : Vec Ideal S5120 .f32 := m ((c : Thread nD τ).loc main_arg4)

/-! ## The input blocks, at an index -/

/-- The scales as a row, as the host lays them. -/
theorem V0 (c : Dev nD) (k : Fin 5120) : V m c main_v0 (ix2 0 k) = aS m c (ix1 k) := by
  entry_read
  pointwise
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

theorem b0 (c : Dev nD) (t : Fin cfg0.N) (r : Fin 224) (k : Fin 17920) : iblk m c 0 t (ix2 r k) = aX m c (ix2 r k) := by
  blk_simp [iblk]
  rw [V_main_arg0]
  congr 1
  blk_ext [idx0]

theorem b1 (c : Dev nD) (t : Fin cfg0.N) (r : Fin 224) (k : Fin 128) : iblk m c 1 t (ix2 r k) = aM m c (ix2 r k) := by
  blk_simp [iblk]
  rw [V_main_arg1]
  congr 1
  blk_ext [idx1]

theorem b2 (c : Dev nD) (t : Fin cfg0.N) (r : Fin 224) (n : Fin 5120) : iblk m c 2 t (ix2 r n) = aR m c (ix2 r n) := by
  blk_simp [iblk]
  rw [V_main_arg2]
  congr 1
  blk_ext [idx2]

theorem b3 (c : Dev nD) (t : Fin cfg0.N) (k : Fin 17920) (n : Fin 5120) : iblk m c 3 t (ix2 k n) = aW m c (ix2 k n) := by
  blk_simp [iblk]
  rw [V_main_arg3]
  congr 1
  blk_ext [idx3]

theorem b4 (c : Dev nD) (t : Fin cfg0.N) (n : Fin 5120) : iblk m c 4 t (ix2 0 n) = aS m c (ix1 n) := by
  rw [← V0]
  blk_simp [iblk]
  congr 1
  blk_ext [idx4]

theorem X_eq (c : Dev nD) (t : Fin cfg0.N) : mat (iblk m c 0 t) = mat (aX m c) := funext fun r => funext fun k => b0 m c t r k
theorem M_eq (c : Dev nD) (t : Fin cfg0.N) : col (iblk m c 1 t) = col (aM m c) := funext fun r => b1 m c t r 0
theorem R_eq (c : Dev nD) (t : Fin cfg0.N) : mat (iblk m c 2 t) = mat (aR m c) := funext fun r => funext fun k => b2 m c t r k
theorem W_eq (c : Dev nD) (t : Fin cfg0.N) : mat (iblk m c 3 t) = mat (aW m c) := funext fun k => funext fun n => b3 m c t k n
theorem S_eq (c : Dev nD) (t : Fin cfg0.N) : mat (iblk m c 4 t) 0 = fun n => aS m c (ix1 n) := funext fun n => b4 m c t n

/-! ## What the one point leaves -/

variable (x0 : Vec Ideal S224x17920 .f32) (x1 : Vec Ideal S224x128 .f32) (x2 : Vec Ideal S224x5120 .f32) (x3 : Vec Ideal S17920x5120 .fp8e4m3) (x4 : Vec Ideal S1x5120 .f32)

theorem pay7 : k0_pay7 x0 x1 x2 x3 x4 = k0_pay6 x0 (View.ld x1 r0_1) x2 x3 x4 := by
  unfold k0_pay7
  rw [View.ld_unit_zero hz2, View.ld_unit_zero hz2, View.ld_unit_zero hz2, View.ld_unit_zero hz2]
theorem out5 : out0_5 x0 x1 x2 x3 x4 = k0_pay6 x0 (View.ld x1 r0_1) x2 x3 x4 := by
  unfold out0_5
  rw [View.canon_unit_zero hz2, pay7]
theorem out6 : out0_6 x0 x1 x2 x3 x4 = k0_pay1 (k0_pay6 x0 (View.ld x1 r0_1) x2 x3 x4) := by
  unfold out0_6
  rw [View.canon_unit_zero hz2, pay7]
theorem out7 : out0_7 x0 x1 x2 x3 x4 = k0_pay4 x0 (View.ld x1 r0_1) := by
  unfold out0_7
  rw [View.canon_unit_zero hz2, View.ld_unit_zero hz2]
theorem out8 : out0_8 x0 x1 x2 x3 x4 = k0_pay2 (k0_pay5 (View.ld x1 r0_1)) := by
  unfold out0_8
  rw [View.canon_unit_zero hz2]

/-! ## The arrays after the run -/

/-- The only point. -/
def t0 : Fin cfg0.N := ⟨0, by decide⟩

theorem whole5 : (cfg0.win 5).WholeAt t0 := by decide +kernel
theorem whole6 : (cfg0.win 6).WholeAt t0 := by decide +kernel
theorem whole7 : (cfg0.win 7).WholeAt t0 := by decide +kernel
theorem whole8 : (cfg0.win 8).WholeAt t0 := by decide +kernel

theorem last5 {c : Dev nD} (d : Dat τ (Elt Ideal) Unit ℕ (UR sig nD τ) ℕ cfg0 c) (G) (h : d.after 5 t0 = G) : d.arrAt 5 cfg0.N = G := by
  refine d.arrAt_eq_of_after_last 5 t0 whole5 _ fun j => ?_
  blk_simp
  rw [h]

theorem last6 {c : Dev nD} (d : Dat τ (Elt Ideal) Unit ℕ (UR sig nD τ) ℕ cfg0 c) (G) (h : d.after 6 t0 = G) : d.arrAt 6 cfg0.N = G := by
  refine d.arrAt_eq_of_after_last 6 t0 whole6 _ fun j => ?_
  blk_simp
  rw [h]

theorem last7 {c : Dev nD} (d : Dat τ (Elt Ideal) Unit ℕ (UR sig nD τ) ℕ cfg0 c) (G) (h : d.after 7 t0 = G) : d.arrAt 7 cfg0.N = G := by
  refine d.arrAt_eq_of_after_last 7 t0 whole7 _ fun j => ?_
  blk_simp
  rw [h]

theorem last8 {c : Dev nD} (d : Dat τ (Elt Ideal) Unit ℕ (UR sig nD τ) ℕ cfg0 c) (G) (h : d.after 8 t0 = G) : d.arrAt 8 cfg0.N = G := by
  refine d.arrAt_eq_of_after_last 8 t0 whole8 _ fun j => ?_
  blk_simp
  rw [h]

theorem at5 (c : Dev nD) (t : Fin cfg0.N) : out0_5 (iblk m c 0 t) (iblk m c 1 t) (iblk m c 2 t) (iblk m c 3 t) (iblk m c 4 t)
    = fun i : S224x5120.Idx => Y (aX m c) (aM m c) (aR m c) (aW m c) (aS m c) (i 0) (i 1) := by
  rw [out5]
  funext i
  obtain ⟨r, n, rfl⟩ := ex2 i
  refine (pay6 _ _ _ _ _ r n).trans ?_
  rw [X_eq, R_eq, W_eq, S_eq, ld_col, M_eq]
  rfl

theorem at6 (c : Dev nD) (t : Fin cfg0.N) : out0_6 (iblk m c 0 t) (iblk m c 1 t) (iblk m c 2 t) (iblk m c 3 t) (iblk m c 4 t)
    = fun i : S224x5120.Idx => Y (aX m c) (aM m c) (aR m c) (aW m c) (aS m c) (i 0) (i 1) := by
  rw [out6, ← at5 m c t, out5]
  funext i
  exact pay1 _ i

theorem at7 (c : Dev nD) (t : Fin cfg0.N) : out0_7 (iblk m c 0 t) (iblk m c 1 t) (iblk m c 2 t) (iblk m c 3 t) (iblk m c 4 t)
    = fun i : S224x17920.Idx => codesBy (mat (aX m c)) (col (aM m c)) (i 0) (i 1) := by
  rw [out7, ← X_eq m c t, ← M_eq m c t, ← ld_col]
  funext i
  obtain ⟨r, k, rfl⟩ := ex2 i
  exact pay4 _ _ r k

theorem at8 (c : Dev nD) (t : Fin cfg0.N) : out0_8 (iblk m c 0 t) (iblk m c 1 t) (iblk m c 2 t) (iblk m c 3 t) (iblk m c 4 t)
    = fun i : S224x128.Idx => scaleBy (col (aM m c)) (i 0) := by
  rw [out8, ← M_eq m c t, ← ld_col]
  funext i
  obtain ⟨r, k, rfl⟩ := ex2 i
  exact (pay2 _ r k).trans (pay5 _ r)

/-- The run, its results named. -/
theorem run : θ_run defs (onTc (τ := τ) (main (F := Ideal))) ⟨m, fun _ => 0, ρ⟩ fun r => ∀ c : Dev nD,
      r.2.mem ((c : Thread nD τ).loc main_v1_0) = (fun i => Y (aX m c) (aM m c) (aR m c) (aW m c) (aS m c) (i 0) (i 1))
      ∧ r.2.mem ((c : Thread nD τ).loc main_v1_1) = (fun i => Y (aX m c) (aM m c) (aR m c) (aW m c) (aS m c) (i 0) (i 1))
      ∧ r.2.mem ((c : Thread nD τ).loc main_v1_2) = (fun i => codesBy (mat (aX m c)) (col (aM m c)) (i 0) (i 1))
      ∧ r.2.mem ((c : Thread nD τ).loc main_v1_3) = (fun i => scaleBy (col (aM m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (last5 _ _ ((after0_5 m c t0).trans (at5 m c t0))),
    ((h.1 c).1 6).trans (last6 _ _ ((after0_6 m c t0).trans (at6 m c t0))),
    ((h.1 c).1 7).trans (last7 _ _ ((after0_7 m c t0).trans (at7 m c t0))),
    ((h.1 c).1 8).trans (last8 _ _ ((after0_8 m c t0).trans (at8 m c t0))), h.2 c⟩)
    (θ_run_and (run_main m ρ) (unchanged m ρ))

end Cert.DownRefIdeal.Run

end

end
-- ==== Proof.DownClaim.lean ====
/- The claims about the down projection: the frames, and the same results as the reference. -/
module

public import proofs.«01_k».proof.Defs
public import proofs.«01_k».proof.Proof.DownBits
public import proofs.«01_k».proof.Proof.DownValue
public import proofs.«01_k».proof.Proof.DownRefValue

@[expose] public section

set_option maxRecDepth 16384

noncomputable section

namespace Cert.DownIdeal.Value

open Idealize.ShloMosaic Idealize.ShloMosaic.TcCoe Idealize.SL.Sem
open Cert.DownIdeal Cert.DownIdeal.Gen Cert.DownIdeal.Run

attribute [local instance] Cert.Down.Gen.facts Cert.DownIdeal.Gen.facts Cert.DownRefIdeal.Gen.facts

/-- The program leaves its arguments as they were and every semaphore at zero. -/
theorem frame : Cert.quiescent_Down := fun m g _ =>
  have h := (θ_run Cert.Down.defs (onTc (τ := Cert.Down.τ) (Cert.Down.main (F := Bits))) ⟨m, fun _ => 0, g⟩).mono (fun _ h => h.1) (Cert.Down.Run.run_main_quiescent m g)
  (θ_run _ _ _).mono (fun _ h => ⟨h.1, h.2.2⟩) (θ_run_and (Cert.Down.Gen.frame_of m g (Cert.Down.Run.dats m) (Cert.Down.Run.A_eq m) h) (Cert.Down.Run.run_main_quiescent m g))

/-- The ideal program leaves its arguments as they were and every semaphore at zero. -/
theorem quiet (m) (g) : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2.2.2.2, h.2.2⟩) (θ_run_and (run m g) (run_main_quiescent m g))

/-- The ideal program and the reference give the same results. -/
theorem same : Cert.algebraic_DownIdeal_DownRefIdeal := by
  intro m g m' g' _ h
  have e0 (c : Dev nD) : Cert.DownRefIdeal.Run.aX m' c = aX m c := (h c).1
  have e1 (c : Dev nD) : Cert.DownRefIdeal.Run.aM m' c = aM m c := (h c).2.1
  have e2 (c : Dev nD) : Cert.DownRefIdeal.Run.aR m' c = aR m c := (h c).2.2.1
  have e3 (c : Dev nD) : Cert.DownRefIdeal.Run.aW m' c = aW m c := (h c).2.2.2.1
  have e4 (c : Dev nD) : Cert.DownRefIdeal.Run.aS m' c = aS m c := (h c).2.2.2.2
  refine ⟨_, _, _, _, run m g, (θ_run _ _ _).mono (fun r H c => ?_) (Cert.DownRefIdeal.Run.run m' g')⟩
  have H := H c
  rw [e0 c, e1 c, e2 c, e3 c, e4 c] at H
  exact H

end Cert.DownIdeal.Value

end

end
-- ==== Proof.OprojBits.lean ====
/- The run of the program `Oproj`: what its body leaves in each window at each grid point, and the arrays after the last. -/
module

public import proofs.«01_k».proof.Proof.Gen.Oproj.Frame
public import proofs.«01_k».proof.Proof.Gen.Oproj.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.Oproj.Run

open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6400x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x6400 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x128 .f32 := win0_6.stage (cfg0.slots t 6)
abbrev hs0_6 (t : Fin cfg0.N) : (ms0_6 t).IsWhole := hstage0_6 ((cfg0.slots t 6).cast nbuf0_6)

/-! ## What the body computes -/

abbrev rX : Rect S224x6400 := Rect.unit (s := S224x6400) ![0, 0] S224x6400.size inb_S224x6400_S224x6400_0_0
abbrev rT : Rect S224x1024 := Rect.unit (s := S224x1024) ![0, 0] S224x1024.size inb_S224x1024_S224x1024_0_0
abbrev rW : Rect S6400x1024 := Rect.unit (s := S6400x1024) ![0, 0] S6400x1024.size inb_S6400x1024_S6400x1024_0_0
abbrev rS : Rect S1x1024 := Rect.unit (s := S1x1024) ![0, 0] S1x1024.size inb_S1x1024_S1x1024_0_0
abbrev rC : Rect S224x128 := Rect.unit (s := S224x128) ![0, 0] S224x1.size inb_S224x128_S224x1_0_0

/-- The exponents of the rows' scales. -/
def ex (x0 : Vec F S224x6400 .f32) : IVec S224x1 32 := k0_pay6 (k0_pay4 (View.ld x0 rX)) (k0_pay5 (View.ld x0 rX))

/-- The codes of the rows. -/
def cod (x0 : Vec F S224x6400 .f32) : Vec F S224x6400 .fp8e4m3 := k0_pay1 (View.ld x0 rX) (ex x0)

/-- Their scales, one a row along 128 lanes. -/
def scl (x0 : Vec F S224x6400 .f32) : Vec F S224x128 .f32 := k0_pay2 (F := F) (ex x0)

/-- One block of the result, from the codes, the scales and the blocks of the residual and of the weights. -/
def blk (ac : Vec F S224x6400 .fp8e4m3) (sc : Vec F S224x128 .f32) (x1 : Vec F S224x1024 .bf16) (x2 : Vec F S6400x1024 .fp8e4m3) (x3 : Vec F S1x1024 .f32) : Vec F S224x1024 .f32 :=
  k0_pay3 ac (View.ld x2 rW) (View.ld x1 rT) (View.ld sc rC) (View.ld x3 rS)

set_option maxHeartbeats 4000000 in
/-- The body's triple in case A: the inputs are left as they were, the outputs at the values named. -/
theorem runA (c : Dev nD) (i : grid0.Coords) (arg1 : Memref sig .tc .vmem S224x6400 .f32) (harg1 : arg1.IsWhole) (arg2 : Memref sig .tc .vmem S224x1024 .bf16) (harg2 : arg2.IsWhole) (arg3 : Memref sig .tc .vmem S6400x1024 .fp8e4m3) (harg3 : arg3.IsWhole) (arg4 : Memref sig .tc .vmem S1x1024 .f32) (harg4 : arg4.IsWhole) (arg5 : Memref sig .tc .vmem S224x1024 .f32) (harg5 : arg5.IsWhole) (arg6 : Memref sig .tc .vmem S224x6400 .fp8e4m3) (harg6 : arg6.IsWhole) (arg7 : Memref sig .tc .vmem S224x128 .f32) (harg7 : arg7.IsWhole) (hc0 : cond0_0 i)
    (x0 : Vec F S224x6400 .f32) (x1 : Vec F S224x1024 .bf16) (x2 : Vec F S6400x1024 .fp8e4m3) (x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld (cod x0) rX) (scl x0) x1 x2 x3) ∗ owns (c : Thread nD τ) arg6 fullShare (cod x0) ∗ owns (c : Thread nD τ) arg7 fullShare (scl x0)) -∗ K ⟨⟩))
      ⊢ wp frame (wpE (defs₀ (F := F)) Variants.none c none) E (cc0_oproj i arg1 harg1 arg2 harg2 arg3 harg3 arg4 harg4 arg5 harg5 arg6 harg6 arg7 harg7) K := by
  simp only [cc0_oproj_eq_skeleton]; unfold cc0_oproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    unfold blk
    congr 1 <;> first | rfl | exact cov_whole _ hz2 _ _ _ _
  isplitl [H5]
  · iexists _; isplitr
    swap; · iexact H5
    ipureintro
    refine (rd_whole _ _ hz2 _ _ _).trans ?_
    rfl
  iexists _; isplitr
  swap; · iexact H6
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x6400 .f32) (harg1 : arg1.IsWhole) (arg2 : Memref sig .tc .vmem S224x1024 .bf16) (harg2 : arg2.IsWhole) (arg3 : Memref sig .tc .vmem S6400x1024 .fp8e4m3) (harg3 : arg3.IsWhole) (arg4 : Memref sig .tc .vmem S1x1024 .f32) (harg4 : arg4.IsWhole) (arg5 : Memref sig .tc .vmem S224x1024 .f32) (harg5 : arg5.IsWhole) (arg6 : Memref sig .tc .vmem S224x6400 .fp8e4m3) (harg6 : arg6.IsWhole) (arg7 : Memref sig .tc .vmem S224x128 .f32) (harg7 : arg7.IsWhole) (hc0 : ¬ cond0_0 i)
    (x0 : Vec F S224x6400 .f32) (x1 : Vec F S224x1024 .bf16) (x2 : Vec F S6400x1024 .fp8e4m3) (x3 : Vec F S1x1024 .f32) (x5 : Vec F S224x6400 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld x5 rX) x6 x1 x2 x3) ∗ owns (c : Thread nD τ) arg6 fullShare x5 ∗ owns (c : Thread nD τ) arg7 fullShare x6) -∗ K ⟨⟩))
      ⊢ wp frame (wpE (defs₀ (F := F)) Variants.none c none) E (cc0_oproj i arg1 harg1 arg2 harg2 arg3 harg3 arg4 harg4 arg5 harg5 arg6 harg6 arg7 harg7) K := by
  simp only [cc0_oproj_eq_skeleton]; unfold cc0_oproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    rfl
  isplitl [H5]
  · iexists f5; isplitr; · ipureintro; rfl
    iexact H5
  iexists f6; isplitr; · ipureintro; rfl
  iexact H6

/-- The codes and the scales, of the first point's block. -/
def COD (c : Dev nD) : Vec F S224x6400 .fp8e4m3 := cod (iblk m c 0 ⟨0, by decide⟩)
def SCL (c : Dev nD) : Vec F S224x128 .f32 := scl (iblk m c 0 ⟨0, by decide⟩)

theorem live0_5 : ∀ t : Fin cfg0.N, t.val % 5 = 0 → cfg0.idle 5 (cfg0.grid.coords t) = false := by decide +kernel
theorem live0_6 : ∀ t : Fin cfg0.N, t.val % 5 = 0 → cfg0.idle 6 (cfg0.grid.coords t) = false := by decide +kernel

theorem ldX {e : EltTy} (X : Vec F S224x6400 e) : View.ld X rX = X := View.ld_unit_zero hz2 _ X
theorem ldT {e : EltTy} (X : Vec F S224x1024 e) : View.ld X rT = X := View.ld_unit_zero hz2 _ X
theorem ldW {e : EltTy} (X : Vec F S6400x1024 e) : View.ld X rW = X := View.ld_unit_zero hz2 _ X
theorem ldS {e : EltTy} (X : Vec F S1x1024 e) : View.ld X rS = X := View.ld_unit_zero hz2 _ X

/-- The first window's block is the whole array, at every point. -/
theorem COD_eq (c : Dev nD) (t : Fin cfg0.N) : COD m c = cod (iblk m c 0 t) := rfl
theorem SCL_eq (c : Dev nD) (t : Fin cfg0.N) : SCL m c = scl (iblk m c 0 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk (COD m c) (SCL m c) (iblk m c 1 t) (iblk m c 2 t) (iblk m c 3 t)
    | ⟨5, _⟩ => COD m c
    | ⟨6, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blk (COD m c) (SCL m c) (iblk m c 1 t) (iblk m c 2 t) (iblk m c 3 t) := by dsimp only [dats]
theorem after0_5 (c : Dev nD) (t : Fin cfg0.N) : (dats m 0 c).after 5 t = COD m c := by dsimp only [dats]
theorem after0_6 (c : Dev nD) (t : Fin cfg0.N) : (dats m 0 c).after 6 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem fresh0_5 : ∀ t : Fin cfg0.N, cfg0.fresh 5 t.val = decide (t.val % 5 = 0) := fun t =>
  cfg0.fresh_tab 5 (fun n => decide (n % 5 = 0)) rfl
    (by simp only [Window.flush_eq_flushF]; exact (by decide +kernel : ∀ t : Fin cfg0.N, decide ((t.val + 1) % 5 = 0) = ((cfg0.win 5).flushF t || (cfg0.idle 5 (cfg0.grid.coords t) && decide (t.val % 5 = 0))))) t.val (Nat.le_of_lt t.isLt)

/-- Past the first point of a run, output window 5's buffer holds what the point before left. -/
theorem before0_5 (c : Dev nD) (t : Fin cfg0.N) (ht : ¬ t.val % 5 = 0) (d) :
    (dats m 0 c).before 5 t d = (dats m 0 c).after 5 ⟨t.val - 1, by have := t.isLt; omega⟩ := by
  rw [(dats m 0 c).before_out_traj 5 rfl (fun _ _ => rfl) (fun t ht hidle hfr => by rw [after0_5, after0_5]) t.val t rfl d, fresh0_5,
    if_neg (by simpa using ht)]

theorem fresh0_6 : ∀ t : Fin cfg0.N, cfg0.fresh 6 t.val = decide (t.val % 5 = 0) := fun t =>
  cfg0.fresh_tab 6 (fun n => decide (n % 5 = 0)) rfl
    (by simp only [Window.flush_eq_flushF]; exact (by decide +kernel : ∀ t : Fin cfg0.N, decide ((t.val + 1) % 5 = 0) = ((cfg0.win 6).flushF t || (cfg0.idle 6 (cfg0.grid.coords t) && decide (t.val % 5 = 0))))) t.val (Nat.le_of_lt t.isLt)

/-- Past the first point of a run, output window 6's buffer holds what the point before left. -/
theorem before0_6 (c : Dev nD) (t : Fin cfg0.N) (ht : ¬ t.val % 5 = 0) (d) :
    (dats m 0 c).before 6 t d = (dats m 0 c).after 6 ⟨t.val - 1, by have := t.isLt; omega⟩ := by
  rw [(dats m 0 c).before_out_traj 6 rfl (fun _ _ => rfl) (fun t ht hidle hfr => by rw [after0_6, after0_6]) t.val t rfl d, fresh0_6,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem carry0_5 (c : Dev nD) (t : Fin cfg0.N) (ht : ¬ t.val % 5 = 0) : (dats m 0 c).after 5 t = (dats m 0 c).after 5 ⟨t.val - 1, by have := t.isLt; omega⟩ := by rw [after0_5, after0_5]
theorem carry0_6 (c : Dev nD) (t : Fin cfg0.N) (ht : ¬ t.val % 5 = 0) : (dats m 0 c).after 6 t = (dats m 0 c).after 6 ⟨t.val - 1, by have := t.isLt; omega⟩ := by rw [after0_6, after0_6]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  cases hi : cfg0.idle 5 (cfg0.grid.coords t)
  · rw [show (dats m 0 c).leavesExact 5 t = owns (c : Thread nD τ) (ms0_5 t) fullShare ((dats m 0 c).after 5 t) from by
      unfold Dat.leavesExact; rw [hi]]
  · cases hf : (cfg0.win 5).flush t
    · rw [(dats m 0 c).leavesExact_idle 5 t hi hf]
      by_cases ht : t.val % 5 = 0
      · exact absurd hi (by rw [live0_5 t ht]; exact Bool.false_ne_true)
      · iintro H
        iexists (Classical.arbitrary _)
        rw [before0_5 m c t ht, ← carry0_5 m c t ht]
        iexact H
    · rw [show (dats m 0 c).leavesExact 5 t = owns (c : Thread nD τ) (ms0_5 t) fullShare ((dats m 0 c).after 5 t) from by
        unfold Dat.leavesExact; rw [hi, hf]]
/-- Leaving window 6's buffer at its value is leaving it as the proof data say. -/
theorem leaves0_6 (c : Dev nD) (t : Fin cfg0.N) : owns (c : Thread nD τ) (ms0_6 t) fullShare ((dats m 0 c).after 6 t) ⊢ (dats m 0 c).leavesExact 6 t := by
  cases hi : cfg0.idle 6 (cfg0.grid.coords t)
  · rw [show (dats m 0 c).leavesExact 6 t = owns (c : Thread nD τ) (ms0_6 t) fullShare ((dats m 0 c).after 6 t) from by
      unfold Dat.leavesExact; rw [hi]]
  · cases hf : (cfg0.win 6).flush t
    · rw [(dats m 0 c).leavesExact_idle 6 t hi hf]
      by_cases ht : t.val % 5 = 0
      · exact absurd hi (by rw [live0_6 t ht]; exact Bool.false_ne_true)
      · iintro H
        iexists (Classical.arbitrary _)
        rw [before0_6 m c t ht, ← carry0_6 m c t ht]
        iexact H
    · rw [show (dats m 0 c).leavesExact 6 t = owns (c : Thread nD τ) (ms0_6 t) fullShare ((dats m 0 c).after 6 t) from by
        unfold Dat.leavesExact; rw [hi, hf]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 5 := lt_of_lt_of_eq t.isLt (show cfg0.N = 5 from N_0)
  by_cases h0 : t.val % 5 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); simp only [after0_4, COD_eq m c t, SCL_eq m c t, ldX]; iexact H4
    isplitl [H5]; · iapply (leaves0_5 m c t); rw [after0_5, COD_eq m c t]; iexact H5
    iapply (leaves0_6 m c t); rw [after0_6, SCL_eq m c t]; iexact H6
  · skip
    simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun h => h0 ((hcond0_0 t).mp h)) (iblk m c 0 t) (iblk m c 1 t) (iblk m c 2 t) (iblk m c 3 t) ((dats m 0 c).after 5 ⟨t.val - 1, by have := t.isLt; omega⟩) ((dats m 0 c).after 6 ⟨t.val - 1, by have := t.isLt; omega⟩) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); simp only [after0_4, after0_5, after0_6, ldX]; iexact H4
    isplitl [H5]; · iapply (leaves0_5 m c t); simp only [after0_5]; iexact H5
    iapply (leaves0_6 m c t); simp only [after0_6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Oproj.Run

end
-- ==== Proof.OprojRun.lean ====
/- The run of the program `OprojIdeal`: what its body leaves in each window at each grid point, and the arrays after the last. -/
module

public import proofs.«01_k».proof.Proof.Gen.OprojIdeal.Frame
public import proofs.«01_k».proof.Proof.Gen.OprojIdeal.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.OprojIdeal.Run

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S224x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S224x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6400x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x6400 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x128 .f32 := win0_6.stage (cfg0.slots t 6)
abbrev hs0_6 (t : Fin cfg0.N) : (ms0_6 t).IsWhole := hstage0_6 ((cfg0.slots t 6).cast nbuf0_6)

/-! ## What the body computes -/

abbrev rX : Rect S224x6400 := Rect.unit (s := S224x6400) ![0, 0] S224x6400.size inb_S224x6400_S224x6400_0_0
abbrev rT : Rect S224x1024 := Rect.unit (s := S224x1024) ![0, 0] S224x1024.size inb_S224x1024_S224x1024_0_0
abbrev rW : Rect S6400x1024 := Rect.unit (s := S6400x1024) ![0, 0] S6400x1024.size inb_S6400x1024_S6400x1024_0_0
abbrev rS : Rect S1x1024 := Rect.unit (s := S1x1024) ![0, 0] S1x1024.size inb_S1x1024_S1x1024_0_0
abbrev rC : Rect S224x128 := Rect.unit (s := S224x128) ![0, 0] S224x1.size inb_S224x128_S224x1_0_0

/-- The exponents of the rows' scales. -/
def ex (x0 : Vec F S224x6400 .f32) : IVec S224x1 32 := k0_pay6 (k0_pay4 (View.ld x0 rX)) (k0_pay5 (View.ld x0 rX))

/-- The codes of the rows. -/
def cod (x0 : Vec F S224x6400 .f32) : Vec F S224x6400 .fp8e4m3 := k0_pay1 (View.ld x0 rX) (ex x0)

/-- Their scales, one a row along 128 lanes. -/
def scl (x0 : Vec F S224x6400 .f32) : Vec F S224x128 .f32 := k0_pay2 (F := F) (ex x0)

/-- One block of the result, from the codes, the scales and the blocks of the residual and of the weights. -/
def blk (ac : Vec F S224x6400 .fp8e4m3) (sc : Vec F S224x128 .f32) (x1 : Vec F S224x1024 .bf16) (x2 : Vec F S6400x1024 .fp8e4m3) (x3 : Vec F S1x1024 .f32) : Vec F S224x1024 .f32 :=
  k0_pay3 ac (View.ld x2 rW) (View.ld x1 rT) (View.ld sc rC) (View.ld x3 rS)

set_option maxHeartbeats 4000000 in
/-- The body's triple in case A: the inputs are left as they were, the outputs at the values named. -/
theorem runA (c : Dev nD) (i : grid0.Coords) (arg1 : Memref sig .tc .vmem S224x6400 .f32) (harg1 : arg1.IsWhole) (arg2 : Memref sig .tc .vmem S224x1024 .bf16) (harg2 : arg2.IsWhole) (arg3 : Memref sig .tc .vmem S6400x1024 .fp8e4m3) (harg3 : arg3.IsWhole) (arg4 : Memref sig .tc .vmem S1x1024 .f32) (harg4 : arg4.IsWhole) (arg5 : Memref sig .tc .vmem S224x1024 .f32) (harg5 : arg5.IsWhole) (arg6 : Memref sig .tc .vmem S224x6400 .fp8e4m3) (harg6 : arg6.IsWhole) (arg7 : Memref sig .tc .vmem S224x128 .f32) (harg7 : arg7.IsWhole) (hc0 : cond0_0 i)
    (x0 : Vec F S224x6400 .f32) (x1 : Vec F S224x1024 .bf16) (x2 : Vec F S6400x1024 .fp8e4m3) (x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld (cod x0) rX) (scl x0) x1 x2 x3) ∗ owns (c : Thread nD τ) arg6 fullShare (cod x0) ∗ owns (c : Thread nD τ) arg7 fullShare (scl x0)) -∗ K ⟨⟩))
      ⊢ wp frame (wpE (defs₀ (F := F)) Variants.none c none) E (cc0_oproj i arg1 harg1 arg2 harg2 arg3 harg3 arg4 harg4 arg5 harg5 arg6 harg6 arg7 harg7) K := by
  simp only [cc0_oproj_eq_skeleton]; unfold cc0_oproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    unfold blk
    congr 1 <;> first | rfl | exact cov_whole _ hz2 _ _ _ _
  isplitl [H5]
  · iexists _; isplitr
    swap; · iexact H5
    ipureintro
    refine (rd_whole _ _ hz2 _ _ _).trans ?_
    rfl
  iexists _; isplitr
  swap; · iexact H6
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x6400 .f32) (harg1 : arg1.IsWhole) (arg2 : Memref sig .tc .vmem S224x1024 .bf16) (harg2 : arg2.IsWhole) (arg3 : Memref sig .tc .vmem S6400x1024 .fp8e4m3) (harg3 : arg3.IsWhole) (arg4 : Memref sig .tc .vmem S1x1024 .f32) (harg4 : arg4.IsWhole) (arg5 : Memref sig .tc .vmem S224x1024 .f32) (harg5 : arg5.IsWhole) (arg6 : Memref sig .tc .vmem S224x6400 .fp8e4m3) (harg6 : arg6.IsWhole) (arg7 : Memref sig .tc .vmem S224x128 .f32) (harg7 : arg7.IsWhole) (hc0 : ¬ cond0_0 i)
    (x0 : Vec F S224x6400 .f32) (x1 : Vec F S224x1024 .bf16) (x2 : Vec F S6400x1024 .fp8e4m3) (x3 : Vec F S1x1024 .f32) (x5 : Vec F S224x6400 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld x5 rX) x6 x1 x2 x3) ∗ owns (c : Thread nD τ) arg6 fullShare x5 ∗ owns (c : Thread nD τ) arg7 fullShare x6) -∗ K ⟨⟩))
      ⊢ wp frame (wpE (defs₀ (F := F)) Variants.none c none) E (cc0_oproj i arg1 harg1 arg2 harg2 arg3 harg3 arg4 harg4 arg5 harg5 arg6 harg6 arg7 harg7) K := by
  simp only [cc0_oproj_eq_skeleton]; unfold cc0_oproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    rfl
  isplitl [H5]
  · iexists f5; isplitr; · ipureintro; rfl
    iexact H5
  iexists f6; isplitr; · ipureintro; rfl
  iexact H6

/-- The codes and the scales, of the first point's block. -/
def COD (c : Dev nD) : Vec F S224x6400 .fp8e4m3 := cod (iblk m c 0 ⟨0, by decide⟩)
def SCL (c : Dev nD) : Vec F S224x128 .f32 := scl (iblk m c 0 ⟨0, by decide⟩)

theorem live0_5 : ∀ t : Fin cfg0.N, t.val % 5 = 0 → cfg0.idle 5 (cfg0.grid.coords t) = false := by decide +kernel
theorem live0_6 : ∀ t : Fin cfg0.N, t.val % 5 = 0 → cfg0.idle 6 (cfg0.grid.coords t) = false := by decide +kernel

theorem ldX {e : EltTy} (X : Vec F S224x6400 e) : View.ld X rX = X := View.ld_unit_zero hz2 _ X
theorem ldT {e : EltTy} (X : Vec F S224x1024 e) : View.ld X rT = X := View.ld_unit_zero hz2 _ X
theorem ldW {e : EltTy} (X : Vec F S6400x1024 e) : View.ld X rW = X := View.ld_unit_zero hz2 _ X
theorem ldS {e : EltTy} (X : Vec F S1x1024 e) : View.ld X rS = X := View.ld_unit_zero hz2 _ X

/-- The first window's block is the whole array, at every point. -/
theorem COD_eq (c : Dev nD) (t : Fin cfg0.N) : COD m c = cod (iblk m c 0 t) := rfl
theorem SCL_eq (c : Dev nD) (t : Fin cfg0.N) : SCL m c = scl (iblk m c 0 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk (COD m c) (SCL m c) (iblk m c 1 t) (iblk m c 2 t) (iblk m c 3 t)
    | ⟨5, _⟩ => COD m c
    | ⟨6, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blk (COD m c) (SCL m c) (iblk m c 1 t) (iblk m c 2 t) (iblk m c 3 t) := by dsimp only [dats]
theorem after0_5 (c : Dev nD) (t : Fin cfg0.N) : (dats m 0 c).after 5 t = COD m c := by dsimp only [dats]
theorem after0_6 (c : Dev nD) (t : Fin cfg0.N) : (dats m 0 c).after 6 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem fresh0_5 : ∀ t : Fin cfg0.N, cfg0.fresh 5 t.val = decide (t.val % 5 = 0) := fun t =>
  cfg0.fresh_tab 5 (fun n => decide (n % 5 = 0)) rfl
    (by simp only [Window.flush_eq_flushF]; exact (by decide +kernel : ∀ t : Fin cfg0.N, decide ((t.val + 1) % 5 = 0) = ((cfg0.win 5).flushF t || (cfg0.idle 5 (cfg0.grid.coords t) && decide (t.val % 5 = 0))))) t.val (Nat.le_of_lt t.isLt)

/-- Past the first point of a run, output window 5's buffer holds what the point before left. -/
theorem before0_5 (c : Dev nD) (t : Fin cfg0.N) (ht : ¬ t.val % 5 = 0) (d) :
    (dats m 0 c).before 5 t d = (dats m 0 c).after 5 ⟨t.val - 1, by have := t.isLt; omega⟩ := by
  rw [(dats m 0 c).before_out_traj 5 rfl (fun _ _ => rfl) (fun t ht hidle hfr => by rw [after0_5, after0_5]) t.val t rfl d, fresh0_5,
    if_neg (by simpa using ht)]

theorem fresh0_6 : ∀ t : Fin cfg0.N, cfg0.fresh 6 t.val = decide (t.val % 5 = 0) := fun t =>
  cfg0.fresh_tab 6 (fun n => decide (n % 5 = 0)) rfl
    (by simp only [Window.flush_eq_flushF]; exact (by decide +kernel : ∀ t : Fin cfg0.N, decide ((t.val + 1) % 5 = 0) = ((cfg0.win 6).flushF t || (cfg0.idle 6 (cfg0.grid.coords t) && decide (t.val % 5 = 0))))) t.val (Nat.le_of_lt t.isLt)

/-- Past the first point of a run, output window 6's buffer holds what the point before left. -/
theorem before0_6 (c : Dev nD) (t : Fin cfg0.N) (ht : ¬ t.val % 5 = 0) (d) :
    (dats m 0 c).before 6 t d = (dats m 0 c).after 6 ⟨t.val - 1, by have := t.isLt; omega⟩ := by
  rw [(dats m 0 c).before_out_traj 6 rfl (fun _ _ => rfl) (fun t ht hidle hfr => by rw [after0_6, after0_6]) t.val t rfl d, fresh0_6,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem carry0_5 (c : Dev nD) (t : Fin cfg0.N) (ht : ¬ t.val % 5 = 0) : (dats m 0 c).after 5 t = (dats m 0 c).after 5 ⟨t.val - 1, by have := t.isLt; omega⟩ := by rw [after0_5, after0_5]
theorem carry0_6 (c : Dev nD) (t : Fin cfg0.N) (ht : ¬ t.val % 5 = 0) : (dats m 0 c).after 6 t = (dats m 0 c).after 6 ⟨t.val - 1, by have := t.isLt; omega⟩ := by rw [after0_6, after0_6]

/-- Leaving window 0's buffer at its value is leaving it as the proof data say. -/
theorem leaves0_0 (c : Dev nD) (t : Fin cfg0.N) : owns (c : Thread nD τ) (ms0_0 t) fullShare ((dats m 0 c).after 0 t) ⊢ (dats m 0 c).leavesExact 0 t := by
  rw [show (dats m 0 c).leavesExact 0 t = owns (c : Thread nD τ) (ms0_0 t) fullShare ((dats m 0 c).after 0 t) from by
    unfold Dat.leavesExact; rw [show cfg0.idle 0 (cfg0.grid.coords t) = false from rfl]]
/-- Leaving window 1's buffer at its value is leaving it as the proof data say. -/
theorem leaves0_1 (c : Dev nD) (t : Fin cfg0.N) : owns (c : Thread nD τ) (ms0_1 t) fullShare ((dats m 0 c).after 1 t) ⊢ (dats m 0 c).leavesExact 1 t := by
  rw [show (dats m 0 c).leavesExact 1 t = owns (c : Thread nD τ) (ms0_1 t) fullShare ((dats m 0 c).after 1 t) from by
    unfold Dat.leavesExact; rw [show cfg0.idle 1 (cfg0.grid.coords t) = false from rfl]]
/-- Leaving window 2's buffer at its value is leaving it as the proof data say. -/
theorem leaves0_2 (c : Dev nD) (t : Fin cfg0.N) : owns (c : Thread nD τ) (ms0_2 t) fullShare ((dats m 0 c).after 2 t) ⊢ (dats m 0 c).leavesExact 2 t := by
  rw [show (dats m 0 c).leavesExact 2 t = owns (c : Thread nD τ) (ms0_2 t) fullShare ((dats m 0 c).after 2 t) from by
    unfold Dat.leavesExact; rw [show cfg0.idle 2 (cfg0.grid.coords t) = false from rfl]]
/-- Leaving window 3's buffer at its value is leaving it as the proof data say. -/
theorem leaves0_3 (c : Dev nD) (t : Fin cfg0.N) : owns (c : Thread nD τ) (ms0_3 t) fullShare ((dats m 0 c).after 3 t) ⊢ (dats m 0 c).leavesExact 3 t := by
  rw [show (dats m 0 c).leavesExact 3 t = owns (c : Thread nD τ) (ms0_3 t) fullShare ((dats m 0 c).after 3 t) from by
    unfold Dat.leavesExact; rw [show cfg0.idle 3 (cfg0.grid.coords t) = false from rfl]]
/-- Leaving window 4's buffer at its value is leaving it as the proof data say. -/
theorem leaves0_4 (c : Dev nD) (t : Fin cfg0.N) : owns (c : Thread nD τ) (ms0_4 t) fullShare ((dats m 0 c).after 4 t) ⊢ (dats m 0 c).leavesExact 4 t := by
  rw [show (dats m 0 c).leavesExact 4 t = owns (c : Thread nD τ) (ms0_4 t) fullShare ((dats m 0 c).after 4 t) from by
    unfold Dat.leavesExact; rw [show cfg0.idle 4 (cfg0.grid.coords t) = false from rfl]]
/-- Leaving window 5's buffer at its value is leaving it as the proof data say. -/
theorem leaves0_5 (c : Dev nD) (t : Fin cfg0.N) : owns (c : Thread nD τ) (ms0_5 t) fullShare ((dats m 0 c).after 5 t) ⊢ (dats m 0 c).leavesExact 5 t := by
  cases hi : cfg0.idle 5 (cfg0.grid.coords t)
  · rw [show (dats m 0 c).leavesExact 5 t = owns (c : Thread nD τ) (ms0_5 t) fullShare ((dats m 0 c).after 5 t) from by
      unfold Dat.leavesExact; rw [hi]]
  · cases hf : (cfg0.win 5).flush t
    · rw [(dats m 0 c).leavesExact_idle 5 t hi hf]
      by_cases ht : t.val % 5 = 0
      · exact absurd hi (by rw [live0_5 t ht]; exact Bool.false_ne_true)
      · iintro H
        iexists (Classical.arbitrary _)
        rw [before0_5 m c t ht, ← carry0_5 m c t ht]
        iexact H
    · rw [show (dats m 0 c).leavesExact 5 t = owns (c : Thread nD τ) (ms0_5 t) fullShare ((dats m 0 c).after 5 t) from by
        unfold Dat.leavesExact; rw [hi, hf]]
/-- Leaving window 6's buffer at its value is leaving it as the proof data say. -/
theorem leaves0_6 (c : Dev nD) (t : Fin cfg0.N) : owns (c : Thread nD τ) (ms0_6 t) fullShare ((dats m 0 c).after 6 t) ⊢ (dats m 0 c).leavesExact 6 t := by
  cases hi : cfg0.idle 6 (cfg0.grid.coords t)
  · rw [show (dats m 0 c).leavesExact 6 t = owns (c : Thread nD τ) (ms0_6 t) fullShare ((dats m 0 c).after 6 t) from by
      unfold Dat.leavesExact; rw [hi]]
  · cases hf : (cfg0.win 6).flush t
    · rw [(dats m 0 c).leavesExact_idle 6 t hi hf]
      by_cases ht : t.val % 5 = 0
      · exact absurd hi (by rw [live0_6 t ht]; exact Bool.false_ne_true)
      · iintro H
        iexists (Classical.arbitrary _)
        rw [before0_6 m c t ht, ← carry0_6 m c t ht]
        iexact H
    · rw [show (dats m 0 c).leavesExact 6 t = owns (c : Thread nD τ) (ms0_6 t) fullShare ((dats m 0 c).after 6 t) from by
        unfold Dat.leavesExact; rw [hi, hf]]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 5 := lt_of_lt_of_eq t.isLt (show cfg0.N = 5 from N_0)
  by_cases h0 : t.val % 5 = 0
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0_0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); simp only [after0_4, COD_eq m c t, SCL_eq m c t, ldX]; iexact H4
    isplitl [H5]; · iapply (leaves0_5 m c t); rw [after0_5, COD_eq m c t]; iexact H5
    iapply (leaves0_6 m c t); rw [after0_6, SCL_eq m c t]; iexact H6
  · skip
    simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun h => h0 ((hcond0_0 t).mp h)) (iblk m c 0 t) (iblk m c 1 t) (iblk m c 2 t) (iblk m c 3 t) ((dats m 0 c).after 5 ⟨t.val - 1, by have := t.isLt; omega⟩) ((dats m 0 c).after 6 ⟨t.val - 1, by have := t.isLt; omega⟩) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t); rw [after0_2]; iexact H2
    isplitl [H3]; · iapply (leaves0_3 m c t); rw [after0_3]; iexact H3
    isplitl [H4]; · iapply (leaves0_4 m c t); simp only [after0_4, after0_5, after0_6, ldX]; iexact H4
    isplitl [H5]; · iapply (leaves0_5 m c t); simp only [after0_5]; iexact H5
    iapply (leaves0_6 m c t); simp only [after0_6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.OprojIdeal.Run

end
-- ==== Proof.OprojValue.lean ====
/- The result arrays of the program `OprojIdeal` after its run, as functions of its arguments. -/
module

public import proofs.«01_k».proof.Proof.OprojRun
public import proofs.«01_k».proof.Proof.Rows
public import Idealize.ShloMosaic.Lib.Pipeline.ValueKit

@[expose] public section

set_option maxRecDepth 16384

noncomputable section

namespace Cert.OprojIdeal.Value

open Cert.OprojIdeal Cert.OprojIdeal.Gen Cert.OprojIdeal.Run Cert.Rows Cert.Exponent
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

/-- The rows' greatest magnitudes over 448. -/
theorem pay4 (x : Vec Ideal S224x6400 .f32) (r : Fin 224) : k0_pay4 x (ix2 r 0) = top (mat x) r := by
  simp only [k0_pay4, mul_at, bcast_at, cast_col]
  rw [reduce_max (absf x) reduces_S224x6400_S224 (.inl rfl) rfl r]
  simp only [abs_at]
  rfl

/-- The first four steps of the search. -/
theorem pay5 (x : Vec Ideal S224x6400 .f32) (i : S224x1.Idx) :
    k0_pay5 x i = step (k0_pay4 x i) (step (k0_pay4 x i) (step (k0_pay4 x i) (step (k0_pay4 x i) 0#32 128#32) 64#32) 32#32) 16#32 := by
  unfold k0_pay5
  refine (srch _ _ _ _).trans (congrArg (fun f => step _ f 16#32) ?_)
  refine (srch _ _ _ _).trans (congrArg (fun f => step _ f 32#32) ?_)
  refine (srch _ _ _ _).trans (congrArg (fun f => step _ f 64#32) ?_)
  exact srch _ _ _ _

/-- The other four, and the exponent from the field. -/
theorem pay6 (v : FVec Ideal S224x1 .f32) (a : IVec S224x1 32) (i : S224x1.Idx) :
    k0_pay6 v a i = expo (step (v i) (step (v i) (step (v i) (step (v i) (a i) 8#32) 4#32) 2#32) 1#32) := by
  unfold k0_pay6
  refine Eq.trans ?_ (congrArg expo ((srch v _ 1#32 i).trans (congrArg (fun f => step _ f 1#32) ((srch v _ 2#32 i).trans (congrArg (fun f => step _ f 2#32)
    ((srch v _ 4#32 i).trans (congrArg (fun f => step _ f 4#32) (srch v a 8#32 i))))))))
  rfl

theorem ex_apply (x : Vec Ideal S224x6400 .f32) (r : Fin 224) : ex x (ix2 r 0) = expo (field (top (mat x) r)) := by
  unfold ex
  rw [ldX]
  refine (pay6 _ _ _).trans ?_
  rw [pay5, pay4]
  rfl

theorem cod_apply (x : Vec Ideal S224x6400 .f32) (r : Fin 224) (k : Fin 6400) : cod x (ix2 r k) = codes (mat x) r k := by
  have h := kinv_exp2 (top (mat x) r)
  unfold cod
  rw [ldX]
  simp only [k0_pay1, trunc_at, min_at, max_at, mul_at, bcast_col, bcast_at]
  unfold codes
  rw [← h]
  unfold kinv
  rw [← ex_apply]
  rfl

theorem scl_apply (x : Vec Ideal S224x6400 .f32) (r : Fin 224) (k : Fin 128) : scl x (ix2 r k) = scale (mat x) r := by
  have h := kscale_exp2 (top (mat x) r)
  unfold scl
  simp only [k0_pay2, bcast_col, shapeCast_self]
  unfold scale
  rw [← h]
  unfold kscale
  rw [← ex_apply]
  rfl

theorem blk_apply (ac : Vec Ideal S224x6400 .fp8e4m3) (sc : Vec Ideal S224x128 .f32) (x1 : Vec Ideal S224x1024 .bf16) (x2 : Vec Ideal S6400x1024 .fp8e4m3)
    (x3 : Vec Ideal S1x1024 .f32) (r : Fin 224) (n : Fin 1024) :
    blk ac sc x1 x2 x3 (ix2 r n) = x1 (ix2 r n) + lin (mat ac) (fun r => mat sc r 0) (mat x2) (mat x3 0) r n := by
  unfold blk
  rw [ldW, ldS, ldT]
  have hC : View.ld sc rC (ix2 r 0) = mat sc r 0 := congrArg sc (by funext a; match a with | ⟨0, _⟩ => exact Fin.ext (by simp [ix2, Rect.unit]) | ⟨1, _⟩ => rfl)
  simp only [k0_pay3, add_at, mul_at, ext_at, bcast_col, bcast_row, shapeCast_self, hC]
  rw [mm dot_S224x6400_S6400x1024_S224x1024_1_0_0_1_n_n rfl]
  rfl

/-! ## What the results are -/

/-- The residual and the projection of the codes. -/
def H (X : Vec Ideal S224x6400 .f32) (R : Vec Ideal S224x5120 .bf16) (W : Vec Ideal S6400x5120 .fp8e4m3) (S : Vec Ideal S5120 .f32) (r : Fin 224) (n : Fin 5120) : EReal :=
  mat R r n + lin (codes (mat X)) (scale (mat X)) (mat W) (fun n => S (ix1 n)) r n

variable (m : (ℓ : Loc nD τ sig) → Buf (Elt Ideal) ℓ) (ρ : Dev nD → PrngReg)

abbrev aX (c : Dev nD) : Vec Ideal S224x6400 .f32 := m ((c : Thread nD τ).loc main_arg0)
abbrev aR (c : Dev nD) : Vec Ideal S224x5120 .bf16 := m ((c : Thread nD τ).loc main_arg1)
abbrev aW (c : Dev nD) : Vec Ideal S6400x5120 .fp8e4m3 := m ((c : Thread nD τ).loc main_arg2)
abbrev aS (c : Dev nD) : Vec Ideal S5120 .f32 := m ((c : Thread nD τ).loc main_arg3)

/-! ## The input blocks, at an index -/

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

theorem lt5 (t : Fin cfg0.N) : t.val < 5 := Nat.lt_of_lt_of_eq t.isLt N_0

/-- The scales as a row, as the host lays them. -/
theorem V0 (c : Dev nD) (k : Fin 5120) : V m c main_v0 (ix2 0 k) = aS m c (ix1 k) := by
  entry_read
  pointwise
  rfl

theorem b0 (c : Dev nD) (t : Fin cfg0.N) (r : Fin 224) (k : Fin 6400) : iblk m c 0 t (ix2 r k) = aX m c (ix2 r k) := by
  blk_simp [iblk]
  rw [V_main_arg0]
  congr 1
  blk_ext [idx0]

theorem b1 (c : Dev nD) (t : Fin cfg0.N) (r : Fin 224) (n : Fin 1024) :
    iblk m c 1 t (ix2 r n) = aR m c (ix2 r ⟨t.val * 1024 + n.val, by have := lt5 t; omega⟩) := by
  blk_simp [iblk]
  rw [V_main_arg1]
  congr 1
  blk_ext [idx1]

theorem b2 (c : Dev nD) (t : Fin cfg0.N) (k : Fin 6400) (n : Fin 1024) :
    iblk m c 2 t (ix2 k n) = aW m c (ix2 k ⟨t.val * 1024 + n.val, by have := lt5 t; omega⟩) := by
  blk_simp [iblk]
  rw [V_main_arg2]
  congr 1
  blk_ext [idx2]

theorem b3 (c : Dev nD) (t : Fin cfg0.N) (n : Fin 1024) :
    iblk m c 3 t (ix2 0 n) = aS m c (ix1 ⟨t.val * 1024 + n.val, by have := lt5 t; omega⟩) := by
  rw [← V0]
  blk_simp [iblk]
  congr 1
  blk_ext [idx3]

/-! ## What the body leaves, at an index -/

theorem X_eq (c : Dev nD) (t : Fin cfg0.N) : mat (iblk m c 0 t) = mat (aX m c) := funext fun r => funext fun k => b0 m c t r k

theorem COD_apply (c : Dev nD) (r : Fin 224) (k : Fin 6400) : COD m c (ix2 r k) = codes (mat (aX m c)) r k := by
  unfold COD
  rw [cod_apply, X_eq]

theorem SCL_apply (c : Dev nD) (r : Fin 224) (k : Fin 128) : SCL m c (ix2 r k) = scale (mat (aX m c)) r := by
  unfold SCL
  rw [scl_apply, X_eq]

theorem BLK_apply (c : Dev nD) (t : Fin cfg0.N) (r : Fin 224) (n : Fin 1024) :
    blk (COD m c) (SCL m c) (iblk m c 1 t) (iblk m c 2 t) (iblk m c 3 t) (ix2 r n)
      = H (aX m c) (aR m c) (aW m c) (aS m c) r ⟨t.val * 1024 + n.val, by have := lt5 t; omega⟩ := by
  refine (blk_apply _ _ _ _ _ r n).trans ?_
  have hc : mat (COD m c) = codes (mat (aX m c)) := funext fun r => funext fun k => COD_apply m c r k
  have hs : (fun r => mat (SCL m c) r 0) = scale (mat (aX m c)) := funext fun r => SCL_apply m c r 0
  rw [hc, hs]
  unfold H lin
  simp only [b1, b2, b3]

/-! ## The arrays after the run -/

/-- The last point. -/
def t4 : Fin cfg0.N := ⟨4, by decide⟩

theorem BLK_at (c : Dev nD) (t : Fin cfg0.N) (y : S224x1024.Idx) (i : S224x5120.Idx) (h0 : (i 0).val = (y 0).val) (h1 : (i 1).val = t.val * 1024 + (y 1).val) :
    blk (COD m c) (SCL m c) (iblk m c 1 t) (iblk m c 2 t) (iblk m c 3 t) y = H (aX m c) (aR m c) (aW m c) (aS m c) (i 0) (i 1) := by
  obtain ⟨r, n, rfl⟩ := ex2 y
  refine (BLK_apply m c t r n).trans ?_
  exact congrArg₂ (H (aX m c) (aR m c) (aW m c) (aS m c)) (Fin.ext h0.symm) (Fin.ext h1.symm)

theorem COD_at (c : Dev nD) (j : S224x6400.Idx) : COD m c j = codes (mat (aX m c)) (j 0) (j 1) := by
  obtain ⟨r, k, rfl⟩ := ex2 j
  exact COD_apply m c r k

theorem SCL_at (c : Dev nD) (j : S224x128.Idx) : SCL m c j = scale (mat (aX m c)) (j 0) := by
  obtain ⟨r, k, rfl⟩ := ex2 j
  exact SCL_apply m c r k

theorem cov4 : (cfg0.win 4).Covers := by decide +kernel
theorem whole5 : (cfg0.win 5).WholeAt t4 := by decide +kernel
theorem whole6 : (cfg0.win 6).WholeAt t4 := by decide +kernel

theorem final4 (c : Dev nD) : (dats m 0 c).arrAt 4 cfg0.N = fun i => H (aX m c) (aR m c) (aW m c) (aS m c) (i 0) (i 1) := by
  refine (dats m 0 c).arrAt_eq_of_covers 4 _ cov4 fun t hf y => ?_
  blk_simp
  rw [after0_4]
  exact BLK_at m c t y _ (by blk_simp [idx4]) (by blk_simp [idx4])

theorem last5 {c : Dev nD} (d : Dat τ (Elt Ideal) Unit ℕ (UR sig nD τ) ℕ cfg0 c) (G) (h : d.after 5 t4 = G) : d.arrAt 5 cfg0.N = G := by
  refine d.arrAt_eq_of_after_last 5 t4 whole5 _ fun j => ?_
  blk_simp
  rw [h]

theorem last6 {c : Dev nD} (d : Dat τ (Elt Ideal) Unit ℕ (UR sig nD τ) ℕ cfg0 c) (G) (h : d.after 6 t4 = G) : d.arrAt 6 cfg0.N = G := by
  refine d.arrAt_eq_of_after_last 6 t4 whole6 _ fun j => ?_
  blk_simp
  rw [h]

theorem final5 (c : Dev nD) : (dats m 0 c).arrAt 5 cfg0.N = fun i => codes (mat (aX m c)) (i 0) (i 1) :=
  (last5 _ _ (after0_5 m c t4)).trans (funext (COD_at m c))

theorem final6 (c : Dev nD) : (dats m 0 c).arrAt 6 cfg0.N = fun i => scale (mat (aX m c)) (i 0) :=
  (last6 _ _ (after0_6 m c t4)).trans (funext (SCL_at m c))

/-- The run, its results named. -/
theorem run : θ_run defs (onTc (τ := τ) (main (F := Ideal))) ⟨m, fun _ => 0, ρ⟩ fun r => ∀ c : Dev nD,
      r.2.mem ((c : Thread nD τ).loc main_v1_0) = (fun i => H (aX m c) (aR m c) (aW m c) (aS m c) (i 0) (i 1))
      ∧ r.2.mem ((c : Thread nD τ).loc main_v1_1) = (fun i => codes (mat (aX m c)) (i 0) (i 1))
      ∧ r.2.mem ((c : Thread nD τ).loc main_v1_2) = (fun i => scale (mat (aX m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have h := (θ_run defs (onTc (τ := τ) (main (F := Ideal))) (s₀ m ρ)).mono (fun _ h => h.1) (run_main_quiescent m ρ)
  exact (θ_run defs _ _).mono (fun r h c => ⟨(h.1 c).1 4 |>.trans (final4 m c), (h.1 c).1 5 |>.trans (final5 m c), (h.1 c).1 6 |>.trans (final6 m c), h.2 c⟩)
    (θ_run_and h (frame_of m ρ (dats m) (A_eq m) h))

end Cert.OprojIdeal.Value

end

end
-- ==== Proof.OprojRefValue.lean ====
/- The result arrays of the program `OprojRefIdeal` after its run, as functions of its arguments. -/
module

public import proofs.«01_k».proof.Proof.Gen.OprojRefIdeal.Frame
public import proofs.«01_k».proof.Proof.OprojValue

@[expose] public section

set_option maxRecDepth 16384

noncomputable section

namespace Cert.OprojRefIdeal.Run

open Cert.OprojRefIdeal Cert.OprojRefIdeal.Gen Cert.Rows Cert.Exponent
open Cert.OprojIdeal.Value (H)
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

theorem hz2 : (![0, 0] : Fin 2 → Nat) = fun _ => 0 := by
  funext a; fin_cases a <;> rfl

/-- The exponents of the rows' scales. -/
theorem pay2 (x : Vec Ideal S224x6400 .f32) (r : Fin 224) : k0_pay2 x (ix2 r 0) = rexp (top (mat x) r) := by
  unfold k0_pay2
  refine (rexp_at _ _ (IdealRules.named_const.ideal_named_scalar _ _ _ _ rfl) _).trans (congrArg rexp ?_)
  simp only [mul_at, bcast_at, cast_col]
  rw [reduce_max (absf x) reduces_S224x6400_S224 (.inl rfl) rfl r]
  simp only [abs_at]
  rfl

/-- The codes. -/
theorem pay3 (x : Vec Ideal S224x6400 .f32) (r : Fin 224) (k : Fin 6400) : k0_pay3 x (ix2 r k) = codes (mat x) r k := by
  simp only [k0_pay3, trunc_at, min_at, max_at, mul_at, bcast_col, bcast_at, exp2_at, sub_at, pay2]
  unfold codes
  rw [show (Scalar.ofBits (F := Ideal) .f32 0x00000000#32 : EReal) = 0 from lit_zero]
  rfl

/-- The scales. -/
theorem pay4 (x : Vec Ideal S224x6400 .f32) (r : Fin 224) : k0_pay4 x (ix2 r 0) = scale (mat x) r := by
  simp only [k0_pay4, exp2_at, pay2]
  rfl

theorem pay1 (s : FVec Ideal S224x1 .f32) (r : Fin 224) (k : Fin 128) : k0_pay1 s (ix2 r k) = s (ix2 r 0) := by
  simp only [k0_pay1, bcast_col, shapeCast_self]

/-- The residual and the projection. -/
theorem pay5 (x : Vec Ideal S224x6400 .f32) (x1 : Vec Ideal S224x5120 .bf16) (w : Vec Ideal S6400x5120 .fp8e4m3) (ws : Vec Ideal S1x5120 .f32)
    (r : Fin 224) (n : Fin 5120) :
    k0_pay5 x x1 w ws (ix2 r n) = mat x1 r n + lin (codes (mat x)) (scale (mat x)) (mat w) (mat ws 0) r n := by
  simp only [k0_pay5, add_at, mul_at, ext_at, bcast_col, bcast_row, shapeCast_self, pay4]
  rw [mm dot_S224x6400_S6400x5120_S224x5120_1_0_0_1_n_n rfl]
  simp only [pay3]
  rfl

variable (m : (ℓ : Loc nD τ sig) → Buf (Elt Ideal) ℓ) (ρ : Dev nD → PrngReg)

abbrev aX (c : Dev nD) : Vec Ideal S224x6400 .f32 := m ((c : Thread nD τ).loc main_arg0)
abbrev aR (c : Dev nD) : Vec Ideal S224x5120 .bf16 := m ((c : Thread nD τ).loc main_arg1)
abbrev aW (c : Dev nD) : Vec Ideal S6400x5120 .fp8e4m3 := m ((c : Thread nD τ).loc main_arg2)
abbrev aS (c : Dev nD) : Vec Ideal S5120 .f32 := m ((c : Thread nD τ).loc main_arg3)

/-! ## The input blocks, at an index -/

theorem V0 (c : Dev nD) (k : Fin 5120) : V m c main_v0 (ix2 0 k) = aS m c (ix1 k) := by
  entry_read
  pointwise
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem b0 (c : Dev nD) (t : Fin cfg0.N) (r : Fin 224) (k : Fin 6400) : iblk m c 0 t (ix2 r k) = aX m c (ix2 r k) := by
  blk_simp [iblk]
  rw [V_main_arg0]
  congr 1
  blk_ext [idx0]

theorem b1 (c : Dev nD) (t : Fin cfg0.N) (r : Fin 224) (n : Fin 5120) : iblk m c 1 t (ix2 r n) = aR m c (ix2 r n) := by
  blk_simp [iblk]
  rw [V_main_arg1]
  congr 1
  blk_ext [idx1]

theorem b2 (c : Dev nD) (t : Fin cfg0.N) (k : Fin 6400) (n : Fin 5120) : iblk m c 2 t (ix2 k n) = aW m c (ix2 k n) := by
  blk_simp [iblk]
  rw [V_main_arg2]
  congr 1
  blk_ext [idx2]

theorem b3 (c : Dev nD) (t : Fin cfg0.N) (n : Fin 5120) : iblk m c 3 t (ix2 0 n) = aS m c (ix1 n) := by
  rw [← V0]
  blk_simp [iblk]
  congr 1
  blk_ext [idx3]

theorem X_eq (c : Dev nD) (t : Fin cfg0.N) : mat (iblk m c 0 t) = mat (aX m c) := funext fun r => funext fun k => b0 m c t r k
theorem R_eq (c : Dev nD) (t : Fin cfg0.N) : mat (iblk m c 1 t) = mat (aR m c) := funext fun r => funext fun k => b1 m c t r k
theorem W_eq (c : Dev nD) (t : Fin cfg0.N) : mat (iblk m c 2 t) = mat (aW m c) := funext fun k => funext fun n => b2 m c t k n
theorem S_eq (c : Dev nD) (t : Fin cfg0.N) : mat (iblk m c 3 t) 0 = fun n => aS m c (ix1 n) := funext fun n => b3 m c t n

/-! ## What the one point leaves -/

variable (x0 : Vec Ideal S224x6400 .f32) (x1 : Vec Ideal S224x5120 .bf16) (x2 : Vec Ideal S6400x5120 .fp8e4m3) (x3 : Vec Ideal S1x5120 .f32)

theorem out4 : out0_4 x0 x1 x2 x3 = k0_pay5 x0 x1 x2 x3 := by
  unfold out0_4
  rw [View.canon_unit_zero hz2, View.ld_unit_zero hz2, View.ld_unit_zero hz2, View.ld_unit_zero hz2, View.ld_unit_zero hz2]
theorem out5 : out0_5 x0 x1 x2 x3 = k0_pay3 x0 := by
  unfold out0_5
  rw [View.canon_unit_zero hz2, View.ld_unit_zero hz2]
theorem out6 : out0_6 x0 x1 x2 x3 = k0_pay1 (k0_pay4 x0) := by
  unfold out0_6
  rw [View.canon_unit_zero hz2, View.ld_unit_zero hz2]

/-! ## The arrays after the run -/

/-- The only point. -/
def t0 : Fin cfg0.N := ⟨0, by decide⟩

theorem whole4 : (cfg0.win 4).WholeAt t0 := by decide +kernel
theorem whole5 : (cfg0.win 5).WholeAt t0 := by decide +kernel
theorem whole6 : (cfg0.win 6).WholeAt t0 := by decide +kernel

theorem last4 {c : Dev nD} (d : Dat τ (Elt Ideal) Unit ℕ (UR sig nD τ) ℕ cfg0 c) (G) (h : d.after 4 t0 = G) : d.arrAt 4 cfg0.N = G := by
  refine d.arrAt_eq_of_after_last 4 t0 whole4 _ fun j => ?_
  blk_simp
  rw [h]

theorem last5 {c : Dev nD} (d : Dat τ (Elt Ideal) Unit ℕ (UR sig nD τ) ℕ cfg0 c) (G) (h : d.after 5 t0 = G) : d.arrAt 5 cfg0.N = G := by
  refine d.arrAt_eq_of_after_last 5 t0 whole5 _ fun j => ?_
  blk_simp
  rw [h]

theorem last6 {c : Dev nD} (d : Dat τ (Elt Ideal) Unit ℕ (UR sig nD τ) ℕ cfg0 c) (G) (h : d.after 6 t0 = G) : d.arrAt 6 cfg0.N = G := by
  refine d.arrAt_eq_of_after_last 6 t0 whole6 _ fun j => ?_
  blk_simp
  rw [h]

theorem at4 (c : Dev nD) (t : Fin cfg0.N) : out0_4 (iblk m c 0 t) (iblk m c 1 t) (iblk m c 2 t) (iblk m c 3 t)
    = fun i : S224x5120.Idx => H (aX m c) (aR m c) (aW m c) (aS m c) (i 0) (i 1) := by
  rw [out4]
  funext i
  obtain ⟨r, n, rfl⟩ := ex2 i
  refine (pay5 _ _ _ _ r n).trans ?_
  rw [X_eq, R_eq, W_eq, S_eq]
  rfl

theorem at5 (c : Dev nD) (t : Fin cfg0.N) : out0_5 (iblk m c 0 t) (iblk m c 1 t) (iblk m c 2 t) (iblk m c 3 t)
    = fun i : S224x6400.Idx => codes (mat (aX m c)) (i 0) (i 1) := by
  rw [out5, ← X_eq m c t]
  funext i
  obtain ⟨r, k, rfl⟩ := ex2 i
  exact pay3 _ r k

theorem at6 (c : Dev nD) (t : Fin cfg0.N) : out0_6 (iblk m c 0 t) (iblk m c 1 t) (iblk m c 2 t) (iblk m c 3 t)
    = fun i : S224x128.Idx => scale (mat (aX m c)) (i 0) := by
  rw [out6, ← X_eq m c t]
  funext i
  obtain ⟨r, k, rfl⟩ := ex2 i
  exact (pay1 _ r k).trans (pay4 _ r)

/-- The run, its results named. -/
theorem run : θ_run defs (onTc (τ := τ) (main (F := Ideal))) ⟨m, fun _ => 0, ρ⟩ fun r => ∀ c : Dev nD,
      r.2.mem ((c : Thread nD τ).loc main_v1_0) = (fun i => H (aX m c) (aR m c) (aW m c) (aS m c) (i 0) (i 1))
      ∧ r.2.mem ((c : Thread nD τ).loc main_v1_1) = (fun i => codes (mat (aX m c)) (i 0) (i 1))
      ∧ r.2.mem ((c : Thread nD τ).loc main_v1_2) = (fun i => scale (mat (aX m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (last4 _ _ ((after0_4 m c t0).trans (at4 m c t0))),
    ((h.1 c).1 5).trans (last5 _ _ ((after0_5 m c t0).trans (at5 m c t0))),
    ((h.1 c).1 6).trans (last6 _ _ ((after0_6 m c t0).trans (at6 m c t0))), h.2 c⟩)
    (θ_run_and (run_main m ρ) (unchanged m ρ))

end Cert.OprojRefIdeal.Run

end

end
-- ==== Proof.OprojClaim.lean ====
/- The claims about the output projection: the frames, and the same results as the reference. -/
module

public import proofs.«01_k».proof.Defs
public import proofs.«01_k».proof.Proof.OprojBits
public import proofs.«01_k».proof.Proof.OprojValue
public import proofs.«01_k».proof.Proof.OprojRefValue

@[expose] public section

set_option maxRecDepth 16384

noncomputable section

namespace Cert.OprojIdeal.Value

open Idealize.ShloMosaic Idealize.ShloMosaic.TcCoe Idealize.SL.Sem
open Cert.OprojIdeal Cert.OprojIdeal.Gen Cert.OprojIdeal.Run

attribute [local instance] Cert.Oproj.Gen.facts Cert.OprojIdeal.Gen.facts Cert.OprojRefIdeal.Gen.facts

/-- The program leaves its arguments as they were and every semaphore at zero. -/
theorem frame : Cert.quiescent_Oproj := fun m g _ =>
  have h := (θ_run Cert.Oproj.defs (onTc (τ := Cert.Oproj.τ) (Cert.Oproj.main (F := Bits))) ⟨m, fun _ => 0, g⟩).mono (fun _ h => h.1) (Cert.Oproj.Run.run_main_quiescent m g)
  (θ_run _ _ _).mono (fun _ h => ⟨h.1, h.2.2⟩) (θ_run_and (Cert.Oproj.Gen.frame_of m g (Cert.Oproj.Run.dats m) (Cert.Oproj.Run.A_eq m) h) (Cert.Oproj.Run.run_main_quiescent m g))

/-- The ideal program leaves its arguments as they were and every semaphore at zero. -/
theorem quiet (m) (g) : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2.2⟩) (θ_run_and (run m g) (run_main_quiescent m g))

/-- The ideal program and the reference give the same results. -/
theorem same : Cert.algebraic_OprojIdeal_OprojRefIdeal := by
  intro m g m' g' _ h
  have e0 (c : Dev nD) : Cert.OprojRefIdeal.Run.aX m' c = aX m c := (h c).1
  have e1 (c : Dev nD) : Cert.OprojRefIdeal.Run.aR m' c = aR m c := (h c).2.1
  have e2 (c : Dev nD) : Cert.OprojRefIdeal.Run.aW m' c = aW m c := (h c).2.2.1
  have e3 (c : Dev nD) : Cert.OprojRefIdeal.Run.aS m' c = aS m c := (h c).2.2.2
  refine ⟨_, _, _, run m g, (θ_run _ _ _).mono (fun r H c => ?_) (Cert.OprojRefIdeal.Run.run m' g')⟩
  have H := H c
  rw [e0 c, e1 c, e2 c, e3 c] at H
  exact H

end Cert.OprojIdeal.Value

end

end
-- ==== Proof.QkvBits.lean ====
/- The run of the program `Qkv`, the same at its own float values. -/
module

public import proofs.«01_k».proof.Proof.Gen.Qkv.Frame
public import proofs.«01_k».proof.Proof.Gen.Qkv.Skeleton
public import Idealize.ShloMosaic.Lib.Pipeline.Value
public import Idealize.ShloMosaic.Lib.Pipeline.TableIdle
public import Idealize.ShloMosaic.Lib.Claim
public import Idealize.ShloMosaic.Lib.WritesUnit
public import Idealize.ShloMosaic.Lib.ValueIdx

@[expose] public section

set_option maxRecDepth 16384

noncomputable section

namespace Cert.Qkv.Run

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's branch 0, from the grid coordinates. -/
abbrev cond0_0 (i : grid0.Coords) : Prop := k0_cond1 i = 1#1
/-- It holds at the first point only. -/
theorem hcond0_0 : ∀ t : Fin cfg0.N, cond0_0 (grid0.coords t) ↔ t.val % 8 = 0 := (by decide +kernel : ∀ t : Fin grid0.N, cond0_0 (grid0.coords t) ↔ t.val % 8 = 0)
/-- The condition of the body's branch 1, from the grid coordinates. -/
abbrev cond0_1 (i : grid0.Coords) : Prop := k0_cond2 i = 1#1
/-- It holds at every point but the last. -/
theorem hcond0_1 : ∀ t : Fin cfg0.N, cond0_1 (grid0.coords t) ↔ ¬ t.val % 8 = 7 := (by decide +kernel : ∀ t : Fin grid0.N, cond0_1 (grid0.coords t) ↔ ¬ t.val % 8 = 7)
/-- The condition of the body's branch 2, from the grid coordinates. -/
abbrev cond0_2 (i : grid0.Coords) : Prop := k0_cond3 i = 1#1
/-- It holds at the last point only. -/
theorem hcond0_2 : ∀ t : Fin cfg0.N, cond0_2 (grid0.coords t) ↔ t.val % 8 = 7 := (by decide +kernel : ∀ t : Fin grid0.N, cond0_2 (grid0.coords t) ↔ t.val % 8 = 7)

/-! ## The staging buffers -/

abbrev ms0_0 (t : Fin cfg0.N) : Memref sig .tc .vmem S224x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x128 .f32 := win0_6.stage (cfg0.slots t 6)
abbrev hs0_6 (t : Fin cfg0.N) : (ms0_6 t).IsWhole := hstage0_6 ((cfg0.slots t 6).cast nbuf0_6)

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S5120x1280 := Rect.unit (s := S5120x1280) ![0, 0] S5120x1280.size inb_S5120x1280_S5120x1280_0_0
abbrev rS : Rect S1x1280 := Rect.unit (s := S1x1280) ![0, 0] S1x1280.size inb_S1x1280_S1x1280_0_0
abbrev rW' : Rect S5120x1280 := Rect.unit (s := S5120x1280) ![0, 0] S5120x640.size inb_S5120x1280_S5120x640_0_0
abbrev rS' : Rect S1x1280 := Rect.unit (s := S1x1280) ![0, 0] S1x640.size inb_S1x1280_S1x640_0_0
abbrev rO' : Rect S224x1280 := Rect.unit (s := S224x1280) ![0, 0] S224x640.size inb_S224x1280_S224x640_0_0
abbrev rC : Rect S224x128 := Rect.unit (s := S224x128) ![0, 0] S224x1.size inb_S224x128_S224x1_0_0

/-- The normalised rows, and their greatest magnitudes over 448. -/
def nr (x0 : Vec F S224x5120 .bf16) (x1 : Vec F S1x5120 .f32) : FVec F S224x5120 .f32 := k0_pay6 (View.ld x0 rX) (View.ld x1 rL)
def tp (x0 : Vec F S224x5120 .bf16) (x1 : Vec F S1x5120 .f32) : FVec F S224x1 .f32 := k0_pay7 (View.ld x0 rX) (View.ld x1 rL)

/-- The exponent fields before the last step of the search, and the field the last step tries. -/
def fld (x0 : Vec F S224x5120 .bf16) (x1 : Vec F S1x5120 .f32) : IVec S224x1 32 :=
  k0_pay10 (tp x0 x1) (k0_pay8 (View.ld x0 rX) (View.ld x1 rL)) (k0_pay9 (View.ld x0 rX) (View.ld x1 rL)) 23#32
def fld' (x0 : Vec F S224x5120 .bf16) (x1 : Vec F S1x5120 .f32) : IVec S224x1 32 :=
  k0_pay11 (tp x0 x1) (k0_pay8 (View.ld x0 rX) (View.ld x1 rL)) (k0_pay9 (View.ld x0 rX) (View.ld x1 rL)) 23#32

/-- The codes of the rows. -/
def cod (x0 : Vec F S224x5120 .bf16) (x1 : Vec F S1x5120 .f32) : Vec F S224x5120 .fp8e4m3 := k0_pay2 (nr x0 x1) (tp x0 x1) (fld x0 x1) (fld' x0 x1) 23#32

/-- Their scales, one a row along 128 lanes. -/
def scl (x0 : Vec F S224x5120 .bf16) (x1 : Vec F S1x5120 .f32) : Vec F S224x128 .f32 := k0_pay3 (tp x0 x1) (fld x0 x1) (fld' x0 x1) 23#32

/-- One block of the result, from the codes, the scales and the block of the weights and of their scales. -/
def blk (ac : Vec F S224x5120 .fp8e4m3) (sc : Vec F S224x128 .f32) (x2 : Vec F S5120x1280 .fp8e4m3) (x3 : Vec F S1x1280 .f32) : Vec F S224x1280 .f32 :=
  k0_pay4 ac (View.ld x2 rW) (View.ld sc rC) (View.ld x3 rS)

/-- The 640 columns of the last block that lie in the array. -/
def half (ac : Vec F S224x5120 .fp8e4m3) (sc : Vec F S224x128 .f32) (x2 : Vec F S5120x1280 .fp8e4m3) (x3 : Vec F S1x1280 .f32) : Vec F S224x640 .f32 :=
  k0_pay5 ac (View.ld x2 rW') (View.ld sc rC) (View.ld x3 rS')

/-- A block with its left 640 columns replaced. -/
def lay (X : Vec F S224x1280 .f32) (p : Vec F S224x640 .f32) : Vec F S224x1280 .f32 :=
  fun j => if h : (j 1).val < 640 then p (ValueIdx.ix2 (j 0) ⟨(j 1).val, h⟩) else X j

/-- What a view reads after a store through its left 640 columns. -/
theorem rd_lay {κ : Kind} {sp : Space} (v : View sig κ sp S224x1280 .f32) (f : v.ty.Contents (Elt F)) (w : Vec F S224x640 .f32) :
    v.read (Elt F) (v.writes (Elt F) f [⟨rO', w⟩]) = lay (v.read (Elt F) f) w := by
  funext y
  unfold lay
  by_cases h : (y 1).val < 640
  · rw [dif_pos h]
    exact View.read_writes_cons_unit_of_mem v f _ w [] y (ValueIdx.ix2 (y 0) ⟨(y 1).val, h⟩) hz2 fun a => by
      match a with
      | ⟨0, _⟩ => exact (Nat.zero_add _).symm
      | ⟨1, _⟩ => exact (Nat.zero_add _).symm
  · rw [dif_neg h]
    exact View.read_writes_cons_unit_of_not_mem v f _ w [] y hz2 1 (.inr (by
      show 0 + 640 ≤ _
      omega))

set_option maxHeartbeats 4000000 in
/-- The body's triple in case A: the inputs are left as they were, the outputs at the values named. -/
theorem runA (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : cond0_0 i) (hc1 : cond0_1 i) (hc2 : ¬ cond0_2 i)
    (x0 : Vec F S224x5120 .bf16) (x1 : Vec F S1x5120 .f32) (x2 : Vec F S5120x1280 .fp8e4m3) (x3 : Vec F S1x1280 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld (cod x0 x1) rX) (scl x0 x1) x2 x3) ∗ owns (c : Thread nD τ) arg6 fullShare (cod x0 x1) ∗ owns (c : Thread nD τ) arg7 fullShare (scl x0 x1)) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    unfold blk
    congr 1 <;> first | rfl | exact cov_whole _ hz2 _ _ _ _
  isplitl [H5]
  · iexists _; isplitr
    swap; · iexact H5
    ipureintro
    refine (rd_whole _ _ hz2 _ _ _).trans ?_
    rfl
  iexists _; isplitr
  swap; · iexact H6
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : ¬ cond0_0 i) (hc1 : cond0_1 i) (hc2 : ¬ cond0_2 i)
    (x0 : Vec F S224x5120 .bf16) (x1 : Vec F S1x5120 .f32) (x2 : Vec F S5120x1280 .fp8e4m3) (x3 : Vec F S1x1280 .f32) (x5 : Vec F S224x5120 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld x5 rX) x6 x2 x3) ∗ owns (c : Thread nD τ) arg6 fullShare x5 ∗ owns (c : Thread nD τ) arg7 fullShare x6) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    rfl
  isplitl [H5]
  · iexists f5; isplitr; · ipureintro; rfl
    iexact H5
  iexists f6; isplitr; · ipureintro; rfl
  iexact H6

set_option maxHeartbeats 4000000 in
/-- The body's triple in case C: the inputs are left as they were, the outputs at the values named. -/
theorem runC (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : ¬ cond0_0 i) (hc1 : ¬ cond0_1 i) (hc2 : cond0_2 i)
    (x0 : Vec F S224x5120 .bf16) (x1 : Vec F S1x5120 .f32) (x2 : Vec F S5120x1280 .fp8e4m3) (x3 : Vec F S1x1280 .f32) (x4 : Vec F S224x1280 .f32) (x5 : Vec F S224x5120 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lay x4 (half (View.ld x5 rX) x6 x2 x3)) ∗ owns (c : Thread nD τ) arg6 fullShare x5 ∗ owns (c : Thread nD τ) arg7 fullShare x6) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_lay _ _ _).trans ?_
    rfl
  isplitl [H5]
  · iexists f5; isplitr; · ipureintro; rfl
    iexact H5
  iexists f6; isplitr; · ipureintro; rfl
  iexact H6

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)

/-- A block of the weights and of their scales, filled out where it lies outside the array. -/
def FW (c : Dev nD) (t : Fin cfg0.N) : Vec F S5120x1280 .fp8e4m3 := (cfg0.win 2).fill (cfg0.grid.coords t) (fun _ => (Scalar.ofBits .fp8e4m3 0#8 : F .fp8e4m3)) (iblk m c 2 t)
def FS (c : Dev nD) (t : Fin cfg0.N) : Vec F S1x1280 .f32 := (cfg0.win 3).fill (cfg0.grid.coords t) (fun _ => (Scalar.ofBits .f32 0#32 : F .f32)) (iblk m c 3 t)

/-- What a point leaves of the result. -/
def OUT (c : Dev nD) (t : Fin cfg0.N) : Vec F S224x1280 .f32 :=
  if t.val % 8 = 7 then lay (fun _ => (Scalar.ofBits .f32 0#32 : F .f32)) (half (COD m c) (SCL m c) (FW m c t) (FS m c t)) else blk (COD m c) (SCL m c) (FW m c t) (FS m c t)

theorem live0_4 : ∀ t : Fin cfg0.N, cfg0.idle 4 (cfg0.grid.coords t) = false := (by decide +kernel : ∀ t : Fin grid0.N, idle0 4 (grid0.coords t) = false)
theorem live0_5 : ∀ t : Fin cfg0.N, t.val % 8 = 0 → cfg0.idle 5 (cfg0.grid.coords t) = false := by decide +kernel
theorem live0_6 : ∀ t : Fin cfg0.N, t.val % 8 = 0 → cfg0.idle 6 (cfg0.grid.coords t) = false := by decide +kernel
theorem fetch0_2 : ∀ t : Fin cfg0.N, (cfg0.win 2).fetch t = true := by decide +kernel
theorem fetch0_3 : ∀ t : Fin cfg0.N, (cfg0.win 3).fetch t = true := by decide +kernel

/-- Only the last point's blocks overhang the array. -/
theorem clip0_2 : ∀ t : Fin cfg0.N, ¬ t.val % 8 = 7 → ∀ a, (cfg0.win 2).clip (cfg0.grid.coords t) a = none := by decide +kernel
theorem clip0_3 : ∀ t : Fin cfg0.N, ¬ t.val % 8 = 7 → ∀ a, (cfg0.win 3).clip (cfg0.grid.coords t) a = none := by decide +kernel
theorem xs0_2 : ∀ t : Fin cfg0.N, t.val % 8 = 7 → win0_2.xsize (grid0.coords t) = ![5120, 640] := (by decide +kernel : ∀ t : Fin grid0.N, _)
theorem xs0_3 : ∀ t : Fin cfg0.N, t.val % 8 = 7 → win0_3.xsize (grid0.coords t) = ![1, 640] := (by decide +kernel : ∀ t : Fin grid0.N, _)
theorem xs0_4 : ∀ t : Fin cfg0.N, t.val % 8 = 7 → win0_4.xsize (grid0.coords t) = ![224, 640] := (by decide +kernel : ∀ t : Fin grid0.N, _)

theorem fw_eq (c : Dev nD) (t : Fin cfg0.N) (h : ¬ t.val % 8 = 7) (d) : (cfg0.win 2).fill (cfg0.grid.coords t) d (iblk m c 2 t) = FW m c t :=
  Pipeline.fill_of_clip_none 2 _ (clip0_2 t h) _ _ _
theorem fs_eq (c : Dev nD) (t : Fin cfg0.N) (h : ¬ t.val % 8 = 7) (d) : (cfg0.win 3).fill (cfg0.grid.coords t) d (iblk m c 3 t) = FS m c t :=
  Pipeline.fill_of_clip_none 3 _ (clip0_3 t h) _ _ _

/-- Inside the array a filled block is what was fetched. -/
theorem fill_in {G : Pipeline.Grid} (w : Window sig G) {α : Type} (i : G.Coords) (d d' : w.block.Idx → α) (g : (w.xblock i).Idx → α) (j : w.block.Idx)
    (h : ∀ a, (j a).val < w.xsize i a) : w.fill i d g j = w.fill i d' g j := by
  unfold Window.fill
  rw [dif_pos ((w.moved_iff i j).mpr h), dif_pos ((w.moved_iff i j).mpr h)]

/-- So what the last point loads does not depend on what lies outside. -/
theorem lw_eq (c : Dev nD) (t : Fin cfg0.N) (h : t.val % 8 = 7) (d : (cfg0.win 2).block.Idx → Elt F (cfg0.win 2).elt) :
    View.ld (Val := Elt F) (S := S5120x1280) (e' := .fp8e4m3) ((cfg0.win 2).fill (cfg0.grid.coords t) d (iblk m c 2 t)) rW' = View.ld (FW m c t) rW' := by
  funext j
  refine fill_in win0_2 (grid0.coords t) d _ _ _ fun a => ?_
  rw [xs0_2 t h]
  match a with
  | ⟨0, _⟩ => exact lt_of_eq_of_lt ((Nat.zero_add _).trans (Nat.one_mul _)) (j 0).isLt
  | ⟨1, _⟩ => exact lt_of_eq_of_lt ((Nat.zero_add _).trans (Nat.one_mul _)) (j 1).isLt
theorem ls_eq (c : Dev nD) (t : Fin cfg0.N) (h : t.val % 8 = 7) (d : (cfg0.win 3).block.Idx → Elt F (cfg0.win 3).elt) :
    View.ld (Val := Elt F) (S := S1x1280) (e' := .f32) ((cfg0.win 3).fill (cfg0.grid.coords t) d (iblk m c 3 t)) rS' = View.ld (FS m c t) rS' := by
  funext j
  refine fill_in win0_3 (grid0.coords t) d _ _ _ fun a => ?_
  rw [xs0_3 t h]
  match a with
  | ⟨0, _⟩ => exact lt_of_eq_of_lt ((Nat.zero_add _).trans (Nat.one_mul _)) (j 0).isLt
  | ⟨1, _⟩ => exact lt_of_eq_of_lt ((Nat.zero_add _).trans (Nat.one_mul _)) (j 1).isLt
theorem half_eq (c : Dev nD) (t : Fin cfg0.N) (h : t.val % 8 = 7) (ac sc d d') :
    half ac sc ((cfg0.win 2).fill (cfg0.grid.coords t) d (iblk m c 2 t)) ((cfg0.win 3).fill (cfg0.grid.coords t) d' (iblk m c 3 t))
      = half ac sc (FW m c t) (FS m c t) := by
  unfold half
  rw [lw_eq m c t h, ls_eq m c t h]

/-- The part of a block that is written back does not depend on what lies outside it. -/
theorem lay_cut (t : Fin cfg0.N) (h : t.val % 8 = 7) (X Y : Vec F S224x1280 .f32) (p : Vec F S224x640 .f32) :
    win0_4.cut (grid0.coords t) (lay X p) = win0_4.cut (grid0.coords t) (lay Y p) := by
  funext j
  have hj : (j 1).val < 640 := lt_of_lt_of_eq (j 1).isLt (congrFun (xs0_4 t h) 1)
  show lay X p (win0_4.xinj (grid0.coords t) j) = lay Y p (win0_4.xinj (grid0.coords t) j)
  unfold lay
  rw [dif_pos (show ((win0_4.xinj (grid0.coords t) j) 1).val < 640 from hj), dif_pos (show ((win0_4.xinj (grid0.coords t) j) 1).val < 640 from hj)]

theorem ldX {e : EltTy} (X : Vec F S224x5120 e) : View.ld X rX = X := View.ld_unit_zero hz2 _ X
theorem ldL {e : EltTy} (X : Vec F S1x5120 e) : View.ld X rL = X := View.ld_unit_zero hz2 _ X
theorem ldW {e : EltTy} (X : Vec F S5120x1280 e) : View.ld X rW = X := View.ld_unit_zero hz2 _ X
theorem ldS {e : EltTy} (X : Vec F S1x1280 e) : View.ld X rS = X := View.ld_unit_zero hz2 _ X

/-- The first two windows' blocks are the whole arrays, at every point. -/
theorem COD_eq (c : Dev nD) (t : Fin cfg0.N) : COD m c = cod (iblk m c 0 t) (iblk m c 1 t) := rfl
theorem SCL_eq (c : Dev nD) (t : Fin cfg0.N) : SCL m c = scl (iblk m c 0 t) (iblk m c 1 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => FW m c t
    | ⟨3, _⟩ => FS m c t
    | ⟨4, _⟩ => OUT m c t
    | ⟨5, _⟩ => COD m c
    | ⟨6, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = FW m c t := by dsimp only [dats]
theorem after0_3 (c : Dev nD) (t : Fin cfg0.N) : (dats m 0 c).after 3 t = FS m c t := by dsimp only [dats]
theorem after0_4 (c : Dev nD) (t : Fin cfg0.N) : (dats m 0 c).after 4 t = OUT m c t := by dsimp only [dats]
theorem after0_5 (c : Dev nD) (t : Fin cfg0.N) : (dats m 0 c).after 5 t = COD m c := by dsimp only [dats]
theorem after0_6 (c : Dev nD) (t : Fin cfg0.N) : (dats m 0 c).after 6 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (cfg0.grid.coords t) d (iblk m c 2 t) := by
  unfold Dat.before
  rw [if_pos (fetch0_2 t)]
  rfl
theorem before0_3 (c : Dev nD) (t : Fin cfg0.N) (d) : (dats m 0 c).before 3 t d = (cfg0.win 3).fill (cfg0.grid.coords t) d (iblk m c 3 t) := by
  unfold Dat.before
  rw [if_pos (fetch0_3 t)]
  rfl

theorem fresh0_5 : ∀ t : Fin cfg0.N, cfg0.fresh 5 t.val = decide (t.val % 8 = 0) := fun t =>
  cfg0.fresh_tab 5 (fun n => decide (n % 8 = 0)) rfl
    (by simp only [Window.flush_eq_flushF]; exact (by decide +kernel : ∀ t : Fin cfg0.N, decide ((t.val + 1) % 8 = 0) = ((cfg0.win 5).flushF t || (cfg0.idle 5 (cfg0.grid.coords t) && decide (t.val % 8 = 0))))) t.val (Nat.le_of_lt t.isLt)

/-- Past the first point of a run, output window 5's buffer holds what the point before left. -/
theorem before0_5 (c : Dev nD) (t : Fin cfg0.N) (ht : ¬ t.val % 8 = 0) (d) :
    (dats m 0 c).before 5 t d = (dats m 0 c).after 5 ⟨t.val - 1, by have := t.isLt; omega⟩ := by
  rw [(dats m 0 c).before_out_traj 5 rfl (fun _ _ => rfl) (fun t ht hidle hfr => by rw [after0_5, after0_5]) t.val t rfl d, fresh0_5,
    if_neg (by simpa using ht)]

theorem fresh0_6 : ∀ t : Fin cfg0.N, cfg0.fresh 6 t.val = decide (t.val % 8 = 0) := fun t =>
  cfg0.fresh_tab 6 (fun n => decide (n % 8 = 0)) rfl
    (by simp only [Window.flush_eq_flushF]; exact (by decide +kernel : ∀ t : Fin cfg0.N, decide ((t.val + 1) % 8 = 0) = ((cfg0.win 6).flushF t || (cfg0.idle 6 (cfg0.grid.coords t) && decide (t.val % 8 = 0))))) t.val (Nat.le_of_lt t.isLt)

/-- Past the first point of a run, output window 6's buffer holds what the point before left. -/
theorem before0_6 (c : Dev nD) (t : Fin cfg0.N) (ht : ¬ t.val % 8 = 0) (d) :
    (dats m 0 c).before 6 t d = (dats m 0 c).after 6 ⟨t.val - 1, by have := t.isLt; omega⟩ := by
  rw [(dats m 0 c).before_out_traj 6 rfl (fun _ _ => rfl) (fun t ht hidle hfr => by rw [after0_6, after0_6]) t.val t rfl d, fresh0_6,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t)

theorem carry0_5 (c : Dev nD) (t : Fin cfg0.N) (ht : ¬ t.val % 8 = 0) : (dats m 0 c).after 5 t = (dats m 0 c).after 5 ⟨t.val - 1, by have := t.isLt; omega⟩ := by rw [after0_5, after0_5]
theorem carry0_6 (c : Dev nD) (t : Fin cfg0.N) (ht : ¬ t.val % 8 = 0) : (dats m 0 c).after 6 t = (dats m 0 c).after 6 ⟨t.val - 1, by have := t.isLt; omega⟩ := by rw [after0_6, after0_6]

/-- Leaving window 0's buffer at its value is leaving it as the proof data say. -/
theorem leaves0_0 (c : Dev nD) (t : Fin cfg0.N) : owns (c : Thread nD τ) (ms0_0 t) fullShare ((dats m 0 c).after 0 t) ⊢ (dats m 0 c).leaves 0 t := by
  rw [show (dats m 0 c).leaves 0 t = owns (c : Thread nD τ) (ms0_0 t) fullShare ((dats m 0 c).after 0 t) from by
    unfold Dat.leaves; rw [show cfg0.idle 0 (cfg0.grid.coords t) = false from rfl]; try rfl]
/-- Leaving window 1's buffer at its value is leaving it as the proof data say. -/
theorem leaves0_1 (c : Dev nD) (t : Fin cfg0.N) : owns (c : Thread nD τ) (ms0_1 t) fullShare ((dats m 0 c).after 1 t) ⊢ (dats m 0 c).leaves 1 t := by
  rw [show (dats m 0 c).leaves 1 t = owns (c : Thread nD τ) (ms0_1 t) fullShare ((dats m 0 c).after 1 t) from by
    unfold Dat.leaves; rw [show cfg0.idle 1 (cfg0.grid.coords t) = false from rfl]; try rfl]
/-- Leaving window 2's buffer at a value that agrees inside the array is leaving it as the proof data say. -/
theorem leaves0_2 (c : Dev nD) (t : Fin cfg0.N) (X) (h : (cfg0.win 2).cut (cfg0.grid.coords t) X = (cfg0.win 2).cut (cfg0.grid.coords t) ((dats m 0 c).after 2 t)) :
    owns (c : Thread nD τ) (ms0_2 t) fullShare X ⊢ (dats m 0 c).leaves 2 t := by
  rw [show (dats m 0 c).leaves 2 t = iprop(∃ d, owns (c : Thread nD τ) (ms0_2 t) fullShare ((cfg0.win 2).fill (cfg0.grid.coords t) d ((cfg0.win 2).cut (cfg0.grid.coords t) ((dats m 0 c).after 2 t)))) from by
    unfold Dat.leaves; rw [show cfg0.idle 2 (cfg0.grid.coords t) = false from rfl]; try rfl]
  iintro H
  iexists X
  rw [(cfg0.win 2).fill_congr_cut _ h]
  iexact H
/-- Leaving window 3's buffer at a value that agrees inside the array is leaving it as the proof data say. -/
theorem leaves0_3 (c : Dev nD) (t : Fin cfg0.N) (X) (h : (cfg0.win 3).cut (cfg0.grid.coords t) X = (cfg0.win 3).cut (cfg0.grid.coords t) ((dats m 0 c).after 3 t)) :
    owns (c : Thread nD τ) (ms0_3 t) fullShare X ⊢ (dats m 0 c).leaves 3 t := by
  rw [show (dats m 0 c).leaves 3 t = iprop(∃ d, owns (c : Thread nD τ) (ms0_3 t) fullShare ((cfg0.win 3).fill (cfg0.grid.coords t) d ((cfg0.win 3).cut (cfg0.grid.coords t) ((dats m 0 c).after 3 t)))) from by
    unfold Dat.leaves; rw [show cfg0.idle 3 (cfg0.grid.coords t) = false from rfl]; try rfl]
  iintro H
  iexists X
  rw [(cfg0.win 3).fill_congr_cut _ h]
  iexact H
/-- Leaving window 4's buffer at a value that agrees inside the array is leaving it as the proof data say. -/
theorem leaves0_4 (c : Dev nD) (t : Fin cfg0.N) (X) (h : (cfg0.win 4).cut (cfg0.grid.coords t) X = (cfg0.win 4).cut (cfg0.grid.coords t) ((dats m 0 c).after 4 t)) :
    owns (c : Thread nD τ) (ms0_4 t) fullShare X ⊢ (dats m 0 c).leaves 4 t := by
  rw [show (dats m 0 c).leaves 4 t = iprop(∃ d, owns (c : Thread nD τ) (ms0_4 t) fullShare ((cfg0.win 4).fill (cfg0.grid.coords t) d ((cfg0.win 4).cut (cfg0.grid.coords t) ((dats m 0 c).after 4 t)))) from by
    unfold Dat.leaves; rw [show cfg0.idle 4 (cfg0.grid.coords t) = false from live0_4 t]; try rfl]
  iintro H
  iexists X
  rw [(cfg0.win 4).fill_congr_cut _ h]
  iexact H
/-- Leaving window 5's buffer at its value is leaving it as the proof data say. -/
theorem leaves0_5 (c : Dev nD) (t : Fin cfg0.N) : owns (c : Thread nD τ) (ms0_5 t) fullShare ((dats m 0 c).after 5 t) ⊢ (dats m 0 c).leaves 5 t := by
  cases hi : cfg0.idle 5 (cfg0.grid.coords t)
  · rw [show (dats m 0 c).leaves 5 t = owns (c : Thread nD τ) (ms0_5 t) fullShare ((dats m 0 c).after 5 t) from by
      unfold Dat.leaves; rw [hi]; try rfl]
  · cases hf : (cfg0.win 5).flush t
    · rw [(dats m 0 c).leaves_idle 5 t hi hf]
      by_cases ht : t.val % 8 = 0
      · exact absurd hi (by rw [live0_5 t ht]; exact Bool.false_ne_true)
      · iintro H
        iexists (Classical.arbitrary _)
        rw [before0_5 m c t ht, ← carry0_5 m c t ht]
        iexact H
    · rw [show (dats m 0 c).leaves 5 t = owns (c : Thread nD τ) (ms0_5 t) fullShare ((dats m 0 c).after 5 t) from by
        unfold Dat.leaves; rw [hi, hf]; try rfl]
/-- Leaving window 6's buffer at its value is leaving it as the proof data say. -/
theorem leaves0_6 (c : Dev nD) (t : Fin cfg0.N) : owns (c : Thread nD τ) (ms0_6 t) fullShare ((dats m 0 c).after 6 t) ⊢ (dats m 0 c).leaves 6 t := by
  cases hi : cfg0.idle 6 (cfg0.grid.coords t)
  · rw [show (dats m 0 c).leaves 6 t = owns (c : Thread nD τ) (ms0_6 t) fullShare ((dats m 0 c).after 6 t) from by
      unfold Dat.leaves; rw [hi]; try rfl]
  · cases hf : (cfg0.win 6).flush t
    · rw [(dats m 0 c).leaves_idle 6 t hi hf]
      by_cases ht : t.val % 8 = 0
      · exact absurd hi (by rw [live0_6 t ht]; exact Bool.false_ne_true)
      · iintro H
        iexists (Classical.arbitrary _)
        rw [before0_6 m c t ht, ← carry0_6 m c t ht]
        iexact H
    · rw [show (dats m 0 c).leaves 6 t = owns (c : Thread nD τ) (ms0_6 t) fullShare ((dats m 0 c).after 6 t) from by
        unfold Dat.leaves; rw [hi, hf]; try rfl]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · have h7 : ¬ t.val % 8 = 7 := by omega
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0_0 t).mpr h0) ((hcond0_1 t).mpr (by omega)) (fun h => absurd ((hcond0_2 t).mp h) (by omega)) (iblk m c 0 t) (iblk m c 1 t) ((cfg0.win 2).fill (cfg0.grid.coords t) d2 (iblk m c 2 t)) ((cfg0.win 3).fill (cfg0.grid.coords t) d3 (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t ((cfg0.win 2).fill (cfg0.grid.coords t) d2 (iblk m c 2 t)) (by rw [after0_2]; unfold FW; rw [Window.cut_fill, Window.cut_fill])); iexact H2
    isplitl [H3]; · iapply (leaves0_3 m c t ((cfg0.win 3).fill (cfg0.grid.coords t) d3 (iblk m c 3 t)) (by rw [after0_3]; unfold FS; rw [Window.cut_fill, Window.cut_fill])); iexact H3
    isplitl [H4]; · iapply (leaves0_4 m c t (blk (View.ld (cod (iblk m c 0 t) (iblk m c 1 t)) rX) (scl (iblk m c 0 t) (iblk m c 1 t)) ((cfg0.win 2).fill (cfg0.grid.coords t) d2 (iblk m c 2 t)) ((cfg0.win 3).fill (cfg0.grid.coords t) d3 (iblk m c 3 t))) (by rw [after0_4, fw_eq m c t h7, fs_eq m c t h7]; unfold OUT; rw [if_neg h7]; simp only [COD_eq m c t, SCL_eq m c t, ldX])); iexact H4
    isplitl [H5]; · iapply (leaves0_5 m c t); rw [after0_5, COD_eq m c t]; iexact H5
    iapply (leaves0_6 m c t); rw [after0_6, SCL_eq m c t]; iexact H6
  · by_cases h7 : ¬ t.val % 8 = 7
    · simp only [before0_5 m c t h0, before0_6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ (fun h => h0 ((hcond0_0 t).mp h)) ((hcond0_1 t).mpr h7) (fun h => h7 ((hcond0_2 t).mp h)) (iblk m c 0 t) (iblk m c 1 t) ((cfg0.win 2).fill (cfg0.grid.coords t) d2 (iblk m c 2 t)) ((cfg0.win 3).fill (cfg0.grid.coords t) d3 (iblk m c 3 t)) ((dats m 0 c).after 5 ⟨t.val - 1, by have := t.isLt; omega⟩) ((dats m 0 c).after 6 ⟨t.val - 1, by have := t.isLt; omega⟩) Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t ((cfg0.win 2).fill (cfg0.grid.coords t) d2 (iblk m c 2 t)) (by rw [after0_2]; unfold FW; rw [Window.cut_fill, Window.cut_fill])); iexact H2
      isplitl [H3]; · iapply (leaves0_3 m c t ((cfg0.win 3).fill (cfg0.grid.coords t) d3 (iblk m c 3 t)) (by rw [after0_3]; unfold FS; rw [Window.cut_fill, Window.cut_fill])); iexact H3
      isplitl [H4]; · iapply (leaves0_4 m c t (blk (View.ld ((dats m 0 c).after 5 ⟨t.val - 1, by have := t.isLt; omega⟩) rX) ((dats m 0 c).after 6 ⟨t.val - 1, by have := t.isLt; omega⟩) ((cfg0.win 2).fill (cfg0.grid.coords t) d2 (iblk m c 2 t)) ((cfg0.win 3).fill (cfg0.grid.coords t) d3 (iblk m c 3 t))) (by rw [after0_4, fw_eq m c t h7, fs_eq m c t h7]; unfold OUT; rw [if_neg h7]; simp only [after0_5, after0_6, ldX])); iexact H4
      isplitl [H5]; · iapply (leaves0_5 m c t); simp only [after0_5]; iexact H5
      iapply (leaves0_6 m c t); simp only [after0_6]; iexact H6
    · have h7 : t.val % 8 = 7 := not_not.mp h7
      simp only [before0_5 m c t h0, before0_6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ _ _ _ _ _ _ _ _ _ _ _ _ _ (fun h => h0 ((hcond0_0 t).mp h)) (fun h => (hcond0_1 t).mp h h7) ((hcond0_2 t).mpr h7) (iblk m c 0 t) (iblk m c 1 t) ((cfg0.win 2).fill (cfg0.grid.coords t) d2 (iblk m c 2 t)) ((cfg0.win 3).fill (cfg0.grid.coords t) d3 (iblk m c 3 t)) ((dats m 0 c).before 4 t d4) ((dats m 0 c).after 5 ⟨t.val - 1, by have := t.isLt; omega⟩) ((dats m 0 c).after 6 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t ((cfg0.win 2).fill (cfg0.grid.coords t) d2 (iblk m c 2 t)) (by rw [after0_2]; unfold FW; rw [Window.cut_fill, Window.cut_fill])); iexact H2
      isplitl [H3]; · iapply (leaves0_3 m c t ((cfg0.win 3).fill (cfg0.grid.coords t) d3 (iblk m c 3 t)) (by rw [after0_3]; unfold FS; rw [Window.cut_fill, Window.cut_fill])); iexact H3
      isplitl [H4]; · iapply (leaves0_4 m c t (lay ((dats m 0 c).before 4 t d4) (half (View.ld ((dats m 0 c).after 5 ⟨t.val - 1, by have := t.isLt; omega⟩) rX) ((dats m 0 c).after 6 ⟨t.val - 1, by have := t.isLt; omega⟩) ((cfg0.win 2).fill (cfg0.grid.coords t) d2 (iblk m c 2 t)) ((cfg0.win 3).fill (cfg0.grid.coords t) d3 (iblk m c 3 t)))) (by rw [after0_4, half_eq m c t h7]; unfold OUT; rw [if_pos h7]; simp only [after0_5, after0_6, ldX]; exact lay_cut t h7 _ _ _)); iexact H4
      isplitl [H5]; · iapply (leaves0_5 m c t); simp only [after0_5]; iexact H5
      iapply (leaves0_6 m c t); simp only [after0_6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.Qkv.Run

end
-- ==== Proof.QkvRun.lean ====
/- The run of the program `QkvIdeal`: what its body leaves in each window at each grid point, and the arrays after the last. -/
module

public import proofs.«01_k».proof.Proof.Gen.QkvIdeal.Frame
public import proofs.«01_k».proof.Proof.Gen.QkvIdeal.Skeleton
public import Idealize.ShloMosaic.Lib.Pipeline.Value
public import Idealize.ShloMosaic.Lib.Pipeline.TableIdle
public import Idealize.ShloMosaic.Lib.Claim
public import Idealize.ShloMosaic.Lib.WritesUnit
public import Idealize.ShloMosaic.Lib.ValueIdx

@[expose] public section

set_option maxRecDepth 16384

noncomputable section

namespace Cert.QkvIdeal.Run

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The body's branch conditions -/

/-- The condition of the body's branch 0, from the grid coordinates. -/
abbrev cond0_0 (i : grid0.Coords) : Prop := k0_cond1 i = 1#1
/-- It holds at the first point only. -/
theorem hcond0_0 : ∀ t : Fin cfg0.N, cond0_0 (grid0.coords t) ↔ t.val % 8 = 0 := (by decide +kernel : ∀ t : Fin grid0.N, cond0_0 (grid0.coords t) ↔ t.val % 8 = 0)
/-- The condition of the body's branch 1, from the grid coordinates. -/
abbrev cond0_1 (i : grid0.Coords) : Prop := k0_cond2 i = 1#1
/-- It holds at every point but the last. -/
theorem hcond0_1 : ∀ t : Fin cfg0.N, cond0_1 (grid0.coords t) ↔ ¬ t.val % 8 = 7 := (by decide +kernel : ∀ t : Fin grid0.N, cond0_1 (grid0.coords t) ↔ ¬ t.val % 8 = 7)
/-- The condition of the body's branch 2, from the grid coordinates. -/
abbrev cond0_2 (i : grid0.Coords) : Prop := k0_cond3 i = 1#1
/-- It holds at the last point only. -/
theorem hcond0_2 : ∀ t : Fin cfg0.N, cond0_2 (grid0.coords t) ↔ t.val % 8 = 7 := (by decide +kernel : ∀ t : Fin grid0.N, cond0_2 (grid0.coords t) ↔ t.val % 8 = 7)

/-! ## The staging buffers -/

abbrev ms0_0 (t : Fin cfg0.N) : Memref sig .tc .vmem S224x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x1280 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1280 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S224x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S224x5120 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S224x128 .f32 := win0_6.stage (cfg0.slots t 6)
abbrev hs0_6 (t : Fin cfg0.N) : (ms0_6 t).IsWhole := hstage0_6 ((cfg0.slots t 6).cast nbuf0_6)

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S5120x1280 := Rect.unit (s := S5120x1280) ![0, 0] S5120x1280.size inb_S5120x1280_S5120x1280_0_0
abbrev rS : Rect S1x1280 := Rect.unit (s := S1x1280) ![0, 0] S1x1280.size inb_S1x1280_S1x1280_0_0
abbrev rW' : Rect S5120x1280 := Rect.unit (s := S5120x1280) ![0, 0] S5120x640.size inb_S5120x1280_S5120x640_0_0
abbrev rS' : Rect S1x1280 := Rect.unit (s := S1x1280) ![0, 0] S1x640.size inb_S1x1280_S1x640_0_0
abbrev rO' : Rect S224x1280 := Rect.unit (s := S224x1280) ![0, 0] S224x640.size inb_S224x1280_S224x640_0_0
abbrev rC : Rect S224x128 := Rect.unit (s := S224x128) ![0, 0] S224x1.size inb_S224x128_S224x1_0_0

/-- The normalised rows, and their greatest magnitudes over 448. -/
def nr (x0 : Vec F S224x5120 .bf16) (x1 : Vec F S1x5120 .f32) : FVec F S224x5120 .f32 := k0_pay6 (View.ld x0 rX) (View.ld x1 rL)
def tp (x0 : Vec F S224x5120 .bf16) (x1 : Vec F S1x5120 .f32) : FVec F S224x1 .f32 := k0_pay7 (View.ld x0 rX) (View.ld x1 rL)

/-- The exponent fields before the last step of the search, and the field the last step tries. -/
def fld (x0 : Vec F S224x5120 .bf16) (x1 : Vec F S1x5120 .f32) : IVec S224x1 32 :=
  k0_pay10 (tp x0 x1) (k0_pay8 (View.ld x0 rX) (View.ld x1 rL)) (k0_pay9 (View.ld x0 rX) (View.ld x1 rL)) 23#32
def fld' (x0 : Vec F S224x5120 .bf16) (x1 : Vec F S1x5120 .f32) : IVec S224x1 32 :=
  k0_pay11 (tp x0 x1) (k0_pay8 (View.ld x0 rX) (View.ld x1 rL)) (k0_pay9 (View.ld x0 rX) (View.ld x1 rL)) 23#32

/-- The codes of the rows. -/
def cod (x0 : Vec F S224x5120 .bf16) (x1 : Vec F S1x5120 .f32) : Vec F S224x5120 .fp8e4m3 := k0_pay2 (nr x0 x1) (tp x0 x1) (fld x0 x1) (fld' x0 x1) 23#32

/-- Their scales, one a row along 128 lanes. -/
def scl (x0 : Vec F S224x5120 .bf16) (x1 : Vec F S1x5120 .f32) : Vec F S224x128 .f32 := k0_pay3 (tp x0 x1) (fld x0 x1) (fld' x0 x1) 23#32

/-- One block of the result, from the codes, the scales and the block of the weights and of their scales. -/
def blk (ac : Vec F S224x5120 .fp8e4m3) (sc : Vec F S224x128 .f32) (x2 : Vec F S5120x1280 .fp8e4m3) (x3 : Vec F S1x1280 .f32) : Vec F S224x1280 .f32 :=
  k0_pay4 ac (View.ld x2 rW) (View.ld sc rC) (View.ld x3 rS)

/-- The 640 columns of the last block that lie in the array. -/
def half (ac : Vec F S224x5120 .fp8e4m3) (sc : Vec F S224x128 .f32) (x2 : Vec F S5120x1280 .fp8e4m3) (x3 : Vec F S1x1280 .f32) : Vec F S224x640 .f32 :=
  k0_pay5 ac (View.ld x2 rW') (View.ld sc rC) (View.ld x3 rS')

/-- A block with its left 640 columns replaced. -/
def lay (X : Vec F S224x1280 .f32) (p : Vec F S224x640 .f32) : Vec F S224x1280 .f32 :=
  fun j => if h : (j 1).val < 640 then p (ValueIdx.ix2 (j 0) ⟨(j 1).val, h⟩) else X j

/-- What a view reads after a store through its left 640 columns. -/
theorem rd_lay {κ : Kind} {sp : Space} (v : View sig κ sp S224x1280 .f32) (f : v.ty.Contents (Elt F)) (w : Vec F S224x640 .f32) :
    v.read (Elt F) (v.writes (Elt F) f [⟨rO', w⟩]) = lay (v.read (Elt F) f) w := by
  funext y
  unfold lay
  by_cases h : (y 1).val < 640
  · rw [dif_pos h]
    exact View.read_writes_cons_unit_of_mem v f _ w [] y (ValueIdx.ix2 (y 0) ⟨(y 1).val, h⟩) hz2 fun a => by
      match a with
      | ⟨0, _⟩ => exact (Nat.zero_add _).symm
      | ⟨1, _⟩ => exact (Nat.zero_add _).symm
  · rw [dif_neg h]
    exact View.read_writes_cons_unit_of_not_mem v f _ w [] y hz2 1 (.inr (by
      show 0 + 640 ≤ _
      omega))

set_option maxHeartbeats 4000000 in
/-- The body's triple in case A: the inputs are left as they were, the outputs at the values named. -/
theorem runA (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : cond0_0 i) (hc1 : cond0_1 i) (hc2 : ¬ cond0_2 i)
    (x0 : Vec F S224x5120 .bf16) (x1 : Vec F S1x5120 .f32) (x2 : Vec F S5120x1280 .fp8e4m3) (x3 : Vec F S1x1280 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld (cod x0 x1) rX) (scl x0 x1) x2 x3) ∗ owns (c : Thread nD τ) arg6 fullShare (cod x0 x1) ∗ owns (c : Thread nD τ) arg7 fullShare (scl x0 x1)) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    unfold blk
    congr 1 <;> first | rfl | exact cov_whole _ hz2 _ _ _ _
  isplitl [H5]
  · iexists _; isplitr
    swap; · iexact H5
    ipureintro
    refine (rd_whole _ _ hz2 _ _ _).trans ?_
    rfl
  iexists _; isplitr
  swap; · iexact H6
  ipureintro
  refine (rd_whole _ _ hz2 _ _ _).trans ?_
  rfl

set_option maxHeartbeats 4000000 in
/-- The body's triple in case B: the inputs are left as they were, the outputs at the values named. -/
theorem runB (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : ¬ cond0_0 i) (hc1 : cond0_1 i) (hc2 : ¬ cond0_2 i)
    (x0 : Vec F S224x5120 .bf16) (x1 : Vec F S1x5120 .f32) (x2 : Vec F S5120x1280 .fp8e4m3) (x3 : Vec F S1x1280 .f32) (x5 : Vec F S224x5120 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blk (View.ld x5 rX) x6 x2 x3) ∗ owns (c : Thread nD τ) arg6 fullShare x5 ∗ owns (c : Thread nD τ) arg7 fullShare x6) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_whole _ _ hz2 _ _ _).trans ?_
    rfl
  isplitl [H5]
  · iexists f5; isplitr; · ipureintro; rfl
    iexact H5
  iexists f6; isplitr; · ipureintro; rfl
  iexact H6

set_option maxHeartbeats 4000000 in
/-- The body's triple in case C: the inputs are left as they were, the outputs at the values named. -/
theorem runC (c : Dev nD) (i : grid0.Coords) (arg1 : Memref sig .tc .vmem S224x5120 .bf16) (harg1 : arg1.IsWhole) (arg2 : Memref sig .tc .vmem S1x5120 .f32) (harg2 : arg2.IsWhole) (arg3 : Memref sig .tc .vmem S5120x1280 .fp8e4m3) (harg3 : arg3.IsWhole) (arg4 : Memref sig .tc .vmem S1x1280 .f32) (harg4 : arg4.IsWhole) (arg5 : Memref sig .tc .vmem S224x1280 .f32) (harg5 : arg5.IsWhole) (arg6 : Memref sig .tc .vmem S224x5120 .fp8e4m3) (harg6 : arg6.IsWhole) (arg7 : Memref sig .tc .vmem S224x128 .f32) (harg7 : arg7.IsWhole) (hc0 : ¬ cond0_0 i) (hc1 : ¬ cond0_1 i) (hc2 : cond0_2 i)
    (x0 : Vec F S224x5120 .bf16) (x1 : Vec F S1x5120 .f32) (x2 : Vec F S5120x1280 .fp8e4m3) (x3 : Vec F S1x1280 .f32) (x4 : Vec F S224x1280 .f32) (x5 : Vec F S224x5120 .fp8e4m3) (x6 : Vec F S224x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (lay x4 (half (View.ld x5 rX) x6 x2 x3)) ∗ owns (c : Thread nD τ) arg6 fullShare x5 ∗ owns (c : Thread nD τ) arg7 fullShare x6) -∗ K ⟨⟩))
      ⊢ wp frame (wpE (defs₀ (F := F)) Variants.none c none) E (cc0_qkv i arg1 harg1 arg2 harg2 arg3 harg3 arg4 harg4 arg5 harg5 arg6 harg6 arg7 harg7) K := by
  simp only [cc0_qkv_eq_skeleton]; unfold cc0_qkv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (rd_lay _ _ _).trans ?_
    rfl
  isplitl [H5]
  · iexists f5; isplitr; · ipureintro; rfl
    iexact H5
  iexists f6; isplitr; · ipureintro; rfl
  iexact H6

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)

/-- A block of the weights and of their scales, filled out where it lies outside the array. -/
def FW (c : Dev nD) (t : Fin cfg0.N) : Vec F S5120x1280 .fp8e4m3 := (cfg0.win 2).fill (cfg0.grid.coords t) (fun _ => (Scalar.ofBits .fp8e4m3 0#8 : F .fp8e4m3)) (iblk m c 2 t)
def FS (c : Dev nD) (t : Fin cfg0.N) : Vec F S1x1280 .f32 := (cfg0.win 3).fill (cfg0.grid.coords t) (fun _ => (Scalar.ofBits .f32 0#32 : F .f32)) (iblk m c 3 t)

/-- What a point leaves of the result. -/
def OUT (c : Dev nD) (t : Fin cfg0.N) : Vec F S224x1280 .f32 :=
  if t.val % 8 = 7 then lay (fun _ => (Scalar.ofBits .f32 0#32 : F .f32)) (half (COD m c) (SCL m c) (FW m c t) (FS m c t)) else blk (COD m c) (SCL m c) (FW m c t) (FS m c t)

theorem live0_4 : ∀ t : Fin cfg0.N, cfg0.idle 4 (cfg0.grid.coords t) = false := (by decide +kernel : ∀ t : Fin grid0.N, idle0 4 (grid0.coords t) = false)
theorem live0_5 : ∀ t : Fin cfg0.N, t.val % 8 = 0 → cfg0.idle 5 (cfg0.grid.coords t) = false := by decide +kernel
theorem live0_6 : ∀ t : Fin cfg0.N, t.val % 8 = 0 → cfg0.idle 6 (cfg0.grid.coords t) = false := by decide +kernel
theorem fetch0_2 : ∀ t : Fin cfg0.N, (cfg0.win 2).fetch t = true := by decide +kernel
theorem fetch0_3 : ∀ t : Fin cfg0.N, (cfg0.win 3).fetch t = true := by decide +kernel

/-- Only the last point's blocks overhang the array. -/
theorem clip0_2 : ∀ t : Fin cfg0.N, ¬ t.val % 8 = 7 → ∀ a, (cfg0.win 2).clip (cfg0.grid.coords t) a = none := by decide +kernel
theorem clip0_3 : ∀ t : Fin cfg0.N, ¬ t.val % 8 = 7 → ∀ a, (cfg0.win 3).clip (cfg0.grid.coords t) a = none := by decide +kernel
theorem xs0_2 : ∀ t : Fin cfg0.N, t.val % 8 = 7 → win0_2.xsize (grid0.coords t) = ![5120, 640] := (by decide +kernel : ∀ t : Fin grid0.N, _)
theorem xs0_3 : ∀ t : Fin cfg0.N, t.val % 8 = 7 → win0_3.xsize (grid0.coords t) = ![1, 640] := (by decide +kernel : ∀ t : Fin grid0.N, _)
theorem xs0_4 : ∀ t : Fin cfg0.N, t.val % 8 = 7 → win0_4.xsize (grid0.coords t) = ![224, 640] := (by decide +kernel : ∀ t : Fin grid0.N, _)

theorem fw_eq (c : Dev nD) (t : Fin cfg0.N) (h : ¬ t.val % 8 = 7) (d) : (cfg0.win 2).fill (cfg0.grid.coords t) d (iblk m c 2 t) = FW m c t :=
  Pipeline.fill_of_clip_none 2 _ (clip0_2 t h) _ _ _
theorem fs_eq (c : Dev nD) (t : Fin cfg0.N) (h : ¬ t.val % 8 = 7) (d) : (cfg0.win 3).fill (cfg0.grid.coords t) d (iblk m c 3 t) = FS m c t :=
  Pipeline.fill_of_clip_none 3 _ (clip0_3 t h) _ _ _

/-- Inside the array a filled block is what was fetched. -/
theorem fill_in {G : Pipeline.Grid} (w : Window sig G) {α : Type} (i : G.Coords) (d d' : w.block.Idx → α) (g : (w.xblock i).Idx → α) (j : w.block.Idx)
    (h : ∀ a, (j a).val < w.xsize i a) : w.fill i d g j = w.fill i d' g j := by
  unfold Window.fill
  rw [dif_pos ((w.moved_iff i j).mpr h), dif_pos ((w.moved_iff i j).mpr h)]

/-- So what the last point loads does not depend on what lies outside. -/
theorem lw_eq (c : Dev nD) (t : Fin cfg0.N) (h : t.val % 8 = 7) (d : (cfg0.win 2).block.Idx → Elt F (cfg0.win 2).elt) :
    View.ld (Val := Elt F) (S := S5120x1280) (e' := .fp8e4m3) ((cfg0.win 2).fill (cfg0.grid.coords t) d (iblk m c 2 t)) rW' = View.ld (FW m c t) rW' := by
  funext j
  refine fill_in win0_2 (grid0.coords t) d _ _ _ fun a => ?_
  rw [xs0_2 t h]
  match a with
  | ⟨0, _⟩ => exact lt_of_eq_of_lt ((Nat.zero_add _).trans (Nat.one_mul _)) (j 0).isLt
  | ⟨1, _⟩ => exact lt_of_eq_of_lt ((Nat.zero_add _).trans (Nat.one_mul _)) (j 1).isLt
theorem ls_eq (c : Dev nD) (t : Fin cfg0.N) (h : t.val % 8 = 7) (d : (cfg0.win 3).block.Idx → Elt F (cfg0.win 3).elt) :
    View.ld (Val := Elt F) (S := S1x1280) (e' := .f32) ((cfg0.win 3).fill (cfg0.grid.coords t) d (iblk m c 3 t)) rS' = View.ld (FS m c t) rS' := by
  funext j
  refine fill_in win0_3 (grid0.coords t) d _ _ _ fun a => ?_
  rw [xs0_3 t h]
  match a with
  | ⟨0, _⟩ => exact lt_of_eq_of_lt ((Nat.zero_add _).trans (Nat.one_mul _)) (j 0).isLt
  | ⟨1, _⟩ => exact lt_of_eq_of_lt ((Nat.zero_add _).trans (Nat.one_mul _)) (j 1).isLt
theorem half_eq (c : Dev nD) (t : Fin cfg0.N) (h : t.val % 8 = 7) (ac sc d d') :
    half ac sc ((cfg0.win 2).fill (cfg0.grid.coords t) d (iblk m c 2 t)) ((cfg0.win 3).fill (cfg0.grid.coords t) d' (iblk m c 3 t))
      = half ac sc (FW m c t) (FS m c t) := by
  unfold half
  rw [lw_eq m c t h, ls_eq m c t h]

/-- The part of a block that is written back does not depend on what lies outside it. -/
theorem lay_cut (t : Fin cfg0.N) (h : t.val % 8 = 7) (X Y : Vec F S224x1280 .f32) (p : Vec F S224x640 .f32) :
    win0_4.cut (grid0.coords t) (lay X p) = win0_4.cut (grid0.coords t) (lay Y p) := by
  funext j
  have hj : (j 1).val < 640 := lt_of_lt_of_eq (j 1).isLt (congrFun (xs0_4 t h) 1)
  show lay X p (win0_4.xinj (grid0.coords t) j) = lay Y p (win0_4.xinj (grid0.coords t) j)
  unfold lay
  rw [dif_pos (show ((win0_4.xinj (grid0.coords t) j) 1).val < 640 from hj), dif_pos (show ((win0_4.xinj (grid0.coords t) j) 1).val < 640 from hj)]

theorem ldX {e : EltTy} (X : Vec F S224x5120 e) : View.ld X rX = X := View.ld_unit_zero hz2 _ X
theorem ldL {e : EltTy} (X : Vec F S1x5120 e) : View.ld X rL = X := View.ld_unit_zero hz2 _ X
theorem ldW {e : EltTy} (X : Vec F S5120x1280 e) : View.ld X rW = X := View.ld_unit_zero hz2 _ X
theorem ldS {e : EltTy} (X : Vec F S1x1280 e) : View.ld X rS = X := View.ld_unit_zero hz2 _ X

/-- The first two windows' blocks are the whole arrays, at every point. -/
theorem COD_eq (c : Dev nD) (t : Fin cfg0.N) : COD m c = cod (iblk m c 0 t) (iblk m c 1 t) := rfl
theorem SCL_eq (c : Dev nD) (t : Fin cfg0.N) : SCL m c = scl (iblk m c 0 t) (iblk m c 1 t) := rfl

/-! ## The proof data -/

/-- What the windows hold after the body at each point, the arrays as the region finds them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => FW m c t
    | ⟨3, _⟩ => FS m c t
    | ⟨4, _⟩ => OUT m c t
    | ⟨5, _⟩ => COD m c
    | ⟨6, _⟩ => SCL m c
  Φ _ := Pipeline.ΦA spec0 c
  q w := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = FW m c t := by dsimp only [dats]
theorem after0_3 (c : Dev nD) (t : Fin cfg0.N) : (dats m 0 c).after 3 t = FS m c t := by dsimp only [dats]
theorem after0_4 (c : Dev nD) (t : Fin cfg0.N) : (dats m 0 c).after 4 t = OUT m c t := by dsimp only [dats]
theorem after0_5 (c : Dev nD) (t : Fin cfg0.N) : (dats m 0 c).after 5 t = COD m c := by dsimp only [dats]
theorem after0_6 (c : Dev nD) (t : Fin cfg0.N) : (dats m 0 c).after 6 t = SCL m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = (cfg0.win 2).fill (cfg0.grid.coords t) d (iblk m c 2 t) := by
  unfold Dat.before
  rw [if_pos (fetch0_2 t)]
  rfl
theorem before0_3 (c : Dev nD) (t : Fin cfg0.N) (d) : (dats m 0 c).before 3 t d = (cfg0.win 3).fill (cfg0.grid.coords t) d (iblk m c 3 t) := by
  unfold Dat.before
  rw [if_pos (fetch0_3 t)]
  rfl

theorem fresh0_5 : ∀ t : Fin cfg0.N, cfg0.fresh 5 t.val = decide (t.val % 8 = 0) := fun t =>
  cfg0.fresh_tab 5 (fun n => decide (n % 8 = 0)) rfl
    (by simp only [Window.flush_eq_flushF]; exact (by decide +kernel : ∀ t : Fin cfg0.N, decide ((t.val + 1) % 8 = 0) = ((cfg0.win 5).flushF t || (cfg0.idle 5 (cfg0.grid.coords t) && decide (t.val % 8 = 0))))) t.val (Nat.le_of_lt t.isLt)

/-- Past the first point of a run, output window 5's buffer holds what the point before left. -/
theorem before0_5 (c : Dev nD) (t : Fin cfg0.N) (ht : ¬ t.val % 8 = 0) (d) :
    (dats m 0 c).before 5 t d = (dats m 0 c).after 5 ⟨t.val - 1, by have := t.isLt; omega⟩ := by
  rw [(dats m 0 c).before_out_traj 5 rfl (fun _ _ => rfl) (fun t ht hidle hfr => by rw [after0_5, after0_5]) t.val t rfl d, fresh0_5,
    if_neg (by simpa using ht)]

theorem fresh0_6 : ∀ t : Fin cfg0.N, cfg0.fresh 6 t.val = decide (t.val % 8 = 0) := fun t =>
  cfg0.fresh_tab 6 (fun n => decide (n % 8 = 0)) rfl
    (by simp only [Window.flush_eq_flushF]; exact (by decide +kernel : ∀ t : Fin cfg0.N, decide ((t.val + 1) % 8 = 0) = ((cfg0.win 6).flushF t || (cfg0.idle 6 (cfg0.grid.coords t) && decide (t.val % 8 = 0))))) t.val (Nat.le_of_lt t.isLt)

/-- Past the first point of a run, output window 6's buffer holds what the point before left. -/
theorem before0_6 (c : Dev nD) (t : Fin cfg0.N) (ht : ¬ t.val % 8 = 0) (d) :
    (dats m 0 c).before 6 t d = (dats m 0 c).after 6 ⟨t.val - 1, by have := t.isLt; omega⟩ := by
  rw [(dats m 0 c).before_out_traj 6 rfl (fun _ _ => rfl) (fun t ht hidle hfr => by rw [after0_6, after0_6]) t.val t rfl d, fresh0_6,
    if_neg (by simpa using ht)]

/-! ## The body at a generic point -/

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t)

theorem carry0_5 (c : Dev nD) (t : Fin cfg0.N) (ht : ¬ t.val % 8 = 0) : (dats m 0 c).after 5 t = (dats m 0 c).after 5 ⟨t.val - 1, by have := t.isLt; omega⟩ := by rw [after0_5, after0_5]
theorem carry0_6 (c : Dev nD) (t : Fin cfg0.N) (ht : ¬ t.val % 8 = 0) : (dats m 0 c).after 6 t = (dats m 0 c).after 6 ⟨t.val - 1, by have := t.isLt; omega⟩ := by rw [after0_6, after0_6]

/-- Leaving window 0's buffer at its value is leaving it as the proof data say. -/
theorem leaves0_0 (c : Dev nD) (t : Fin cfg0.N) : owns (c : Thread nD τ) (ms0_0 t) fullShare ((dats m 0 c).after 0 t) ⊢ (dats m 0 c).leaves 0 t := by
  rw [show (dats m 0 c).leaves 0 t = owns (c : Thread nD τ) (ms0_0 t) fullShare ((dats m 0 c).after 0 t) from by
    unfold Dat.leaves; rw [show cfg0.idle 0 (cfg0.grid.coords t) = false from rfl]; try rfl]
/-- Leaving window 1's buffer at its value is leaving it as the proof data say. -/
theorem leaves0_1 (c : Dev nD) (t : Fin cfg0.N) : owns (c : Thread nD τ) (ms0_1 t) fullShare ((dats m 0 c).after 1 t) ⊢ (dats m 0 c).leaves 1 t := by
  rw [show (dats m 0 c).leaves 1 t = owns (c : Thread nD τ) (ms0_1 t) fullShare ((dats m 0 c).after 1 t) from by
    unfold Dat.leaves; rw [show cfg0.idle 1 (cfg0.grid.coords t) = false from rfl]; try rfl]
/-- Leaving window 2's buffer at a value that agrees inside the array is leaving it as the proof data say. -/
theorem leaves0_2 (c : Dev nD) (t : Fin cfg0.N) (X) (h : (cfg0.win 2).cut (cfg0.grid.coords t) X = (cfg0.win 2).cut (cfg0.grid.coords t) ((dats m 0 c).after 2 t)) :
    owns (c : Thread nD τ) (ms0_2 t) fullShare X ⊢ (dats m 0 c).leaves 2 t := by
  rw [show (dats m 0 c).leaves 2 t = iprop(∃ d, owns (c : Thread nD τ) (ms0_2 t) fullShare ((cfg0.win 2).fill (cfg0.grid.coords t) d ((cfg0.win 2).cut (cfg0.grid.coords t) ((dats m 0 c).after 2 t)))) from by
    unfold Dat.leaves; rw [show cfg0.idle 2 (cfg0.grid.coords t) = false from rfl]; try rfl]
  iintro H
  iexists X
  rw [(cfg0.win 2).fill_congr_cut _ h]
  iexact H
/-- Leaving window 3's buffer at a value that agrees inside the array is leaving it as the proof data say. -/
theorem leaves0_3 (c : Dev nD) (t : Fin cfg0.N) (X) (h : (cfg0.win 3).cut (cfg0.grid.coords t) X = (cfg0.win 3).cut (cfg0.grid.coords t) ((dats m 0 c).after 3 t)) :
    owns (c : Thread nD τ) (ms0_3 t) fullShare X ⊢ (dats m 0 c).leaves 3 t := by
  rw [show (dats m 0 c).leaves 3 t = iprop(∃ d, owns (c : Thread nD τ) (ms0_3 t) fullShare ((cfg0.win 3).fill (cfg0.grid.coords t) d ((cfg0.win 3).cut (cfg0.grid.coords t) ((dats m 0 c).after 3 t)))) from by
    unfold Dat.leaves; rw [show cfg0.idle 3 (cfg0.grid.coords t) = false from rfl]; try rfl]
  iintro H
  iexists X
  rw [(cfg0.win 3).fill_congr_cut _ h]
  iexact H
/-- Leaving window 4's buffer at a value that agrees inside the array is leaving it as the proof data say. -/
theorem leaves0_4 (c : Dev nD) (t : Fin cfg0.N) (X) (h : (cfg0.win 4).cut (cfg0.grid.coords t) X = (cfg0.win 4).cut (cfg0.grid.coords t) ((dats m 0 c).after 4 t)) :
    owns (c : Thread nD τ) (ms0_4 t) fullShare X ⊢ (dats m 0 c).leaves 4 t := by
  rw [show (dats m 0 c).leaves 4 t = iprop(∃ d, owns (c : Thread nD τ) (ms0_4 t) fullShare ((cfg0.win 4).fill (cfg0.grid.coords t) d ((cfg0.win 4).cut (cfg0.grid.coords t) ((dats m 0 c).after 4 t)))) from by
    unfold Dat.leaves; rw [show cfg0.idle 4 (cfg0.grid.coords t) = false from live0_4 t]; try rfl]
  iintro H
  iexists X
  rw [(cfg0.win 4).fill_congr_cut _ h]
  iexact H
/-- Leaving window 5's buffer at its value is leaving it as the proof data say. -/
theorem leaves0_5 (c : Dev nD) (t : Fin cfg0.N) : owns (c : Thread nD τ) (ms0_5 t) fullShare ((dats m 0 c).after 5 t) ⊢ (dats m 0 c).leaves 5 t := by
  cases hi : cfg0.idle 5 (cfg0.grid.coords t)
  · rw [show (dats m 0 c).leaves 5 t = owns (c : Thread nD τ) (ms0_5 t) fullShare ((dats m 0 c).after 5 t) from by
      unfold Dat.leaves; rw [hi]; try rfl]
  · cases hf : (cfg0.win 5).flush t
    · rw [(dats m 0 c).leaves_idle 5 t hi hf]
      by_cases ht : t.val % 8 = 0
      · exact absurd hi (by rw [live0_5 t ht]; exact Bool.false_ne_true)
      · iintro H
        iexists (Classical.arbitrary _)
        rw [before0_5 m c t ht, ← carry0_5 m c t ht]
        iexact H
    · rw [show (dats m 0 c).leaves 5 t = owns (c : Thread nD τ) (ms0_5 t) fullShare ((dats m 0 c).after 5 t) from by
        unfold Dat.leaves; rw [hi, hf]; try rfl]
/-- Leaving window 6's buffer at its value is leaving it as the proof data say. -/
theorem leaves0_6 (c : Dev nD) (t : Fin cfg0.N) : owns (c : Thread nD τ) (ms0_6 t) fullShare ((dats m 0 c).after 6 t) ⊢ (dats m 0 c).leaves 6 t := by
  cases hi : cfg0.idle 6 (cfg0.grid.coords t)
  · rw [show (dats m 0 c).leaves 6 t = owns (c : Thread nD τ) (ms0_6 t) fullShare ((dats m 0 c).after 6 t) from by
      unfold Dat.leaves; rw [hi]; try rfl]
  · cases hf : (cfg0.win 6).flush t
    · rw [(dats m 0 c).leaves_idle 6 t hi hf]
      by_cases ht : t.val % 8 = 0
      · exact absurd hi (by rw [live0_6 t ht]; exact Bool.false_ne_true)
      · iintro H
        iexists (Classical.arbitrary _)
        rw [before0_6 m c t ht, ← carry0_6 m c t ht]
        iexact H
    · rw [show (dats m 0 c).leaves 6 t = owns (c : Thread nD τ) (ms0_6 t) fullShare ((dats m 0 c).after 6 t) from by
        unfold Dat.leaves; rw [hi, hf]; try rfl]

set_option maxHeartbeats 4000000 in
/-- The body at any point: from what the proof data say the windows hold to what they say it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · have h7 : ¬ t.val % 8 = 7 := by omega
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((hcond0_0 t).mpr h0) ((hcond0_1 t).mpr (by omega)) (fun h => absurd ((hcond0_2 t).mp h) (by omega)) (iblk m c 0 t) (iblk m c 1 t) ((cfg0.win 2).fill (cfg0.grid.coords t) d2 (iblk m c 2 t)) ((cfg0.win 3).fill (cfg0.grid.coords t) d3 (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iapply (leaves0_0 m c t); rw [after0_0]; iexact H0
    isplitl [H1]; · iapply (leaves0_1 m c t); rw [after0_1]; iexact H1
    isplitl [H2]; · iapply (leaves0_2 m c t ((cfg0.win 2).fill (cfg0.grid.coords t) d2 (iblk m c 2 t)) (by rw [after0_2]; unfold FW; rw [Window.cut_fill, Window.cut_fill])); iexact H2
    isplitl [H3]; · iapply (leaves0_3 m c t ((cfg0.win 3).fill (cfg0.grid.coords t) d3 (iblk m c 3 t)) (by rw [after0_3]; unfold FS; rw [Window.cut_fill, Window.cut_fill])); iexact H3
    isplitl [H4]; · iapply (leaves0_4 m c t (blk (View.ld (cod (iblk m c 0 t) (iblk m c 1 t)) rX) (scl (iblk m c 0 t) (iblk m c 1 t)) ((cfg0.win 2).fill (cfg0.grid.coords t) d2 (iblk m c 2 t)) ((cfg0.win 3).fill (cfg0.grid.coords t) d3 (iblk m c 3 t))) (by rw [after0_4, fw_eq m c t h7, fs_eq m c t h7]; unfold OUT; rw [if_neg h7]; simp only [COD_eq m c t, SCL_eq m c t, ldX])); iexact H4
    isplitl [H5]; · iapply (leaves0_5 m c t); rw [after0_5, COD_eq m c t]; iexact H5
    iapply (leaves0_6 m c t); rw [after0_6, SCL_eq m c t]; iexact H6
  · by_cases h7 : ¬ t.val % 8 = 7
    · simp only [before0_5 m c t h0, before0_6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ (fun h => h0 ((hcond0_0 t).mp h)) ((hcond0_1 t).mpr h7) (fun h => h7 ((hcond0_2 t).mp h)) (iblk m c 0 t) (iblk m c 1 t) ((cfg0.win 2).fill (cfg0.grid.coords t) d2 (iblk m c 2 t)) ((cfg0.win 3).fill (cfg0.grid.coords t) d3 (iblk m c 3 t)) ((dats m 0 c).after 5 ⟨t.val - 1, by have := t.isLt; omega⟩) ((dats m 0 c).after 6 ⟨t.val - 1, by have := t.isLt; omega⟩) Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, H4, H5, H6⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t ((cfg0.win 2).fill (cfg0.grid.coords t) d2 (iblk m c 2 t)) (by rw [after0_2]; unfold FW; rw [Window.cut_fill, Window.cut_fill])); iexact H2
      isplitl [H3]; · iapply (leaves0_3 m c t ((cfg0.win 3).fill (cfg0.grid.coords t) d3 (iblk m c 3 t)) (by rw [after0_3]; unfold FS; rw [Window.cut_fill, Window.cut_fill])); iexact H3
      isplitl [H4]; · iapply (leaves0_4 m c t (blk (View.ld ((dats m 0 c).after 5 ⟨t.val - 1, by have := t.isLt; omega⟩) rX) ((dats m 0 c).after 6 ⟨t.val - 1, by have := t.isLt; omega⟩) ((cfg0.win 2).fill (cfg0.grid.coords t) d2 (iblk m c 2 t)) ((cfg0.win 3).fill (cfg0.grid.coords t) d3 (iblk m c 3 t))) (by rw [after0_4, fw_eq m c t h7, fs_eq m c t h7]; unfold OUT; rw [if_neg h7]; simp only [after0_5, after0_6, ldX])); iexact H4
      isplitl [H5]; · iapply (leaves0_5 m c t); simp only [after0_5]; iexact H5
      iapply (leaves0_6 m c t); simp only [after0_6]; iexact H6
    · have h7 : t.val % 8 = 7 := not_not.mp h7
      simp only [before0_5 m c t h0, before0_6 m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ _ _ _ _ _ _ _ _ _ _ _ _ _ (fun h => h0 ((hcond0_0 t).mp h)) (fun h => (hcond0_1 t).mp h h7) ((hcond0_2 t).mpr h7) (iblk m c 0 t) (iblk m c 1 t) ((cfg0.win 2).fill (cfg0.grid.coords t) d2 (iblk m c 2 t)) ((cfg0.win 3).fill (cfg0.grid.coords t) d3 (iblk m c 3 t)) ((dats m 0 c).before 4 t d4) ((dats m 0 c).after 5 ⟨t.val - 1, by have := t.isLt; omega⟩) ((dats m 0 c).after 6 ⟨t.val - 1, by have := t.isLt; omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iapply (leaves0_0 m c t); rw [after0_0]; iexact H0
      isplitl [H1]; · iapply (leaves0_1 m c t); rw [after0_1]; iexact H1
      isplitl [H2]; · iapply (leaves0_2 m c t ((cfg0.win 2).fill (cfg0.grid.coords t) d2 (iblk m c 2 t)) (by rw [after0_2]; unfold FW; rw [Window.cut_fill, Window.cut_fill])); iexact H2
      isplitl [H3]; · iapply (leaves0_3 m c t ((cfg0.win 3).fill (cfg0.grid.coords t) d3 (iblk m c 3 t)) (by rw [after0_3]; unfold FS; rw [Window.cut_fill, Window.cut_fill])); iexact H3
      isplitl [H4]; · iapply (leaves0_4 m c t (lay ((dats m 0 c).before 4 t d4) (half (View.ld ((dats m 0 c).after 5 ⟨t.val - 1, by have := t.isLt; omega⟩) rX) ((dats m 0 c).after 6 ⟨t.val - 1, by have := t.isLt; omega⟩) ((cfg0.win 2).fill (cfg0.grid.coords t) d2 (iblk m c 2 t)) ((cfg0.win 3).fill (cfg0.grid.coords t) d3 (iblk m c 3 t)))) (by rw [after0_4, half_eq m c t h7]; unfold OUT; rw [if_pos h7]; simp only [after0_5, after0_6, ldX]; exact lay_cut t h7 _ _ _)); iexact H4
      isplitl [H5]; · iapply (leaves0_5 m c t); simp only [after0_5]; iexact H5
      iapply (leaves0_6 m c t); simp only [after0_6]; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends as the proof data say, every other buffer as the region found it, and every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.QkvIdeal.Run

end
-- ==== Proof.QkvValue.lean ====
/- The result arrays of the program `QkvIdeal` after its run, as functions of its arguments. -/
module

public import proofs.«01_k».proof.Proof.QkvRun
public import proofs.«01_k».proof.Proof.Rows
public import Idealize.ShloMosaic.Lib.Pipeline.ValueKit

@[expose] public section

set_option maxRecDepth 16384

noncomputable section

namespace Cert.QkvIdeal.Value

open Cert.QkvIdeal Cert.QkvIdeal.Gen Cert.QkvIdeal.Run Cert.Rows Cert.Exponent
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

/-- The normalised rows. -/
theorem pay6 (x : Vec Ideal S224x5120 .bf16) (l : Vec Ideal S1x5120 .f32) (r : Fin 224) (k : Fin 5120) :
    k0_pay6 x l (ix2 r k) = nrm (mat x) (mat l 0) 5120 r k := by
  simp only [k0_pay6, mul_at, ext_at, bcast_col, bcast_row, shapeCast_self, rsqrt_at, add_at, bcast_at, cast_col]
  rw [reduce_add (mulf (extf .f32 x bitsLt_bf16_f32) (extf .f32 x bitsLt_bf16_f32)) reduces_S224x5120_S224 (.inl rfl) rfl r]
  simp only [mul_at, ext_at]
  rfl

/-- The rows' greatest magnitudes over 448. -/
theorem pay7 (x : Vec Ideal S224x5120 .bf16) (l : Vec Ideal S1x5120 .f32) (r : Fin 224) :
    k0_pay7 x l (ix2 r 0) = top (nrm (mat x) (mat l 0) 5120) r := by
  simp only [k0_pay7, mul_at, bcast_at, cast_col]
  rw [reduce_max (absf (k0_pay6 x l)) reduces_S224x5120_S224 (.inl rfl) rfl r]
  simp only [abs_at, pay6]
  rfl

/-- The first two steps of the search. -/
theorem pay8 (x : Vec Ideal S224x5120 .bf16) (l : Vec Ideal S1x5120 .f32) (i : S224x1.Idx) :
    k0_pay8 x l i = step (k0_pay7 x l i) (step (k0_pay7 x l i) 0#32 128#32) 64#32 := by
  unfold k0_pay8
  refine (srch _ _ _ _).trans ?_
  exact congrArg (fun f => step _ f 64#32) (srch _ _ _ _)

/-- The next five. -/
theorem pay10 (v : FVec Ideal S224x1 .f32) (a : IVec S224x1 32) (i : S224x1.Idx) :
    k0_pay10 v a (addi a (broadcast S224x1 32#32)) 23#32 i
      = step (v i) (step (v i) (step (v i) (step (v i) (step (v i) (a i) 32#32) 16#32) 8#32) 4#32) 2#32 := by
  unfold k0_pay10
  refine (srch _ _ _ _).trans (congrArg (fun f => step _ f 2#32) ?_)
  refine (srch _ _ _ _).trans (congrArg (fun f => step _ f 4#32) ?_)
  refine (srch _ _ _ _).trans (congrArg (fun f => step _ f 8#32) ?_)
  refine (srch _ _ _ _).trans (congrArg (fun f => step _ f 16#32) ?_)
  exact srch _ _ _ _

/-- The last, and the exponent from the field. -/
theorem pay1 (v : FVec Ideal S224x1 .f32) (a : IVec S224x1 32) (i : S224x1.Idx) :
    k0_pay1 v a (addi a (broadcast S224x1 1#32)) 23#32 i = expo (step (v i) (a i) 1#32) := by
  unfold k0_pay1
  refine Eq.trans ?_ (congrArg expo (srch v a 1#32 i))
  rfl

/-- The exponents. -/
theorem ex_apply (x : Vec Ideal S224x5120 .bf16) (l : Vec Ideal S1x5120 .f32) (r : Fin 224) :
    k0_pay1 (tp x l) (fld x l) (fld' x l) 23#32 (ix2 r 0) = expo (field (top (nrm (mat x) (mat l 0) 5120) r)) := by
  unfold fld fld' tp
  rw [ldX, ldL]
  refine (pay1 _ _ _).trans ?_
  rw [← pay7]
  refine congrArg (fun f => expo (step _ f 1#32)) ?_
  refine (pay10 _ _ _).trans ?_
  rw [pay8]

theorem cod_apply (x : Vec Ideal S224x5120 .bf16) (l : Vec Ideal S1x5120 .f32) (r : Fin 224) (k : Fin 5120) :
    cod x l (ix2 r k) = codes (nrm (mat x) (mat l 0) 5120) r k := by
  have h := kinv_exp2 (top (nrm (mat x) (mat l 0) 5120) r)
  unfold cod nr
  rw [ldX, ldL]
  simp only [k0_pay2, trunc_at, min_at, max_at, mul_at, bcast_col, bcast_at, pay6]
  unfold codes
  rw [← h]
  unfold kinv
  rw [← ex_apply]
  rfl

theorem scl_apply (x : Vec Ideal S224x5120 .bf16) (l : Vec Ideal S1x5120 .f32) (r : Fin 224) (k : Fin 128) :
    scl x l (ix2 r k) = scale (nrm (mat x) (mat l 0) 5120) r := by
  have h := kscale_exp2 (top (nrm (mat x) (mat l 0) 5120) r)
  unfold scl
  simp only [k0_pay3, bcast_col, shapeCast_self]
  unfold scale
  rw [← h]
  unfold kscale
  rw [← ex_apply]
  rfl

theorem ldC (sc : Vec Ideal S224x128 .f32) (r : Fin 224) : View.ld sc rC (ix2 r 0) = mat sc r 0 :=
  congrArg sc (by funext a; match a with | ⟨0, _⟩ => exact Fin.ext (by simp [ix2, Rect.unit]) | ⟨1, _⟩ => rfl)

theorem blk_apply (ac : Vec Ideal S224x5120 .fp8e4m3) (sc : Vec Ideal S224x128 .f32) (x2 : Vec Ideal S5120x1280 .fp8e4m3) (x3 : Vec Ideal S1x1280 .f32)
    (r : Fin 224) (n : Fin 1280) :
    blk ac sc x2 x3 (ix2 r n) = lin (mat ac) (fun r => mat sc r 0) (mat x2) (mat x3 0) r n := by
  unfold blk
  rw [ldW, ldS]
  simp only [k0_pay4, mul_at, bcast_col, bcast_row, shapeCast_self]
  rw [mm dot_S224x5120_S5120x1280_S224x1280_1_0_0_1_n_n rfl]
  exact congrArg (fun z => (∑ k, ac (ix2 r k) * x2 (ix2 k n)) * z * x3 (ix2 0 n)) (ldC sc r)

/-- The left 640 columns of a block of the weights, and of their scales. -/
theorem ldW' (x : Vec Ideal S5120x1280 .fp8e4m3) (k : Fin 5120) (n : Fin 640) : View.ld x rW' (ix2 k n) = x (ix2 k ⟨n.val, by omega⟩) :=
  congrArg x (by funext a; match a with | ⟨0, _⟩ => exact Fin.ext ((Nat.zero_add _).trans (Nat.one_mul _)) | ⟨1, _⟩ => exact Fin.ext ((Nat.zero_add _).trans (Nat.one_mul _)))
theorem ldS' (x : Vec Ideal S1x1280 .f32) (n : Fin 640) : View.ld x rS' (ix2 0 n) = x (ix2 0 ⟨n.val, by omega⟩) :=
  congrArg x (by funext a; match a with | ⟨0, _⟩ => rfl | ⟨1, _⟩ => exact Fin.ext ((Nat.zero_add _).trans (Nat.one_mul _)))

theorem half_apply (ac : Vec Ideal S224x5120 .fp8e4m3) (sc : Vec Ideal S224x128 .f32) (x2 : Vec Ideal S5120x1280 .fp8e4m3) (x3 : Vec Ideal S1x1280 .f32)
    (r : Fin 224) (n : Fin 640) :
    half ac sc x2 x3 (ix2 r n) = lin (mat ac) (fun r => mat sc r 0) (mat x2) (mat x3 0) r ⟨n.val, by omega⟩ := by
  unfold half
  simp only [k0_pay5, mul_at, bcast_col, bcast_row, shapeCast_self]
  rw [mm dot_S224x5120_S5120x640_S224x640_1_0_0_1_n_n rfl]
  exact congrArg₂ (· * ·) (congrArg₂ (· * ·) (Finset.sum_congr rfl fun k _ => congrArg (ac (ix2 r k) * ·) (ldW' x2 k n)) (ldC sc r)) (ldS' x3 n)

/-! ## What the results are -/

/-- The normalised rows. -/
def Y (X : Vec Ideal S224x5120 .bf16) (L : Vec Ideal S5120 .f32) : Fin 224 → Fin 5120 → EReal := nrm (mat X) (fun k => L (ix1 k)) 5120

/-- The projection of their codes. -/
def P (X : Vec Ideal S224x5120 .bf16) (L : Vec Ideal S5120 .f32) (W : Vec Ideal S5120x9600 .fp8e4m3) (S : Vec Ideal S9600 .f32) (r : Fin 224) (n : Fin 9600) : EReal :=
  lin (codes (Y X L)) (scale (Y X L)) (mat W) (fun n => S (ix1 n)) r n

variable (m : (ℓ : Loc nD τ sig) → Buf (Elt Ideal) ℓ) (ρ : Dev nD → PrngReg)

abbrev aX (c : Dev nD) : Vec Ideal S224x5120 .bf16 := m ((c : Thread nD τ).loc main_arg0)
abbrev aL (c : Dev nD) : Vec Ideal S5120 .f32 := m ((c : Thread nD τ).loc main_arg1)
abbrev aW (c : Dev nD) : Vec Ideal S5120x9600 .fp8e4m3 := m ((c : Thread nD τ).loc main_arg2)
abbrev aS (c : Dev nD) : Vec Ideal S9600 .f32 := m ((c : Thread nD τ).loc main_arg3)

/-! ## The input blocks, at an index -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- How much of a block lies in the array. -/
theorem xs2 : ∀ t : Fin cfg0.N, win0_2.xsize (grid0.coords t) = ![5120, min 1280 (9600 - t.val * 1280)] := (by decide +kernel : ∀ t : Fin grid0.N, _)
theorem xs3 : ∀ t : Fin cfg0.N, win0_3.xsize (grid0.coords t) = ![1, min 1280 (9600 - t.val * 1280)] := (by decide +kernel : ∀ t : Fin grid0.N, _)
theorem xs4 : ∀ t : Fin cfg0.N, win0_4.xsize (grid0.coords t) = ![224, min 1280 (9600 - t.val * 1280)] := (by decide +kernel : ∀ t : Fin grid0.N, _)

theorem lt8 (t : Fin cfg0.N) : t.val < 8 := Nat.lt_of_lt_of_eq t.isLt N_0

/-- The weights of the norm and the scales as rows, as the host lays them. -/
theorem V0 (c : Dev nD) (k : Fin 5120) : V m c main_v0 (ix2 0 k) = aL m c (ix1 k) := by
  entry_read
  pointwise
  rfl
theorem V1 (c : Dev nD) (k : Fin 9600) : V m c main_v1 (ix2 0 k) = aS m c (ix1 k) := by
  entry_read
  pointwise
  rfl

theorem b0 (c : Dev nD) (t : Fin cfg0.N) (r : Fin 224) (k : Fin 5120) : iblk m c 0 t (ix2 r k) = aX m c (ix2 r k) := by
  blk_simp [iblk]
  rw [V_main_arg0]
  congr 1
  blk_ext [idx0]

theorem b1 (c : Dev nD) (t : Fin cfg0.N) (k : Fin 5120) : iblk m c 1 t (ix2 0 k) = aL m c (ix1 k) := by
  rw [← V0]
  blk_simp [iblk]
  congr 1
  blk_ext [idx1]

/-- Inside the array a filled block of the weights is the array's. -/
theorem b2 (c : Dev nD) (t : Fin cfg0.N) (k : Fin 5120) (n : Fin 1280) (h : t.val * 1280 + n.val < 9600) :
    FW m c t (ix2 k n) = aW m c (ix2 k ⟨t.val * 1280 + n.val, h⟩) := by
  have hm : ∀ a, ((ix2 k n : S5120x1280.Idx) a).val < win0_2.xsize (grid0.coords t) a := fun a => by
    rw [xs2 t]
    match a with
    | ⟨0, _⟩ => exact k.isLt
    | ⟨1, _⟩ => exact lt_min n.isLt (by show n.val < _; omega)
  unfold FW Pipeline.Window.fill
  rw [dif_pos ((win0_2.moved_iff (grid0.coords t) _).mpr hm)]
  blk_simp [iblk]
  rw [V_main_arg2]
  congr 1
  blk_ext [idx2]

theorem b3 (c : Dev nD) (t : Fin cfg0.N) (n : Fin 1280) (h : t.val * 1280 + n.val < 9600) :
    FS m c t (ix2 0 n) = aS m c (ix1 ⟨t.val * 1280 + n.val, h⟩) := by
  have hm : ∀ a, ((ix2 0 n : S1x1280.Idx) a).val < win0_3.xsize (grid0.coords t) a := fun a => by
    rw [xs3 t]
    match a with
    | ⟨0, _⟩ => exact Nat.one_pos
    | ⟨1, _⟩ => exact lt_min n.isLt (by show n.val < _; omega)
  rw [← V1]
  unfold FS Pipeline.Window.fill
  rw [dif_pos ((win0_3.moved_iff (grid0.coords t) _).mpr hm)]
  blk_simp [iblk]
  congr 1
  blk_ext [idx3]

/-! ## What the body leaves, at an index -/

theorem Y_eq (c : Dev nD) (t : Fin cfg0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = fun k => aL m c (ix1 k) from funext fun k => b1 m c t k]

theorem COD_apply (c : Dev nD) (r : Fin 224) (k : Fin 5120) : COD m c (ix2 r k) = codes (Y (aX m c) (aL m c)) r k := by
  unfold COD
  rw [cod_apply, Y_eq]

theorem SCL_apply (c : Dev nD) (r : Fin 224) (k : Fin 128) : SCL m c (ix2 r k) = scale (Y (aX m c) (aL m c)) r := by
  unfold SCL
  rw [scl_apply, Y_eq]

/-- The projection of a column of a block that lies in the array. -/
theorem lin_eq (c : Dev nD) (t : Fin cfg0.N) (r : Fin 224) (n : Fin 1280) (h : t.val * 1280 + n.val < 9600) :
    lin (mat (COD m c)) (fun r => mat (SCL m c) r 0) (mat (FW m c t)) (mat (FS m c t) 0) r n
      = P (aX m c) (aL m c) (aW m c) (aS m c) r ⟨t.val * 1280 + n.val, h⟩ := by
  have hc : mat (COD m c) = codes (Y (aX m c) (aL m c)) := funext fun r => funext fun k => COD_apply m c r k
  have hs : (fun r => mat (SCL m c) r 0) = scale (Y (aX m c) (aL m c)) := funext fun r => SCL_apply m c r 0
  rw [hc, hs]
  unfold P lin
  simp only [b2 m c t _ n h, b3 m c t n h]

theorem OUT_apply (c : Dev nD) (t : Fin cfg0.N) (r : Fin 224) (n : Fin 1280) (h : t.val * 1280 + n.val < 9600) :
    OUT m c t (ix2 r n) = P (aX m c) (aL m c) (aW m c) (aS m c) r ⟨t.val * 1280 + n.val, h⟩ := by
  rw [← lin_eq]
  unfold OUT
  have ht := lt8 t
  by_cases h7 : t.val % 8 = 7
  · have hn : n.val < 640 := by omega
    rw [if_pos h7]
    unfold lay
    rw [dif_pos (show ((ix2 r n : S224x1280.Idx) 1).val < 640 from hn)]
    exact half_apply _ _ _ _ r ⟨n.val, hn⟩
  · rw [if_neg h7]
    exact blk_apply _ _ _ _ r n

/-! ## The arrays after the run -/

/-- The last point. -/
def t7 : Fin cfg0.N := ⟨7, by decide⟩

theorem OUT_at (c : Dev nD) (t : Fin cfg0.N) (y : S224x1280.Idx) (i : S224x9600.Idx) (h0 : (i 0).val = (y 0).val) (h1 : (i 1).val = t.val * 1280 + (y 1).val) :
    OUT m c t y = P (aX m c) (aL m c) (aW m c) (aS m c) (i 0) (i 1) := by
  obtain ⟨r, n, rfl⟩ := ex2 y
  have h : t.val * 1280 + n.val < 9600 := lt_of_eq_of_lt h1.symm (i 1).isLt
  refine (OUT_apply m c t r n h).trans ?_
  exact congrArg₂ (P (aX m c) (aL m c) (aW m c) (aS m c)) (Fin.ext h0.symm) (Fin.ext h1.symm)

theorem COD_at (c : Dev nD) (j : S224x5120.Idx) : COD m c j = codes (Y (aX m c) (aL m c)) (j 0) (j 1) := by
  obtain ⟨r, k, rfl⟩ := ex2 j
  exact COD_apply m c r k

theorem SCL_at (c : Dev nD) (j : S224x128.Idx) : SCL m c j = scale (Y (aX m c) (aL m c)) (j 0) := by
  obtain ⟨r, k, rfl⟩ := ex2 j
  exact SCL_apply m c r k

theorem cov4 : (cfg0.win 4).Covers := by decide +kernel
theorem whole5 : (cfg0.win 5).WholeAt t7 := by decide +kernel
theorem whole6 : (cfg0.win 6).WholeAt t7 := by decide +kernel

theorem final4 (c : Dev nD) : (dats m 0 c).arrAt 4 cfg0.N = fun i => P (aX m c) (aL m c) (aW m c) (aS m c) (i 0) (i 1) := by
  refine (dats m 0 c).arrAt_eq_of_covers 4 _ cov4 fun t hf y => ?_
  blk_simp
  rw [after0_4]
  exact OUT_at m c t _ _ (by blk_simp [idx4]) (by blk_simp [idx4])

theorem last5 {c : Dev nD} (d : Dat τ (Elt Ideal) Unit ℕ (UR sig nD τ) ℕ cfg0 c) (G) (h : d.after 5 t7 = G) : d.arrAt 5 cfg0.N = G := by
  refine d.arrAt_eq_of_after_last 5 t7 whole5 _ fun j => ?_
  blk_simp
  rw [h]

theorem last6 {c : Dev nD} (d : Dat τ (Elt Ideal) Unit ℕ (UR sig nD τ) ℕ cfg0 c) (G) (h : d.after 6 t7 = G) : d.arrAt 6 cfg0.N = G := by
  refine d.arrAt_eq_of_after_last 6 t7 whole6 _ fun j => ?_
  blk_simp
  rw [h]

theorem final5 (c : Dev nD) : (dats m 0 c).arrAt 5 cfg0.N = fun i => codes (Y (aX m c) (aL m c)) (i 0) (i 1) :=
  (last5 _ _ (after0_5 m c t7)).trans (funext (COD_at m c))

theorem final6 (c : Dev nD) : (dats m 0 c).arrAt 6 cfg0.N = fun i => scale (Y (aX m c) (aL m c)) (i 0) :=
  (last6 _ _ (after0_6 m c t7)).trans (funext (SCL_at m c))

/-- The run, its results named. -/
theorem run : θ_run defs (onTc (τ := τ) (main (F := Ideal))) ⟨m, fun _ => 0, ρ⟩ fun r => ∀ c : Dev nD,
      r.2.mem ((c : Thread nD τ).loc main_v2_0) = (fun i => P (aX m c) (aL m c) (aW m c) (aS m c) (i 0) (i 1))
      ∧ r.2.mem ((c : Thread nD τ).loc main_v2_1) = (fun i => codes (Y (aX m c) (aL m c)) (i 0) (i 1))
      ∧ r.2.mem ((c : Thread nD τ).loc main_v2_2) = (fun i => scale (Y (aX m c) (aL m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have h := (θ_run defs (onTc (τ := τ) (main (F := Ideal))) (s₀ m ρ)).mono (fun _ h => h.1) (run_main_quiescent m ρ)
  exact (θ_run defs _ _).mono (fun r h c => ⟨(h.1 c).1 4 |>.trans (final4 m c), (h.1 c).1 5 |>.trans (final5 m c), (h.1 c).1 6 |>.trans (final6 m c), h.2 c⟩)
    (θ_run_and h (frame_of m ρ (dats m) (A_eq m) h))

end Cert.QkvIdeal.Value

end

end
-- ==== Proof.QkvRefValue.lean ====
/- The result arrays of the program `QkvRefIdeal` after its run, as functions of its arguments. -/
module

public import proofs.«01_k».proof.Proof.Gen.QkvRefIdeal.Frame
public import proofs.«01_k».proof.Proof.QkvValue

@[expose] public section

set_option maxRecDepth 16384

noncomputable section

namespace Cert.QkvRefIdeal.Run

open Cert.QkvRefIdeal Cert.QkvRefIdeal.Gen Cert.Rows Cert.Exponent
open Cert.QkvIdeal.Value (Y P)
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

theorem hz2 : (![0, 0] : Fin 2 → Nat) = fun _ => 0 := by
  funext a; fin_cases a <;> rfl

/-- The normalised rows. -/
theorem pay4 (x : Vec Ideal S224x5120 .bf16) (l : Vec Ideal S1x5120 .f32) (r : Fin 224) (k : Fin 5120) :
    k0_pay4 x l (ix2 r k) = nrm (mat x) (mat l 0) 5120 r k := by
  simp only [k0_pay4, mul_at, ext_at, bcast_col, bcast_row, shapeCast_self, rsqrt_at, add_at, div_at, bcast_at, cast_col]
  rw [reduce_add (mulf (extf .f32 x bitsLt_bf16_f32) (extf .f32 x bitsLt_bf16_f32)) reduces_S224x5120_S224 (.inl rfl) rfl r]
  simp only [mul_at, ext_at]
  unfold nrm
  rw [show (Scalar.ofBits (F := Ideal) .f32 0x45A00000#32 : EReal) = ((5120 : ℝ) : EReal) from lit_5120, Ideal.div_coe (by norm_num : (5120 : ℝ) ≠ 0)]
  rfl

/-- The exponents of the rows' scales. -/
theorem pay5 (x : Vec Ideal S224x5120 .bf16) (l : Vec Ideal S1x5120 .f32) (r : Fin 224) :
    k0_pay5 x l (ix2 r 0) = rexp (top (nrm (mat x) (mat l 0) 5120) r) := by
  unfold k0_pay5
  refine (rexp_at _ _ (IdealRules.named_const.ideal_named_scalar _ _ _ _ rfl) _).trans (congrArg rexp ?_)
  simp only [mul_at, bcast_at, cast_col]
  rw [reduce_max (absf (k0_pay4 x l)) reduces_S224x5120_S224 (.inl rfl) rfl r]
  simp only [abs_at, pay4]
  rfl

/-- The codes. -/
theorem pay6 (x : Vec Ideal S224x5120 .bf16) (l : Vec Ideal S1x5120 .f32) (r : Fin 224) (k : Fin 5120) :
    k0_pay6 x l (ix2 r k) = codes (nrm (mat x) (mat l 0) 5120) r k := by
  simp only [k0_pay6, trunc_at, min_at, max_at, mul_at, bcast_col, bcast_at, exp2_at, sub_at, pay5, pay4]
  unfold codes
  rw [show (Scalar.ofBits (F := Ideal) .f32 0x00000000#32 : EReal) = 0 from lit_zero]
  rfl

/-- The scales. -/
theorem pay1 (x : Vec Ideal S224x5120 .bf16) (l : Vec Ideal S1x5120 .f32) (r : Fin 224) :
    k0_pay1 (k0_pay5 x l) (ix2 r 0) = scale (nrm (mat x) (mat l 0) 5120) r := by
  simp only [k0_pay1, exp2_at, pay5]
  rfl

theorem pay3 (v : FVec Ideal S224x1 .f32) (r : Fin 224) (k : Fin 128) : k0_pay3 v (ix2 r k) = k0_pay1 v (ix2 r 0) := by
  simp only [k0_pay3, bcast_col, shapeCast_self]

/-- The projection. -/
theorem pay2 (x : Vec Ideal S224x5120 .bf16) (l : Vec Ideal S1x5120 .f32) (w : Vec Ideal S5120x9600 .fp8e4m3) (ws : Vec Ideal S1x9600 .f32)
    (r : Fin 224) (n : Fin 9600) :
    k0_pay2 (k0_pay5 x l) (k0_pay6 x l) w ws (ix2 r n)
      = lin (codes (nrm (mat x) (mat l 0) 5120)) (scale (nrm (mat x) (mat l 0) 5120)) (mat w) (mat ws 0) r n := by
  simp only [k0_pay2, mul_at, bcast_col, bcast_row, shapeCast_self, pay1]
  rw [mm dot_S224x5120_S5120x9600_S224x9600_1_0_0_1_n_n rfl]
  simp only [pay6]
  rfl

variable (m : (ℓ : Loc nD τ sig) → Buf (Elt Ideal) ℓ) (ρ : Dev nD → PrngReg)

abbrev aX (c : Dev nD) : Vec Ideal S224x5120 .bf16 := m ((c : Thread nD τ).loc main_arg0)
abbrev aL (c : Dev nD) : Vec Ideal S5120 .f32 := m ((c : Thread nD τ).loc main_arg1)
abbrev aW (c : Dev nD) : Vec Ideal S5120x9600 .fp8e4m3 := m ((c : Thread nD τ).loc main_arg2)
abbrev aS (c : Dev nD) : Vec Ideal S9600 .f32 := m ((c : Thread nD τ).loc main_arg3)

/-! ## The input blocks, at an index -/

theorem V0 (c : Dev nD) (k : Fin 5120) : V m c main_v0 (ix2 0 k) = aL m c (ix1 k) := by
  entry_read
  pointwise
  rfl

theorem V1 (c : Dev nD) (k : Fin 9600) : V m c main_v1 (ix2 0 k) = aS m c (ix1 k) := by
  entry_read
  pointwise
  rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem b0 (c : Dev nD) (t : Fin cfg0.N) (r : Fin 224) (k : Fin 5120) : iblk m c 0 t (ix2 r k) = aX m c (ix2 r k) := by
  blk_simp [iblk]
  rw [V_main_arg0]
  congr 1
  blk_ext [idx0]

theorem b1 (c : Dev nD) (t : Fin cfg0.N) (k : Fin 5120) : iblk m c 1 t (ix2 0 k) = aL m c (ix1 k) := by
  rw [← V0]
  blk_simp [iblk]
  congr 1
  blk_ext [idx1]

theorem b2 (c : Dev nD) (t : Fin cfg0.N) (k : Fin 5120) (n : Fin 9600) : iblk m c 2 t (ix2 k n) = aW m c (ix2 k n) := by
  blk_simp [iblk]
  rw [V_main_arg2]
  congr 1
  blk_ext [idx2]

theorem b3 (c : Dev nD) (t : Fin cfg0.N) (n : Fin 9600) : iblk m c 3 t (ix2 0 n) = aS m c (ix1 n) := by
  rw [← V1]
  blk_simp [iblk]
  congr 1
  blk_ext [idx3]

theorem Y_eq (c : Dev nD) (t : Fin cfg0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = fun k => aL m c (ix1 k) from funext fun k => b1 m c t k]

theorem W_eq (c : Dev nD) (t : Fin cfg0.N) : mat (iblk m c 2 t) = mat (aW m c) := funext fun k => funext fun n => b2 m c t k n
theorem S_eq (c : Dev nD) (t : Fin cfg0.N) : mat (iblk m c 3 t) 0 = fun n => aS m c (ix1 n) := funext fun n => b3 m c t n

/-! ## What the one point leaves -/

variable (x0 : Vec Ideal S224x5120 .bf16) (x1 : Vec Ideal S1x5120 .f32) (x2 : Vec Ideal S5120x9600 .fp8e4m3) (x3 : Vec Ideal S1x9600 .f32)

theorem pay7 : k0_pay7 x0 x1 x2 x3 = k0_pay5 x0 x1 := by
  unfold k0_pay7
  rw [View.ld_unit_zero hz2, View.ld_unit_zero hz2]
theorem pay8 : k0_pay8 x0 x1 x2 x3 = k0_pay6 x0 x1 := by
  unfold k0_pay8
  rw [View.ld_unit_zero hz2, View.ld_unit_zero hz2]
theorem out4 : out0_4 x0 x1 x2 x3 = k0_pay2 (k0_pay5 x0 x1) (k0_pay6 x0 x1) x2 x3 := by
  unfold out0_4
  rw [View.canon_unit_zero hz2, View.ld_unit_zero hz2, View.ld_unit_zero hz2, pay7, pay8]
theorem out5 : out0_5 x0 x1 x2 x3 = k0_pay6 x0 x1 := by
  unfold out0_5
  rw [View.canon_unit_zero hz2, pay8]
theorem out6 : out0_6 x0 x1 x2 x3 = k0_pay3 (k0_pay5 x0 x1) := by
  unfold out0_6
  rw [View.canon_unit_zero hz2, pay7]

/-! ## The arrays after the run -/

/-- The only point. -/
def t0 : Fin cfg0.N := ⟨0, by decide⟩

theorem whole4 : (cfg0.win 4).WholeAt t0 := by decide +kernel
theorem whole5 : (cfg0.win 5).WholeAt t0 := by decide +kernel
theorem whole6 : (cfg0.win 6).WholeAt t0 := by decide +kernel

theorem last4 {c : Dev nD} (d : Dat τ (Elt Ideal) Unit ℕ (UR sig nD τ) ℕ cfg0 c) (G) (h : d.after 4 t0 = G) : d.arrAt 4 cfg0.N = G := by
  refine d.arrAt_eq_of_after_last 4 t0 whole4 _ fun j => ?_
  blk_simp
  rw [h]

theorem last5 {c : Dev nD} (d : Dat τ (Elt Ideal) Unit ℕ (UR sig nD τ) ℕ cfg0 c) (G) (h : d.after 5 t0 = G) : d.arrAt 5 cfg0.N = G := by
  refine d.arrAt_eq_of_after_last 5 t0 whole5 _ fun j => ?_
  blk_simp
  rw [h]

theorem last6 {c : Dev nD} (d : Dat τ (Elt Ideal) Unit ℕ (UR sig nD τ) ℕ cfg0 c) (G) (h : d.after 6 t0 = G) : d.arrAt 6 cfg0.N = G := by
  refine d.arrAt_eq_of_after_last 6 t0 whole6 _ fun j => ?_
  blk_simp
  rw [h]

theorem at4 (c : Dev nD) (t : Fin cfg0.N) : out0_4 (iblk m c 0 t) (iblk m c 1 t) (iblk m c 2 t) (iblk m c 3 t)
    = fun i : S224x9600.Idx => P (aX m c) (aL m c) (aW m c) (aS m c) (i 0) (i 1) := by
  rw [out4]
  funext i
  obtain ⟨r, n, rfl⟩ := ex2 i
  refine (pay2 _ _ _ _ r n).trans ?_
  rw [Y_eq, W_eq, S_eq]
  rfl

theorem at5 (c : Dev nD) (t : Fin cfg0.N) : out0_5 (iblk m c 0 t) (iblk m c 1 t) (iblk m c 2 t) (iblk m c 3 t)
    = fun i : S224x5120.Idx => codes (Y (aX m c) (aL m c)) (i 0) (i 1) := by
  rw [out5, ← Y_eq m c t]
  funext i
  obtain ⟨r, k, rfl⟩ := ex2 i
  exact pay6 _ _ r k

theorem at6 (c : Dev nD) (t : Fin cfg0.N) : out0_6 (iblk m c 0 t) (iblk m c 1 t) (iblk m c 2 t) (iblk m c 3 t)
    = fun i : S224x128.Idx => scale (Y (aX m c) (aL m c)) (i 0) := by
  rw [out6, ← Y_eq m c t]
  funext i
  obtain ⟨r, k, rfl⟩ := ex2 i
  exact (pay3 _ r k).trans (pay1 _ _ r)

/-- The run, its results named. -/
theorem run : θ_run defs (onTc (τ := τ) (main (F := Ideal))) ⟨m, fun _ => 0, ρ⟩ fun r => ∀ c : Dev nD,
      r.2.mem ((c : Thread nD τ).loc main_v2_0) = (fun i => P (aX m c) (aL m c) (aW m c) (aS m c) (i 0) (i 1))
      ∧ r.2.mem ((c : Thread nD τ).loc main_v2_1) = (fun i => codes (Y (aX m c) (aL m c)) (i 0) (i 1))
      ∧ r.2.mem ((c : Thread nD τ).loc main_v2_2) = (fun i => scale (Y (aX m c) (aL m c)) (i 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (last4 _ _ ((after0_4 m c t0).trans (at4 m c t0))),
    ((h.1 c).1 5).trans (last5 _ _ ((after0_5 m c t0).trans (at5 m c t0))),
    ((h.1 c).1 6).trans (last6 _ _ ((after0_6 m c t0).trans (at6 m c t0))), h.2 c⟩)
    (θ_run_and (run_main m ρ) (unchanged m ρ))

end Cert.QkvRefIdeal.Run

end

end
-- ==== Proof.QkvClaim.lean ====
/- The claims about the query, key and value projection: the frames, and the same results as the reference. -/
module

public import proofs.«01_k».proof.Defs
public import proofs.«01_k».proof.Proof.QkvBits
public import proofs.«01_k».proof.Proof.QkvValue
public import proofs.«01_k».proof.Proof.QkvRefValue

@[expose] public section

set_option maxRecDepth 16384

noncomputable section

namespace Cert.QkvIdeal.Value

open Idealize.ShloMosaic Idealize.ShloMosaic.TcCoe Idealize.SL.Sem
open Cert.QkvIdeal Cert.QkvIdeal.Gen Cert.QkvIdeal.Run

attribute [local instance] Cert.Qkv.Gen.facts Cert.QkvIdeal.Gen.facts Cert.QkvRefIdeal.Gen.facts

/-- The constant is the one named. -/
theorem named : Cert.preserves_Qkv_QkvIdeal :=
  IdealRules.named_const.statement Cert.QkvIdeal.κ "inv_n" .f32 0x394CCCCD#32 ((1 / 5120 : ℝ) : EReal) rfl

/-- The program leaves its arguments as they were and every semaphore at zero. -/
theorem frame : Cert.quiescent_Qkv := fun m g _ =>
  have h := (θ_run Cert.Qkv.defs (onTc (τ := Cert.Qkv.τ) (Cert.Qkv.main (F := Bits))) ⟨m, fun _ => 0, g⟩).mono (fun _ h => h.1) (Cert.Qkv.Run.run_main_quiescent m g)
  (θ_run _ _ _).mono (fun _ h => ⟨h.1, h.2.2⟩) (θ_run_and (Cert.Qkv.Gen.frame_of m g (Cert.Qkv.Run.dats m) (Cert.Qkv.Run.A_eq m) h) (Cert.Qkv.Run.run_main_quiescent m g))

/-- The ideal program leaves its arguments as they were and every semaphore at zero. -/
theorem quiet (m) (g) : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2.2⟩) (θ_run_and (run m g) (run_main_quiescent m g))

/-- The ideal program and the reference give the same results. -/
theorem same : Cert.algebraic_QkvIdeal_QkvRefIdeal := by
  intro m g m' g' _ h
  have e0 (c : Dev nD) : Cert.QkvRefIdeal.Run.aX m' c = aX m c := (h c).1
  have e1 (c : Dev nD) : Cert.QkvRefIdeal.Run.aL m' c = aL m c := (h c).2.1
  have e2 (c : Dev nD) : Cert.QkvRefIdeal.Run.aW m' c = aW m c := (h c).2.2.1
  have e3 (c : Dev nD) : Cert.QkvRefIdeal.Run.aS m' c = aS m c := (h c).2.2.2
  refine ⟨_, _, _, run m g, (θ_run _ _ _).mono (fun r H c => ?_) (Cert.QkvRefIdeal.Run.run m' g')⟩
  have H := H c
  rw [e0 c, e1 c, e2 c, e3 c] at H
  exact H

end Cert.QkvIdeal.Value

end

end
-- ==== Proof.LmPre.lean ====
/- The condition on the tables, read off: every parent names a row and every draft a column. -/
module

public import proofs.«01_k».proof.Proof.Gen.Pre_lm_rows
public import Idealize.ShloMosaic.Lib.ReduceAll
public import Idealize.ShloMosaic.Lib.WordCmp
public import Idealize.ShloMosaic.Lib.Affine

@[expose] public section

noncomputable section

namespace Cert.Pre_lm_rows.Rows

open Idealize.ShloMosaic Cert.Pre_lm_rows

instance : Subsingleton S_.Idx := ⟨fun a b => funext fun i => i.elim0⟩

/-- An entry that is at least zero and below a bound is below it as a natural. -/
theorem entry {w : BitVec 32} {k : ℕ} (hk : k < 2 ^ (32 - 1)) (h : IntOp.andi (IntOp.cmpi .sge w 0#32) (IntOp.cmpi .slt w (BitVec.ofNat 32 k)) = 1#1) : w.toNat < k := by
  rw [WordCmp.andi_sge_zero_slt_ofNat hk] at h
  exact (WordCmp.ofBool_decide_eq_one_iff _).mp h

theorem rows {F : FTy → Type} [FloatOps F] [Facts] (a0 a1 : IVec S224 32) (a2 : FVec F S224x5120 .f32) (a3 : FVec F S1x5120 .f32) (a4 : FVec F S32064x5120 .fp8e4m3)
    (a5 : FVec F S1x32064 .f32) (a6 : FVec F S224x128 .f32) (h : fn a0 a1 a2 a3 a4 a5 a6 = fun _ => 1#1) :
    (∀ j, (a0 j).toNat < 224) ∧ ∀ j, (a1 j).toNat < 32064 := by
  have e := congrFun h (fun a => a.elim0)
  have e' := IntOp.andi_eq_one.mp e
  refine ⟨fun j => entry (by decide) ?_, fun j => entry (by decide) ?_⟩
  · exact Host.reduce_andi_all _ _ _ _ _ e'.1 j
  · exact Host.reduce_andi_all _ _ _ _ _ e'.2 j

end Cert.Pre_lm_rows.Rows

end

end
-- ==== Proof.LmBits.lean ====
/- The run of the program `Lm`: what its body leaves in each window at each grid point, and the arrays after the last. -/
module

public import proofs.«01_k».proof.Proof.Gen.Lm.Launch
public import proofs.«01_k».proof.Proof.Gen.Lm.Loops
public import proofs.«01_k».proof.Proof.Gen.Lm.Skeleton
public import Idealize.ShloMosaic.Lib.Pipeline.Frame
public import Idealize.ShloMosaic.Lib.Pipeline.FrameBody
public import Idealize.ShloMosaic.PureOps.BitExact
public import Idealize.ShloMosaic.Lib.Pipeline.Value
public import Idealize.ShloMosaic.Lib.Pipeline.TableIdle
public import Idealize.ShloMosaic.Lib.Claim
public import Idealize.ShloMosaic.Lib.WritesUnit
public import Idealize.ShloMosaic.Lib.ValueIdx

@[expose] public section

set_option maxRecDepth 16384

noncomputable section

namespace Cert.Lm.Run

open Cert.Lm Cert.Lm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The tables and the scratch buffers -/

abbrev tbM0 : Memref sig .tc .smem S224 .i32 := Memref.whole main_arg0
abbrev tbM1 : Memref sig .tc .smem S224 .i32 := Memref.whole main_arg1
abbrev scM0 : Memref sig .tc .vmem S260x224x128 .f32 := Memref.whole cc0_scratch0
abbrev scM1 : Memref sig .tc .vmem S224x128 .f32 := Memref.whole cc0_scratch1
abbrev scM2 : Memref sig .tc .vmem S224x128 .f32 := Memref.whole cc0_scratch2

/-! ## The loop over the rows asked for -/

/-- What a trip touches: the tables, the kept logits and the normalisers are only read, the two results are written a row at a time. -/
def loopRes (c : Dev nD) (T0 : Buf (Elt F) (tbM0.view.loc (c : Thread nD τ))) (T1 : Buf (Elt F) (tbM1.view.loc (c : Thread nD τ)))
    (arg10 arg11 arg12 : Memref sig .tc .vmem S224x128 .f32) (f10 : Buf (Elt F) (arg10.view.loc (c : Thread nD τ))) : sProp 𝕄 :=
  iprop((tbM0.view.loc (c : Thread nD τ) ↦{fullShare.right} T0)
    ∗ (tbM1.view.loc (c : Thread nD τ) ↦{fullShare.right} T1)
    ∗ (∃ f, scM0.view.loc (c : Thread nD τ) ↦{fullShare} f)
    ∗ (arg10.view.loc (c : Thread nD τ) ↦[arg10.view.set]{fullShare} f10)
    ∗ (∃ f, arg11.view.loc (c : Thread nD τ) ↦[arg11.view.set]{fullShare} f)
    ∗ (∃ f, arg12.view.loc (c : Thread nD τ) ↦[arg12.view.set]{fullShare} f))

set_option maxHeartbeats 4000000 in
/-- One trip. -/
theorem trip (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (k0_h2 : k0_cond2 i = 1#1)
    (f10 : Buf (Elt F) (arg10.view.loc (c : Thread nD τ))) (hchk : ∀ a b, k0_chk1 i (T1 a) (T0 b)) (k : Fin k0_t1_loop.trips) (acc : Unit) :
    loopRes c T0 T1 arg10 arg11 arg12 f10 ⊢ wp frame (wpE (defs₀ (F := F)) Variants.none (c : Thread nD τ) none) Set.univ
      (k0_t1_body i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _) k0_h2 k acc)
      (fun _ => loopRes c T0 T1 arg10 arg11 arg12 f10) := by
  unfold loopRes k0_t1_body
  iintro ⟨HT0, HT1, ⟨%f0, HS0⟩, H10, ⟨%f11, H11⟩, ⟨%f12, H12⟩⟩
  have hS0 : scM0.IsWhole := Memref.isWhole_whole _
  have hT0 : tbM0.IsWhole := Memref.isWhole_whole _
  have hT1 : tbM1.IsWhole := Memref.isWhole_whole _
  sl_exec (disch := first | exact hchk _ _)
  sl_step
  isplitl [HT0]; · iexact HT0
  isplitl [HT1]; · iexact HT1
  isplitl [HS0]; · iexists _; iexact HS0
  isplitl [H10]; · iexact H10
  isplitl [H11]; · iexists _; iexact H11
  iexists _; iexact H12

set_option warn.classDefReducibility false in
/-- The loop's invariant. -/
@[sl_loop] def loopInv (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (k0_h2 : k0_cond2 i = 1#1)
    (f10 : Buf (Elt F) (arg10.view.loc (c : Thread nD τ))) (hchk : ∀ a b, k0_chk1 i (T1 a) (T0 b)) :
    LoopInvTy_k0_t1 (F := F) Unit ℕ (UR sig nD τ) ℕ Variants.none c none Set.univ i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _) k0_h2 where
  inv _ _ := loopRes c T0 T1 arg10 arg11 arg12 f10
  step k acc := trip c i T0 T1 arg3 harg3 arg4 harg4 arg5 harg5 arg6 harg6 arg7 harg7 arg8 harg8 arg9 harg9 arg10 harg10 arg11 harg11 arg12 harg12 k0_h2 f10 hchk k acc

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S1280x5120 := Rect.unit (s := S1280x5120) ![0, 0] S1280x5120.size inb_S1280x5120_S1280x5120_0_0
abbrev rS : Rect S1x1280 := Rect.unit (s := S1x1280) ![0, 0] S1x1280.size inb_S1x1280_S1x1280_0_0
abbrev rC : Rect S224x128 := Rect.unit (s := S224x128) ![0, 0] S224x1.size inb_S224x128_S224x1_0_0
abbrev rO : Rect S224x128 := Rect.unit (s := S224x128) ![0, 0] S224x128.size inb_S224x128_S224x128_0_0

/-- The rows, normalised, and their greatest magnitudes over 448. -/
def nr (x0 : Vec F S224x5120 .f32) (x1 : Vec F S1x5120 .f32) : FVec F S224x5120 .f32 := k0_pay5 (View.ld x0 rX) (View.ld x1 rL)
def tp (x0 : Vec F S224x5120 .f32) (x1 : Vec F S1x5120 .f32) : FVec F S224x1 .f32 := k0_pay6 (View.ld x0 rX) (View.ld x1 rL)

/-- The exponent fields before the last step of the search, and the field the last step tries. -/
def fld (x0 : Vec F S224x5120 .f32) (x1 : Vec F S1x5120 .f32) : IVec S224x1 32 :=
  k0_pay9 (tp x0 x1) (k0_pay7 (View.ld x0 rX) (View.ld x1 rL)) (k0_pay8 (View.ld x0 rX) (View.ld x1 rL))
def fld' (x0 : Vec F S224x5120 .f32) (x1 : Vec F S1x5120 .f32) : IVec S224x1 32 :=
  k0_pay10 (tp x0 x1) (k0_pay7 (View.ld x0 rX) (View.ld x1 rL)) (k0_pay8 (View.ld x0 rX) (View.ld x1 rL))

/-- The codes of the rows. -/
def cod (x0 : Vec F S224x5120 .f32) (x1 : Vec F S1x5120 .f32) : Vec F S224x5120 .fp8e4m3 := k0_pay12 (nr x0 x1) (tp x0 x1) (fld x0 x1) (fld' x0 x1)

/-- Their scales, one a row along 128 lanes. -/
def scl (x0 : Vec F S224x5120 .f32) (x1 : Vec F S1x5120 .f32) : Vec F S224x128 .f32 := k0_pay13 (tp x0 x1) (fld x0 x1) (fld' x0 x1)

/-- One block of logits, from the codes, the scales, the block of the weights and of their scales, and the inverse temperatures. -/
def lgt (i : grid0.Coords) (ac : Vec F S224x5120 .fp8e4m3) (sc : Vec F S224x128 .f32) (x2 : Vec F S1280x5120 .fp8e4m3) (x3 : Vec F S1x1280 .f32) (x4 : Vec F S224x128 .f32) : FVec F S224x1280 .f32 :=
  k0_pay17 i (View.ld ac rX) (View.ld x2 rW) (View.ld sc rC) (View.ld x3 rS) (View.ld x4 rC)

/-- The running maximum and the running sum after a block. -/
def mxN (lg : FVec F S224x1280 .f32) (mx : Vec F S224x128 .f32) : Vec F S224x128 .f32 := k0_pay31 lg (View.ld mx rO)
def smN (lg : FVec F S224x1280 .f32) (mx sm : Vec F S224x128 .f32) : Vec F S224x128 .f32 := k0_pay1 lg (View.ld mx rO) (k0_pay30 lg (View.ld mx rO)) (View.ld sm rO)
theorem lgX {i : grid0.Coords} {a a' : Vec F S224x5120 .fp8e4m3} {w : Vec F S1280x5120 .fp8e4m3} {c c' : Vec F S224x1 .f32} {d : Vec F S1x1280 .f32} {e : Vec F S224x1 .f32} (h : a = a') (h' : c = c') :
    k0_pay17 i a w c d e = k0_pay17 i a' w c' d e := by rw [h, h']
theorem mxX {lg lg' : FVec F S224x1280 .f32} {a a' : Vec F S224x128 .f32} (h : lg = lg') (ha : a = a') : k0_pay31 lg a = k0_pay31 lg' a' := by rw [h, ha]
theorem smX {lg lg' : FVec F S224x1280 .f32} {a a' b b' : Vec F S224x128 .f32} (h : lg = lg') (ha : a = a') (hb : b = b') :
    k0_pay1 lg a (k0_pay30 lg a) b = k0_pay1 lg' a' (k0_pay30 lg' a') b' := by rw [h, ha, hb]
def mx0 : Vec F S224x128 .f32 := k0_pay15 k0_pay14
def sm0 : Vec F S224x128 .f32 := k0_pay16

set_option maxHeartbeats 8000000 in
/-- The body's triple in case A. -/
theorem runA (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : k0_cond1 i = 1#1) (hc1 : ¬ k0_cond2 i = 1#1)
    (x0 : Vec F S224x5120 .f32) (x1 : Vec F S1x5120 .f32) (x2 : Vec F S1280x5120 .fp8e4m3) (x3 : Vec F S1x1280 .f32) (x4 : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ (∃ d, owns (c : Thread nD τ) scM1 fullShare d)
      ∗ (∃ d, owns (c : Thread nD τ) scM2 fullShare d)
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare (cod x0 x1)
      ∗ owns (c : Thread nD τ) arg9 fullShare (scl x0 x1)
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i (cod x0 x1) (scl x0 x1) x2 x3 x4) mx0)
      ∗ owns (c : Thread nD τ) scM2 fullShare (smN (lgt i (cod x0 x1) (scl x0 x1) x2 x3 x4) mx0 sm0)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, HT1, ⟨%s0, HS0⟩, ⟨%d10, %s1, -, HS1⟩, ⟨%d11, %s2, -, HS2⟩, Hk⟩
  subst hf0 hf1 hf2 hf3 hf4
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = (k0_cond1 _ = _); exact hc0) | (guard_target = ¬(k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (rd_whole _ _ hz2 _ _ _).trans rfl
  isplitl [H6]
  · iexists _; isplitr
    swap; · iexact H6
    ipureintro
    exact (rd_whole _ _ hz2 _ _ _).trans rfl
  isplitl [H7]
  · iexists _; iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    exact mxX (lgX (cov_whole _ hz2 _ _ _ _) (cov_whole _ hz2 _ _ _ _)) (cov_whole _ hz2 _ _ _ _)
  iexists _; isplitr
  swap; · iexact HS2
  ipureintro
  refine (rd_whole _ _ hz2 _ _ _).trans ?_
  exact smX (lgX (cov_whole _ hz2 _ _ _ _) (cov_whole _ hz2 _ _ _ _)) (cov_whole _ hz2 _ _ _ _) (cov_whole _ hz2 _ _ _ _)

set_option maxHeartbeats 8000000 in
/-- The body's triple in case B. -/
theorem runB (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : ¬ k0_cond1 i = 1#1) (hc1 : ¬ k0_cond2 i = 1#1)
    (x0 : Vec F S224x5120 .f32) (x1 : Vec F S1x5120 .f32) (x2 : Vec F S1280x5120 .fp8e4m3) (x3 : Vec F S1x1280 .f32) (x4 : Vec F S224x128 .f32) (x5 : Vec F S224x5120 .fp8e4m3) (x6 : Vec F S224x128 .f32) (mx sm : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare mx
      ∗ owns (c : Thread nD τ) scM2 fullShare sm
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i x5 x6 x2 x3 x4) mx)
      ∗ owns (c : Thread nD τ) scM2 fullShare (smN (lgt i x5 x6 x2 x3 x4) mx sm)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, HT1, ⟨%s0, HS0⟩, ⟨%s1, %hs1, HS1⟩, ⟨%s2, %hs2, HS2⟩, Hk⟩
  subst hf0 hf1 hf2 hf3 hf4 hf5 hf6 hs1 hs2
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = ¬(k0_cond1 _ = _); exact hc0) | (guard_target = ¬(k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    rfl
  iexists _; isplitr
  swap; · iexact HS2
  ipureintro
  refine (rd_whole _ _ hz2 _ _ _).trans ?_
  rfl

set_option maxHeartbeats 8000000 in
/-- The body's triple in case C. -/
theorem runC (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : ¬ k0_cond1 i = 1#1) (hc1 : k0_cond2 i = 1#1) (hchk : ∀ a b, k0_chk1 i (T1 a) (T0 b))
    (x0 : Vec F S224x5120 .f32) (x1 : Vec F S1x5120 .f32) (x2 : Vec F S1280x5120 .fp8e4m3) (x3 : Vec F S1x1280 .f32) (x4 : Vec F S224x128 .f32) (x5 : Vec F S224x5120 .fp8e4m3) (x6 : Vec F S224x128 .f32) (mx sm : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare mx
      ∗ owns (c : Thread nD τ) scM2 fullShare sm
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare (k0_pay2 (smN (lgt i x5 x6 x2 x3 x4) mx sm) (mxN (lgt i x5 x6 x2 x3 x4) mx))
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i x5 x6 x2 x3 x4) mx)
      ∗ owns (c : Thread nD τ) scM2 fullShare (smN (lgt i x5 x6 x2 x3 x4) mx sm)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, HT1, ⟨%s0, HS0⟩, ⟨%s1, %hs1, HS1⟩, ⟨%s2, %hs2, HS2⟩, Hk⟩
  subst hf0 hf1 hf2 hf3 hf4 hf5 hf6 hs1 hs2
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = ¬(k0_cond1 _ = _); exact hc0) | (guard_target = (k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (rd_whole _ _ hz2 _ _ _).trans ?_
    exact congrArg₂ k0_pay2 ((cov_whole _ hz2 _ _ _ _).trans (View.ld_unit_zero hz2 _ _)) ((cov_whole _ hz2 _ _ _ _).trans (View.ld_unit_zero hz2 _ _))
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    rfl
  iexists _; isplitr
  swap; · iexact HS2
  ipureintro
  refine (rd_whole _ _ hz2 _ _ _).trans ?_
  rfl

/-! ## The pipeline at fixed tables

The blocks do not depend on the tables, so the facts about them are decided at tables of zeros. -/

/-- Tables of zeros, and the pipeline at them. -/
def a₀ : (pcfg0 (F := Bits)).Adm := ⟨fun | ⟨0, _⟩ => fun _ => 0#32 | ⟨1, _⟩ => fun _ => 0#32, trivial⟩
abbrev C0 : Cfg sig Λ₀ := cfg0 a₀

abbrev cond1 (i : grid0.Coords) : Prop := k0_cond1 i = 1#1
abbrev cond2 (i : grid0.Coords) : Prop := k0_cond2 i = 1#1
theorem cond1_iff : ∀ t : Fin C0.N, cond1 (grid0.coords t) ↔ t.val = 0 := (by decide +kernel : ∀ t : Fin grid0.N, cond1 (grid0.coords t) ↔ t.val = 0)
theorem cond2_iff : ∀ t : Fin C0.N, cond2 (grid0.coords t) ↔ t.val = 25 := (by decide +kernel : ∀ t : Fin grid0.N, cond2 (grid0.coords t) ↔ t.val = 25)
theorem fetch0_2 : ∀ t : Fin C0.N, (C0.win 2).fetch t = true := by decide +kernel
theorem fetch0_3 : ∀ t : Fin C0.N, (C0.win 3).fetch t = true := by decide +kernel
theorem live0_5 : ∀ t : Fin C0.N, t.val = 0 → C0.idle 5 (C0.grid.coords t) = false := by decide +kernel
theorem live0_6 : ∀ t : Fin C0.N, t.val = 0 → C0.idle 6 (C0.grid.coords t) = false := by decide +kernel
theorem live0_7 : ∀ t : Fin C0.N, t.val = 25 → C0.idle 7 (C0.grid.coords t) = false := by decide +kernel
theorem idle0_7 : ∀ t : Fin C0.N, ¬ t.val = 25 → C0.idle 7 (C0.grid.coords t) = true := by decide +kernel
theorem nofl0_7 : ∀ t : Fin C0.N, ¬ t.val = 25 → (C0.win 7).flush t = false := by
  simp only [Window.flush_eq_flushF]; exact (by decide +kernel : ∀ t : Fin C0.N, ¬ t.val = 25 → (C0.win 7).flushF t = false)
theorem fresh0_5 : ∀ t : Fin C0.N, C0.fresh 5 t.val = decide (t.val % 26 = 0) := fun t =>
  C0.fresh_tab 5 (fun n => decide (n % 26 = 0)) rfl
    (by simp only [Window.flush_eq_flushF]; exact (by decide +kernel : ∀ t : Fin C0.N, decide ((t.val + 1) % 26 = 0) = ((C0.win 5).flushF t || (C0.idle 5 (C0.grid.coords t) && decide (t.val % 26 = 0))))) t.val (Nat.le_of_lt t.isLt)
theorem fresh0_6 : ∀ t : Fin C0.N, C0.fresh 6 t.val = decide (t.val % 26 = 0) := fun t =>
  C0.fresh_tab 6 (fun n => decide (n % 26 = 0)) rfl
    (by simp only [Window.flush_eq_flushF]; exact (by decide +kernel : ∀ t : Fin C0.N, decide ((t.val + 1) % 26 = 0) = ((C0.win 6).flushF t || (C0.idle 6 (C0.grid.coords t) && decide (t.val % 26 = 0))))) t.val (Nat.le_of_lt t.isLt)
theorem fresh0_7 : ∀ t : Fin C0.N, C0.fresh 7 t.val = true := fun t =>
  C0.fresh_tab 7 (fun n => true) rfl
    (by simp only [Window.flush_eq_flushF]; exact (by decide +kernel : ∀ t : Fin C0.N, true = ((C0.win 7).flushF t || (C0.idle 7 (C0.grid.coords t) && true)))) t.val (Nat.le_of_lt t.isLt)

/-! ## The staging buffers -/

abbrev ms0_0 (t : Fin C0.N) : Memref sig .tc .vmem S224x5120 .f32 := spec0_0.stage (C0.slots t 0)
abbrev hs0_0 (t : Fin C0.N) : (ms0_0 t).IsWhole := hstage0_0 ((C0.slots t 0).cast nbuf0_0)
abbrev ms0_1 (t : Fin C0.N) : Memref sig .tc .vmem S1x5120 .f32 := spec0_1.stage (C0.slots t 1)
abbrev hs0_1 (t : Fin C0.N) : (ms0_1 t).IsWhole := hstage0_1 ((C0.slots t 1).cast nbuf0_1)
abbrev ms0_2 (t : Fin C0.N) : Memref sig .tc .vmem S1280x5120 .fp8e4m3 := spec0_2.stage (C0.slots t 2)
abbrev hs0_2 (t : Fin C0.N) : (ms0_2 t).IsWhole := hstage0_2 ((C0.slots t 2).cast nbuf0_2)
abbrev ms0_3 (t : Fin C0.N) : Memref sig .tc .vmem S1x1280 .f32 := spec0_3.stage (C0.slots t 3)
abbrev hs0_3 (t : Fin C0.N) : (ms0_3 t).IsWhole := hstage0_3 ((C0.slots t 3).cast nbuf0_3)
abbrev ms0_4 (t : Fin C0.N) : Memref sig .tc .vmem S224x128 .f32 := spec0_4.stage (C0.slots t 4)
abbrev hs0_4 (t : Fin C0.N) : (ms0_4 t).IsWhole := hstage0_4 ((C0.slots t 4).cast nbuf0_4)
abbrev ms0_5 (t : Fin C0.N) : Memref sig .tc .vmem S224x5120 .fp8e4m3 := spec0_5.stage (C0.slots t 5)
abbrev hs0_5 (t : Fin C0.N) : (ms0_5 t).IsWhole := hstage0_5 ((C0.slots t 5).cast nbuf0_5)
abbrev ms0_6 (t : Fin C0.N) : Memref sig .tc .vmem S224x128 .f32 := spec0_6.stage (C0.slots t 6)
abbrev hs0_6 (t : Fin C0.N) : (ms0_6 t).IsWhole := hstage0_6 ((C0.slots t 6).cast nbuf0_6)
abbrev ms0_7 (t : Fin C0.N) : Memref sig .tc .vmem S224x128 .f32 := spec0_7.stage (C0.slots t 7)
abbrev hs0_7 (t : Fin C0.N) : (ms0_7 t).IsWhole := hstage0_7 ((C0.slots t 7).cast nbuf0_7)
abbrev ms0_8 (t : Fin C0.N) : Memref sig .tc .vmem S224x128 .f32 := spec0_8.stage (C0.slots t 8)
abbrev hs0_8 (t : Fin C0.N) : (ms0_8 t).IsWhole := hstage0_8 ((C0.slots t 8).cast nbuf0_8)
abbrev ms0_9 (t : Fin C0.N) : Memref sig .tc .vmem S224x128 .f32 := spec0_9.stage (C0.slots t 9)
abbrev hs0_9 (t : Fin C0.N) : (ms0_9 t).IsWhole := hstage0_9 ((C0.slots t 9).cast nbuf0_9)

/-- The body at a point. -/
abbrev bodyAt0 (t : Fin C0.N) : Prog (TpuEff nD τ sig (Elt F) Λ₀ .tc) PUnit :=
  cc0_lm_head (grid0.coords t) tbM0 (Memref.isWhole_whole _) tbM1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) scM2 (Memref.isWhole_whole _)

theorem defs₀_row (t : Fin C0.N) : defs₀ (F := F) .tc C0.body (C0.bodyArgs t (C0.slots t)) = bodyAt0 t := by
  unfold defs₀; rw [Defs.onTc_tc]

/-! ## The proof data -/

/-- A window's block at a point. -/
def iblk (c : Dev nD) (w : Fin C0.W) (t : Fin C0.N) : ((C0.win w).xblock (C0.grid.coords t)).Idx → Elt F (C0.win w).elt :=
  ((C0.win w).blk t).view.read (Elt F) (m ((c : Thread nD τ).loc (Pipeline.arrRef spec0 w)))

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)
theorem COD_eq (c : Dev nD) (t : Fin C0.N) : cod (iblk m c 0 t) (iblk m c 1 t) = COD m c := rfl
theorem SCL_eq (c : Dev nD) (t : Fin C0.N) : scl (iblk m c 0 t) (iblk m c 1 t) = SCL m c := rfl

/-- A block of the weights and of their scales, filled out by anything where it lies outside the array. -/
abbrev FW (c : Dev nD) (t : Fin C0.N) (d : Vec F S1280x5120 .fp8e4m3) : Vec F S1280x5120 .fp8e4m3 := (C0.win 2).fill (C0.grid.coords t) d (iblk m c 2 t)
abbrev FS (c : Dev nD) (t : Fin C0.N) (d : Vec F S1x1280 .f32) : Vec F S1x1280 .f32 := (C0.win 3).fill (C0.grid.coords t) d (iblk m c 3 t)

/-- The logits of a block. -/
def LG (c : Dev nD) (t : Fin C0.N) (d2 : Vec F S1280x5120 .fp8e4m3) (d3 : Vec F S1x1280 .f32) : FVec F S224x1280 .f32 :=
  lgt (grid0.coords t) (COD m c) (SCL m c) (FW m c t d2) (FS m c t d3) (iblk m c 4 t)

/-- What is kept of the running maximum and sum from point to point, and the normalisers that come of them; `f` says that nothing is. -/
structure Inv (f : Bool) where
  I : Dev nD → ℕ → Vec F S224x128 .f32 → Vec F S224x128 .f32 → Prop
  L : Dev nD → Vec F S224x128 .f32
  first : ∀ c (t : Fin C0.N) d2 d3, t.val = 0 → I c 1 (mxN (LG m c t d2 d3) mx0) (smN (LG m c t d2 d3) mx0 sm0)
  next : ∀ c (t : Fin C0.N) d2 d3 mx sm, t.val ≠ 0 → I c t.val mx sm → I c (t.val + 1) (mxN (LG m c t d2 d3) mx) (smN (LG m c t d2 d3) mx sm)
  last : f = false → ∀ c mx sm, I c 26 mx sm → k0_pay2 sm mx = L c

variable {f : Bool} (H : Inv m f)

/-- The tables. -/
def tb0 (c : Dev nD) : Buf (Elt F) (tbM0.view.loc (c : Thread nD τ)) := m (tbM0.view.loc (c : Thread nD τ))
def tb1 (c : Dev nD) : Buf (Elt F) (tbM1.view.loc (c : Thread nD τ)) := m (tbM1.view.loc (c : Thread nD τ))

/-- What holds between points. -/
def Phi (c : Dev nD) (n : ℕ) : sProp 𝕄 :=
  iprop((∃ f, scM0.view.loc (c : Thread nD τ) ↦{fullShare} f)
    ∗ (∃ mx sm, ⌜n ≠ 0 → H.I c n mx sm⌝ ∗ owns (c : Thread nD τ) scM1 fullShare mx ∗ owns (c : Thread nD τ) scM2 fullShare sm)
    ∗ (tbM0.view.loc (c : Thread nD τ) ↦{fullShare.right} tb0 m c)
    ∗ (tbM1.view.loc (c : Thread nD τ) ↦{fullShare.right} tb1 m c)
    ∗ ∃ r, prngReg c r)

/-- What the windows hold after the body at each point, the arrays as launched. -/
def dats (_ : Fin 1) (c : Dev nD) : Dat τ (Elt F) Unit ℕ (UR sig nD τ) ℕ C0 c where
  A w := m ((c : Thread nD τ).loc (Pipeline.arrRef spec0 w))
  after w t := match w with
    | ⟨0, _⟩ => iblk m c 0 t
    | ⟨1, _⟩ => iblk m c 1 t
    | ⟨2, _⟩ => FW m c t (fun _ => (Scalar.ofBits .fp8e4m3 0#8 : F .fp8e4m3))
    | ⟨3, _⟩ => FS m c t (fun _ => (Scalar.ofBits .f32 0#32 : F .f32))
    | ⟨4, _⟩ => iblk m c 4 t
    | ⟨5, _⟩ => COD m c
    | ⟨6, _⟩ => SCL m c
    | ⟨7, _⟩ => H.L c
    | ⟨8, _⟩ => H.L c
    | ⟨9, _⟩ => H.L c
  Φ t := Phi m H c t.val
  q w := fullShare
  owed _ := 0

/-- Nothing is said of what the last two windows end with; of window 7 only when something is kept. -/
def fgt (w : Fin C0.W) : Bool := match w with
  | ⟨7, _⟩ => f
  | ⟨8, _⟩ => true
  | ⟨9, _⟩ => true
  | _ => false

theorem A_eq (c : Dev nD) (w : Fin C0.W) : (dats m H 0 c).A w = m ((c : Thread nD τ).loc (Pipeline.arrRef spec0 w)) := by
  dsimp only [dats]

theorem after0_0 (c : Dev nD) (t : Fin C0.N) : (dats m H 0 c).after 0 t = iblk m c 0 t := by dsimp only [dats]
theorem after0_1 (c : Dev nD) (t : Fin C0.N) : (dats m H 0 c).after 1 t = iblk m c 1 t := by dsimp only [dats]
theorem after0_2 (c : Dev nD) (t : Fin C0.N) : (dats m H 0 c).after 2 t = FW m c t (fun _ => (Scalar.ofBits .fp8e4m3 0#8 : F .fp8e4m3)) := by dsimp only [dats]
theorem after0_3 (c : Dev nD) (t : Fin C0.N) : (dats m H 0 c).after 3 t = FS m c t (fun _ => (Scalar.ofBits .f32 0#32 : F .f32)) := by dsimp only [dats]
theorem after0_4 (c : Dev nD) (t : Fin C0.N) : (dats m H 0 c).after 4 t = iblk m c 4 t := by dsimp only [dats]
theorem after0_5 (c : Dev nD) (t : Fin C0.N) : (dats m H 0 c).after 5 t = COD m c := by dsimp only [dats]
theorem after0_6 (c : Dev nD) (t : Fin C0.N) : (dats m H 0 c).after 6 t = SCL m c := by dsimp only [dats]
theorem after0_7 (c : Dev nD) (t : Fin C0.N) : (dats m H 0 c).after 7 t = H.L c := by dsimp only [dats]

theorem before0_0 (c : Dev nD) (t : Fin C0.N) (d) : (dats m H 0 c).before 0 t d = iblk m c 0 t :=
  ((dats m H 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin C0.N) (d) : (dats m H 0 c).before 1 t d = iblk m c 1 t :=
  ((dats m H 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_4 (c : Dev nD) (t : Fin C0.N) (d) : (dats m H 0 c).before 4 t d = iblk m c 4 t :=
  ((dats m H 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_2 (c : Dev nD) (t : Fin C0.N) (d) : (dats m H 0 c).before 2 t d = FW m c t d := by
  unfold Dat.before
  rw [if_pos (fetch0_2 t)]
  rfl
theorem before0_3 (c : Dev nD) (t : Fin C0.N) (d) : (dats m H 0 c).before 3 t d = FS m c t d := by
  unfold Dat.before
  rw [if_pos (fetch0_3 t)]
  rfl

/-- Past the first point window 5's buffer holds what the point before left. -/
theorem before0_5 (c : Dev nD) (t : Fin C0.N) (ht : ¬ t.val = 0) (d) : (dats m H 0 c).before 5 t d = COD m c := by
  have hN : t.val < 26 := lt_of_lt_of_eq t.isLt (show C0.N = 26 from N_0)
  rw [(dats m H 0 c).before_out_traj 5 rfl (fun _ _ => rfl) (fun t ht hidle hfr => by rw [after0_5, after0_5]) t.val t rfl d, fresh0_5,
    if_neg (by simpa using (show ¬ t.val % 26 = 0 by omega)), after0_5]

/-- Past the first point window 6's buffer holds what the point before left. -/
theorem before0_6 (c : Dev nD) (t : Fin C0.N) (ht : ¬ t.val = 0) (d) : (dats m H 0 c).before 6 t d = SCL m c := by
  have hN : t.val < 26 := lt_of_lt_of_eq t.isLt (show C0.N = 26 from N_0)
  rw [(dats m H 0 c).before_out_traj 6 rfl (fun _ _ => rfl) (fun t ht hidle hfr => by rw [after0_6, after0_6]) t.val t rfl d, fresh0_6,
    if_neg (by simpa using (show ¬ t.val % 26 = 0 by omega)), after0_6]

theorem before0_7 (c : Dev nD) (t : Fin C0.N) (d) : (dats m H 0 c).before 7 t d = d := by
  rw [(dats m H 0 c).before_out_traj 7 rfl (fun _ _ => rfl) (fun t ht hidle hfr => by rw [after0_7, after0_7]) t.val t rfl d, fresh0_7, if_pos rfl]

theorem leaves0_0 (c : Dev nD) (t : Fin C0.N) : owns (c : Thread nD τ) (ms0_0 t) fullShare (iblk m c 0 t) ⊢ (dats m H 0 c).leaves 0 t := by
  rw [show (dats m H 0 c).leaves 0 t = owns (c : Thread nD τ) (ms0_0 t) fullShare ((dats m H 0 c).after 0 t) from by
    unfold Dat.leaves; rw [show C0.idle 0 (C0.grid.coords t) = false from rfl]; try rfl, after0_0]
theorem leaves0_1 (c : Dev nD) (t : Fin C0.N) : owns (c : Thread nD τ) (ms0_1 t) fullShare (iblk m c 1 t) ⊢ (dats m H 0 c).leaves 1 t := by
  rw [show (dats m H 0 c).leaves 1 t = owns (c : Thread nD τ) (ms0_1 t) fullShare ((dats m H 0 c).after 1 t) from by
    unfold Dat.leaves; rw [show C0.idle 1 (C0.grid.coords t) = false from rfl]; try rfl, after0_1]
theorem leaves0_4 (c : Dev nD) (t : Fin C0.N) : owns (c : Thread nD τ) (ms0_4 t) fullShare (iblk m c 4 t) ⊢ (dats m H 0 c).leaves 4 t := by
  rw [show (dats m H 0 c).leaves 4 t = owns (c : Thread nD τ) (ms0_4 t) fullShare ((dats m H 0 c).after 4 t) from by
    unfold Dat.leaves; rw [show C0.idle 4 (C0.grid.coords t) = false from rfl]; try rfl, after0_4]
theorem leaves0_2 (c : Dev nD) (t : Fin C0.N) (d) : owns (c : Thread nD τ) (ms0_2 t) fullShare (FW m c t d) ⊢ (dats m H 0 c).leaves 2 t := by
  rw [show (dats m H 0 c).leaves 2 t = iprop(∃ d, owns (c : Thread nD τ) (ms0_2 t) fullShare ((C0.win 2).fill (C0.grid.coords t) d ((C0.win 2).cut (C0.grid.coords t) ((dats m H 0 c).after 2 t)))) from by
    unfold Dat.leaves; rw [show C0.idle 2 (C0.grid.coords t) = false from rfl]; try rfl]
  iintro H
  iexists d
  rw [after0_2]
  unfold FW
  rw [Window.cut_fill]
  iexact H
theorem leaves0_3 (c : Dev nD) (t : Fin C0.N) (d) : owns (c : Thread nD τ) (ms0_3 t) fullShare (FS m c t d) ⊢ (dats m H 0 c).leaves 3 t := by
  rw [show (dats m H 0 c).leaves 3 t = iprop(∃ d, owns (c : Thread nD τ) (ms0_3 t) fullShare ((C0.win 3).fill (C0.grid.coords t) d ((C0.win 3).cut (C0.grid.coords t) ((dats m H 0 c).after 3 t)))) from by
    unfold Dat.leaves; rw [show C0.idle 3 (C0.grid.coords t) = false from rfl]; try rfl]
  iintro H
  iexists d
  rw [after0_3]
  unfold FS
  rw [Window.cut_fill]
  iexact H
theorem leaves0_5 (c : Dev nD) (t : Fin C0.N) : owns (c : Thread nD τ) (ms0_5 t) fullShare (COD m c) ⊢ (dats m H 0 c).leaves 5 t := by
  cases hi : C0.idle 5 (C0.grid.coords t)
  · rw [show (dats m H 0 c).leaves 5 t = owns (c : Thread nD τ) (ms0_5 t) fullShare ((dats m H 0 c).after 5 t) from by
      unfold Dat.leaves; rw [hi]; try rfl, after0_5]
  · cases hf : (C0.win 5).flush t
    · rw [(dats m H 0 c).leaves_idle 5 t hi hf]
      by_cases ht : t.val = 0
      · exact absurd hi (by rw [live0_5 t ht]; exact Bool.false_ne_true)
      · iintro H
        iexists (Classical.arbitrary _)
        rw [before0_5 m H c t ht]
        iexact H
    · rw [show (dats m H 0 c).leaves 5 t = owns (c : Thread nD τ) (ms0_5 t) fullShare ((dats m H 0 c).after 5 t) from by
        unfold Dat.leaves; rw [hi, hf]; try rfl, after0_5]
theorem leaves0_6 (c : Dev nD) (t : Fin C0.N) : owns (c : Thread nD τ) (ms0_6 t) fullShare (SCL m c) ⊢ (dats m H 0 c).leaves 6 t := by
  cases hi : C0.idle 6 (C0.grid.coords t)
  · rw [show (dats m H 0 c).leaves 6 t = owns (c : Thread nD τ) (ms0_6 t) fullShare ((dats m H 0 c).after 6 t) from by
      unfold Dat.leaves; rw [hi]; try rfl, after0_6]
  · cases hf : (C0.win 6).flush t
    · rw [(dats m H 0 c).leaves_idle 6 t hi hf]
      by_cases ht : t.val = 0
      · exact absurd hi (by rw [live0_6 t ht]; exact Bool.false_ne_true)
      · iintro H
        iexists (Classical.arbitrary _)
        rw [before0_6 m H c t ht]
        iexact H
    · rw [show (dats m H 0 c).leaves 6 t = owns (c : Thread nD τ) (ms0_6 t) fullShare ((dats m H 0 c).after 6 t) from by
        unfold Dat.leaves; rw [hi, hf]; try rfl, after0_6]

/-- What window 7's buffer holds before and after the body. -/
def pre7 (c : Dev nD) (t : Fin C0.N) : sProp 𝕄 := match f with
  | true => iprop(∃ X, owns (c : Thread nD τ) (ms0_7 t) fullShare X)
  | false => iprop(∃ d, owns (c : Thread nD τ) (ms0_7 t) fullShare ((dats m H 0 c).before 7 t d))
def post7 (c : Dev nD) (t : Fin C0.N) : sProp 𝕄 := match f with
  | true => iprop(∃ X, owns (c : Thread nD τ) (ms0_7 t) fullShare X)
  | false => (dats m H 0 c).leaves 7 t

theorem pre7_elim (c : Dev nD) (t : Fin C0.N) : pre7 m H c t ⊢ iprop(∃ X, owns (c : Thread nD τ) (ms0_7 t) fullShare X) := by
  cases f
  · show iprop(∃ d, owns (c : Thread nD τ) (ms0_7 t) fullShare ((dats m H 0 c).before 7 t d)) ⊢ _
    iintro ⟨%d, H⟩; iexists _; iexact H
  · exact .rfl
theorem post7_idle (c : Dev nD) (t : Fin C0.N) (ht : ¬ t.val = 25) : iprop(∃ X, owns (c : Thread nD τ) (ms0_7 t) fullShare X) ⊢ post7 m H c t := by
  cases f
  · show _ ⊢ (dats m H 0 c).leaves 7 t
    rw [(dats m H 0 c).leaves_idle 7 t (idle0_7 t ht) (nofl0_7 t ht)]
    iintro ⟨%d, H⟩; iexists d; rw [before0_7]; iexact H
  · exact .rfl
theorem post7_last (c : Dev nD) (t : Fin C0.N) (ht : t.val = 25) (X) (h : f = false → X = H.L c) : owns (c : Thread nD τ) (ms0_7 t) fullShare X ⊢ post7 m H c t := by
  cases f
  · show _ ⊢ (dats m H 0 c).leaves 7 t
    rw [show (dats m H 0 c).leaves 7 t = owns (c : Thread nD τ) (ms0_7 t) fullShare ((dats m H 0 c).after 7 t) from by
      unfold Dat.leaves; rw [live0_7 t ht]; try rfl, after0_7, h rfl]
  · show _ ⊢ iprop(∃ X, owns (c : Thread nD τ) (ms0_7 t) fullShare X)
    iintro H; iexists X; iexact H

/-! ## The body at a generic point -/

/-- What the body is called with at a point, window by window. -/
def bodyPre (c : Dev nD) (t : Fin C0.N) : sProp 𝕄 :=
  iprop((dats m H 0 c).Φ t.castSucc ∗ (dats m H 0 c).owesAt () t.castSucc
    ∗ (∃ d, owns (c : Thread nD τ) (ms0_0 t) fullShare ((dats m H 0 c).before 0 t d))
    ∗ (∃ d, owns (c : Thread nD τ) (ms0_1 t) fullShare ((dats m H 0 c).before 1 t d))
    ∗ (∃ d, owns (c : Thread nD τ) (ms0_2 t) fullShare ((dats m H 0 c).before 2 t d))
    ∗ (∃ d, owns (c : Thread nD τ) (ms0_3 t) fullShare ((dats m H 0 c).before 3 t d))
    ∗ (∃ d, owns (c : Thread nD τ) (ms0_4 t) fullShare ((dats m H 0 c).before 4 t d))
    ∗ (∃ d, owns (c : Thread nD τ) (ms0_5 t) fullShare ((dats m H 0 c).before 5 t d))
    ∗ (∃ d, owns (c : Thread nD τ) (ms0_6 t) fullShare ((dats m H 0 c).before 6 t d))
    ∗ pre7 m H c t
    ∗ (∃ X, owns (c : Thread nD τ) (ms0_8 t) fullShare X)
    ∗ (∃ X, owns (c : Thread nD τ) (ms0_9 t) fullShare X))

/-- What it returns. -/
def bodyPost (c : Dev nD) (t : Fin C0.N) : sProp 𝕄 :=
  iprop((dats m H 0 c).Φ t.succ ∗ (dats m H 0 c).owesAt () t.succ
    ∗ (dats m H 0 c).leaves 0 t
    ∗ (dats m H 0 c).leaves 1 t
    ∗ (dats m H 0 c).leaves 2 t
    ∗ (dats m H 0 c).leaves 3 t
    ∗ (dats m H 0 c).leaves 4 t
    ∗ (dats m H 0 c).leaves 5 t
    ∗ (dats m H 0 c).leaves 6 t
    ∗ post7 m H c t
    ∗ (∃ X, owns (c : Thread nD τ) (ms0_8 t) fullShare X)
    ∗ (∃ X, owns (c : Thread nD τ) (ms0_9 t) fullShare X))

/-- The rows and the tokens the tables name are in range. -/
def Ok : Prop := ∀ (c : Dev nD) (i : grid0.Coords) a b, k0_chk1 i (tb1 m c a) (tb0 m c b)

set_option maxHeartbeats 8000000 in
/-- The body at any point: from what the proof data say the windows hold to what they say it leaves. -/
theorem sound_body (hok : Ok m) (c : Dev nD) (t : Fin C0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4]
  rw [show (dats m H 0 c).Φ t.succ = Phi m H c (t.val + 1) from rfl, show (dats m H 0 c).Φ t.castSucc = Phi m H c t.val from rfl,
    show (dats m H 0 c).owesAt () t.succ = (dats m H 0 c).owesAt () t.castSucc from rfl]
  unfold Phi
  have hN : t.val < 26 := lt_of_lt_of_eq t.isLt (show C0.N = 26 from N_0)
  by_cases h0 : t.val = 0
  · skip
    iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
    iapply (runA c (grid0.coords t) (tb0 m c) (tb1 m c) _ _ _ _ _ _ _ _ _ _ _ _ _ _ _ _ _ _ _ _ ((cond1_iff t).mpr h0) (fun h => absurd (h0.symm.trans ((cond2_iff t).mp h)) (by decide)) (iblk m c 0 t) (iblk m c 1 t) (FW m c t d2) (FS m c t d3) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iapply (pre7_elim m H c t); iexact H7
    isplitl [H8]; · iexact H8
    isplitl [H9]; · iexact H9
    isplitl [HT0]; · iexact HT0
    isplitl [HT1]; · iexact HT1
    isplitl [HS0]; · iexact HS0
    isplitl [HS1]; · iexists _; iexact HS1
    isplitl [HS2]; · iexists _; iexact HS2
    iintro ⟨H0, H1, H2, H3, H4, H5, H6, H7, H8, H9, HT0, HT1, HS0, HS1, HS2⟩
    rw [COD_eq m c t, SCL_eq m c t]
    isplitl [HS0 HS1 HS2 HT0 HT1 Hp]
    · isplitl [HS0]; · iexact HS0
      isplitl [HS1 HS2]
      · iexists _; iexists _; isplitr
        swap
        · isplitl [HS1]; · iexact HS1
          iexact HS2
        · ipureintro; intro _; rw [h0]; exact H.first c t d2 d3 h0
      isplitl [HT0]; · iexact HT0
      isplitl [HT1]; · iexact HT1
      iexact Hp
    isplitl [Ho]; · iexact Ho
    isplitl [H0]; · iapply (leaves0_0 m H c t); iexact H0
    isplitl [H1]; · iapply (leaves0_1 m H c t); iexact H1
    isplitl [H2]; · iapply (leaves0_2 m H c t d2); iexact H2
    isplitl [H3]; · iapply (leaves0_3 m H c t d3); iexact H3
    isplitl [H4]; · iapply (leaves0_4 m H c t); iexact H4
    isplitl [H5]; · iapply (leaves0_5 m H c t); iexact H5
    isplitl [H6]; · iapply (leaves0_6 m H c t); iexact H6
    isplitl [H7]; · iapply (post7_idle m H c t (by omega)); iexact H7
    isplitl [H8]; · iexact H8
    iexact H9
  · simp only [before0_5 m H c t h0, before0_6 m H c t h0]
    by_cases h7 : t.val = 25
    · skip
      iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
      iapply (runC c (grid0.coords t) (tb0 m c) (tb1 m c) _ _ _ _ _ _ _ _ _ _ _ _ _ _ _ _ _ _ _ _ (fun h => h0 ((cond1_iff t).mp h)) ((cond2_iff t).mpr h7) (hok c _) (iblk m c 0 t) (iblk m c 1 t) (FW m c t d2) (FS m c t d3) (iblk m c 4 t) (COD m c) (SCL m c) mx sm _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (pre7_elim m H c t); iexact H7
      isplitl [H8]; · iexact H8
      isplitl [H9]; · iexact H9
      isplitl [HT0]; · iexact HT0
      isplitl [HT1]; · iexact HT1
      isplitl [HS0]; · iexact HS0
      isplitl [HS1]; · iexact HS1
      isplitl [HS2]; · iexact HS2
      iintro ⟨H0, H1, H2, H3, H4, H5, H6, H7, H8, H9, HT0, HT1, HS0, HS1, HS2⟩
      isplitl [HS0 HS1 HS2 HT0 HT1 Hp]
      · isplitl [HS0]; · iexact HS0
        isplitl [HS1 HS2]
        · iexists _; iexists _; isplitr
          swap
          · isplitl [HS1]; · iexact HS1
            iexact HS2
          · ipureintro; intro _; exact H.next c t d2 d3 mx sm h0 (hI h0)
        isplitl [HT0]; · iexact HT0
        isplitl [HT1]; · iexact HT1
        iexact Hp
      isplitl [Ho]; · iexact Ho
      isplitl [H0]; · iapply (leaves0_0 m H c t); iexact H0
      isplitl [H1]; · iapply (leaves0_1 m H c t); iexact H1
      isplitl [H2]; · iapply (leaves0_2 m H c t d2); iexact H2
      isplitl [H3]; · iapply (leaves0_3 m H c t d3); iexact H3
      isplitl [H4]; · iapply (leaves0_4 m H c t); iexact H4
      isplitl [H5]; · iapply (leaves0_5 m H c t); iexact H5
      isplitl [H6]; · iapply (leaves0_6 m H c t); iexact H6
      isplitl [H7]; · iapply (post7_last m H c t h7 _ (fun hf => H.last hf c _ _ (by have := H.next c t d2 d3 mx sm h0 (hI h0); rw [h7] at this; exact this))); iexact H7
      isplitl [H8]; · iexact H8
      iexact H9
    · skip
      iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
      iapply (runB c (grid0.coords t) (tb0 m c) (tb1 m c) _ _ _ _ _ _ _ _ _ _ _ _ _ _ _ _ _ _ _ _ (fun h => h0 ((cond1_iff t).mp h)) (fun h => h7 ((cond2_iff t).mp h)) (iblk m c 0 t) (iblk m c 1 t) (FW m c t d2) (FS m c t d3) (iblk m c 4 t) (COD m c) (SCL m c) mx sm _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (pre7_elim m H c t); iexact H7
      isplitl [H8]; · iexact H8
      isplitl [H9]; · iexact H9
      isplitl [HT0]; · iexact HT0
      isplitl [HT1]; · iexact HT1
      isplitl [HS0]; · iexact HS0
      isplitl [HS1]; · iexact HS1
      isplitl [HS2]; · iexact HS2
      iintro ⟨H0, H1, H2, H3, H4, H5, H6, H7, H8, H9, HT0, HT1, HS0, HS1, HS2⟩
      isplitl [HS0 HS1 HS2 HT0 HT1 Hp]
      · isplitl [HS0]; · iexact HS0
        isplitl [HS1 HS2]
        · iexists _; iexists _; isplitr
          swap
          · isplitl [HS1]; · iexact HS1
            iexact HS2
          · ipureintro; intro _; exact H.next c t d2 d3 mx sm h0 (hI h0)
        isplitl [HT0]; · iexact HT0
        isplitl [HT1]; · iexact HT1
        iexact Hp
      isplitl [Ho]; · iexact Ho
      isplitl [H0]; · iapply (leaves0_0 m H c t); iexact H0
      isplitl [H1]; · iapply (leaves0_1 m H c t); iexact H1
      isplitl [H2]; · iapply (leaves0_2 m H c t d2); iexact H2
      isplitl [H3]; · iapply (leaves0_3 m H c t d3); iexact H3
      isplitl [H4]; · iapply (leaves0_4 m H c t); iexact H4
      isplitl [H5]; · iapply (leaves0_5 m H c t); iexact H5
      isplitl [H6]; · iapply (leaves0_6 m H c t); iexact H6
      isplitl [H7]; · iapply (post7_idle m H c t (by omega)); iexact H7
      isplitl [H8]; · iexact H8
      iexact H9

theorem body_obligation (hok : Ok m) (c : Dev nD) : Pipeline.BodyObligationLoose (dats (F := F) m H 0 c) (defs₀ (F := F)) Variants.none () Set.univ (fgt (f := f)) := fun t => by
  rw [bigSep_W0, bigSep_W0, defs₀_row]
  cases f
  · exact triple_restated (sound_body m H hok c t) rfl .rfl fun _ => .rfl
  · exact triple_restated (sound_body m H hok c t) rfl .rfl fun _ => .rfl

/-- The tables the region is launched at. -/
def adm : (p : Fin 1) → (pcfgs (F := F) p).Adm := fun _ => ⟨fun k => m (((0 : Dev nD) : Thread nD τ).loc (pre0.ref k)), trivial⟩

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 (adm m 0).1 c) ⊢ Phi m H c 0 := by
  obtain rfl : c = 0 := Subsingleton.elim _ _
  unfold Pipeline.ΦA Pipeline.ΦT
  rw [prefHeld_eq, scopedRest0_eq]
  unfold Phi
  iintro ⟨⟨⟨⟨%a0, HS0⟩, ⟨%a1, HS1⟩, ⟨%a2, HS2⟩⟩, Hp⟩, HT0, HT1⟩
  isplitl [HS0]; · iexists a0; iexact HS0
  isplitl [HS1 HS2]
  · iexists a1; iexists a2; isplitr
    · ipureintro; intro h; exact absurd rfl h
    isplitl [HS1]
    · rw [owns_whole]; iexact HS1
    rw [owns_whole]; iexact HS2
  isplitl [HT0]; · iexact HT0
  isplitl [HT1]; · iexact HT1
  iexact Hp

theorem phi_out (c : Dev nD) (n : ℕ) : Phi m H c n ⊢ Pipeline.ΦA spec0 c := by
  unfold Pipeline.ΦA
  rw [scopedRest0_eq]
  unfold Phi
  iintro ⟨⟨%a0, HS0⟩, ⟨%a1, %a2, -, HS1, HS2⟩, -, -, Hp⟩
  isplitr [Hp]
  · isplitl [HS0]; · iexists a0; iexact HS0
    isplitl [HS1]
    · iexists a1; rw [owns_whole]; exact .rfl
    iexists a2; rw [owns_whole]; exact .rfl
  iexact Hp

set_option backward.isDefEq.respectTransparency.types false in
/-- The launch: every array of a window not forgotten ends as the proof data say, every other buffer as launched, and every
    semaphore counter at zero. -/
theorem run_main_quiescent (hok : Ok m) : θ_run defs (onTc (τ := τ) (main (F := F))) (s₀ m ρ)
    (fun r => Pipeline.RDat.FramePost C0 (fun c => (dats m H 0 c).toRForget (fgt (f := f))) (fun c b => m ((c : Thread nD τ).loc b)) r ∧ r.2.sem = fun _ => 0) :=
  Pipeline.θ_run_frameP_track_forget (Q' := _) pcfgs (adm m) (dats m H) (0 : Fin 1) launch0 defs₀ Variants.none (fgt (f := f)) m ρ main
    (hbody := fun c => body_obligation m H hok c) (hshare := fun c => (dats m H 0 c).share_full fun _ => rfl)
    (howed := fun _ _ => rfl) (V := fun c b => m ((c : Thread nD τ).loc b))
    (hmain := fun c Q => by
      delta main; simp only [Prog.bind_lift, Prog.pure_eq_ret]
      iintro ⟨Hk, Hb⟩; iapply Hk; iexact Hb)
    (hA := A_eq m H) (hpf := fun c k => by obtain rfl : c = 0 := Subsingleton.elim _ _; rfl)
    (hin := phi_in m H) (hout := fun c => phi_out m H c _)

/-- Tables in range are tables the body takes. -/
theorem ok_of (h0 : ∀ (c : Dev nD) j, (show BitVec 32 from tb0 m c j).toNat < 224) (h1 : ∀ (c : Dev nD) j, (show BitVec 32 from tb1 m c j).toNat < 32064) : Ok m := by
  intro c i a b
  have hb := h0 c b
  have ha := h1 c a
  refine ⟨fun _ x => ?_, fun _ x => ?_⟩
  · match x with
    | ⟨0, _⟩ =>
      show ((show BitVec 32 from tb1 m c a) >>> (7#32).toNat).toNat + 1 ≤ 260
      rw [BitVec.toNat_ushiftRight, Nat.shiftRight_eq_div_pow]
      show (show BitVec 32 from tb1 m c a).toNat / 2 ^ 7 + 1 ≤ 260
      omega
    | ⟨1, _⟩ => exact hb
    | ⟨2, _⟩ => exact Nat.le_refl 128
  · match x with
    | ⟨0, _⟩ => exact hb
    | ⟨1, _⟩ => exact Nat.le_refl 128

/-- The arguments end as launched, and every semaphore counter at zero. -/
theorem frame_of {f : Bool} (H : Inv m f) (hok : Ok m) : θ_run defs (onTc (τ := τ) (main (F := F))) (s₀ m ρ)
    (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r h => ⟨fun c => ⟨((h.1 c).2 main_arg0 (Pipeline.mem_restRefs_of main_arg0 (by decide) (by decide))), ((h.1 c).2 main_arg1 (Pipeline.mem_restRefs_of main_arg1 (by decide) (by decide))), ((((dats m H 0 c).toRForget_arrAt_iff (fgt := fgt (f := f)) rfl _ _).mp ((h.1 c).1 0)).trans (((dats m H 0 c).arrAt_in 0 rfl _).trans (A_eq m H c 0))), ((((dats m H 0 c).toRForget_arrAt_iff (fgt := fgt (f := f)) rfl _ _).mp ((h.1 c).1 1)).trans (((dats m H 0 c).arrAt_in 1 rfl _).trans (A_eq m H c 1))), ((((dats m H 0 c).toRForget_arrAt_iff (fgt := fgt (f := f)) rfl _ _).mp ((h.1 c).1 2)).trans (((dats m H 0 c).arrAt_in 2 rfl _).trans (A_eq m H c 2))), ((((dats m H 0 c).toRForget_arrAt_iff (fgt := fgt (f := f)) rfl _ _).mp ((h.1 c).1 3)).trans (((dats m H 0 c).arrAt_in 3 rfl _).trans (A_eq m H c 3))), ((((dats m H 0 c).toRForget_arrAt_iff (fgt := fgt (f := f)) rfl _ _).mp ((h.1 c).1 4)).trans (((dats m H 0 c).arrAt_in 4 rfl _).trans (A_eq m H c 4)))⟩, h.2⟩) (run_main_quiescent m ρ H hok)

end Cert.Lm.Run

end
-- ==== Proof.LmRun.lean ====
/- The run of the program `LmIdeal`: what its body leaves in each window at each grid point, and the arrays after the last. -/
module

public import proofs.«01_k».proof.Proof.Gen.LmIdeal.Launch
public import proofs.«01_k».proof.Proof.Gen.LmIdeal.Loops
public import proofs.«01_k».proof.Proof.Gen.LmIdeal.Skeleton
public import Idealize.ShloMosaic.Lib.Pipeline.Frame
public import Idealize.ShloMosaic.Lib.Pipeline.FrameBody
public import Idealize.ShloMosaic.PureOps.Ideal
public import Idealize.ShloMosaic.Lib.Pipeline.Value
public import Idealize.ShloMosaic.Lib.Pipeline.TableIdle
public import Idealize.ShloMosaic.Lib.Claim
public import Idealize.ShloMosaic.Lib.WritesUnit
public import Idealize.ShloMosaic.Lib.ValueIdx

@[expose] public section

set_option maxRecDepth 16384

noncomputable section

namespace Cert.LmIdeal.Run

open Cert.LmIdeal Cert.LmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a view reads after a store through the whole of it. -/
theorem rd_whole {κ : Kind} {sp : Space} {S : Shape} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- What a load of a part reads there. -/
theorem cov_whole {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) (r : Rect S) :
    v.readCov (⟨Rect.unit off S.size inb, w⟩ :: L) r.toLoadRect = View.ld w r := by
  rw [View.readCov_eq_canon_ld _ _ _ (fun y => ⟨_, List.mem_cons_self .., View.mem_set_unit_zero h inb y⟩), View.canon_cons_unit_zero h inb]

/-- A pair of zero offsets, however it is spelt. -/
theorem hz2 : (![0, 0] : Fin 2 → Nat) = fun _ => 0 := by
  funext a; fin_cases a <;> rfl

/-! ## The tables and the scratch buffers -/

abbrev tbM0 : Memref sig .tc .smem S224 .i32 := Memref.whole main_arg0
abbrev tbM1 : Memref sig .tc .smem S224 .i32 := Memref.whole main_arg1
abbrev scM0 : Memref sig .tc .vmem S260x224x128 .f32 := Memref.whole cc0_scratch0
abbrev scM1 : Memref sig .tc .vmem S224x128 .f32 := Memref.whole cc0_scratch1
abbrev scM2 : Memref sig .tc .vmem S224x128 .f32 := Memref.whole cc0_scratch2

/-! ## The loop over the rows asked for -/

/-- What a trip touches: the tables, the kept logits and the normalisers are only read, the two results are written a row at a time. -/
def loopRes (c : Dev nD) (T0 : Buf (Elt F) (tbM0.view.loc (c : Thread nD τ))) (T1 : Buf (Elt F) (tbM1.view.loc (c : Thread nD τ)))
    (arg10 arg11 arg12 : Memref sig .tc .vmem S224x128 .f32) (f10 : Buf (Elt F) (arg10.view.loc (c : Thread nD τ))) : sProp 𝕄 :=
  iprop((tbM0.view.loc (c : Thread nD τ) ↦{fullShare.right} T0)
    ∗ (tbM1.view.loc (c : Thread nD τ) ↦{fullShare.right} T1)
    ∗ (∃ f, scM0.view.loc (c : Thread nD τ) ↦{fullShare} f)
    ∗ (arg10.view.loc (c : Thread nD τ) ↦[arg10.view.set]{fullShare} f10)
    ∗ (∃ f, arg11.view.loc (c : Thread nD τ) ↦[arg11.view.set]{fullShare} f)
    ∗ (∃ f, arg12.view.loc (c : Thread nD τ) ↦[arg12.view.set]{fullShare} f))

set_option maxHeartbeats 4000000 in
/-- One trip. -/
theorem trip (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (k0_h2 : k0_cond2 i = 1#1)
    (f10 : Buf (Elt F) (arg10.view.loc (c : Thread nD τ))) (hchk : ∀ a b, k0_chk1 i (T1 a) (T0 b)) (k : Fin k0_t1_loop.trips) (acc : Unit) :
    loopRes c T0 T1 arg10 arg11 arg12 f10 ⊢ wp frame (wpE (defs₀ (F := F)) Variants.none (c : Thread nD τ) none) Set.univ
      (k0_t1_body i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _) k0_h2 k acc)
      (fun _ => loopRes c T0 T1 arg10 arg11 arg12 f10) := by
  unfold loopRes k0_t1_body
  iintro ⟨HT0, HT1, ⟨%f0, HS0⟩, H10, ⟨%f11, H11⟩, ⟨%f12, H12⟩⟩
  have hS0 : scM0.IsWhole := Memref.isWhole_whole _
  have hT0 : tbM0.IsWhole := Memref.isWhole_whole _
  have hT1 : tbM1.IsWhole := Memref.isWhole_whole _
  sl_exec (disch := first | exact hchk _ _)
  sl_step
  isplitl [HT0]; · iexact HT0
  isplitl [HT1]; · iexact HT1
  isplitl [HS0]; · iexists _; iexact HS0
  isplitl [H10]; · iexact H10
  isplitl [H11]; · iexists _; iexact H11
  iexists _; iexact H12

set_option warn.classDefReducibility false in
/-- The loop's invariant. -/
@[sl_loop] def loopInv (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (k0_h2 : k0_cond2 i = 1#1)
    (f10 : Buf (Elt F) (arg10.view.loc (c : Thread nD τ))) (hchk : ∀ a b, k0_chk1 i (T1 a) (T0 b)) :
    LoopInvTy_k0_t1 (F := F) Unit ℕ (UR sig nD τ) ℕ Variants.none c none Set.univ i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _) k0_h2 where
  inv _ _ := loopRes c T0 T1 arg10 arg11 arg12 f10
  step k acc := trip c i T0 T1 arg3 harg3 arg4 harg4 arg5 harg5 arg6 harg6 arg7 harg7 arg8 harg8 arg9 harg9 arg10 harg10 arg11 harg11 arg12 harg12 k0_h2 f10 hchk k acc

/-! ## What the body computes -/

abbrev rX : Rect S224x5120 := Rect.unit (s := S224x5120) ![0, 0] S224x5120.size inb_S224x5120_S224x5120_0_0
abbrev rL : Rect S1x5120 := Rect.unit (s := S1x5120) ![0, 0] S1x5120.size inb_S1x5120_S1x5120_0_0
abbrev rW : Rect S1280x5120 := Rect.unit (s := S1280x5120) ![0, 0] S1280x5120.size inb_S1280x5120_S1280x5120_0_0
abbrev rS : Rect S1x1280 := Rect.unit (s := S1x1280) ![0, 0] S1x1280.size inb_S1x1280_S1x1280_0_0
abbrev rC : Rect S224x128 := Rect.unit (s := S224x128) ![0, 0] S224x1.size inb_S224x128_S224x1_0_0
abbrev rO : Rect S224x128 := Rect.unit (s := S224x128) ![0, 0] S224x128.size inb_S224x128_S224x128_0_0

/-- The rows, normalised, and their greatest magnitudes over 448. -/
def nr (x0 : Vec F S224x5120 .f32) (x1 : Vec F S1x5120 .f32) : FVec F S224x5120 .f32 := k0_pay5 (View.ld x0 rX) (View.ld x1 rL)
def tp (x0 : Vec F S224x5120 .f32) (x1 : Vec F S1x5120 .f32) : FVec F S224x1 .f32 := k0_pay6 (View.ld x0 rX) (View.ld x1 rL)

/-- The exponent fields before the last step of the search, and the field the last step tries. -/
def fld (x0 : Vec F S224x5120 .f32) (x1 : Vec F S1x5120 .f32) : IVec S224x1 32 :=
  k0_pay9 (tp x0 x1) (k0_pay7 (View.ld x0 rX) (View.ld x1 rL)) (k0_pay8 (View.ld x0 rX) (View.ld x1 rL))
def fld' (x0 : Vec F S224x5120 .f32) (x1 : Vec F S1x5120 .f32) : IVec S224x1 32 :=
  k0_pay10 (tp x0 x1) (k0_pay7 (View.ld x0 rX) (View.ld x1 rL)) (k0_pay8 (View.ld x0 rX) (View.ld x1 rL))

/-- The codes of the rows. -/
def cod (x0 : Vec F S224x5120 .f32) (x1 : Vec F S1x5120 .f32) : Vec F S224x5120 .fp8e4m3 := k0_pay12 (nr x0 x1) (tp x0 x1) (fld x0 x1) (fld' x0 x1)

/-- Their scales, one a row along 128 lanes. -/
def scl (x0 : Vec F S224x5120 .f32) (x1 : Vec F S1x5120 .f32) : Vec F S224x128 .f32 := k0_pay13 (tp x0 x1) (fld x0 x1) (fld' x0 x1)

/-- One block of logits, from the codes, the scales, the block of the weights and of their scales, and the inverse temperatures. -/
def lgt (i : grid0.Coords) (ac : Vec F S224x5120 .fp8e4m3) (sc : Vec F S224x128 .f32) (x2 : Vec F S1280x5120 .fp8e4m3) (x3 : Vec F S1x1280 .f32) (x4 : Vec F S224x128 .f32) : FVec F S224x1280 .f32 :=
  k0_pay17 i (View.ld ac rX) (View.ld x2 rW) (View.ld sc rC) (View.ld x3 rS) (View.ld x4 rC)

/-- The running maximum and the running sum after a block. -/
def mxN (lg : FVec F S224x1280 .f32) (mx : Vec F S224x128 .f32) : Vec F S224x128 .f32 := k0_pay31 lg (View.ld mx rO)
def smN (lg : FVec F S224x1280 .f32) (mx sm : Vec F S224x128 .f32) : Vec F S224x128 .f32 := k0_pay1 lg (View.ld mx rO) (k0_pay30 lg (View.ld mx rO)) (View.ld sm rO)
theorem lgX {i : grid0.Coords} {a a' : Vec F S224x5120 .fp8e4m3} {w : Vec F S1280x5120 .fp8e4m3} {c c' : Vec F S224x1 .f32} {d : Vec F S1x1280 .f32} {e : Vec F S224x1 .f32} (h : a = a') (h' : c = c') :
    k0_pay17 i a w c d e = k0_pay17 i a' w c' d e := by rw [h, h']
theorem mxX {lg lg' : FVec F S224x1280 .f32} {a a' : Vec F S224x128 .f32} (h : lg = lg') (ha : a = a') : k0_pay31 lg a = k0_pay31 lg' a' := by rw [h, ha]
theorem smX {lg lg' : FVec F S224x1280 .f32} {a a' b b' : Vec F S224x128 .f32} (h : lg = lg') (ha : a = a') (hb : b = b') :
    k0_pay1 lg a (k0_pay30 lg a) b = k0_pay1 lg' a' (k0_pay30 lg' a') b' := by rw [h, ha, hb]
def mx0 : Vec F S224x128 .f32 := k0_pay15 k0_pay14
def sm0 : Vec F S224x128 .f32 := k0_pay16

set_option maxHeartbeats 8000000 in
/-- The body's triple in case A. -/
theorem runA (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : k0_cond1 i = 1#1) (hc1 : ¬ k0_cond2 i = 1#1)
    (x0 : Vec F S224x5120 .f32) (x1 : Vec F S1x5120 .f32) (x2 : Vec F S1280x5120 .fp8e4m3) (x3 : Vec F S1x1280 .f32) (x4 : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ (∃ d, owns (c : Thread nD τ) scM1 fullShare d)
      ∗ (∃ d, owns (c : Thread nD τ) scM2 fullShare d)
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare (cod x0 x1)
      ∗ owns (c : Thread nD τ) arg9 fullShare (scl x0 x1)
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i (cod x0 x1) (scl x0 x1) x2 x3 x4) mx0)
      ∗ owns (c : Thread nD τ) scM2 fullShare (smN (lgt i (cod x0 x1) (scl x0 x1) x2 x3 x4) mx0 sm0)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, HT1, ⟨%s0, HS0⟩, ⟨%d10, %s1, -, HS1⟩, ⟨%d11, %s2, -, HS2⟩, Hk⟩
  subst hf0 hf1 hf2 hf3 hf4
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = (k0_cond1 _ = _); exact hc0) | (guard_target = ¬(k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (rd_whole _ _ hz2 _ _ _).trans rfl
  isplitl [H6]
  · iexists _; isplitr
    swap; · iexact H6
    ipureintro
    exact (rd_whole _ _ hz2 _ _ _).trans rfl
  isplitl [H7]
  · iexists _; iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    exact mxX (lgX (cov_whole _ hz2 _ _ _ _) (cov_whole _ hz2 _ _ _ _)) (cov_whole _ hz2 _ _ _ _)
  iexists _; isplitr
  swap; · iexact HS2
  ipureintro
  refine (rd_whole _ _ hz2 _ _ _).trans ?_
  exact smX (lgX (cov_whole _ hz2 _ _ _ _) (cov_whole _ hz2 _ _ _ _)) (cov_whole _ hz2 _ _ _ _) (cov_whole _ hz2 _ _ _ _)

set_option maxHeartbeats 8000000 in
/-- The body's triple in case B. -/
theorem runB (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : ¬ k0_cond1 i = 1#1) (hc1 : ¬ k0_cond2 i = 1#1)
    (x0 : Vec F S224x5120 .f32) (x1 : Vec F S1x5120 .f32) (x2 : Vec F S1280x5120 .fp8e4m3) (x3 : Vec F S1x1280 .f32) (x4 : Vec F S224x128 .f32) (x5 : Vec F S224x5120 .fp8e4m3) (x6 : Vec F S224x128 .f32) (mx sm : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare mx
      ∗ owns (c : Thread nD τ) scM2 fullShare sm
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i x5 x6 x2 x3 x4) mx)
      ∗ owns (c : Thread nD τ) scM2 fullShare (smN (lgt i x5 x6 x2 x3 x4) mx sm)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, HT1, ⟨%s0, HS0⟩, ⟨%s1, %hs1, HS1⟩, ⟨%s2, %hs2, HS2⟩, Hk⟩
  subst hf0 hf1 hf2 hf3 hf4 hf5 hf6 hs1 hs2
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = ¬(k0_cond1 _ = _); exact hc0) | (guard_target = ¬(k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; iexists f7; isplitr; · ipureintro; rfl
    iexact H7
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    rfl
  iexists _; isplitr
  swap; · iexact HS2
  ipureintro
  refine (rd_whole _ _ hz2 _ _ _).trans ?_
  rfl

set_option maxHeartbeats 8000000 in
/-- The body's triple in case C. -/
theorem runC (c : Dev nD) (i : grid0.Coords) (T0 : Buf (Elt F) (tbM0.view.loc (c : Thread nD τ))) (T1 : Buf (Elt F) (tbM1.view.loc (c : Thread nD τ)))
    (arg3 : Memref sig .tc .vmem S224x5120 .f32) (harg3 : arg3.IsWhole) (arg4 : Memref sig .tc .vmem S1x5120 .f32) (harg4 : arg4.IsWhole) (arg5 : Memref sig .tc .vmem S1280x5120 .fp8e4m3) (harg5 : arg5.IsWhole) (arg6 : Memref sig .tc .vmem S1x1280 .f32) (harg6 : arg6.IsWhole) (arg7 : Memref sig .tc .vmem S224x128 .f32) (harg7 : arg7.IsWhole) (arg8 : Memref sig .tc .vmem S224x5120 .fp8e4m3) (harg8 : arg8.IsWhole) (arg9 : Memref sig .tc .vmem S224x128 .f32) (harg9 : arg9.IsWhole) (arg10 : Memref sig .tc .vmem S224x128 .f32) (harg10 : arg10.IsWhole) (arg11 : Memref sig .tc .vmem S224x128 .f32) (harg11 : arg11.IsWhole) (arg12 : Memref sig .tc .vmem S224x128 .f32) (harg12 : arg12.IsWhole) (hc0 : ¬ k0_cond1 i = 1#1) (hc1 : k0_cond2 i = 1#1) (hchk : ∀ a b, k0_chk1 i (T1 a) (T0 b))
    (x0 : Vec F S224x5120 .f32) (x1 : Vec F S1x5120 .f32) (x2 : Vec F S1280x5120 .fp8e4m3) (x3 : Vec F S1x1280 .f32) (x4 : Vec F S224x128 .f32) (x5 : Vec F S224x5120 .fp8e4m3) (x6 : Vec F S224x128 .f32) (mx sm : Vec F S224x128 .f32) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ (∃ d, owns (c : Thread nD τ) arg10 fullShare d)
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare mx
      ∗ owns (c : Thread nD τ) scM2 fullShare sm
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ owns (c : Thread nD τ) arg7 fullShare x4
      ∗ owns (c : Thread nD τ) arg8 fullShare x5
      ∗ owns (c : Thread nD τ) arg9 fullShare x6
      ∗ owns (c : Thread nD τ) arg10 fullShare (k0_pay2 (smN (lgt i x5 x6 x2 x3 x4) mx sm) (mxN (lgt i x5 x6 x2 x3 x4) mx))
      ∗ (∃ d, owns (c : Thread nD τ) arg11 fullShare d)
      ∗ (∃ d, owns (c : Thread nD τ) arg12 fullShare d)
      ∗ (tbM0.view.loc (c : Thread nD τ) ↦{fullShare.right} T0)
      ∗ (tbM1.view.loc (c : Thread nD τ) ↦{fullShare.right} T1)
      ∗ (∃ f, scM0.view.loc (c : Thread nD τ) ↦{fullShare} f)
      ∗ owns (c : Thread nD τ) scM1 fullShare (mxN (lgt i x5 x6 x2 x3 x4) mx)
      ∗ owns (c : Thread nD τ) scM2 fullShare (smN (lgt i x5 x6 x2 x3 x4) mx sm)) -∗ K ⟨⟩))
      ⊢ wp frame (wpE (defs₀ (F := F)) Variants.none c none) Set.univ (cc0_lm_head i tbM0 (Memref.isWhole_whole _) tbM1 (Memref.isWhole_whole _) arg3 harg3 arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)) K := by
  rw [cc0_lm_head_eq_skeleton]; unfold cc0_lm_head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, HT0, HT1, ⟨%s0, HS0⟩, ⟨%s1, %hs1, HS1⟩, ⟨%s2, %hs2, HS2⟩, Hk⟩
  subst hf0 hf1 hf2 hf3 hf4 hf5 hf6 hs1 hs2
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec (disch := first | (guard_target = ¬(k0_cond1 _ = _); exact hc0) | (guard_target = (k0_cond2 _ = _); exact hc1))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (rd_whole _ _ hz2 _ _ _).trans ?_
    exact congrArg₂ k0_pay2 ((cov_whole _ hz2 _ _ _ _).trans (View.ld_unit_zero hz2 _ _)) ((cov_whole _ hz2 _ _ _ _).trans (View.ld_unit_zero hz2 _ _))
  isplitl [H8]
  · iexists _; iexists _; isplitr
    swap; · iexact H8
    ipureintro; rfl
  isplitl [H9]
  · iexists _; iexists _; isplitr
    swap; · iexact H9
    ipureintro; rfl
  isplitl [HT0]; · iexact HT0
  isplitl [HT1]; · iexact HT1
  isplitl [HS0]; · iexists _; iexact HS0
  isplitl [HS1]
  · iexists _; isplitr
    swap; · iexact HS1
    ipureintro
    refine (rd_whole _ _ hz2 _ _ _).trans ?_
    rfl
  iexists _; isplitr
  swap; · iexact HS2
  ipureintro
  refine (rd_whole _ _ hz2 _ _ _).trans ?_
  rfl

/-! ## The pipeline at fixed tables

The blocks do not depend on the tables, so the facts about them are decided at tables of zeros. -/

/-- Tables of zeros, and the pipeline at them. -/
def a₀ : (pcfg0 (F := Ideal)).Adm := ⟨fun | ⟨0, _⟩ => fun _ => 0#32 | ⟨1, _⟩ => fun _ => 0#32, trivial⟩
abbrev C0 : Cfg sig Λ₀ := cfg0 a₀

abbrev cond1 (i : grid0.Coords) : Prop := k0_cond1 i = 1#1
abbrev cond2 (i : grid0.Coords) : Prop := k0_cond2 i = 1#1
theorem cond1_iff : ∀ t : Fin C0.N, cond1 (grid0.coords t) ↔ t.val = 0 := (by decide +kernel : ∀ t : Fin grid0.N, cond1 (grid0.coords t) ↔ t.val = 0)
theorem cond2_iff : ∀ t : Fin C0.N, cond2 (grid0.coords t) ↔ t.val = 25 := (by decide +kernel : ∀ t : Fin grid0.N, cond2 (grid0.coords t) ↔ t.val = 25)
theorem fetch0_2 : ∀ t : Fin C0.N, (C0.win 2).fetch t = true := by decide +kernel
theorem fetch0_3 : ∀ t : Fin C0.N, (C0.win 3).fetch t = true := by decide +kernel
theorem live0_5 : ∀ t : Fin C0.N, t.val = 0 → C0.idle 5 (C0.grid.coords t) = false := by decide +kernel
theorem live0_6 : ∀ t : Fin C0.N, t.val = 0 → C0.idle 6 (C0.grid.coords t) = false := by decide +kernel
theorem live0_7 : ∀ t : Fin C0.N, t.val = 25 → C0.idle 7 (C0.grid.coords t) = false := by decide +kernel
theorem idle0_7 : ∀ t : Fin C0.N, ¬ t.val = 25 → C0.idle 7 (C0.grid.coords t) = true := by decide +kernel
theorem nofl0_7 : ∀ t : Fin C0.N, ¬ t.val = 25 → (C0.win 7).flush t = false := by
  simp only [Window.flush_eq_flushF]; exact (by decide +kernel : ∀ t : Fin C0.N, ¬ t.val = 25 → (C0.win 7).flushF t = false)
theorem fresh0_5 : ∀ t : Fin C0.N, C0.fresh 5 t.val = decide (t.val % 26 = 0) := fun t =>
  C0.fresh_tab 5 (fun n => decide (n % 26 = 0)) rfl
    (by simp only [Window.flush_eq_flushF]; exact (by decide +kernel : ∀ t : Fin C0.N, decide ((t.val + 1) % 26 = 0) = ((C0.win 5).flushF t || (C0.idle 5 (C0.grid.coords t) && decide (t.val % 26 = 0))))) t.val (Nat.le_of_lt t.isLt)
theorem fresh0_6 : ∀ t : Fin C0.N, C0.fresh 6 t.val = decide (t.val % 26 = 0) := fun t =>
  C0.fresh_tab 6 (fun n => decide (n % 26 = 0)) rfl
    (by simp only [Window.flush_eq_flushF]; exact (by decide +kernel : ∀ t : Fin C0.N, decide ((t.val + 1) % 26 = 0) = ((C0.win 6).flushF t || (C0.idle 6 (C0.grid.coords t) && decide (t.val % 26 = 0))))) t.val (Nat.le_of_lt t.isLt)
theorem fresh0_7 : ∀ t : Fin C0.N, C0.fresh 7 t.val = true := fun t =>
  C0.fresh_tab 7 (fun n => true) rfl
    (by simp only [Window.flush_eq_flushF]; exact (by decide +kernel : ∀ t : Fin C0.N, true = ((C0.win 7).flushF t || (C0.idle 7 (C0.grid.coords t) && true)))) t.val (Nat.le_of_lt t.isLt)

/-! ## The staging buffers -/

abbrev ms0_0 (t : Fin C0.N) : Memref sig .tc .vmem S224x5120 .f32 := spec0_0.stage (C0.slots t 0)
abbrev hs0_0 (t : Fin C0.N) : (ms0_0 t).IsWhole := hstage0_0 ((C0.slots t 0).cast nbuf0_0)
abbrev ms0_1 (t : Fin C0.N) : Memref sig .tc .vmem S1x5120 .f32 := spec0_1.stage (C0.slots t 1)
abbrev hs0_1 (t : Fin C0.N) : (ms0_1 t).IsWhole := hstage0_1 ((C0.slots t 1).cast nbuf0_1)
abbrev ms0_2 (t : Fin C0.N) : Memref sig .tc .vmem S1280x5120 .fp8e4m3 := spec0_2.stage (C0.slots t 2)
abbrev hs0_2 (t : Fin C0.N) : (ms0_2 t).IsWhole := hstage0_2 ((C0.slots t 2).cast nbuf0_2)
abbrev ms0_3 (t : Fin C0.N) : Memref sig .tc .vmem S1x1280 .f32 := spec0_3.stage (C0.slots t 3)
abbrev hs0_3 (t : Fin C0.N) : (ms0_3 t).IsWhole := hstage0_3 ((C0.slots t 3).cast nbuf0_3)
abbrev ms0_4 (t : Fin C0.N) : Memref sig .tc .vmem S224x128 .f32 := spec0_4.stage (C0.slots t 4)
abbrev hs0_4 (t : Fin C0.N) : (ms0_4 t).IsWhole := hstage0_4 ((C0.slots t 4).cast nbuf0_4)
abbrev ms0_5 (t : Fin C0.N) : Memref sig .tc .vmem S224x5120 .fp8e4m3 := spec0_5.stage (C0.slots t 5)
abbrev hs0_5 (t : Fin C0.N) : (ms0_5 t).IsWhole := hstage0_5 ((C0.slots t 5).cast nbuf0_5)
abbrev ms0_6 (t : Fin C0.N) : Memref sig .tc .vmem S224x128 .f32 := spec0_6.stage (C0.slots t 6)
abbrev hs0_6 (t : Fin C0.N) : (ms0_6 t).IsWhole := hstage0_6 ((C0.slots t 6).cast nbuf0_6)
abbrev ms0_7 (t : Fin C0.N) : Memref sig .tc .vmem S224x128 .f32 := spec0_7.stage (C0.slots t 7)
abbrev hs0_7 (t : Fin C0.N) : (ms0_7 t).IsWhole := hstage0_7 ((C0.slots t 7).cast nbuf0_7)
abbrev ms0_8 (t : Fin C0.N) : Memref sig .tc .vmem S224x128 .f32 := spec0_8.stage (C0.slots t 8)
abbrev hs0_8 (t : Fin C0.N) : (ms0_8 t).IsWhole := hstage0_8 ((C0.slots t 8).cast nbuf0_8)
abbrev ms0_9 (t : Fin C0.N) : Memref sig .tc .vmem S224x128 .f32 := spec0_9.stage (C0.slots t 9)
abbrev hs0_9 (t : Fin C0.N) : (ms0_9 t).IsWhole := hstage0_9 ((C0.slots t 9).cast nbuf0_9)

/-- The body at a point. -/
abbrev bodyAt0 (t : Fin C0.N) : Prog (TpuEff nD τ sig (Elt F) Λ₀ .tc) PUnit :=
  cc0_lm_head (grid0.coords t) tbM0 (Memref.isWhole_whole _) tbM1 (Memref.isWhole_whole _) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) scM1 (Memref.isWhole_whole _) scM2 (Memref.isWhole_whole _)

theorem defs₀_row (t : Fin C0.N) : defs₀ (F := F) .tc C0.body (C0.bodyArgs t (C0.slots t)) = bodyAt0 t := by
  unfold defs₀; rw [Defs.onTc_tc]

/-! ## The proof data -/

/-- A window's block at a point. -/
def iblk (c : Dev nD) (w : Fin C0.W) (t : Fin C0.N) : ((C0.win w).xblock (C0.grid.coords t)).Idx → Elt F (C0.win w).elt :=
  ((C0.win w).blk t).view.read (Elt F) (m ((c : Thread nD τ).loc (Pipeline.arrRef spec0 w)))

/-- The codes and the scales, of the first point's blocks. -/
def COD (c : Dev nD) : Vec F S224x5120 .fp8e4m3 := cod (iblk m c 0 ⟨0, by decide⟩) (iblk m c 1 ⟨0, by decide⟩)
def SCL (c : Dev nD) : Vec F S224x128 .f32 := scl (iblk m c 0 ⟨0, by decide⟩) (iblk m c 1 ⟨0, by decide⟩)
theorem COD_eq (c : Dev nD) (t : Fin C0.N) : cod (iblk m c 0 t) (iblk m c 1 t) = COD m c := rfl
theorem SCL_eq (c : Dev nD) (t : Fin C0.N) : scl (iblk m c 0 t) (iblk m c 1 t) = SCL m c := rfl

/-- A block of the weights and of their scales, filled out by anything where it lies outside the array. -/
abbrev FW (c : Dev nD) (t : Fin C0.N) (d : Vec F S1280x5120 .fp8e4m3) : Vec F S1280x5120 .fp8e4m3 := (C0.win 2).fill (C0.grid.coords t) d (iblk m c 2 t)
abbrev FS (c : Dev nD) (t : Fin C0.N) (d : Vec F S1x1280 .f32) : Vec F S1x1280 .f32 := (C0.win 3).fill (C0.grid.coords t) d (iblk m c 3 t)

/-- The logits of a block. -/
def LG (c : Dev nD) (t : Fin C0.N) (d2 : Vec F S1280x5120 .fp8e4m3) (d3 : Vec F S1x1280 .f32) : FVec F S224x1280 .f32 :=
  lgt (grid0.coords t) (COD m c) (SCL m c) (FW m c t d2) (FS m c t d3) (iblk m c 4 t)

/-- What is kept of the running maximum and sum from point to point, and the normalisers that come of them; `f` says that nothing is. -/
structure Inv (f : Bool) where
  I : Dev nD → ℕ → Vec F S224x128 .f32 → Vec F S224x128 .f32 → Prop
  L : Dev nD → Vec F S224x128 .f32
  first : ∀ c (t : Fin C0.N) d2 d3, t.val = 0 → I c 1 (mxN (LG m c t d2 d3) mx0) (smN (LG m c t d2 d3) mx0 sm0)
  next : ∀ c (t : Fin C0.N) d2 d3 mx sm, t.val ≠ 0 → I c t.val mx sm → I c (t.val + 1) (mxN (LG m c t d2 d3) mx) (smN (LG m c t d2 d3) mx sm)
  last : f = false → ∀ c mx sm, I c 26 mx sm → k0_pay2 sm mx = L c

variable {f : Bool} (H : Inv m f)

/-- The tables. -/
def tb0 (c : Dev nD) : Buf (Elt F) (tbM0.view.loc (c : Thread nD τ)) := m (tbM0.view.loc (c : Thread nD τ))
def tb1 (c : Dev nD) : Buf (Elt F) (tbM1.view.loc (c : Thread nD τ)) := m (tbM1.view.loc (c : Thread nD τ))

/-- What holds between points. -/
def Phi (c : Dev nD) (n : ℕ) : sProp 𝕄 :=
  iprop((∃ f, scM0.view.loc (c : Thread nD τ) ↦{fullShare} f)
    ∗ (∃ mx sm, ⌜n ≠ 0 → H.I c n mx sm⌝ ∗ owns (c : Thread nD τ) scM1 fullShare mx ∗ owns (c : Thread nD τ) scM2 fullShare sm)
    ∗ (tbM0.view.loc (c : Thread nD τ) ↦{fullShare.right} tb0 m c)
    ∗ (tbM1.view.loc (c : Thread nD τ) ↦{fullShare.right} tb1 m c)
    ∗ ∃ r, prngReg c r)

/-- What the windows hold after the body at each point, the arrays as launched. -/
def dats (_ : Fin 1) (c : Dev nD) : Dat τ (Elt F) Unit ℕ (UR sig nD τ) ℕ C0 c where
  A w := m ((c : Thread nD τ).loc (Pipeline.arrRef spec0 w))
  after w t := match w with
    | ⟨0, _⟩ => iblk m c 0 t
    | ⟨1, _⟩ => iblk m c 1 t
    | ⟨2, _⟩ => FW m c t (fun _ => (Scalar.ofBits .fp8e4m3 0#8 : F .fp8e4m3))
    | ⟨3, _⟩ => FS m c t (fun _ => (Scalar.ofBits .f32 0#32 : F .f32))
    | ⟨4, _⟩ => iblk m c 4 t
    | ⟨5, _⟩ => COD m c
    | ⟨6, _⟩ => SCL m c
    | ⟨7, _⟩ => H.L c
    | ⟨8, _⟩ => H.L c
    | ⟨9, _⟩ => H.L c
  Φ t := Phi m H c t.val
  q w := fullShare
  owed _ := 0

/-- Nothing is said of what the last two windows end with; of window 7 only when something is kept. -/
def fgt (w : Fin C0.W) : Bool := match w with
  | ⟨7, _⟩ => f
  | ⟨8, _⟩ => true
  | ⟨9, _⟩ => true
  | _ => false

theorem A_eq (c : Dev nD) (w : Fin C0.W) : (dats m H 0 c).A w = m ((c : Thread nD τ).loc (Pipeline.arrRef spec0 w)) := by
  dsimp only [dats]

theorem after0_0 (c : Dev nD) (t : Fin C0.N) : (dats m H 0 c).after 0 t = iblk m c 0 t := by dsimp only [dats]
theorem after0_1 (c : Dev nD) (t : Fin C0.N) : (dats m H 0 c).after 1 t = iblk m c 1 t := by dsimp only [dats]
theorem after0_2 (c : Dev nD) (t : Fin C0.N) : (dats m H 0 c).after 2 t = FW m c t (fun _ => (Scalar.ofBits .fp8e4m3 0#8 : F .fp8e4m3)) := by dsimp only [dats]
theorem after0_3 (c : Dev nD) (t : Fin C0.N) : (dats m H 0 c).after 3 t = FS m c t (fun _ => (Scalar.ofBits .f32 0#32 : F .f32)) := by dsimp only [dats]
theorem after0_4 (c : Dev nD) (t : Fin C0.N) : (dats m H 0 c).after 4 t = iblk m c 4 t := by dsimp only [dats]
theorem after0_5 (c : Dev nD) (t : Fin C0.N) : (dats m H 0 c).after 5 t = COD m c := by dsimp only [dats]
theorem after0_6 (c : Dev nD) (t : Fin C0.N) : (dats m H 0 c).after 6 t = SCL m c := by dsimp only [dats]
theorem after0_7 (c : Dev nD) (t : Fin C0.N) : (dats m H 0 c).after 7 t = H.L c := by dsimp only [dats]

theorem before0_0 (c : Dev nD) (t : Fin C0.N) (d) : (dats m H 0 c).before 0 t d = iblk m c 0 t :=
  ((dats m H 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin C0.N) (d) : (dats m H 0 c).before 1 t d = iblk m c 1 t :=
  ((dats m H 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_4 (c : Dev nD) (t : Fin C0.N) (d) : (dats m H 0 c).before 4 t d = iblk m c 4 t :=
  ((dats m H 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_2 (c : Dev nD) (t : Fin C0.N) (d) : (dats m H 0 c).before 2 t d = FW m c t d := by
  unfold Dat.before
  rw [if_pos (fetch0_2 t)]
  rfl
theorem before0_3 (c : Dev nD) (t : Fin C0.N) (d) : (dats m H 0 c).before 3 t d = FS m c t d := by
  unfold Dat.before
  rw [if_pos (fetch0_3 t)]
  rfl

/-- Past the first point window 5's buffer holds what the point before left. -/
theorem before0_5 (c : Dev nD) (t : Fin C0.N) (ht : ¬ t.val = 0) (d) : (dats m H 0 c).before 5 t d = COD m c := by
  have hN : t.val < 26 := lt_of_lt_of_eq t.isLt (show C0.N = 26 from N_0)
  rw [(dats m H 0 c).before_out_traj 5 rfl (fun _ _ => rfl) (fun t ht hidle hfr => by rw [after0_5, after0_5]) t.val t rfl d, fresh0_5,
    if_neg (by simpa using (show ¬ t.val % 26 = 0 by omega)), after0_5]

/-- Past the first point window 6's buffer holds what the point before left. -/
theorem before0_6 (c : Dev nD) (t : Fin C0.N) (ht : ¬ t.val = 0) (d) : (dats m H 0 c).before 6 t d = SCL m c := by
  have hN : t.val < 26 := lt_of_lt_of_eq t.isLt (show C0.N = 26 from N_0)
  rw [(dats m H 0 c).before_out_traj 6 rfl (fun _ _ => rfl) (fun t ht hidle hfr => by rw [after0_6, after0_6]) t.val t rfl d, fresh0_6,
    if_neg (by simpa using (show ¬ t.val % 26 = 0 by omega)), after0_6]

theorem before0_7 (c : Dev nD) (t : Fin C0.N) (d) : (dats m H 0 c).before 7 t d = d := by
  rw [(dats m H 0 c).before_out_traj 7 rfl (fun _ _ => rfl) (fun t ht hidle hfr => by rw [after0_7, after0_7]) t.val t rfl d, fresh0_7, if_pos rfl]

theorem leaves0_0 (c : Dev nD) (t : Fin C0.N) : owns (c : Thread nD τ) (ms0_0 t) fullShare (iblk m c 0 t) ⊢ (dats m H 0 c).leaves 0 t := by
  rw [show (dats m H 0 c).leaves 0 t = owns (c : Thread nD τ) (ms0_0 t) fullShare ((dats m H 0 c).after 0 t) from by
    unfold Dat.leaves; rw [show C0.idle 0 (C0.grid.coords t) = false from rfl]; try rfl, after0_0]
theorem leaves0_1 (c : Dev nD) (t : Fin C0.N) : owns (c : Thread nD τ) (ms0_1 t) fullShare (iblk m c 1 t) ⊢ (dats m H 0 c).leaves 1 t := by
  rw [show (dats m H 0 c).leaves 1 t = owns (c : Thread nD τ) (ms0_1 t) fullShare ((dats m H 0 c).after 1 t) from by
    unfold Dat.leaves; rw [show C0.idle 1 (C0.grid.coords t) = false from rfl]; try rfl, after0_1]
theorem leaves0_4 (c : Dev nD) (t : Fin C0.N) : owns (c : Thread nD τ) (ms0_4 t) fullShare (iblk m c 4 t) ⊢ (dats m H 0 c).leaves 4 t := by
  rw [show (dats m H 0 c).leaves 4 t = owns (c : Thread nD τ) (ms0_4 t) fullShare ((dats m H 0 c).after 4 t) from by
    unfold Dat.leaves; rw [show C0.idle 4 (C0.grid.coords t) = false from rfl]; try rfl, after0_4]
theorem leaves0_2 (c : Dev nD) (t : Fin C0.N) (d) : owns (c : Thread nD τ) (ms0_2 t) fullShare (FW m c t d) ⊢ (dats m H 0 c).leaves 2 t := by
  rw [show (dats m H 0 c).leaves 2 t = iprop(∃ d, owns (c : Thread nD τ) (ms0_2 t) fullShare ((C0.win 2).fill (C0.grid.coords t) d ((C0.win 2).cut (C0.grid.coords t) ((dats m H 0 c).after 2 t)))) from by
    unfold Dat.leaves; rw [show C0.idle 2 (C0.grid.coords t) = false from rfl]; try rfl]
  iintro H
  iexists d
  rw [after0_2]
  unfold FW
  rw [Window.cut_fill]
  iexact H
theorem leaves0_3 (c : Dev nD) (t : Fin C0.N) (d) : owns (c : Thread nD τ) (ms0_3 t) fullShare (FS m c t d) ⊢ (dats m H 0 c).leaves 3 t := by
  rw [show (dats m H 0 c).leaves 3 t = iprop(∃ d, owns (c : Thread nD τ) (ms0_3 t) fullShare ((C0.win 3).fill (C0.grid.coords t) d ((C0.win 3).cut (C0.grid.coords t) ((dats m H 0 c).after 3 t)))) from by
    unfold Dat.leaves; rw [show C0.idle 3 (C0.grid.coords t) = false from rfl]; try rfl]
  iintro H
  iexists d
  rw [after0_3]
  unfold FS
  rw [Window.cut_fill]
  iexact H
theorem leaves0_5 (c : Dev nD) (t : Fin C0.N) : owns (c : Thread nD τ) (ms0_5 t) fullShare (COD m c) ⊢ (dats m H 0 c).leaves 5 t := by
  cases hi : C0.idle 5 (C0.grid.coords t)
  · rw [show (dats m H 0 c).leaves 5 t = owns (c : Thread nD τ) (ms0_5 t) fullShare ((dats m H 0 c).after 5 t) from by
      unfold Dat.leaves; rw [hi]; try rfl, after0_5]
  · cases hf : (C0.win 5).flush t
    · rw [(dats m H 0 c).leaves_idle 5 t hi hf]
      by_cases ht : t.val = 0
      · exact absurd hi (by rw [live0_5 t ht]; exact Bool.false_ne_true)
      · iintro H
        iexists (Classical.arbitrary _)
        rw [before0_5 m H c t ht]
        iexact H
    · rw [show (dats m H 0 c).leaves 5 t = owns (c : Thread nD τ) (ms0_5 t) fullShare ((dats m H 0 c).after 5 t) from by
        unfold Dat.leaves; rw [hi, hf]; try rfl, after0_5]
theorem leaves0_6 (c : Dev nD) (t : Fin C0.N) : owns (c : Thread nD τ) (ms0_6 t) fullShare (SCL m c) ⊢ (dats m H 0 c).leaves 6 t := by
  cases hi : C0.idle 6 (C0.grid.coords t)
  · rw [show (dats m H 0 c).leaves 6 t = owns (c : Thread nD τ) (ms0_6 t) fullShare ((dats m H 0 c).after 6 t) from by
      unfold Dat.leaves; rw [hi]; try rfl, after0_6]
  · cases hf : (C0.win 6).flush t
    · rw [(dats m H 0 c).leaves_idle 6 t hi hf]
      by_cases ht : t.val = 0
      · exact absurd hi (by rw [live0_6 t ht]; exact Bool.false_ne_true)
      · iintro H
        iexists (Classical.arbitrary _)
        rw [before0_6 m H c t ht]
        iexact H
    · rw [show (dats m H 0 c).leaves 6 t = owns (c : Thread nD τ) (ms0_6 t) fullShare ((dats m H 0 c).after 6 t) from by
        unfold Dat.leaves; rw [hi, hf]; try rfl, after0_6]

/-- What window 7's buffer holds before and after the body. -/
def pre7 (c : Dev nD) (t : Fin C0.N) : sProp 𝕄 := match f with
  | true => iprop(∃ X, owns (c : Thread nD τ) (ms0_7 t) fullShare X)
  | false => iprop(∃ d, owns (c : Thread nD τ) (ms0_7 t) fullShare ((dats m H 0 c).before 7 t d))
def post7 (c : Dev nD) (t : Fin C0.N) : sProp 𝕄 := match f with
  | true => iprop(∃ X, owns (c : Thread nD τ) (ms0_7 t) fullShare X)
  | false => (dats m H 0 c).leaves 7 t

theorem pre7_elim (c : Dev nD) (t : Fin C0.N) : pre7 m H c t ⊢ iprop(∃ X, owns (c : Thread nD τ) (ms0_7 t) fullShare X) := by
  cases f
  · show iprop(∃ d, owns (c : Thread nD τ) (ms0_7 t) fullShare ((dats m H 0 c).before 7 t d)) ⊢ _
    iintro ⟨%d, H⟩; iexists _; iexact H
  · exact .rfl
theorem post7_idle (c : Dev nD) (t : Fin C0.N) (ht : ¬ t.val = 25) : iprop(∃ X, owns (c : Thread nD τ) (ms0_7 t) fullShare X) ⊢ post7 m H c t := by
  cases f
  · show _ ⊢ (dats m H 0 c).leaves 7 t
    rw [(dats m H 0 c).leaves_idle 7 t (idle0_7 t ht) (nofl0_7 t ht)]
    iintro ⟨%d, H⟩; iexists d; rw [before0_7]; iexact H
  · exact .rfl
theorem post7_last (c : Dev nD) (t : Fin C0.N) (ht : t.val = 25) (X) (h : f = false → X = H.L c) : owns (c : Thread nD τ) (ms0_7 t) fullShare X ⊢ post7 m H c t := by
  cases f
  · show _ ⊢ (dats m H 0 c).leaves 7 t
    rw [show (dats m H 0 c).leaves 7 t = owns (c : Thread nD τ) (ms0_7 t) fullShare ((dats m H 0 c).after 7 t) from by
      unfold Dat.leaves; rw [live0_7 t ht]; try rfl, after0_7, h rfl]
  · show _ ⊢ iprop(∃ X, owns (c : Thread nD τ) (ms0_7 t) fullShare X)
    iintro H; iexists X; iexact H

/-! ## The body at a generic point -/

/-- What the body is called with at a point, window by window. -/
def bodyPre (c : Dev nD) (t : Fin C0.N) : sProp 𝕄 :=
  iprop((dats m H 0 c).Φ t.castSucc ∗ (dats m H 0 c).owesAt () t.castSucc
    ∗ (∃ d, owns (c : Thread nD τ) (ms0_0 t) fullShare ((dats m H 0 c).before 0 t d))
    ∗ (∃ d, owns (c : Thread nD τ) (ms0_1 t) fullShare ((dats m H 0 c).before 1 t d))
    ∗ (∃ d, owns (c : Thread nD τ) (ms0_2 t) fullShare ((dats m H 0 c).before 2 t d))
    ∗ (∃ d, owns (c : Thread nD τ) (ms0_3 t) fullShare ((dats m H 0 c).before 3 t d))
    ∗ (∃ d, owns (c : Thread nD τ) (ms0_4 t) fullShare ((dats m H 0 c).before 4 t d))
    ∗ (∃ d, owns (c : Thread nD τ) (ms0_5 t) fullShare ((dats m H 0 c).before 5 t d))
    ∗ (∃ d, owns (c : Thread nD τ) (ms0_6 t) fullShare ((dats m H 0 c).before 6 t d))
    ∗ pre7 m H c t
    ∗ (∃ X, owns (c : Thread nD τ) (ms0_8 t) fullShare X)
    ∗ (∃ X, owns (c : Thread nD τ) (ms0_9 t) fullShare X))

/-- What it returns. -/
def bodyPost (c : Dev nD) (t : Fin C0.N) : sProp 𝕄 :=
  iprop((dats m H 0 c).Φ t.succ ∗ (dats m H 0 c).owesAt () t.succ
    ∗ (dats m H 0 c).leaves 0 t
    ∗ (dats m H 0 c).leaves 1 t
    ∗ (dats m H 0 c).leaves 2 t
    ∗ (dats m H 0 c).leaves 3 t
    ∗ (dats m H 0 c).leaves 4 t
    ∗ (dats m H 0 c).leaves 5 t
    ∗ (dats m H 0 c).leaves 6 t
    ∗ post7 m H c t
    ∗ (∃ X, owns (c : Thread nD τ) (ms0_8 t) fullShare X)
    ∗ (∃ X, owns (c : Thread nD τ) (ms0_9 t) fullShare X))

/-- The rows and the tokens the tables name are in range. -/
def Ok : Prop := ∀ (c : Dev nD) (i : grid0.Coords) a b, k0_chk1 i (tb1 m c a) (tb0 m c b)

set_option maxHeartbeats 8000000 in
/-- The body at any point: from what the proof data say the windows hold to what they say it leaves. -/
theorem sound_body (hok : Ok m) (c : Dev nD) (t : Fin C0.N) :
    bodyPre m H c t ⊢ wp frame (wpE (defs₀ (F := F)) Variants.none c none) Set.univ (bodyAt0 t) (fun _ => bodyPost m H c t) := by
  unfold bodyPre bodyPost bodyAt0
  simp only [before0_0, before0_1, before0_2, before0_3, before0_4]
  rw [show (dats m H 0 c).Φ t.succ = Phi m H c (t.val + 1) from rfl, show (dats m H 0 c).Φ t.castSucc = Phi m H c t.val from rfl,
    show (dats m H 0 c).owesAt () t.succ = (dats m H 0 c).owesAt () t.castSucc from rfl]
  unfold Phi
  have hN : t.val < 26 := lt_of_lt_of_eq t.isLt (show C0.N = 26 from N_0)
  by_cases h0 : t.val = 0
  · skip
    iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
    iapply (runA c (grid0.coords t) (tb0 m c) (tb1 m c) _ _ _ _ _ _ _ _ _ _ _ _ _ _ _ _ _ _ _ _ ((cond1_iff t).mpr h0) (fun h => absurd (h0.symm.trans ((cond2_iff t).mp h)) (by decide)) (iblk m c 0 t) (iblk m c 1 t) (FW m c t d2) (FS m c t d3) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iapply (pre7_elim m H c t); iexact H7
    isplitl [H8]; · iexact H8
    isplitl [H9]; · iexact H9
    isplitl [HT0]; · iexact HT0
    isplitl [HT1]; · iexact HT1
    isplitl [HS0]; · iexact HS0
    isplitl [HS1]; · iexists _; iexact HS1
    isplitl [HS2]; · iexists _; iexact HS2
    iintro ⟨H0, H1, H2, H3, H4, H5, H6, H7, H8, H9, HT0, HT1, HS0, HS1, HS2⟩
    rw [COD_eq m c t, SCL_eq m c t]
    isplitl [HS0 HS1 HS2 HT0 HT1 Hp]
    · isplitl [HS0]; · iexact HS0
      isplitl [HS1 HS2]
      · iexists _; iexists _; isplitr
        swap
        · isplitl [HS1]; · iexact HS1
          iexact HS2
        · ipureintro; intro _; rw [h0]; exact H.first c t d2 d3 h0
      isplitl [HT0]; · iexact HT0
      isplitl [HT1]; · iexact HT1
      iexact Hp
    isplitl [Ho]; · iexact Ho
    isplitl [H0]; · iapply (leaves0_0 m H c t); iexact H0
    isplitl [H1]; · iapply (leaves0_1 m H c t); iexact H1
    isplitl [H2]; · iapply (leaves0_2 m H c t d2); iexact H2
    isplitl [H3]; · iapply (leaves0_3 m H c t d3); iexact H3
    isplitl [H4]; · iapply (leaves0_4 m H c t); iexact H4
    isplitl [H5]; · iapply (leaves0_5 m H c t); iexact H5
    isplitl [H6]; · iapply (leaves0_6 m H c t); iexact H6
    isplitl [H7]; · iapply (post7_idle m H c t (by omega)); iexact H7
    isplitl [H8]; · iexact H8
    iexact H9
  · simp only [before0_5 m H c t h0, before0_6 m H c t h0]
    by_cases h7 : t.val = 25
    · skip
      iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
      iapply (runC c (grid0.coords t) (tb0 m c) (tb1 m c) _ _ _ _ _ _ _ _ _ _ _ _ _ _ _ _ _ _ _ _ (fun h => h0 ((cond1_iff t).mp h)) ((cond2_iff t).mpr h7) (hok c _) (iblk m c 0 t) (iblk m c 1 t) (FW m c t d2) (FS m c t d3) (iblk m c 4 t) (COD m c) (SCL m c) mx sm _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (pre7_elim m H c t); iexact H7
      isplitl [H8]; · iexact H8
      isplitl [H9]; · iexact H9
      isplitl [HT0]; · iexact HT0
      isplitl [HT1]; · iexact HT1
      isplitl [HS0]; · iexact HS0
      isplitl [HS1]; · iexact HS1
      isplitl [HS2]; · iexact HS2
      iintro ⟨H0, H1, H2, H3, H4, H5, H6, H7, H8, H9, HT0, HT1, HS0, HS1, HS2⟩
      isplitl [HS0 HS1 HS2 HT0 HT1 Hp]
      · isplitl [HS0]; · iexact HS0
        isplitl [HS1 HS2]
        · iexists _; iexists _; isplitr
          swap
          · isplitl [HS1]; · iexact HS1
            iexact HS2
          · ipureintro; intro _; exact H.next c t d2 d3 mx sm h0 (hI h0)
        isplitl [HT0]; · iexact HT0
        isplitl [HT1]; · iexact HT1
        iexact Hp
      isplitl [Ho]; · iexact Ho
      isplitl [H0]; · iapply (leaves0_0 m H c t); iexact H0
      isplitl [H1]; · iapply (leaves0_1 m H c t); iexact H1
      isplitl [H2]; · iapply (leaves0_2 m H c t d2); iexact H2
      isplitl [H3]; · iapply (leaves0_3 m H c t d3); iexact H3
      isplitl [H4]; · iapply (leaves0_4 m H c t); iexact H4
      isplitl [H5]; · iapply (leaves0_5 m H c t); iexact H5
      isplitl [H6]; · iapply (leaves0_6 m H c t); iexact H6
      isplitl [H7]; · iapply (post7_last m H c t h7 _ (fun hf => H.last hf c _ _ (by have := H.next c t d2 d3 mx sm h0 (hI h0); rw [h7] at this; exact this))); iexact H7
      isplitl [H8]; · iexact H8
      iexact H9
    · skip
      iintro ⟨⟨HS0, ⟨%mx, %sm, %hI, HS1, HS2⟩, HT0, HT1, Hp⟩, Ho, ⟨%d0, H0⟩, ⟨%d1, H1⟩, ⟨%d2, H2⟩, ⟨%d3, H3⟩, ⟨%d4, H4⟩, ⟨%d5, H5⟩, ⟨%d6, H6⟩, H7, H8, H9⟩
      iapply (runB c (grid0.coords t) (tb0 m c) (tb1 m c) _ _ _ _ _ _ _ _ _ _ _ _ _ _ _ _ _ _ _ _ (fun h => h0 ((cond1_iff t).mp h)) (fun h => h7 ((cond2_iff t).mp h)) (iblk m c 0 t) (iblk m c 1 t) (FW m c t d2) (FS m c t d3) (iblk m c 4 t) (COD m c) (SCL m c) mx sm _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (pre7_elim m H c t); iexact H7
      isplitl [H8]; · iexact H8
      isplitl [H9]; · iexact H9
      isplitl [HT0]; · iexact HT0
      isplitl [HT1]; · iexact HT1
      isplitl [HS0]; · iexact HS0
      isplitl [HS1]; · iexact HS1
      isplitl [HS2]; · iexact HS2
      iintro ⟨H0, H1, H2, H3, H4, H5, H6, H7, H8, H9, HT0, HT1, HS0, HS1, HS2⟩
      isplitl [HS0 HS1 HS2 HT0 HT1 Hp]
      · isplitl [HS0]; · iexact HS0
        isplitl [HS1 HS2]
        · iexists _; iexists _; isplitr
          swap
          · isplitl [HS1]; · iexact HS1
            iexact HS2
          · ipureintro; intro _; exact H.next c t d2 d3 mx sm h0 (hI h0)
        isplitl [HT0]; · iexact HT0
        isplitl [HT1]; · iexact HT1
        iexact Hp
      isplitl [Ho]; · iexact Ho
      isplitl [H0]; · iapply (leaves0_0 m H c t); iexact H0
      isplitl [H1]; · iapply (leaves0_1 m H c t); iexact H1
      isplitl [H2]; · iapply (leaves0_2 m H c t d2); iexact H2
      isplitl [H3]; · iapply (leaves0_3 m H c t d3); iexact H3
      isplitl [H4]; · iapply (leaves0_4 m H c t); iexact H4
      isplitl [H5]; · iapply (leaves0_5 m H c t); iexact H5
      isplitl [H6]; · iapply (leaves0_6 m H c t); iexact H6
      isplitl [H7]; · iapply (post7_idle m H c t (by omega)); iexact H7
      isplitl [H8]; · iexact H8
      iexact H9

theorem body_obligation (hok : Ok m) (c : Dev nD) : Pipeline.BodyObligationLoose (dats (F := F) m H 0 c) (defs₀ (F := F)) Variants.none () Set.univ (fgt (f := f)) := fun t => by
  rw [bigSep_W0, bigSep_W0, defs₀_row]
  cases f
  · exact triple_restated (sound_body m H hok c t) rfl .rfl fun _ => .rfl
  · exact triple_restated (sound_body m H hok c t) rfl .rfl fun _ => .rfl

/-- The tables the region is launched at. -/
def adm : (p : Fin 1) → (pcfgs (F := F) p).Adm := fun _ => ⟨fun k => m (((0 : Dev nD) : Thread nD τ).loc (pre0.ref k)), trivial⟩

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA spec0 c ∗ Pipeline.ΦT pre0 (adm m 0).1 c) ⊢ Phi m H c 0 := by
  obtain rfl : c = 0 := Subsingleton.elim _ _
  unfold Pipeline.ΦA Pipeline.ΦT
  rw [prefHeld_eq, scopedRest0_eq]
  unfold Phi
  iintro ⟨⟨⟨⟨%a0, HS0⟩, ⟨%a1, HS1⟩, ⟨%a2, HS2⟩⟩, Hp⟩, HT0, HT1⟩
  isplitl [HS0]; · iexists a0; iexact HS0
  isplitl [HS1 HS2]
  · iexists a1; iexists a2; isplitr
    · ipureintro; intro h; exact absurd rfl h
    isplitl [HS1]
    · rw [owns_whole]; iexact HS1
    rw [owns_whole]; iexact HS2
  isplitl [HT0]; · iexact HT0
  isplitl [HT1]; · iexact HT1
  iexact Hp

theorem phi_out (c : Dev nD) (n : ℕ) : Phi m H c n ⊢ Pipeline.ΦA spec0 c := by
  unfold Pipeline.ΦA
  rw [scopedRest0_eq]
  unfold Phi
  iintro ⟨⟨%a0, HS0⟩, ⟨%a1, %a2, -, HS1, HS2⟩, -, -, Hp⟩
  isplitr [Hp]
  · isplitl [HS0]; · iexists a0; iexact HS0
    isplitl [HS1]
    · iexists a1; rw [owns_whole]; exact .rfl
    iexists a2; rw [owns_whole]; exact .rfl
  iexact Hp

set_option backward.isDefEq.respectTransparency.types false in
/-- The launch: every array of a window not forgotten ends as the proof data say, every other buffer as launched, and every
    semaphore counter at zero. -/
theorem run_main_quiescent (hok : Ok m) : θ_run defs (onTc (τ := τ) (main (F := F))) (s₀ m ρ)
    (fun r => Pipeline.RDat.FramePost C0 (fun c => (dats m H 0 c).toRForget (fgt (f := f))) (fun c b => m ((c : Thread nD τ).loc b)) r ∧ r.2.sem = fun _ => 0) :=
  Pipeline.θ_run_frameP_track_forget (Q' := _) pcfgs (adm m) (dats m H) (0 : Fin 1) launch0 defs₀ Variants.none (fgt (f := f)) m ρ main
    (hbody := fun c => body_obligation m H hok c) (hshare := fun c => (dats m H 0 c).share_full fun _ => rfl)
    (howed := fun _ _ => rfl) (V := fun c b => m ((c : Thread nD τ).loc b))
    (hmain := fun c Q => by
      delta main; simp only [Prog.bind_lift, Prog.pure_eq_ret]
      iintro ⟨Hk, Hb⟩; iapply Hk; iexact Hb)
    (hA := A_eq m H) (hpf := fun c k => by obtain rfl : c = 0 := Subsingleton.elim _ _; rfl)
    (hin := phi_in m H) (hout := fun c => phi_out m H c _)

/-- Tables in range are tables the body takes. -/
theorem ok_of (h0 : ∀ (c : Dev nD) j, (show BitVec 32 from tb0 m c j).toNat < 224) (h1 : ∀ (c : Dev nD) j, (show BitVec 32 from tb1 m c j).toNat < 32064) : Ok m := by
  intro c i a b
  have hb := h0 c b
  have ha := h1 c a
  refine ⟨fun _ x => ?_, fun _ x => ?_⟩
  · match x with
    | ⟨0, _⟩ =>
      show ((show BitVec 32 from tb1 m c a) >>> (7#32).toNat).toNat + 1 ≤ 260
      rw [BitVec.toNat_ushiftRight, Nat.shiftRight_eq_div_pow]
      show (show BitVec 32 from tb1 m c a).toNat / 2 ^ 7 + 1 ≤ 260
      omega
    | ⟨1, _⟩ => exact hb
    | ⟨2, _⟩ => exact Nat.le_refl 128
  · match x with
    | ⟨0, _⟩ => exact hb
    | ⟨1, _⟩ => exact Nat.le_refl 128

/-- The arguments end as launched, and every semaphore counter at zero. -/
theorem frame_of {f : Bool} (H : Inv m f) (hok : Ok m) : θ_run defs (onTc (τ := τ) (main (F := F))) (s₀ m ρ)
    (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) ∧ r.2.sem = fun _ => 0) :=
  (θ_run defs _ _).mono (fun r h => ⟨fun c => ⟨((h.1 c).2 main_arg0 (Pipeline.mem_restRefs_of main_arg0 (by decide) (by decide))), ((h.1 c).2 main_arg1 (Pipeline.mem_restRefs_of main_arg1 (by decide) (by decide))), ((((dats m H 0 c).toRForget_arrAt_iff (fgt := fgt (f := f)) rfl _ _).mp ((h.1 c).1 0)).trans (((dats m H 0 c).arrAt_in 0 rfl _).trans (A_eq m H c 0))), ((((dats m H 0 c).toRForget_arrAt_iff (fgt := fgt (f := f)) rfl _ _).mp ((h.1 c).1 1)).trans (((dats m H 0 c).arrAt_in 1 rfl _).trans (A_eq m H c 1))), ((((dats m H 0 c).toRForget_arrAt_iff (fgt := fgt (f := f)) rfl _ _).mp ((h.1 c).1 2)).trans (((dats m H 0 c).arrAt_in 2 rfl _).trans (A_eq m H c 2))), ((((dats m H 0 c).toRForget_arrAt_iff (fgt := fgt (f := f)) rfl _ _).mp ((h.1 c).1 3)).trans (((dats m H 0 c).arrAt_in 3 rfl _).trans (A_eq m H c 3))), ((((dats m H 0 c).toRForget_arrAt_iff (fgt := fgt (f := f)) rfl _ _).mp ((h.1 c).1 4)).trans (((dats m H 0 c).arrAt_in 4 rfl _).trans (A_eq m H c 4)))⟩, h.2⟩) (run_main_quiescent m ρ H hok)

end Cert.LmIdeal.Run

end
-- ==== Proof.Lse.lean ====
/- The maximum of a row and the sum of the exponentials of its differences from it, taken block by block, over the extended reals. -/
module

public import proofs.«01_k».proof.Proof.Rows

@[expose] public section

noncomputable section

namespace Cert.Lse

open Idealize.ShloMosaic Idealize.ShloMosaic.ValueIdx Cert.Rows
open scoped BigOperators

/-! ## Exponentials of differences -/

theorem exp_nonneg (x : EReal) : 0 ≤ Ideal.exp x := by
  induction x with
  | bot => exact le_refl _
  | top => exact le_top
  | coe r => rw [Ideal.exp_coe]; exact_mod_cast (Real.exp_pos r).le

theorem bot_sub (x : EReal) : (⊥ : EReal) - x = ⊥ := by rw [sub_eq_add_neg]; exact EReal.bot_add _
theorem sub_top (x : EReal) : x - ⊤ = ⊥ := by rw [sub_eq_add_neg, EReal.neg_top]; exact EReal.add_bot _

/-- A difference may be taken through anything between, the exponentials multiplying. -/
theorem exp_mul (x a b : EReal) (hx : x ≤ a) (hab : a ≤ b) : Ideal.exp (x - a) * Ideal.exp (a - b) = Ideal.exp (x - b) := by
  induction x with
  | bot => simp only [bot_sub, Ideal.exp_bot, zero_mul]
  | top =>
    obtain rfl := top_le_iff.mp hx
    obtain rfl := top_le_iff.mp hab
    simp only [sub_top, Ideal.exp_bot, zero_mul]
  | coe x =>
    induction b with
    | bot =>
      obtain rfl := le_bot_iff.mp hab
      exact absurd (le_bot_iff.mp hx) (EReal.coe_ne_bot x)
    | top => simp only [sub_top, Ideal.exp_bot, mul_zero]
    | coe b =>
      induction a with
      | bot => exact absurd (le_bot_iff.mp hx) (EReal.coe_ne_bot x)
      | top => exact absurd (top_le_iff.mp hab) (EReal.coe_ne_top b)
      | coe a =>
        rw [← EReal.coe_sub, ← EReal.coe_sub, ← EReal.coe_sub, Ideal.exp_coe, Ideal.exp_coe, Ideal.exp_coe, ← EReal.coe_mul, ← Real.exp_add]
        congr 2
        ring

/-! ## A row's maximum and sum, up to a column -/

/-- The greatest of the first `n`. -/
def M (X : ℕ → EReal) (n : ℕ) : EReal := (Finset.range n).sup X

/-- The sum of the exponentials of their differences from it. -/
def S (X : ℕ → EReal) (n : ℕ) : EReal := ∑ k ∈ Finset.range n, Ideal.exp (X k - M X n)

theorem M_zero (X : ℕ → EReal) : M X 0 = ⊥ := rfl
theorem S_zero (X : ℕ → EReal) : S X 0 = 0 := rfl

theorem rmax_sup {K : ℕ} (f : Fin K → EReal) : rmax f = Finset.univ.sup f := rfl

/-- The maximum taken on by a block. -/
theorem M_add (X : ℕ → EReal) (n b : ℕ) : M X (n + b) = max (M X n) (rmax fun k : Fin b => X (n + k.val)) := by
  unfold M
  rw [rmax_sup]
  refine le_antisymm (Finset.sup_le fun k hk => ?_) (max_le (Finset.sup_mono (Finset.range_mono (Nat.le_add_right n b))) (Finset.sup_le fun k _ => ?_))
  · rcases Nat.lt_or_ge k n with h | h
    · exact le_max_of_le_left (Finset.le_sup (f := X) (Finset.mem_range.mpr h))
    · have hb : k - n < b := by have := Finset.mem_range.mp hk; omega
      refine le_max_of_le_right ?_
      have := Finset.le_sup (f := fun j : Fin b => X (n + j.val)) (Finset.mem_univ (⟨k - n, hb⟩ : Fin b))
      simpa only [Nat.add_sub_cancel' h] using this
  · exact Finset.le_sup (f := X) (Finset.mem_range.mpr (Nat.add_lt_add_left k.isLt n))

theorem M_le (X : ℕ → EReal) (n b : ℕ) : M X n ≤ M X (n + b) := by rw [M_add]; exact le_max_left _ _

/-- A sum of exponentials times a nonnegative factor. -/
theorem sum_mul {ι : Type} (s : Finset ι) (f : ι → EReal) (c : EReal) (hf : ∀ i ∈ s, 0 ≤ f i) (hc : 0 ≤ c) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a (Finset.mem_insert_self a s))
      (Finset.sum_nonneg fun i hi => hf i (Finset.mem_insert_of_mem hi)), ih fun i hi => hf i (Finset.mem_insert_of_mem hi)]

/-- The sum taken on by a block: the sum so far rescaled to the new maximum, and the block's own. -/
theorem S_add (X : ℕ → EReal) (n b : ℕ) : S X (n + b) = S X n * Ideal.exp (M X n - M X (n + b)) + ∑ k : Fin b, Ideal.exp (X (n + k.val) - M X (n + b)) := by
  unfold S
  rw [Finset.sum_range_add, sum_mul _ _ _ (fun _ _ => exp_nonneg _) (exp_nonneg _), Finset.sum_range (fun k => Ideal.exp (X (n + k) - M X (n + b)))]
  refine congrArg (· + _) (Finset.sum_congr rfl fun k hk => ?_)
  exact (exp_mul _ _ _ (Finset.le_sup (f := X) hk) (M_le X n b)).symm

/-! ## A row ending in minus infinity -/

/-- A row of `N`, continued by minus infinity. -/
def ext {N : ℕ} (x : Fin N → EReal) (k : ℕ) : EReal := if h : k < N then x ⟨k, h⟩ else ⊥

theorem ext_lt {N : ℕ} (x : Fin N → EReal) (k : ℕ) (h : k < N) : ext x k = x ⟨k, h⟩ := dif_pos h
theorem ext_ge {N : ℕ} (x : Fin N → EReal) (k : ℕ) (h : ¬ k < N) : ext x k = ⊥ := dif_neg h

theorem M_ext {N : ℕ} (x : Fin N → EReal) (b : ℕ) : M (ext x) (N + b) = rmax x := by
  rw [M_add, show M (ext x) N = rmax x from by
    have h := M_add (ext x) 0 N
    rw [Nat.zero_add, M_zero, bot_sup_eq] at h
    rw [h]
    refine congrArg rmax (funext fun k => ?_)
    rw [Nat.zero_add, ext_lt _ _ k.isLt]]
  refine max_eq_left ?_
  rw [rmax_sup (fun k : Fin b => _)]
  exact Finset.sup_le fun k _ => by rw [ext_ge _ _ (by omega)]; exact bot_le

theorem S_ext {N : ℕ} (x : Fin N → EReal) (b : ℕ) : S (ext x) (N + b) = ∑ k : Fin N, Ideal.exp (x k - rmax x) := by
  unfold S
  rw [M_ext, Finset.sum_range_add, Finset.sum_range,
    Finset.sum_eq_zero (fun k _ => by rw [ext_ge _ _ (by omega), bot_sub, Ideal.exp_bot] : ∀ k ∈ Finset.range b, Ideal.exp (ext x (N + k) - rmax x) = 0), add_zero]
  exact Finset.sum_congr rfl fun k _ => by rw [ext_lt _ _ k.isLt]

/-- The logarithm of the sum of the exponentials, by way of the maximum. -/
def lse {N : ℕ} (x : Fin N → EReal) : EReal := Ideal.log (∑ k : Fin N, Ideal.exp (x k - rmax x)) + rmax x

end Cert.Lse

end

end
-- ==== Proof.LmPay.lean ====
/- What the body of the program `LmIdeal` computes, entry by entry. -/
module

public import proofs.«01_k».proof.Proof.LmRun
public import proofs.«01_k».proof.Proof.Rows
public import proofs.«01_k».proof.Proof.Lse
public import Idealize.ShloMosaic.Lib.Pipeline.ValueKit
public import Idealize.ShloMosaic.Lib.WordCmp

@[expose] public section

set_option maxRecDepth 16384

noncomputable section

namespace Cert.LmIdeal.Value

open Cert.LmIdeal Cert.LmIdeal.Gen Cert.LmIdeal.Run Cert.Rows Cert.Exponent
open Idealize.ShloMosaic hiding ix1 ix2 eq_ix2
open Idealize.ShloMosaic.TcCoe Idealize.ShloMosaic.ValueIdx Idealize.SL.Sem
open Idealize.ShloMosaic.Rounds
open scoped BigOperators

theorem ldX (x : Vec Ideal S224x5120 .f32) : View.ld x rX = x := View.ld_unit_zero hz2 _ x
theorem ldA (x : Vec Ideal S224x5120 .fp8e4m3) : View.ld x rX = x := View.ld_unit_zero hz2 _ x
theorem ldL (x : Vec Ideal S1x5120 .f32) : View.ld x rL = x := View.ld_unit_zero hz2 _ x
theorem ldW (x : Vec Ideal S1280x5120 .fp8e4m3) : View.ld x rW = x := View.ld_unit_zero hz2 _ x
theorem ldS (x : Vec Ideal S1x1280 .f32) : View.ld x rS = x := View.ld_unit_zero hz2 _ x
theorem ldO (x : Vec Ideal S224x128 .f32) : View.ld x rO = x := View.ld_unit_zero hz2 _ x
theorem ldC (sc : Vec Ideal S224x128 .f32) (r : Fin 224) : View.ld sc rC (ix2 r 0) = mat sc r 0 :=
  congrArg sc (by funext a; match a with | ⟨0, _⟩ => exact Fin.ext (by simp [ix2, Rect.unit]) | ⟨1, _⟩ => rfl)

/-- The codes and the scales are of the normalised rows. -/
theorem pay5 (x : Vec Ideal S224x5120 .f32) (l : Vec Ideal S1x5120 .f32) (r : Fin 224) (k : Fin 5120) :
    k0_pay5 x l (ix2 r k) = nrm (mat x) (mat l 0) 5120 r k := by
  simp only [k0_pay5, mul_at, bcast_col, bcast_row, shapeCast_self, rsqrt_at, add_at, bcast_at, cast_col]
  rw [reduce_add (mulf x x) reduces_S224x5120_S224 (.inl rfl) rfl r]
  simp only [mul_at]
  rfl

theorem pay6 (x : Vec Ideal S224x5120 .f32) (l : Vec Ideal S1x5120 .f32) (r : Fin 224) :
    k0_pay6 x l (ix2 r 0) = top (nrm (mat x) (mat l 0) 5120) r := by
  simp only [k0_pay6, mul_at, bcast_at, cast_col]
  rw [reduce_max (absf (k0_pay5 x l)) reduces_S224x5120_S224 (.inl rfl) rfl r]
  simp only [abs_at, pay5]
  rfl

theorem pay7 (x : Vec Ideal S224x5120 .f32) (l : Vec Ideal S1x5120 .f32) (i : S224x1.Idx) :
    k0_pay7 x l i = step (k0_pay6 x l i) (step (k0_pay6 x l i) 0#32 128#32) 64#32 := by
  unfold k0_pay7
  refine (srch _ _ _ _).trans ?_
  exact congrArg (fun f => step _ f 64#32) (srch _ _ _ _)

theorem pay9 (v : FVec Ideal S224x1 .f32) (a : IVec S224x1 32) (i : S224x1.Idx) :
    k0_pay9 v a (shli (addi a (broadcast S224x1 32#32)) (broadcast S224x1 23#32)) i
      = step (v i) (step (v i) (step (v i) (step (v i) (step (v i) (a i) 32#32) 16#32) 8#32) 4#32) 2#32 := by
  unfold k0_pay9
  refine (srch _ _ _ _).trans (congrArg (fun f => step _ f 2#32) ?_)
  refine (srch _ _ _ _).trans (congrArg (fun f => step _ f 4#32) ?_)
  refine (srch _ _ _ _).trans (congrArg (fun f => step _ f 8#32) ?_)
  refine (srch _ _ _ _).trans (congrArg (fun f => step _ f 16#32) ?_)
  exact srch _ _ _ _

theorem pay11 (v : FVec Ideal S224x1 .f32) (a : IVec S224x1 32) (i : S224x1.Idx) :
    k0_pay11 v a (shli (addi a (broadcast S224x1 1#32)) (broadcast S224x1 23#32)) i = expo (step (v i) (a i) 1#32) := by
  unfold k0_pay11
  refine Eq.trans ?_ (congrArg expo (srch v a 1#32 i))
  rfl

theorem fld'_eq (x : Vec Ideal S224x5120 .f32) (l : Vec Ideal S1x5120 .f32) :
    fld' x l = shli (addi (fld x l) (broadcast S224x1 1#32)) (broadcast S224x1 23#32) := rfl

theorem fld_eq (x : Vec Ideal S224x5120 .f32) (l : Vec Ideal S1x5120 .f32) :
    fld x l = k0_pay9 (tp x l) (k0_pay7 x l) (shli (addi (k0_pay7 x l) (broadcast S224x1 32#32)) (broadcast S224x1 23#32)) := by
  unfold fld
  rw [ldX, ldL]
  rfl

theorem tp_eq (x : Vec Ideal S224x5120 .f32) (l : Vec Ideal S1x5120 .f32) : tp x l = k0_pay6 x l := by unfold tp; rw [ldX, ldL]

/-- The exponents. -/
theorem ex_apply (x : Vec Ideal S224x5120 .f32) (l : Vec Ideal S1x5120 .f32) (r : Fin 224) :
    k0_pay11 (tp x l) (fld x l) (fld' x l) (ix2 r 0) = expo (field (top (nrm (mat x) (mat l 0) 5120) r)) := by
  rw [fld'_eq, fld_eq, tp_eq]
  refine (pay11 _ _ _).trans ?_
  rw [← pay6]
  refine congrArg (fun f => expo (step _ f 1#32)) ?_
  refine (pay9 _ _ _).trans ?_
  rw [pay7]

theorem cod_apply (x : Vec Ideal S224x5120 .f32) (l : Vec Ideal S1x5120 .f32) (r : Fin 224) (k : Fin 5120) :
    cod x l (ix2 r k) = codes (nrm (mat x) (mat l 0) 5120) r k := by
  have h := kinv_exp2 (top (nrm (mat x) (mat l 0) 5120) r)
  unfold cod nr
  rw [ldX, ldL]
  simp only [k0_pay12, trunc_at, min_at, max_at, mul_at, bcast_col, bcast_at, pay5]
  unfold codes
  rw [← h]
  unfold kinv
  rw [← ex_apply]
  rfl

theorem scl_apply (x : Vec Ideal S224x5120 .f32) (l : Vec Ideal S1x5120 .f32) (r : Fin 224) (k : Fin 128) :
    scl x l (ix2 r k) = scale (nrm (mat x) (mat l 0) 5120) r := by
  have h := kscale_exp2 (top (nrm (mat x) (mat l 0) 5120) r)
  unfold scl
  simp only [k0_pay13, bcast_col, shapeCast_self]
  unfold scale
  rw [← h]
  unfold kscale
  rw [← ex_apply]
  rfl

/-! ## A block of logits, and the running maximum and sum -/

theorem exp_at {φ : FTy} {s : Shape} (a : FVec Ideal s φ) (i : s.Idx) : exp a i = Ideal.exp (a i) := (rfl)
theorem log_at {φ : FTy} {s : Shape} (a : FVec Ideal s φ) (i : s.Idx) : log a i = Ideal.log (a i) := (rfl)
theorem select_at {α : Type} {s : Shape} (c : IVec s 1) (a b : s.Idx → α) (i : s.Idx) : select c a b i = if c i = 1#1 then a i else b i := by
  simp [select, Scalar.select]
theorem cmpi_at {s : Shape} (p : CmpIPredicate) (a b : IVec s 32) (i : s.Idx) : cmpi p a b i = IntOp.cmpi p (a i) (b i) := (rfl)
theorem addi_at {s : Shape} (a b : IVec s 32) (i : s.Idx) : addi a b i = a i + b i := (rfl)

/-- A product with a transposed right factor, at an entry. -/
theorem mmT {M K N : ℕ} {φ₁ φ₂ : FTy} (d : DotDims ⟨2, ![M, K]⟩ ⟨2, ![N, K]⟩ ⟨2, ![M, N]⟩) (hd : d = DotDims.transposedRhs M K N) (prec : Option ContractPrecision)
    (a : FVec Ideal ⟨2, ![M, K]⟩ φ₁) (b : FVec Ideal ⟨2, ![N, K]⟩ φ₂) (r : Fin M) (n : Fin N) :
    matmul d prec a b (constant (F := Ideal) ⟨2, ![M, N]⟩ .f32 0x00000000#32) (ix2 r n) = ∑ k, (a (ix2 r k) * b (ix2 n k) : EReal) := by
  subst hd
  refine (Ideal.matmul_transposedRhs_apply prec a b _ r n).trans ?_
  rw [show (constant (F := Ideal) ⟨2, ![M, N]⟩ .f32 0x00000000#32 (ix2 r n) : EReal) = 0 from lit_zero, zero_add]

theorem mask_bot : (Named.named κ "mask" 0xFF61B1E6#32 : Ideal .f32) = (⊥ : EReal) := IdealRules.named_const.ideal_named_scalar _ _ _ _ rfl

/-- Whether a column of a block lies in the array. -/
theorem inside (t n : ℕ) (ht : t < 26) (hn : n < 1280) :
    IntOp.cmpi .slt (Scalar.muli (BitVec.ofNat 32 t) 1280#32 + BitVec.ofNat 32 n) 32064#32 = 1#1 ↔ t * 1280 + n < 32064 := by
  have e : Scalar.muli (BitVec.ofNat 32 t) 1280#32 + BitVec.ofNat 32 n = BitVec.ofNat 32 (t * 1280 + n) := by
    apply BitVec.eq_of_toNat_eq
    simp only [Scalar.muli, IntOp.muli, BitVec.toNat_add, BitVec.toNat_mul, BitVec.toNat_ofNat]
    omega
  rw [e]
  exact WordCmp.cmpi_slt_ofNat_eq_one_iff (w := 32) (a := t * 1280 + n) (b := 32064) (by omega) (by decide)

/-- The logits of the rows: the codes times the transposed weights, at their scales, at the rows' inverse temperatures. -/
def lo {M K N : ℕ} (c : Fin M → Fin K → EReal) (s : Fin M → EReal) (w : Fin N → Fin K → EReal) (ws : Fin N → EReal) (it : Fin M → EReal) (r : Fin M) (n : Fin N) : EReal :=
  (∑ k, c r k * w n k) * s r * ws n * it r

/-- A logit of a block. -/
abbrev lg1 (ac : Vec Ideal S224x5120 .fp8e4m3) (sc : Vec Ideal S224x128 .f32) (x2 : Vec Ideal S1280x5120 .fp8e4m3) (x3 : Vec Ideal S1x1280 .f32) (x4 : Vec Ideal S224x128 .f32)
    (r : Fin 224) (n : Fin 1280) : EReal :=
  lo (mat ac) (fun r => mat sc r 0) (mat x2) (mat x3 0) (fun r => mat x4 r 0) r n

theorem lgt_apply (i : grid0.Coords) (ht : (i 0).val < 26) (ac : Vec Ideal S224x5120 .fp8e4m3) (sc : Vec Ideal S224x128 .f32) (x2 : Vec Ideal S1280x5120 .fp8e4m3) (x3 : Vec Ideal S1x1280 .f32)
    (x4 : Vec Ideal S224x128 .f32) (r : Fin 224) (n : Fin 1280) :
    lgt i ac sc x2 x3 x4 (ix2 r n) = if (i 0).val * 1280 + n.val < 32064 then lg1 ac sc x2 x3 x4 r n else ⊥ := by
  unfold lgt
  rw [ldA, ldW, ldS]
  simp only [k0_pay17, select_at, bcast_row, shapeCast_self, cmpi_at, addi_at, mul_at, bcast_col, bcast_at]
  rw [mmT dot_S224x5120_S1280x5120_S224x1280_1_1_0_0_n_n rfl, mask_bot, ldC, ldC]
  refine if_congr ?_ rfl rfl
  have e : iota .tc S1x1280 32 [1] iota_S1x1280_d1_w32 (ix2 0 n) = BitVec.ofNat 32 n.val :=
    (WordCmp.iota_at .tc [1] iota_S1x1280_d1_w32 (ix2 0 n)).trans (congrArg (BitVec.ofNat 32) (by simp [ix2]))
  rw [e]
  exact inside (i 0).val n.val ht n.isLt

theorem slice0 (v : FVec Ideal S224x128 .f32) (r : Fin 224) : extractStridedSlice S224x1 ![0, 0] v slices_S224x128_o0_0_S224x1 (ix2 r 0) = v (ix2 r 0) :=
  extractStridedSlice_apply ![0, 0] v slices_S224x128_o0_0_S224x1 (ix2 r 0) (ix2 r 0) fun a => by
    match a with
    | ⟨0, _⟩ => exact (Nat.zero_add _).symm
    | ⟨1, _⟩ => rfl

theorem pay30 (lg : FVec Ideal S224x1280 .f32) (mx : Vec Ideal S224x128 .f32) (r : Fin 224) (j : Fin 128) :
    k0_pay30 lg mx (ix2 r j) = max (mx (ix2 r j)) (rmax fun n => lg (ix2 r n)) := by
  simp only [k0_pay30, max_at, bcast_col, cast_col]
  rw [reduce_max lg reduces_S224x1280_S224 (.inl rfl) rfl r]

theorem mxN_apply (lg : FVec Ideal S224x1280 .f32) (mx : Vec Ideal S224x128 .f32) (r : Fin 224) (j : Fin 128) :
    mxN lg mx (ix2 r j) = max (mx (ix2 r j)) (rmax fun n => lg (ix2 r n)) := by
  unfold mxN
  rw [ldO]
  simp only [k0_pay31, shapeCast_self, pay30]

theorem smN_apply (lg : FVec Ideal S224x1280 .f32) (mx sm : Vec Ideal S224x128 .f32) (r : Fin 224) (j : Fin 128) :
    smN lg mx sm (ix2 r j) = sm (ix2 r j) * Ideal.exp (mx (ix2 r j) - max (mx (ix2 r j)) (rmax fun n => lg (ix2 r n)))
      + ∑ n, Ideal.exp (lg (ix2 r n) - max (mx (ix2 r 0)) (rmax fun n => lg (ix2 r n))) := by
  unfold smN
  rw [ldO, ldO]
  simp only [k0_pay1, shapeCast_self, add_at, mul_at, exp_at, sub_at, bcast_col, cast_col, pay30]
  rw [reduce_add (exp (subf lg (broadcastTo S224x1280 (extractStridedSlice S224x1 ![0, 0] (k0_pay30 lg mx) slices_S224x128_o0_0_S224x1) broadcasts_S224x1_S224x1280))) reduces_S224x1280_S224 (.inl rfl) rfl r]
  simp only [exp_at, sub_at, bcast_col, slice0, pay30]

theorem mx0_apply (j : S224x128.Idx) : (mx0 (F := Ideal)) j = (⊥ : EReal) := by
  unfold mx0
  simp only [k0_pay15, k0_pay14, shapeCast_self, bcast_at]
  exact mask_bot
theorem sm0_apply (j : S224x128.Idx) : (sm0 (F := Ideal)) j = (0 : EReal) := by
  unfold sm0
  simp only [k0_pay16, shapeCast_self, bcast_at]
  exact lit_zero

/-! ## What the results are -/

/-- The normalised rows. -/
def Y (X : Vec Ideal S224x5120 .f32) (L : Vec Ideal S1x5120 .f32) : Fin 224 → Fin 5120 → EReal := nrm (mat X) (mat L 0) 5120

/-- The logits of their codes. -/
def Lo (X : Vec Ideal S224x5120 .f32) (L : Vec Ideal S1x5120 .f32) (W : Vec Ideal S32064x5120 .fp8e4m3) (S : Vec Ideal S1x32064 .f32) (T : Vec Ideal S224x128 .f32) :
    Fin 224 → Fin 32064 → EReal :=
  lo (codes (Y X L)) (scale (Y X L)) (mat W) (mat S 0) (fun r => mat T r 0)

/-- What is kept of the rows `X` after `n` of their logits. -/
def Kept (X : Fin 224 → ℕ → EReal) (n : ℕ) (mx sm : Vec Ideal S224x128 .f32) : Prop :=
  ∀ r j, mx (ix2 r j) = Lse.M (X r) n ∧ sm (ix2 r j) = Lse.S (X r) n

theorem kept_zero (X : Fin 224 → ℕ → EReal) : Kept X 0 mx0 sm0 := fun r j => ⟨mx0_apply _, sm0_apply _⟩

theorem kept_next (X : Fin 224 → ℕ → EReal) (n : ℕ) (mx sm : Vec Ideal S224x128 .f32) (lg : FVec Ideal S224x1280 .f32)
    (hl : ∀ r k, lg (ix2 r k) = X r (n + k.val)) (h : Kept X n mx sm) : Kept X (n + 1280) (mxN lg mx) (smN lg mx sm) := fun r j => by
  have e : (fun k => lg (ix2 r k)) = fun k : Fin 1280 => X r (n + k.val) := funext (hl r)
  have em : max (mx (ix2 r j) : EReal) (rmax fun k => lg (ix2 r k)) = Lse.M (X r) (n + 1280) := by rw [e, Lse.M_add, (h r j).1]
  have em' : max (mx (ix2 r 0) : EReal) (rmax fun k => lg (ix2 r k)) = Lse.M (X r) (n + 1280) := by rw [e, Lse.M_add, (h r 0).1]
  refine ⟨(mxN_apply lg mx r j).trans em, (smN_apply lg mx sm r j).trans ?_⟩
  rw [em, em', Lse.S_add, (h r j).1, (h r j).2]
  simp only [hl]

theorem kept_last {N : ℕ} (x : Fin 224 → Fin N → EReal) (b : ℕ) (mx sm : Vec Ideal S224x128 .f32)
    (h : Kept (fun r => Lse.ext (x r)) (N + b) mx sm) (r : Fin 224) (j : Fin 128) : k0_pay2 sm mx (ix2 r j) = Lse.lse (x r) := by
  simp only [k0_pay2, add_at, log_at]
  rw [(h r j).1, (h r j).2, Lse.M_ext, Lse.S_ext]
  rfl

end Cert.LmIdeal.Value

end

end
-- ==== Proof.LmValue.lean ====
/- The result arrays of the program `LmIdeal` after its run, as functions of its arguments. -/
module

public import proofs.«01_k».proof.Proof.LmPay

@[expose] public section

set_option maxRecDepth 16384

noncomputable section

namespace Cert.LmIdeal.Value

open Cert.LmIdeal Cert.LmIdeal.Gen Cert.LmIdeal.Run Cert.Rows Cert.Exponent
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

variable (m : (ℓ : Loc nD τ sig) → Buf (Elt Ideal) ℓ) (ρ : Dev nD → PrngReg)

abbrev aX (c : Dev nD) : Vec Ideal S224x5120 .f32 := m ((c : Thread nD τ).loc main_arg2)
abbrev aL (c : Dev nD) : Vec Ideal S1x5120 .f32 := m ((c : Thread nD τ).loc main_arg3)
abbrev aW (c : Dev nD) : Vec Ideal S32064x5120 .fp8e4m3 := m ((c : Thread nD τ).loc main_arg4)
abbrev aS (c : Dev nD) : Vec Ideal S1x32064 .f32 := m ((c : Thread nD τ).loc main_arg5)
abbrev aT (c : Dev nD) : Vec Ideal S224x128 .f32 := m ((c : Thread nD τ).loc main_arg6)

/-! ## The input blocks, at an index -/

theorem idx0 : ∀ t : Fin C0.N, (pcfg0.win a₀ 0).index t = ![0, 0] := (by decide +kernel : ∀ t : Fin grid0.N, _)
theorem idx1 : ∀ t : Fin C0.N, (pcfg0.win a₀ 1).index t = ![0, 0] := (by decide +kernel : ∀ t : Fin grid0.N, _)
theorem idx2 : ∀ t : Fin C0.N, (pcfg0.win a₀ 2).index t = ![t.val, 0] := (by decide +kernel : ∀ t : Fin grid0.N, _)
theorem idx3 : ∀ t : Fin C0.N, (pcfg0.win a₀ 3).index t = ![0, t.val] := (by decide +kernel : ∀ t : Fin grid0.N, _)
theorem idx4 : ∀ t : Fin C0.N, (pcfg0.win a₀ 4).index t = ![0, 0] := (by decide +kernel : ∀ t : Fin grid0.N, _)

/-- How much of a block lies in the array. -/
theorem xs2 : ∀ t : Fin C0.N, (C0.win 2).xsize (grid0.coords t) = ![min 1280 (32064 - t.val * 1280), 5120] := (by decide +kernel : ∀ t : Fin grid0.N, _)
theorem xs3 : ∀ t : Fin C0.N, (C0.win 3).xsize (grid0.coords t) = ![1, min 1280 (32064 - t.val * 1280)] := (by decide +kernel : ∀ t : Fin grid0.N, _)

theorem crd : ∀ t : Fin C0.N, (grid0.coords t 0).val = t.val := (by decide +kernel : ∀ t : Fin grid0.N, _)
theorem lt26 (t : Fin C0.N) : t.val < 26 := t.isLt

theorem at0 {p s x y : ℕ} (h : p = 0) (e : x = y) : p * s + x = y := by rw [h, e, Nat.zero_mul, Nat.zero_add]
theorem att {p q s x y : ℕ} (h : p = q) (e : x = y) : p * s + x = q * s + y := by rw [h, e]

theorem b0 (c : Dev nD) (t : Fin C0.N) (r : Fin 224) (k : Fin 5120) : iblk m c 0 t (ix2 r k) = aX m c (ix2 r k) := by
  blk_simp [iblk]
  congr 1
  blk_ext
  · exact at0 (congrFun (idx0 t) 0) rfl
  · exact at0 (congrFun (idx0 t) 1) rfl

theorem b1 (c : Dev nD) (t : Fin C0.N) (k : Fin 5120) : iblk m c 1 t (ix2 0 k) = aL m c (ix2 0 k) := by
  blk_simp [iblk]
  congr 1
  blk_ext
  · exact congrFun (idx1 t) 0
  · exact at0 (congrFun (idx1 t) 1) rfl

theorem b4 (c : Dev nD) (t : Fin C0.N) (r : Fin 224) (k : Fin 128) : iblk m c 4 t (ix2 r k) = aT m c (ix2 r k) := by
  blk_simp [iblk]
  congr 1
  blk_ext
  · exact at0 (congrFun (idx4 t) 0) rfl
  · exact at0 (congrFun (idx4 t) 1) rfl

/-- Inside the array a filled block of the weights is the array's. -/
theorem b2 (c : Dev nD) (t : Fin C0.N) (d) (n : Fin 1280) (k : Fin 5120) (h : t.val * 1280 + n.val < 32064) :
    FW m c t d (ix2 n k) = aW m c (ix2 ⟨t.val * 1280 + n.val, h⟩ k) := by
  have hm : ∀ a, ((ix2 n k : S1280x5120.Idx) a).val < (C0.win 2).xsize (grid0.coords t) a := fun a => by
    rw [xs2 t]
    match a with
    | ⟨0, _⟩ => exact lt_min n.isLt (by show n.val < _; omega)
    | ⟨1, _⟩ => exact k.isLt
  unfold FW Pipeline.Window.fill
  rw [dif_pos (((C0.win 2).moved_iff (grid0.coords t) _).mpr hm)]
  blk_simp [iblk]
  congr 1
  blk_ext
  · exact att (congrFun (idx2 t) 0) rfl
  · exact at0 (congrFun (idx2 t) 1) rfl

theorem b3 (c : Dev nD) (t : Fin C0.N) (d) (n : Fin 1280) (h : t.val * 1280 + n.val < 32064) :
    FS m c t d (ix2 0 n) = aS m c (ix2 0 ⟨t.val * 1280 + n.val, h⟩) := by
  have hm : ∀ a, ((ix2 0 n : S1x1280.Idx) a).val < (C0.win 3).xsize (grid0.coords t) a := fun a => by
    rw [xs3 t]
    match a with
    | ⟨0, _⟩ => exact Nat.one_pos
    | ⟨1, _⟩ => exact lt_min n.isLt (by show n.val < _; omega)
  unfold FS Pipeline.Window.fill
  rw [dif_pos (((C0.win 3).moved_iff (grid0.coords t) _).mpr hm)]
  blk_simp [iblk]
  congr 1
  blk_ext
  · exact congrFun (idx3 t) 0
  · exact att (congrFun (idx3 t) 1) rfl

/-! ## What the body leaves, at an index -/

theorem Y_eq (c : Dev nD) (t : Fin C0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = mat (aL m c) 0 from funext fun k => b1 m c t k]

theorem COD_apply (c : Dev nD) (r : Fin 224) (k : Fin 5120) : COD m c (ix2 r k) = codes (Y (aX m c) (aL m c)) r k := by
  unfold COD
  rw [cod_apply, Y_eq]

theorem SCL_apply (c : Dev nD) (r : Fin 224) (k : Fin 128) : SCL m c (ix2 r k) = scale (Y (aX m c) (aL m c)) r := by
  unfold SCL
  rw [scl_apply, Y_eq]

/-- The logits of the program's rows. -/
abbrev LO (c : Dev nD) : Fin 224 → Fin 32064 → EReal := Lo (aX m c) (aL m c) (aW m c) (aS m c) (aT m c)

/-- A block of logits is the array's, continued by `-∞`. -/
theorem LG_apply (c : Dev nD) (t : Fin C0.N) (d2 d3) (r : Fin 224) (n : Fin 1280) :
    LG m c t d2 d3 (ix2 r n) = Lse.ext (LO m c r) (t.val * 1280 + n.val) := by
  have hc : mat (COD m c) = codes (Y (aX m c) (aL m c)) := funext fun r => funext fun k => COD_apply m c r k
  have hs : (fun r => mat (SCL m c) r 0) = scale (Y (aX m c) (aL m c)) := funext fun r => SCL_apply m c r 0
  have ht : (fun r => mat (iblk m c 4 t) r 0) = fun r => mat (aT m c) r 0 := funext fun r => b4 m c t r 0
  unfold LG
  rw [lgt_apply _ ((crd t).trans_lt (lt26 t)), crd t]
  by_cases h : t.val * 1280 + n.val < 32064
  · rw [if_pos h, Lse.ext_lt _ _ h]
    unfold lg1
    rw [hc, hs, ht]
    unfold LO Lo lo
    simp only [b2 m c t d2 n _ h, b3 m c t d3 n h]
  · rw [if_neg h, Lse.ext_ge _ _ h]

/-- The normalisers of the rows. -/
abbrev LSE (c : Dev nD) : Vec Ideal S224x128 .f32 := fun i => Lse.lse (LO m c (i 0))

/-- The running maximum and sum are of the columns gone by. -/
def inv : Inv m false where
  I c n mx sm := Kept (fun r => Lse.ext (LO m c r)) (n * 1280) mx sm
  L c := LSE m c
  first c t d2 d3 ht := by
    have h := kept_next _ 0 _ _ (LG m c t d2 d3) (fun r k => by rw [LG_apply, ht]) (kept_zero (fun r => Lse.ext (LO m c r)))
    exact h
  next c t d2 d3 mx sm _ h := by
    rw [Nat.add_mul, Nat.one_mul]
    exact kept_next _ _ _ _ _ (fun r k => LG_apply m c t d2 d3 r k) h
  last _ c mx sm h := funext fun i => by
    obtain ⟨r, j, rfl⟩ := ex2 i
    exact kept_last (LO m c) 1216 mx sm h r j

/-! ## The arrays after the run -/

/-- The last point. -/
def tl : Fin C0.N := ⟨25, by decide⟩

theorem whole5 : (C0.win 5).WholeAt tl := by decide +kernel
theorem whole6 : (C0.win 6).WholeAt tl := by decide +kernel
theorem whole7 : (C0.win 7).WholeAt tl := by decide +kernel

theorem last5 {c : Dev nD} (d : Dat τ (Elt Ideal) Unit ℕ (UR sig nD τ) ℕ C0 c) (G) (h : d.after 5 tl = G) : d.arrAt 5 C0.N = G := by
  refine d.arrAt_eq_of_after_last 5 tl whole5 _ fun j => ?_
  blk_simp
  rw [h]
theorem last6 {c : Dev nD} (d : Dat τ (Elt Ideal) Unit ℕ (UR sig nD τ) ℕ C0 c) (G) (h : d.after 6 tl = G) : d.arrAt 6 C0.N = G := by
  refine d.arrAt_eq_of_after_last 6 tl whole6 _ fun j => ?_
  blk_simp
  rw [h]
theorem last7 {c : Dev nD} (d : Dat τ (Elt Ideal) Unit ℕ (UR sig nD τ) ℕ C0 c) (G) (h : d.after 7 tl = G) : d.arrAt 7 C0.N = G := by
  refine d.arrAt_eq_of_after_last 7 tl whole7 _ fun j => ?_
  blk_simp
  rw [h]

theorem final5 (c : Dev nD) : (dats m (inv m) 0 c).arrAt 5 C0.N = fun i : S224x5120.Idx => codes (Y (aX m c) (aL m c)) (i 0) (i 1) :=
  (last5 _ _ (after0_5 m (inv m) c tl)).trans (funext fun i => by obtain ⟨r, k, rfl⟩ := ex2 i; exact COD_apply m c r k)
theorem final6 (c : Dev nD) : (dats m (inv m) 0 c).arrAt 6 C0.N = fun i : S224x128.Idx => scale (Y (aX m c) (aL m c)) (i 0) :=
  (last6 _ _ (after0_6 m (inv m) c tl)).trans (funext fun i => by obtain ⟨r, k, rfl⟩ := ex2 i; exact SCL_apply m c r k)
theorem final7 (c : Dev nD) : (dats m (inv m) 0 c).arrAt 7 C0.N = LSE m c := last7 _ _ (after0_7 m (inv m) c tl)

/-- The run, its results named. -/
theorem run (hok : Ok m) : θ_run defs (onTc (τ := τ) (main (F := Ideal))) ⟨m, fun _ => 0, ρ⟩ fun r => ∀ c : Dev nD,
      r.2.mem ((c : Thread nD τ).loc main_v0_0) = (fun i : S224x5120.Idx => codes (Y (aX m c) (aL m c)) (i 0) (i 1))
      ∧ r.2.mem ((c : Thread nD τ).loc main_v0_1) = (fun i : S224x128.Idx => scale (Y (aX m c) (aL m c)) (i 0))
      ∧ r.2.mem ((c : Thread nD τ).loc main_v0_2) = (LSE m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨
      (((dats m (inv m) 0 c).toRForget_arrAt_iff (fgt := fgt (f := false)) rfl _ _).mp ((h.1.1 c).1 5)).trans (final5 m c),
      (((dats m (inv m) 0 c).toRForget_arrAt_iff (fgt := fgt (f := false)) rfl _ _).mp ((h.1.1 c).1 6)).trans (final6 m c),
      (((dats m (inv m) 0 c).toRForget_arrAt_iff (fgt := fgt (f := false)) rfl _ _).mp ((h.1.1 c).1 7)).trans (final7 m c), h.2.1 c⟩)
    (θ_run_and (run_main_quiescent m ρ (inv m) hok) (frame_of m ρ (inv m) hok))

end Cert.LmIdeal.Value

end

end
-- ==== Proof.LmRefValue.lean ====
/- The result arrays of the program `LmRefIdeal` after its run, as functions of its arguments. -/
module

public import proofs.«01_k».proof.Proof.Gen.LmRefIdeal.Frame
public import proofs.«01_k».proof.Proof.LmPay

@[expose] public section

set_option maxRecDepth 16384

noncomputable section

namespace Cert.LmRefIdeal.Run

open Cert.LmRefIdeal Cert.LmRefIdeal.Gen Cert.Rows Cert.Exponent
open Cert.LmIdeal.Value (Y Lo lo mmT exp_at log_at)
open Idealize.ShloMosaic hiding ix1 ix2 eq_ix2
open Idealize.ShloMosaic.TcCoe Idealize.ShloMosaic.ValueIdx Idealize.SL.Sem
open Idealize.ShloMosaic.Pipeline (Dat)
open Idealize.ShloMosaic.Rounds
open scoped BigOperators

/-! ## The payloads, at an index -/

theorem hz2 : (![0, 0] : Fin 2 → Nat) = fun _ => 0 := by
  funext a; fin_cases a <;> rfl

/-- The normalised rows. -/
theorem pay3 (x : Vec Ideal S224x5120 .f32) (l : Vec Ideal S1x5120 .f32) (r : Fin 224) (k : Fin 5120) :
    k0_pay3 x l (ix2 r k) = nrm (mat x) (mat l 0) 5120 r k := by
  simp only [k0_pay3, mul_at, bcast_col, bcast_row, shapeCast_self, rsqrt_at, add_at, div_at, bcast_at, cast_col]
  rw [reduce_add (mulf x x) reduces_S224x5120_S224 (.inl rfl) rfl r]
  simp only [mul_at]
  unfold nrm
  rw [show (Scalar.ofBits (F := Ideal) .f32 0x45A00000#32 : EReal) = ((5120 : ℝ) : EReal) from lit_5120, Ideal.div_coe (by norm_num : (5120 : ℝ) ≠ 0)]
  rfl

/-- The exponents of the rows' scales. -/
theorem pay4 (x : Vec Ideal S224x5120 .f32) (l : Vec Ideal S1x5120 .f32) (r : Fin 224) :
    k0_pay4 x l (ix2 r 0) = rexp (top (nrm (mat x) (mat l 0) 5120) r) := by
  unfold k0_pay4
  refine (rexp_at _ _ (IdealRules.named_const.ideal_named_scalar _ _ _ _ rfl) _).trans (congrArg rexp ?_)
  simp only [mul_at, bcast_at, cast_col]
  rw [reduce_max (absf (k0_pay3 x l)) reduces_S224x5120_S224 (.inl rfl) rfl r]
  simp only [abs_at, pay3]
  rfl

/-- The codes. -/
theorem pay5 (x : Vec Ideal S224x5120 .f32) (l : Vec Ideal S1x5120 .f32) (r : Fin 224) (k : Fin 5120) :
    k0_pay5 x l (ix2 r k) = codes (nrm (mat x) (mat l 0) 5120) r k := by
  simp only [k0_pay5, trunc_at, min_at, max_at, mul_at, bcast_col, bcast_at, exp2_at, sub_at, pay4, pay3]
  unfold codes
  rw [show (Scalar.ofBits (F := Ideal) .f32 0x00000000#32 : EReal) = 0 from lit_zero]
  rfl

/-- The scales. -/
theorem pay6 (x : Vec Ideal S224x5120 .f32) (l : Vec Ideal S1x5120 .f32) (r : Fin 224) :
    k0_pay6 x l (ix2 r 0) = scale (nrm (mat x) (mat l 0) 5120) r := by
  simp only [k0_pay6, exp2_at, pay4]
  rfl

theorem pay1 (v : FVec Ideal S224x1 .f32) (r : Fin 224) (k : Fin 128) : k0_pay1 v (ix2 r k) = v (ix2 r 0) := by
  simp only [k0_pay1, bcast_col, shapeCast_self]

/-- The logits, as the body computes them. -/
def lgs (c : FVec Ideal S224x5120 .fp8e4m3) (s : FVec Ideal S224x1 .f32) (w : Vec Ideal S32064x5120 .fp8e4m3) (ws : Vec Ideal S1x32064 .f32) (it : Vec Ideal S224x1 .f32) : FVec Ideal S224x32064 .f32 :=
  mulf (mulf (mulf (matmul (φ₂ := .fp8e4m3) dot_S224x5120_S32064x5120_S224x32064_1_1_0_0_n_n none c w (constant S224x32064 .f32 0x00000000#32))
    (broadcastTo S224x32064 s broadcasts_S224x1_S224x32064)) (broadcastTo S224x32064 ws broadcasts_S1x32064_S224x32064)) (broadcastTo S224x32064 it broadcasts_S224x1_S224x32064)

theorem lgs_apply (c : FVec Ideal S224x5120 .fp8e4m3) (s : FVec Ideal S224x1 .f32) (w : Vec Ideal S32064x5120 .fp8e4m3) (ws : Vec Ideal S1x32064 .f32) (it : Vec Ideal S224x1 .f32)
    (r : Fin 224) (n : Fin 32064) : lgs c s w ws it (ix2 r n) = lo (mat c) (fun r => s (ix2 r 0)) (mat w) (mat ws 0) (fun r => it (ix2 r 0)) r n := by
  simp only [lgs, mul_at, bcast_col, bcast_row]
  rw [mmT dot_S224x5120_S32064x5120_S224x32064_1_1_0_0_n_n rfl]
  rfl

/-- The normalisers. -/
theorem pay2 (c : FVec Ideal S224x5120 .fp8e4m3) (s : FVec Ideal S224x1 .f32) (w : Vec Ideal S32064x5120 .fp8e4m3) (ws : Vec Ideal S1x32064 .f32) (it : Vec Ideal S224x1 .f32)
    (r : Fin 224) (j : Fin 128) :
    k0_pay2 c s w ws it (ix2 r j) = Cert.Lse.lse (lo (mat c) (fun r => s (ix2 r 0)) (mat w) (mat ws 0) (fun r => it (ix2 r 0)) r) := by
  have hm : ∀ r, shapeCast S224x1 (multiReduction .maximumf [1] S224 (lgs c s w ws it) 0xFF800000#32 reduces_S224x32064_S224 (.inl rfl) rfl) shapeCasts_S224_S224x1 (ix2 r 0)
      = rmax (lo (mat c) (fun r => s (ix2 r 0)) (mat w) (mat ws 0) (fun r => it (ix2 r 0)) r) := fun r => by
    rw [cast_col, reduce_max (lgs c s w ws it) reduces_S224x32064_S224 (.inl rfl) rfl r]
    simp only [lgs_apply]
  simp only [k0_pay2]
  rw [bcast_col, shapeCast_self, add_at, log_at]
  refine congrArg₂ (· + ·) (congrArg Ideal.log ?_) (hm r)
  rw [cast_col]
  refine (reduce_add (exp (subf (lgs c s w ws it) (broadcastTo S224x32064 (shapeCast S224x1 (multiReduction .maximumf [1] S224 (lgs c s w ws it) 0xFF800000#32 reduces_S224x32064_S224 (.inl rfl) rfl) shapeCasts_S224_S224x1) broadcasts_S224x1_S224x32064)))
    reduces_S224x32064_S224 (.inl rfl) rfl r).trans ?_
  simp only [exp_at, sub_at, bcast_col, hm, lgs_apply]

variable (m : (ℓ : Loc nD τ sig) → Buf (Elt Ideal) ℓ) (ρ : Dev nD → PrngReg)

abbrev aX (c : Dev nD) : Vec Ideal S224x5120 .f32 := m ((c : Thread nD τ).loc main_arg2)
abbrev aL (c : Dev nD) : Vec Ideal S1x5120 .f32 := m ((c : Thread nD τ).loc main_arg3)
abbrev aW (c : Dev nD) : Vec Ideal S32064x5120 .fp8e4m3 := m ((c : Thread nD τ).loc main_arg4)
abbrev aS (c : Dev nD) : Vec Ideal S1x32064 .f32 := m ((c : Thread nD τ).loc main_arg5)
abbrev aT (c : Dev nD) : Vec Ideal S224x128 .f32 := m ((c : Thread nD τ).loc main_arg6)

/-! ## The input blocks, at an index -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

theorem b0 (c : Dev nD) (t : Fin cfg0.N) (r : Fin 224) (k : Fin 5120) : iblk m c 0 t (ix2 r k) = aX m c (ix2 r k) := by
  blk_simp [iblk]
  rw [V_main_arg2]
  congr 1
  blk_ext [idx0]

theorem b1 (c : Dev nD) (t : Fin cfg0.N) (k : Fin 5120) : iblk m c 1 t (ix2 0 k) = aL m c (ix2 0 k) := by
  blk_simp [iblk]
  rw [V_main_arg3]
  congr 1
  blk_ext [idx1]

theorem b2 (c : Dev nD) (t : Fin cfg0.N) (n : Fin 32064) (k : Fin 5120) : iblk m c 2 t (ix2 n k) = aW m c (ix2 n k) := by
  blk_simp [iblk]
  rw [V_main_arg4]
  congr 1
  blk_ext [idx2]

theorem b3 (c : Dev nD) (t : Fin cfg0.N) (n : Fin 32064) : iblk m c 3 t (ix2 0 n) = aS m c (ix2 0 n) := by
  blk_simp [iblk]
  rw [V_main_arg5]
  congr 1
  blk_ext [idx3]

theorem b4 (c : Dev nD) (t : Fin cfg0.N) (r : Fin 224) (k : Fin 128) : iblk m c 4 t (ix2 r k) = aT m c (ix2 r k) := by
  blk_simp [iblk]
  rw [V_main_arg6]
  congr 1
  blk_ext [idx4]

theorem Y_eq (c : Dev nD) (t : Fin cfg0.N) : nrm (mat (iblk m c 0 t)) (mat (iblk m c 1 t) 0) 5120 = Y (aX m c) (aL m c) := by
  unfold Y
  rw [show mat (iblk m c 0 t) = mat (aX m c) from funext fun r => funext fun k => b0 m c t r k,
    show mat (iblk m c 1 t) 0 = mat (aL m c) 0 from funext fun k => b1 m c t k]

theorem W_eq (c : Dev nD) (t : Fin cfg0.N) : mat (iblk m c 2 t) = mat (aW m c) := funext fun n => funext fun k => b2 m c t n k
theorem S_eq (c : Dev nD) (t : Fin cfg0.N) : mat (iblk m c 3 t) 0 = mat (aS m c) 0 := funext fun n => b3 m c t n
theorem T_eq (c : Dev nD) (t : Fin cfg0.N) : (fun r => mat (iblk m c 4 t) r 0) = fun r => mat (aT m c) r 0 := funext fun r => b4 m c t r 0

/-! ## What the one point leaves -/

variable (x0 : Vec Ideal S224x5120 .f32) (x1 : Vec Ideal S1x5120 .f32) (x2 : Vec Ideal S32064x5120 .fp8e4m3) (x3 : Vec Ideal S1x32064 .f32) (x4 : Vec Ideal S224x128 .f32)

theorem pay7 : k0_pay7 x0 x1 x2 x3 x4 = k0_pay5 x0 x1 := by
  unfold k0_pay7
  rw [View.ld_unit_zero hz2, View.ld_unit_zero hz2]
theorem pay8 : k0_pay8 x0 x1 x2 x3 x4 = k0_pay6 x0 x1 := by
  unfold k0_pay8
  rw [View.ld_unit_zero hz2, View.ld_unit_zero hz2]
theorem ldC (sc : Vec Ideal S224x128 .f32) (r : Fin 224) : View.ld sc r0_4 (ix2 r 0) = mat sc r 0 :=
  congrArg sc (by funext a; match a with | ⟨0, _⟩ => exact Fin.ext (by simp [ix2, Rect.unit]) | ⟨1, _⟩ => rfl)
theorem out5 : out0_5 x0 x1 x2 x3 x4 = k0_pay5 x0 x1 := by
  unfold out0_5
  rw [View.canon_unit_zero hz2, pay7]
theorem out6 : out0_6 x0 x1 x2 x3 x4 = k0_pay1 (k0_pay6 x0 x1) := by
  unfold out0_6
  rw [View.canon_unit_zero hz2, pay8]
theorem out7 : out0_7 x0 x1 x2 x3 x4 = k0_pay2 (k0_pay5 x0 x1) (k0_pay6 x0 x1) x2 x3 (View.ld x4 r0_4) := by
  unfold out0_7
  rw [View.canon_unit_zero hz2, View.ld_unit_zero hz2, View.ld_unit_zero hz2, pay7, pay8]

/-! ## The arrays after the run -/

/-- The only point. -/
def t0 : Fin cfg0.N := ⟨0, by decide⟩

theorem whole5 : (cfg0.win 5).WholeAt t0 := by decide +kernel
theorem whole6 : (cfg0.win 6).WholeAt t0 := by decide +kernel
theorem whole7 : (cfg0.win 7).WholeAt t0 := by decide +kernel

theorem last5 {c : Dev nD} (d : Dat τ (Elt Ideal) Unit ℕ (UR sig nD τ) ℕ cfg0 c) (G) (h : d.after 5 t0 = G) : d.arrAt 5 cfg0.N = G := by
  refine d.arrAt_eq_of_after_last 5 t0 whole5 _ fun j => ?_
  blk_simp
  rw [h]
theorem last6 {c : Dev nD} (d : Dat τ (Elt Ideal) Unit ℕ (UR sig nD τ) ℕ cfg0 c) (G) (h : d.after 6 t0 = G) : d.arrAt 6 cfg0.N = G := by
  refine d.arrAt_eq_of_after_last 6 t0 whole6 _ fun j => ?_
  blk_simp
  rw [h]
theorem last7 {c : Dev nD} (d : Dat τ (Elt Ideal) Unit ℕ (UR sig nD τ) ℕ cfg0 c) (G) (h : d.after 7 t0 = G) : d.arrAt 7 cfg0.N = G := by
  refine d.arrAt_eq_of_after_last 7 t0 whole7 _ fun j => ?_
  blk_simp
  rw [h]

theorem at5 (c : Dev nD) (t : Fin cfg0.N) : out0_5 (iblk m c 0 t) (iblk m c 1 t) (iblk m c 2 t) (iblk m c 3 t) (iblk m c 4 t)
    = fun i : S224x5120.Idx => codes (Y (aX m c) (aL m c)) (i 0) (i 1) := by
  rw [out5, ← Y_eq m c t]
  funext i
  obtain ⟨r, k, rfl⟩ := ex2 i
  exact pay5 _ _ r k

theorem at6 (c : Dev nD) (t : Fin cfg0.N) : out0_6 (iblk m c 0 t) (iblk m c 1 t) (iblk m c 2 t) (iblk m c 3 t) (iblk m c 4 t)
    = fun i : S224x128.Idx => scale (Y (aX m c) (aL m c)) (i 0) := by
  rw [out6, ← Y_eq m c t]
  funext i
  obtain ⟨r, k, rfl⟩ := ex2 i
  exact (pay1 _ r k).trans (pay6 _ _ r)

theorem at7 (c : Dev nD) (t : Fin cfg0.N) : out0_7 (iblk m c 0 t) (iblk m c 1 t) (iblk m c 2 t) (iblk m c 3 t) (iblk m c 4 t)
    = fun i : S224x128.Idx => Cert.Lse.lse (Lo (aX m c) (aL m c) (aW m c) (aS m c) (aT m c) (i 0)) := by
  rw [out7]
  funext i
  obtain ⟨r, j, rfl⟩ := ex2 i
  refine (pay2 _ _ _ _ _ r j).trans (congrArg (fun f : Fin 224 → Fin 32064 → EReal => Cert.Lse.lse (f r)) ?_)
  unfold Lo
  rw [← Y_eq m c t, ← W_eq m c t, ← S_eq m c t, ← T_eq m c t,
    show mat (k0_pay5 (iblk m c 0 t) (iblk m c 1 t)) = codes (nrm (mat (iblk m c 0 t)) (mat (iblk m c 1 t) 0) 5120) from funext fun r => funext fun k => pay5 _ _ r k,
    show (fun r => k0_pay6 (iblk m c 0 t) (iblk m c 1 t) (ix2 r 0)) = scale (nrm (mat (iblk m c 0 t)) (mat (iblk m c 1 t) 0) 5120) from funext fun r => pay6 _ _ r,
    show (fun r => View.ld (iblk m c 4 t) r0_4 (ix2 r 0)) = fun r => mat (iblk m c 4 t) r 0 from funext fun r => ldC _ r]

/-- The run, its results named. -/
theorem run : θ_run defs (onTc (τ := τ) (main (F := Ideal))) ⟨m, fun _ => 0, ρ⟩ fun r => ∀ c : Dev nD,
      r.2.mem ((c : Thread nD τ).loc main_v0_0) = (fun i : S224x5120.Idx => codes (Y (aX m c) (aL m c)) (i 0) (i 1))
      ∧ r.2.mem ((c : Thread nD τ).loc main_v0_1) = (fun i : S224x128.Idx => scale (Y (aX m c) (aL m c)) (i 0))
      ∧ r.2.mem ((c : Thread nD τ).loc main_v0_2) = (fun i : S224x128.Idx => Cert.Lse.lse (Lo (aX m c) (aL m c) (aW m c) (aS m c) (aT m c) (i 0)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 5).trans (last5 _ _ ((after0_5 m c t0).trans (at5 m c t0))),
    ((h.1 c).1 6).trans (last6 _ _ ((after0_6 m c t0).trans (at6 m c t0))),
    ((h.1 c).1 7).trans (last7 _ _ ((after0_7 m c t0).trans (at7 m c t0))), h.2 c⟩)
    (θ_run_and (run_main m ρ) (unchanged m ρ))

end Cert.LmRefIdeal.Run

end

end
-- ==== Proof.LmClaim.lean ====
/- The claims about the call that ends in the logits: the frames, and the same results as the reference. -/
module

public import proofs.«01_k».proof.Defs
public import proofs.«01_k».proof.Proof.LmPre
public import proofs.«01_k».proof.Proof.LmBits
public import proofs.«01_k».proof.Proof.LmValue
public import proofs.«01_k».proof.Proof.LmRefValue

@[expose] public section

set_option maxRecDepth 16384

noncomputable section

namespace Cert.LmIdeal.Value

open Idealize.ShloMosaic Idealize.ShloMosaic.TcCoe Idealize.SL.Sem
open Cert.LmIdeal Cert.LmIdeal.Gen Cert.LmIdeal.Run

attribute [local instance] Cert.Lm.Gen.facts Cert.LmIdeal.Gen.facts Cert.LmRefIdeal.Gen.facts Cert.Pre_lm_rows.Gen.facts

/-- The constants are the ones named. -/
theorem named : Cert.preserves_Lm_LmIdeal :=
  ⟨IdealRules.named_const.statement Cert.LmIdeal.κ "inv_n" .f32 0x394CCCCD#32 ((1 / 5120 : ℝ) : EReal) rfl,
    IdealRules.named_const.statement Cert.LmIdeal.κ "mask" .f32 0xFF61B1E6#32 ⊥ rfl⟩

/-- For the frame alone nothing need be known of what is kept from point to point. -/
def noInv (m : (ℓ : Loc Cert.Lm.nD Cert.Lm.τ Cert.Lm.sig) → Buf (Elt Bits) ℓ) : Cert.Lm.Run.Inv m true where
  I _ _ _ _ := True
  L _ := fun _ => Scalar.ofBits (F := Bits) .f32 0x00000000#32
  first _ _ _ _ _ := trivial
  next _ _ _ _ _ _ _ _ := trivial
  last h := absurd h (by decide)

theorem okB (m) (h : Cert.Pre_Lm m) : Cert.Lm.Run.Ok m :=
  Cert.Lm.Run.ok_of m (fun c => (Cert.Pre_lm_rows.Rows.rows _ _ _ _ _ _ _ (h c)).1) (fun c => (Cert.Pre_lm_rows.Rows.rows _ _ _ _ _ _ _ (h c)).2)

theorem okI (m) (h : Cert.Pre_LmIdeal m) : Ok m :=
  ok_of m (fun c => (Cert.Pre_lm_rows.Rows.rows _ _ _ _ _ _ _ (h c)).1) (fun c => (Cert.Pre_lm_rows.Rows.rows _ _ _ _ _ _ _ (h c)).2)

/-- The program leaves its arguments as they were and every semaphore at zero. -/
theorem frame : Cert.quiescent_Lm := fun m g h => Cert.Lm.Run.frame_of m g (noInv m) (okB m h)

/-- The ideal program leaves its arguments as they were and every semaphore at zero. -/
theorem quiet : Cert.quiescent_LmIdeal := fun m g h => frame_of m g (inv m) (okI m h)

/-- The ideal program and the reference give the same results. -/
theorem same : Cert.algebraic_LmIdeal_LmRefIdeal := by
  intro m g m' g' hp h
  have e0 (c : Dev nD) : Cert.LmRefIdeal.Run.aX m' c = aX m c := (h c).2.2.1
  have e1 (c : Dev nD) : Cert.LmRefIdeal.Run.aL m' c = aL m c := (h c).2.2.2.1
  have e2 (c : Dev nD) : Cert.LmRefIdeal.Run.aW m' c = aW m c := (h c).2.2.2.2.1
  have e3 (c : Dev nD) : Cert.LmRefIdeal.Run.aS m' c = aS m c := (h c).2.2.2.2.2.1
  have e4 (c : Dev nD) : Cert.LmRefIdeal.Run.aT m' c = aT m c := (h c).2.2.2.2.2.2
  refine ⟨_, _, _, run m g (okI m hp), (θ_run _ _ _).mono (fun r H c => ?_) (Cert.LmRefIdeal.Run.run m' g')⟩
  have H := H c
  rw [e0 c, e1 c, e2 c, e3 c, e4 c] at H
  exact H

end Cert.LmIdeal.Value

end

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Lm
public import proofs.«01_k».proof.Proof.Gen.Lm.Skeleton
public import proofs.«01_k».proof.Proof.Gen.Lm.Launch
public import proofs.«01_k».proof.Proof.Gen.Lm.Loops
public import proofs.«01_k».proof.Proof.Gen.Lm.Flash
public import proofs.«01_k».proof.Proof.Gen.LmIdeal
public import proofs.«01_k».proof.Proof.Gen.LmIdeal.Skeleton
public import proofs.«01_k».proof.Proof.Gen.LmIdeal.Launch
public import proofs.«01_k».proof.Proof.Gen.LmIdeal.Loops
public import proofs.«01_k».proof.Proof.Gen.LmIdeal.Flash
public import proofs.«01_k».proof.Proof.Gen.LmRefIdeal
public import proofs.«01_k».proof.Proof.Gen.LmRefIdeal.Skeleton
public import proofs.«01_k».proof.Proof.Gen.LmRefIdeal.Launch
public import proofs.«01_k».proof.Proof.Gen.LmRefIdeal.Points
public import proofs.«01_k».proof.Proof.Gen.LmRefIdeal.Frame
public import proofs.«01_k».proof.Proof.Gen.Pre_lm_rows
public import proofs.«01_k».proof.Proof.GateUpClaim
public import proofs.«01_k».proof.Proof.DownClaim
public import proofs.«01_k».proof.Proof.OprojClaim
public import proofs.«01_k».proof.Proof.QkvClaim
public import proofs.«01_k».proof.Proof.LmClaim
public import Idealize.ShloMosaic.Adequacy
public import Idealize.ShloMosaic.Init

@[expose] public section

noncomputable section

namespace Cert.Proof

open Idealize.ShloMosaic Idealize.SL.Sem

theorem claim : Cert.Claim := ⟨Cert.GateUp.Gen.facts, Cert.GateUpIdeal.Gen.facts, Cert.GateUpRefIdeal.Gen.facts,
  Cert.Down.Gen.facts, Cert.DownIdeal.Gen.facts, Cert.DownRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  Cert.Lm.Gen.facts, Cert.LmIdeal.Gen.facts, Cert.LmRefIdeal.Gen.facts, Cert.Pre_lm_rows.Gen.facts,
  Cert.GateUpIdeal.Value.frame,
  fun m g _ => Cert.GateUpIdeal.Value.quiet m g,
  fun m g _ => Cert.GateUpRefIdeal.Gen.frame m g,
  Cert.DownIdeal.Value.frame,
  fun m g _ => Cert.DownIdeal.Value.quiet m g,
  fun m g _ => Cert.DownRefIdeal.Gen.frame m g,
  Cert.OprojIdeal.Value.frame,
  fun m g _ => Cert.OprojIdeal.Value.quiet m g,
  fun m g _ => Cert.OprojRefIdeal.Gen.frame m g,
  Cert.QkvIdeal.Value.frame,
  fun m g _ => Cert.QkvIdeal.Value.quiet m g,
  fun m g _ => Cert.QkvRefIdeal.Gen.frame m g,
  Cert.LmIdeal.Value.frame,
  Cert.LmIdeal.Value.quiet,
  fun m g _ => Cert.LmRefIdeal.Gen.frame m g,
  fun m g _ => Cert.LmRefIdeal.Gen.frame m g,
  Cert.GateUpIdeal.Value.named,
  Cert.GateUpIdeal.Value.same,
  trivial,
  Cert.DownIdeal.Value.same,
  trivial,
  Cert.OprojIdeal.Value.same,
  Cert.QkvIdeal.Value.named,
  Cert.QkvIdeal.Value.same,
  Cert.LmIdeal.Value.named,
  Cert.LmIdeal.Value.same⟩

end Cert.Proof

end
